-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.1 = (fun _ => 1#1)
    ∧ (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.1 = (fun _ => 1#1)
    ∧ (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite13 [hPre_finite13 : Cert.Pre_finite13.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.1 = (fun _ => 1#1)
    ∧ (Cert.Pre_finite13.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))).2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite13 [hPre_finite13 : Cert.Pre_finite13.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.1 = (fun _ => 1#1)
    ∧ (Cert.Pre_finite13.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Kernel13Ideal_pre_finite13 [hKernel13Ideal : Cert.Kernel13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite13 m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_finite13 [hReference13Ideal : Cert.Reference13Ideal.Facts] [hPre_finite13 : Cert.Pre_finite13.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite13 m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_1)) (v1 : (c : Dev Cert.Kernel2Ideal.nD) → Buf (Elt Ideal) ((c.tc : Thread Cert.Kernel2Ideal.nD Cert.Kernel2Ideal.τ).loc Cert.Kernel2Ideal.main_v2)) (v2 : (c : Dev Cert.Kernel2Ideal.nD) → Buf (Elt Ideal) ((c.tc : Thread Cert.Kernel2Ideal.nD Cert.Kernel2Ideal.τ).loc Cert.Kernel2Ideal.main_v3)) (v3 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_1) = v0 c
          ∧ r.2.mem ((c.tc : Thread Cert.Kernel2Ideal.nD Cert.Kernel2Ideal.τ).loc Cert.Kernel2Ideal.main_v2) = v1 c
          ∧ r.2.mem ((c.tc : Thread Cert.Kernel2Ideal.nD Cert.Kernel2Ideal.τ).loc Cert.Kernel2Ideal.main_v3) = v2 c
          ∧ r.2.mem ((c.tc : Thread Cert.Kernel2Ideal.nD Cert.Kernel2Ideal.τ).loc Cert.Kernel2Ideal.main_v1) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v29) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v70) = v0 c
          ∧ r.2.mem ((c.tc : Thread Cert.Reference6Ideal.nD Cert.Reference6Ideal.τ).loc Cert.Reference6Ideal.main_v68) = v1 c
          ∧ r.2.mem ((c.tc : Thread Cert.Reference6Ideal.nD Cert.Reference6Ideal.τ).loc Cert.Reference6Ideal.main_v66) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v10) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v13)) (v1 : (c : Dev Cert.Kernel5Ideal.nD) → Buf (Elt Ideal) ((c.tc : Thread Cert.Kernel5Ideal.nD Cert.Kernel5Ideal.τ).loc Cert.Kernel5Ideal.main_v14)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_v14) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_v28) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v14) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v10) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)) (v3 : (c : Dev Cert.Kernel8Ideal.nD) → Buf (Elt Ideal) ((c.tc : Thread Cert.Kernel8Ideal.nD Cert.Kernel8Ideal.τ).loc Cert.Kernel8Ideal.main_v1_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_v1_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v76) = v0 c
          ∧ r.2.mem ((c.tc : Thread Cert.Reference8Ideal.nD Cert.Reference8Ideal.τ).loc Cert.Reference8Ideal.main_v77) = v1 c
          ∧ r.2.mem ((c.tc : Thread Cert.Reference8Ideal.nD Cert.Reference8Ideal.τ).loc Cert.Reference8Ideal.main_v59) = v2 c
          ∧ r.2.mem ((c.tc : Thread Cert.Reference8Ideal.nD Cert.Reference8Ideal.τ).loc Cert.Reference8Ideal.main_v40) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v1_0)) (v5 : (c : Dev Cert.Kernel11Ideal.nD) → Buf (Elt Ideal) ((c.tc : Thread Cert.Kernel11Ideal.nD Cert.Kernel11Ideal.τ).loc Cert.Kernel11Ideal.main_v1_1)) (v6 : (c : Dev Cert.Kernel11Ideal.nD) → Buf (Elt Ideal) ((c.tc : Thread Cert.Kernel11Ideal.nD Cert.Kernel11Ideal.τ).loc Cert.Kernel11Ideal.main_v1_2)) (v7 : (c : Dev Cert.Kernel11Ideal.nD) → Buf (Elt Ideal) ((c.tc : Thread Cert.Kernel11Ideal.nD Cert.Kernel11Ideal.τ).loc Cert.Kernel11Ideal.main_v1_3)) (v8 : (c : Dev Cert.Kernel11Ideal.nD) → Buf (Elt Ideal) ((c.tc : Thread Cert.Kernel11Ideal.nD Cert.Kernel11Ideal.τ).loc Cert.Kernel11Ideal.main_v2_0)) (v9 : (c : Dev Cert.Kernel11Ideal.nD) → Buf (Elt Ideal) ((c.tc : Thread Cert.Kernel11Ideal.nD Cert.Kernel11Ideal.τ).loc Cert.Kernel11Ideal.main_v2_1)) (v10 : (c : Dev Cert.Kernel11Ideal.nD) → Buf (Elt Ideal) ((c.tc : Thread Cert.Kernel11Ideal.nD Cert.Kernel11Ideal.τ).loc Cert.Kernel11Ideal.main_v2_2)) (v11 : (c : Dev Cert.Kernel11Ideal.nD) → Buf (Elt Ideal) ((c.tc : Thread Cert.Kernel11Ideal.nD Cert.Kernel11Ideal.τ).loc Cert.Kernel11Ideal.main_v2_3)) (v12 : (c : Dev Cert.Kernel11Ideal.nD) → Buf (Elt Ideal) ((c.tc : Thread Cert.Kernel11Ideal.nD Cert.Kernel11Ideal.τ).loc Cert.Kernel11Ideal.main_v3_0)) (v13 : (c : Dev Cert.Kernel11Ideal.nD) → Buf (Elt Ideal) ((c.tc : Thread Cert.Kernel11Ideal.nD Cert.Kernel11Ideal.τ).loc Cert.Kernel11Ideal.main_v3_1)) (v14 : (c : Dev Cert.Kernel11Ideal.nD) → Buf (Elt Ideal) ((c.tc : Thread Cert.Kernel11Ideal.nD Cert.Kernel11Ideal.τ).loc Cert.Kernel11Ideal.main_v3_2)) (v15 : (c : Dev Cert.Kernel11Ideal.nD) → Buf (Elt Ideal) ((c.tc : Thread Cert.Kernel11Ideal.nD Cert.Kernel11Ideal.τ).loc Cert.Kernel11Ideal.main_v3_3)) (v16 : (c : Dev Cert.Kernel11Ideal.nD) → Buf (Elt Ideal) ((c.tc : Thread Cert.Kernel11Ideal.nD Cert.Kernel11Ideal.τ).loc Cert.Kernel11Ideal.main_v4_0)) (v17 : (c : Dev Cert.Kernel11Ideal.nD) → Buf (Elt Ideal) ((c.tc : Thread Cert.Kernel11Ideal.nD Cert.Kernel11Ideal.τ).loc Cert.Kernel11Ideal.main_v4_1)) (v18 : (c : Dev Cert.Kernel11Ideal.nD) → Buf (Elt Ideal) ((c.tc : Thread Cert.Kernel11Ideal.nD Cert.Kernel11Ideal.τ).loc Cert.Kernel11Ideal.main_v4_2)) (v19 : (c : Dev Cert.Kernel11Ideal.nD) → Buf (Elt Ideal) ((c.tc : Thread Cert.Kernel11Ideal.nD Cert.Kernel11Ideal.τ).loc Cert.Kernel11Ideal.main_v4_3)) (v20 : (c : Dev Cert.Kernel11Ideal.nD) → Buf (Elt Ideal) ((c.tc : Thread Cert.Kernel11Ideal.nD Cert.Kernel11Ideal.τ).loc Cert.Kernel11Ideal.main_v5_0)) (v21 : (c : Dev Cert.Kernel11Ideal.nD) → Buf (Elt Ideal) ((c.tc : Thread Cert.Kernel11Ideal.nD Cert.Kernel11Ideal.τ).loc Cert.Kernel11Ideal.main_v5_1)) (v22 : (c : Dev Cert.Kernel11Ideal.nD) → Buf (Elt Ideal) ((c.tc : Thread Cert.Kernel11Ideal.nD Cert.Kernel11Ideal.τ).loc Cert.Kernel11Ideal.main_v5_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v1_0) = v4 c
          ∧ r.2.mem ((c.tc : Thread Cert.Kernel11Ideal.nD Cert.Kernel11Ideal.τ).loc Cert.Kernel11Ideal.main_v1_1) = v5 c
          ∧ r.2.mem ((c.tc : Thread Cert.Kernel11Ideal.nD Cert.Kernel11Ideal.τ).loc Cert.Kernel11Ideal.main_v1_2) = v6 c
          ∧ r.2.mem ((c.tc : Thread Cert.Kernel11Ideal.nD Cert.Kernel11Ideal.τ).loc Cert.Kernel11Ideal.main_v1_3) = v7 c
          ∧ r.2.mem ((c.tc : Thread Cert.Kernel11Ideal.nD Cert.Kernel11Ideal.τ).loc Cert.Kernel11Ideal.main_v2_0) = v8 c
          ∧ r.2.mem ((c.tc : Thread Cert.Kernel11Ideal.nD Cert.Kernel11Ideal.τ).loc Cert.Kernel11Ideal.main_v2_1) = v9 c
          ∧ r.2.mem ((c.tc : Thread Cert.Kernel11Ideal.nD Cert.Kernel11Ideal.τ).loc Cert.Kernel11Ideal.main_v2_2) = v10 c
          ∧ r.2.mem ((c.tc : Thread Cert.Kernel11Ideal.nD Cert.Kernel11Ideal.τ).loc Cert.Kernel11Ideal.main_v2_3) = v11 c
          ∧ r.2.mem ((c.tc : Thread Cert.Kernel11Ideal.nD Cert.Kernel11Ideal.τ).loc Cert.Kernel11Ideal.main_v3_0) = v12 c
          ∧ r.2.mem ((c.tc : Thread Cert.Kernel11Ideal.nD Cert.Kernel11Ideal.τ).loc Cert.Kernel11Ideal.main_v3_1) = v13 c
          ∧ r.2.mem ((c.tc : Thread Cert.Kernel11Ideal.nD Cert.Kernel11Ideal.τ).loc Cert.Kernel11Ideal.main_v3_2) = v14 c
          ∧ r.2.mem ((c.tc : Thread Cert.Kernel11Ideal.nD Cert.Kernel11Ideal.τ).loc Cert.Kernel11Ideal.main_v3_3) = v15 c
          ∧ r.2.mem ((c.tc : Thread Cert.Kernel11Ideal.nD Cert.Kernel11Ideal.τ).loc Cert.Kernel11Ideal.main_v4_0) = v16 c
          ∧ r.2.mem ((c.tc : Thread Cert.Kernel11Ideal.nD Cert.Kernel11Ideal.τ).loc Cert.Kernel11Ideal.main_v4_1) = v17 c
          ∧ r.2.mem ((c.tc : Thread Cert.Kernel11Ideal.nD Cert.Kernel11Ideal.τ).loc Cert.Kernel11Ideal.main_v4_2) = v18 c
          ∧ r.2.mem ((c.tc : Thread Cert.Kernel11Ideal.nD Cert.Kernel11Ideal.τ).loc Cert.Kernel11Ideal.main_v4_3) = v19 c
          ∧ r.2.mem ((c.tc : Thread Cert.Kernel11Ideal.nD Cert.Kernel11Ideal.τ).loc Cert.Kernel11Ideal.main_v5_0) = v20 c
          ∧ r.2.mem ((c.tc : Thread Cert.Kernel11Ideal.nD Cert.Kernel11Ideal.τ).loc Cert.Kernel11Ideal.main_v5_1) = v21 c
          ∧ r.2.mem ((c.tc : Thread Cert.Kernel11Ideal.nD Cert.Kernel11Ideal.τ).loc Cert.Kernel11Ideal.main_v5_2) = v22 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v23) = v0 c
          ∧ r.2.mem ((c.tc : Thread Cert.Reference11Ideal.nD Cert.Reference11Ideal.τ).loc Cert.Reference11Ideal.main_v4) = v1 c
          ∧ r.2.mem ((c.tc : Thread Cert.Reference11Ideal.nD Cert.Reference11Ideal.τ).loc Cert.Reference11Ideal.main_v10) = v2 c
          ∧ r.2.mem ((c.tc : Thread Cert.Reference11Ideal.nD Cert.Reference11Ideal.τ).loc Cert.Reference11Ideal.main_arg1) = v3 c
          ∧ r.2.mem ((c.tc : Thread Cert.Reference11Ideal.nD Cert.Reference11Ideal.τ).loc Cert.Reference11Ideal.main_v47) = v4 c
          ∧ r.2.mem ((c.tc : Thread Cert.Reference11Ideal.nD Cert.Reference11Ideal.τ).loc Cert.Reference11Ideal.main_v28) = v5 c
          ∧ r.2.mem ((c.tc : Thread Cert.Reference11Ideal.nD Cert.Reference11Ideal.τ).loc Cert.Reference11Ideal.main_v34) = v6 c
          ∧ r.2.mem ((c.tc : Thread Cert.Reference11Ideal.nD Cert.Reference11Ideal.τ).loc Cert.Reference11Ideal.main_arg5) = v7 c
          ∧ r.2.mem ((c.tc : Thread Cert.Reference11Ideal.nD Cert.Reference11Ideal.τ).loc Cert.Reference11Ideal.main_v71) = v8 c
          ∧ r.2.mem ((c.tc : Thread Cert.Reference11Ideal.nD Cert.Reference11Ideal.τ).loc Cert.Reference11Ideal.main_v52) = v9 c
          ∧ r.2.mem ((c.tc : Thread Cert.Reference11Ideal.nD Cert.Reference11Ideal.τ).loc Cert.Reference11Ideal.main_v58) = v10 c
          ∧ r.2.mem ((c.tc : Thread Cert.Reference11Ideal.nD Cert.Reference11Ideal.τ).loc Cert.Reference11Ideal.main_arg9) = v11 c
          ∧ r.2.mem ((c.tc : Thread Cert.Reference11Ideal.nD Cert.Reference11Ideal.τ).loc Cert.Reference11Ideal.main_v95) = v12 c
          ∧ r.2.mem ((c.tc : Thread Cert.Reference11Ideal.nD Cert.Reference11Ideal.τ).loc Cert.Reference11Ideal.main_v76) = v13 c
          ∧ r.2.mem ((c.tc : Thread Cert.Reference11Ideal.nD Cert.Reference11Ideal.τ).loc Cert.Reference11Ideal.main_v82) = v14 c
          ∧ r.2.mem ((c.tc : Thread Cert.Reference11Ideal.nD Cert.Reference11Ideal.τ).loc Cert.Reference11Ideal.main_arg13) = v15 c
          ∧ r.2.mem ((c.tc : Thread Cert.Reference11Ideal.nD Cert.Reference11Ideal.τ).loc Cert.Reference11Ideal.main_v119) = v16 c
          ∧ r.2.mem ((c.tc : Thread Cert.Reference11Ideal.nD Cert.Reference11Ideal.τ).loc Cert.Reference11Ideal.main_v100) = v17 c
          ∧ r.2.mem ((c.tc : Thread Cert.Reference11Ideal.nD Cert.Reference11Ideal.τ).loc Cert.Reference11Ideal.main_v106) = v18 c
          ∧ r.2.mem ((c.tc : Thread Cert.Reference11Ideal.nD Cert.Reference11Ideal.τ).loc Cert.Reference11Ideal.main_arg17) = v19 c
          ∧ r.2.mem ((c.tc : Thread Cert.Reference11Ideal.nD Cert.Reference11Ideal.τ).loc Cert.Reference11Ideal.main_v143) = v20 c
          ∧ r.2.mem ((c.tc : Thread Cert.Reference11Ideal.nD Cert.Reference11Ideal.τ).loc Cert.Reference11Ideal.main_v124) = v21 c
          ∧ r.2.mem ((c.tc : Thread Cert.Reference11Ideal.nD Cert.Reference11Ideal.τ).loc Cert.Reference11Ideal.main_v130) = v22 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v6_0)) (v1 : (c : Dev Cert.Kernel12Ideal.nD) → Buf (Elt Ideal) ((c.tc : Thread Cert.Kernel12Ideal.nD Cert.Kernel12Ideal.τ).loc Cert.Kernel12Ideal.main_v6_1)) (v2 : (c : Dev Cert.Kernel12Ideal.nD) → Buf (Elt Ideal) ((c.tc : Thread Cert.Kernel12Ideal.nD Cert.Kernel12Ideal.τ).loc Cert.Kernel12Ideal.main_v6_2)) (v3 : (c : Dev Cert.Kernel12Ideal.nD) → Buf (Elt Ideal) ((c.tc : Thread Cert.Kernel12Ideal.nD Cert.Kernel12Ideal.τ).loc Cert.Kernel12Ideal.main_v6_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v6_0) = v0 c
          ∧ r.2.mem ((c.tc : Thread Cert.Kernel12Ideal.nD Cert.Kernel12Ideal.τ).loc Cert.Kernel12Ideal.main_v6_1) = v1 c
          ∧ r.2.mem ((c.tc : Thread Cert.Kernel12Ideal.nD Cert.Kernel12Ideal.τ).loc Cert.Kernel12Ideal.main_v6_2) = v2 c
          ∧ r.2.mem ((c.tc : Thread Cert.Kernel12Ideal.nD Cert.Kernel12Ideal.τ).loc Cert.Kernel12Ideal.main_v6_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v26) = v0 c
          ∧ r.2.mem ((c.tc : Thread Cert.Reference12Ideal.nD Cert.Reference12Ideal.τ).loc Cert.Reference12Ideal.main_v7) = v1 c
          ∧ r.2.mem ((c.tc : Thread Cert.Reference12Ideal.nD Cert.Reference12Ideal.τ).loc Cert.Reference12Ideal.main_v13) = v2 c
          ∧ r.2.mem ((c.tc : Thread Cert.Reference12Ideal.nD Cert.Reference12Ideal.τ).loc Cert.Reference12Ideal.main_v2) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal_pre_finite13 [hKernel13Ideal : Cert.Kernel13Ideal.Facts] [hReference13Ideal : Cert.Reference13Ideal.Facts] [hPre_finite13 : Cert.Pre_finite13.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite13 m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v48) = v0 c
          ∧ r.2.mem ((c.tc : Thread Cert.Reference13Ideal.nD Cert.Reference13Ideal.τ).loc Cert.Reference13Ideal.main_v31) = v1 c
          ∧ r.2.mem ((c.tc : Thread Cert.Reference13Ideal.nD Cert.Reference13Ideal.τ).loc Cert.Reference13Ideal.main_v26) = v2 c
          ∧ r.2.mem ((c.tc : Thread Cert.Reference13Ideal.nD Cert.Reference13Ideal.τ).loc Cert.Reference13Ideal.main_v23) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel5 : Cert.Kernel5.Facts) (hKernel5Ideal : Cert.Kernel5Ideal.Facts) (hReference5Ideal : Cert.Reference5Ideal.Facts) (hKernel10 : Cert.Kernel10.Facts) (hKernel10Ideal : Cert.Kernel10Ideal.Facts) (hReference10Ideal : Cert.Reference10Ideal.Facts) (hKernel8 : Cert.Kernel8.Facts) (hKernel8Ideal : Cert.Kernel8Ideal.Facts) (hReference8Ideal : Cert.Reference8Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts) (hPre_finite6 : Cert.Pre_finite6.Facts) (hPre_finite13 : Cert.Pre_finite13.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite13 (hKernel13Ideal := hKernel13Ideal) (hPre_finite13 := hPre_finite13)
    ∧ quiescent_Reference13Ideal (hReference13Ideal := hReference13Ideal)
    ∧ quiescent_Reference13Ideal_pre_finite13 (hReference13Ideal := hReference13Ideal) (hPre_finite13 := hPre_finite13)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel9_Kernel9Ideal
    ∧ algebraic_Kernel9Ideal_Reference9Ideal (hKernel9Ideal := hKernel9Ideal) (hReference9Ideal := hReference9Ideal)
    ∧ preserves_Kernel5_Kernel5Ideal
    ∧ algebraic_Kernel5Ideal_Reference5Ideal (hKernel5Ideal := hKernel5Ideal) (hReference5Ideal := hReference5Ideal)
    ∧ preserves_Kernel10_Kernel10Ideal
    ∧ algebraic_Kernel10Ideal_Reference10Ideal (hKernel10Ideal := hKernel10Ideal) (hReference10Ideal := hReference10Ideal)
    ∧ preserves_Kernel8_Kernel8Ideal
    ∧ algebraic_Kernel8Ideal_Reference8Ideal (hKernel8Ideal := hKernel8Ideal) (hReference8Ideal := hReference8Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_pre_finite13 (hKernel13Ideal := hKernel13Ideal) (hReference13Ideal := hReference13Ideal) (hPre_finite13 := hPre_finite13)
-- ==== Pre_finite.lean ====
abbrev S2048x1024 : Shape := ⟨2, ![2048, 1024]⟩
abbrev S2048x256 : Shape := ⟨2, ![2048, 256]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x256 : S_.BroadcastsInDim S2048x256 (![] : Fin 0 → Fin S2048x256.rank)

variable [Facts]

def fn {F : FTy → Type} [FloatOps F] (main_arg0 : FVec F S2048x1024 .bf16) (main_arg1 : FVec F S2048x256 .bf16) (main_arg2 : FVec F S2048x256 .bf16) (main_arg3 : FVec F S2048x1024 .bf16) : IVec S2048x1024 1 × IVec S2048x256 1 × IVec S2048x256 1 × IVec S2048x1024 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x256 .f32 := (extf .f32 · bitsLt_bf16_f32) main_arg1
  let main_v5 : FVec F S2048x256 .f32 := Host.absf main_v4
  let main_cst_0 : FVec F S_ .f32 := constant S_ .f32 0x7F800000#32
  let main_v6 : FVec F S2048x256 .f32 := broadcastInDim S2048x256 ![] bcast_S_S2048x256 main_cst_0
  let main_v7 : IVec S2048x256 1 := cmpf .olt main_v5 main_v6
  let main_v8 : FVec F S2048x256 .f32 := (extf .f32 · bitsLt_bf16_f32) main_arg2
  let main_v9 : FVec F S2048x256 .f32 := Host.absf main_v8
  let main_cst_1 : FVec F S_ .f32 := constant S_ .f32 0x7F800000#32
  let main_v10 : FVec F S2048x256 .f32 := broadcastInDim S2048x256 ![] bcast_S_S2048x256 main_cst_1
  let main_v11 : IVec S2048x256 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  (main_v3, main_v7, main_v11, main_v15)
-- ==== Pre_finite13.lean ====
abbrev S2048x2048 : Shape := ⟨2, ![2048, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S1x2048 : S_.BroadcastsInDim S1x2048 (![] : Fin 0 → Fin S1x2048.rank)

variable [Facts]

def fn {F : FTy → Type} [FloatOps F] (main_arg0 : FVec F S2048x2048 .f32) (main_arg1 : FVec F S2048x2048 .f32) (main_arg2 : FVec F S2048x2048 .f32) (main_arg3 : FVec F S1x2048 .f32) (main_arg4 : FVec F S1x2048 .f32) (main_arg5 : FVec F S1x2048 .f32) : IVec S2048x2048 1 × IVec S1x2048 1 × IVec S1x2048 1 :=
  let main_v0 : FVec F S2048x2048 .f32 := Host.absf main_arg1
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S1x2048 .f32 := Host.absf main_arg3
  let main_cst_0 : FVec F S_ .f32 := constant S_ .f32 0x7F800000#32
  let main_v4 : FVec F S1x2048 .f32 := broadcastInDim S1x2048 ![] bcast_S_S1x2048 main_cst_0
  let main_v5 : IVec S1x2048 1 := cmpf .olt main_v3 main_v4
  let main_v6 : FVec F S1x2048 .f32 := Host.absf main_arg4
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  (main_v2, main_v5, main_v8)
-- ==== Pre_finite6.lean ====
abbrev S2048x2048 : Shape := ⟨2, ![2048, 2048]⟩
abbrev S2048x1024 : Shape := ⟨2, ![2048, 1024]⟩
abbrev S_ : Shape := ⟨0, ![]⟩

class Facts : Prop where
  bitsLt_bf16_f32 : FTy.bits .bf16 < FTy.bits .f32
  bcast_S_S2048x2048 : S_.BroadcastsInDim S2048x2048 (![] : Fin 0 → Fin S2048x2048.rank)
  bcast_S_S2048x1024 : S_.BroadcastsInDim S2048x1024 (![] : Fin 0 → Fin S2048x1024.rank)

variable [Facts]

def fn {F : FTy → Type} [FloatOps F] (main_arg0 : FVec F S2048x2048 .bf16) (main_arg1 : FVec F S2048x2048 .bf16) (main_arg2 : FVec F S2048x1024 .bf16) (main_arg3 : FVec F S2048x1024 .bf16) : IVec S2048x2048 1 × IVec S2048x2048 1 × IVec S2048x1024 1 × IVec S2048x1024 1 :=
  let main_v0 : FVec F S2048x2048 .f32 := (extf .f32 · bitsLt_bf16_f32) main_arg0
  let main_v1 : FVec F S2048x2048 .f32 := Host.absf main_v0
  let main_cst : FVec F S_ .f32 := constant S_ .f32 0x7F800000#32
  let main_v2 : FVec F S2048x2048 .f32 := broadcastInDim S2048x2048 ![] bcast_S_S2048x2048 main_cst
  let main_v3 : IVec S2048x2048 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S2048x1024 .f32 := (extf .f32 · bitsLt_bf16_f32) main_arg3
  let main_v13 : FVec F S2048x1024 .f32 := Host.absf main_v12
  let main_cst_2 : FVec F S_ .f32 := constant S_ .f32 0x7F800000#32
  let main_v14 : FVec F S2048x1024 .f32 := broadcastInDim S2048x1024 ![] bcast_S_S2048x1024 main_cst_2
  let main_v15 : IVec S2048x1024 1 := cmpf .olt main_v13 main_v14
  (main_v3, main_v7, main_v11, main_v15)
-- ==== Kernel.lean ====
abbrev S2048x1024 : Shape := ⟨2, ![2048, 1024]⟩
abbrev S2048x256 : Shape := ⟨2, ![2048, 256]⟩
abbrev S512x512 : Shape := ⟨2, ![512, 512]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩
abbrev S256x512 : Shape := ⟨2, ![256, 512]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 28
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x256, .f32⟩
  | .hbm, ⟨8, _⟩ => ⟨S2048x256, .f32⟩
  | .local _ .vmem, ⟨0, _⟩ => ⟨S512x512, .bf16⟩
  | .local _ .vmem, ⟨1, _⟩ => ⟨S512x512, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S256x512, .bf16⟩
  | .local _ .vmem, ⟨11, _⟩ => ⟨S256x512, .bf16⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S256x512, .bf16⟩
  | .local _ .vmem, ⟨17, _⟩ => ⟨S256x512, .bf16⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S2048x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![2, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc1_transform_8 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c4_i32_0 : BitVec 32 := 4#32
  let v1 : BitVec 32 := Scalar.divsi v0 c4_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c4_i32_0 c0_i32_2
  let v8 : BitVec 32 := Scalar.extui v7
  let c0_i32_3 : BitVec 32 := 0#32
  let v9 : BitVec 1 := Scalar.cmpi .slt c4_i32_0 c0_i32_3
  let v10 : BitVec 32 := Scalar.extui v9
  let v11 : BitVec 32 := Scalar.subi v8 v10
  let v12 : BitVec 1 := Scalar.cmpi .ne v6 v11
  let v13 : BitVec 32 := Scalar.remsi v0 c4_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

abbrev stage1_0 : Fin 2 → Memref sig .tc .vmem S256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S2048x1024 : Shape := ⟨2, ![2048, 1024]⟩
abbrev S2048x256 : Shape := ⟨2, ![2048, 256]⟩
abbrev S2048x2x4x128 : Shape := ⟨4, ![2048, 2, 4, 128]⟩
abbrev S2x4x2048x128 : Shape := ⟨4, ![2, 4, 2048, 128]⟩
abbrev S2048x2x128 : Shape := ⟨3, ![2048, 2, 128]⟩
abbrev S2x2048x128 : Shape := ⟨3, ![2, 2048, 128]⟩
abbrev S2x4x2048x2048 : Shape := ⟨4, ![2, 4, 2048, 2048]⟩
abbrev S_ : Shape := ⟨0, ![]⟩
abbrev S2x4x2048 : Shape := ⟨3, ![2, 4, 2048]⟩
abbrev S2x4x2048x1 : Shape := ⟨4, ![2, 4, 2048, 1]⟩
abbrev S2x128x2048 : Shape := ⟨3, ![2, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x256, .bf16⟩
  | .hbm, ⟨2, _⟩ => ⟨S2048x256, .bf16⟩
  | .hbm, ⟨3, _⟩ => ⟨S2048x1024, .bf16⟩
  | .hbm, ⟨4, _⟩ => ⟨S2048x1024, .f32⟩
  | .hbm, ⟨5, _⟩ => ⟨S2048x256, .f32⟩
  | .hbm, ⟨6, _⟩ => ⟨S2048x256, .f32⟩
  | .hbm, ⟨7, _⟩ => ⟨S2048x2x4x128, .f32⟩
  | .hbm, ⟨8, _⟩ => ⟨S2x4x2048x128, .f32⟩
  | .hbm, ⟨9, _⟩ => ⟨S2048x2x128, .f32⟩
  | .hbm, ⟨10, _⟩ => ⟨S2x2048x128, .f32⟩
  | .hbm, ⟨11, _⟩ => ⟨S2048x2x128, .f32⟩
  | .hbm, ⟨12, _⟩ => ⟨S2x2048x128, .f32⟩
  | .hbm, ⟨13, _⟩ => ⟨S2x4x2048x2048, .f32⟩
  | .hbm, ⟨14, _⟩ => ⟨S_, .f32⟩
  | .hbm, ⟨15, _⟩ => ⟨S2x4x2048x2048, .f32⟩
  | .hbm, ⟨16, _⟩ => ⟨S2x4x2048x2048, .f32⟩
  | .hbm, ⟨17, _⟩ => ⟨S_, .f32⟩
  | .hbm, ⟨18, _⟩ => ⟨S2x4x2048, .f32⟩
  | .hbm, ⟨19, _⟩ => ⟨S2x4x2048x1, .f32⟩
  | .hbm, ⟨20, _⟩ => ⟨S2x4x2048x2048, .f32⟩
  | .hbm, ⟨21, _⟩ => ⟨S2x4x2048x2048, .i1⟩
  | .hbm, ⟨22, _⟩ => ⟨S2x4x2048x2048, .f32⟩
  | .hbm, ⟨23, _⟩ => ⟨S_, .f32⟩
  | .hbm, ⟨24, _⟩ => ⟨S2x4x2048, .f32⟩
  | .hbm, ⟨25, _⟩ => ⟨S_, .f32⟩
  | .hbm, ⟨26, _⟩ => ⟨S2x4x2048, .f32⟩
  | .hbm, ⟨27, _⟩ => ⟨S2x4x2048, .f32⟩
  | .hbm, ⟨28, _⟩ => ⟨S_, .f32⟩
  | .hbm, ⟨29, _⟩ => ⟨S2x4x2048, .f32⟩
  | .hbm, ⟨30, _⟩ => ⟨S2x4x2048, .i1⟩
  | .hbm, ⟨31, _⟩ => ⟨S_, .f32⟩
  | .hbm, ⟨32, _⟩ => ⟨S2x4x2048, .f32⟩
  | .hbm, ⟨33, _⟩ => ⟨S2x4x2048, .i1⟩
  | .hbm, ⟨34, _⟩ => ⟨S_, .f32⟩
  | .hbm, ⟨35, _⟩ => ⟨S2x4x2048, .f32⟩
  | .hbm, ⟨36, _⟩ => ⟨S_, .f32⟩
  | .hbm, ⟨37, _⟩ => ⟨S2x4x2048, .f32⟩
  | .hbm, ⟨38, _⟩ => ⟨S_, .f32⟩
  | .hbm, ⟨39, _⟩ => ⟨S2x4x2048, .f32⟩
  | .hbm, ⟨40, _⟩ => ⟨S2x4x2048, .f32⟩
  | .hbm, ⟨41, _⟩ => ⟨S2x4x2048, .f32⟩
  | .hbm, ⟨42, _⟩ => ⟨S2x4x2048x1, .f32⟩
  | .hbm, ⟨43, _⟩ => ⟨S2x4x2048x2048, .f32⟩
  | .hbm, ⟨44, _⟩ => ⟨S2x4x2048x2048, .f32⟩
  | .hbm, ⟨45, _⟩ => ⟨S2x4x2048x2048, .f32⟩
  | .hbm, ⟨46, _⟩ => ⟨S_, .f32⟩
  | .hbm, ⟨47, _⟩ => ⟨S2x4x2048, .f32⟩
  | .hbm, ⟨48, _⟩ => ⟨S2x4x2048x1, .f32⟩
  | .hbm, ⟨49, _⟩ => ⟨S2x4x2048x2048, .f32⟩
  | .hbm, ⟨50, _⟩ => ⟨S2x4x2048x2048, .f32⟩
  | .hbm, ⟨51, _⟩ => ⟨S2x4x2048x1, .f32⟩
  | .hbm, ⟨52, _⟩ => ⟨S_, .f32⟩
  | .hbm, ⟨53, _⟩ => ⟨S2x4x2048x1, .f32⟩
  | .hbm, ⟨54, _⟩ => ⟨S2x4x2048x1, .f32⟩
  | .hbm, ⟨55, _⟩ => ⟨S2x4x2048x128, .f32⟩
  | .hbm, ⟨56, _⟩ => ⟨S2048x2x4x128, .f32⟩
  | .hbm, ⟨57, _⟩ => ⟨S2048x1024, .f32⟩
  | .hbm, ⟨58, _⟩ => ⟨S2048x1024, .f32⟩
  | .hbm, ⟨59, _⟩ => ⟨S2048x2x4x128, .f32⟩
  | .hbm, ⟨60, _⟩ => ⟨S2x4x2048x128, .f32⟩
  | .hbm, ⟨61, _⟩ => ⟨S2x128x2048, .f32⟩
  | .hbm, ⟨62, _⟩ => ⟨S2x2048x128, .f32⟩
  | .hbm, ⟨63, _⟩ => ⟨S2x4x2048x2048, .f32⟩
  | .hbm, ⟨64, _⟩ => ⟨S2x4x2048x2048, .f32⟩
  | .hbm, ⟨65, _⟩ => ⟨S2x4x2048x2048, .f32⟩
  | .hbm, ⟨66, _⟩ => ⟨S2x4x2048x2048, .f32⟩
  | .hbm, ⟨67, _⟩ => ⟨S_, .f32⟩
  | .hbm, ⟨68, _⟩ => ⟨S2x4x2048, .f32⟩
  | .hbm, ⟨69, _⟩ => ⟨S2x4x2048x1, .f32⟩
  | .hbm, ⟨70, _⟩ => ⟨S2x4x2048x1, .f32⟩
  | .hbm, ⟨71, _⟩ => ⟨S2x4x2048x2048, .f32⟩
  | .hbm, ⟨72, _⟩ => ⟨S2x4x2048x2048, .f32⟩
  | .hbm, ⟨73, _⟩ => ⟨S_, .f32⟩
  | .hbm, ⟨74, _⟩ => ⟨S2x4x2048, .f32⟩
  | .hbm, ⟨75, _⟩ => ⟨S2x4x2048x2048, .f32⟩
  | .hbm, ⟨76, _⟩ => ⟨S2x4x2048x2048, .f32⟩
  | .hbm, ⟨77, _⟩ => ⟨S2x4x2048x2048, .f32⟩
  | .hbm, ⟨78, _⟩ => ⟨S_, .f32⟩
  | .hbm, ⟨79, _⟩ => ⟨S2x4x2048x2048, .f32⟩
  | .hbm, ⟨80, _⟩ => ⟨S2x4x2048x2048, .f32⟩
  | .hbm, ⟨81, _⟩ => ⟨S2x2048x128, .f32⟩
  | .hbm, ⟨82, _⟩ => ⟨S2x4x2048x128, .f32⟩
  | .hbm, ⟨83, _⟩ => ⟨S2048x2x128, .f32⟩
  | .hbm, ⟨84, _⟩ => ⟨S2048x256, .f32⟩
  | .hbm, ⟨85, _⟩ => ⟨S2048x2x128, .f32⟩
  | .hbm, ⟨86, _⟩ => ⟨S2048x256, .f32⟩
  | .hbm, ⟨87, _⟩ => ⟨S2048x2x4x128, .f32⟩
  | .hbm, ⟨88, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel2.lean ====
abbrev S2048x2048 : Shape := ⟨2, ![2048, 2048]⟩
abbrev S4x2048x2048 : Shape := ⟨3, ![4, 2048, 2048]⟩
abbrev S1x8192x2048 : Shape := ⟨3, ![1, 8192, 2048]⟩
abbrev S2048x8192 : Shape := ⟨2, ![2048, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩
abbrev S1x1024x1024 : Shape := ⟨3, ![1, 1024, 1024]⟩
abbrev S1x1024x2048 : Shape := ⟨3, ![1, 1024, 2048]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S1x8192x2048, .bf16⟩
  | .hbm, ⟨3, _⟩ => ⟨S2048x2048, .bf16⟩
  | .hbm, ⟨4, _⟩ => ⟨S2048x8192, .bf16⟩
  | .hbm, ⟨5, _⟩ => ⟨S2048x8192, .bf16⟩
  | .hbm, ⟨6, _⟩ => ⟨S1x8192x2048, .f32⟩
  | .hbm, ⟨7, _⟩ => ⟨S2048x8192, .bf16⟩
  | .hbm, ⟨8, _⟩ => ⟨S4x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S2048x1024, .bf16⟩
  | .local _ .vmem, ⟨11, _⟩ => ⟨S2048x1024, .bf16⟩
  | .local _ .vmem, ⟨12, _⟩ => ⟨S1x1024x1024, .f32⟩
  | .local _ .vmem, ⟨13, _⟩ => ⟨S1x1024x1024, .f32⟩
  | .local _ .vmem, ⟨14, _⟩ => ⟨S1024x2048, .bf16⟩
  | .local _ .vmem, ⟨15, _⟩ => ⟨S1024x2048, .bf16⟩
  | .local _ .vmem, ⟨16, _⟩ => ⟨S1x1024x2048, .bf16⟩
  | .local _ .vmem, ⟨17, _⟩ => ⟨S1x1024x2048, .bf16⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S2048x1024, .bf16⟩
  | .local _ .vmem, ⟨23, _⟩ => ⟨S2048x1024, .bf16⟩
  | .local _ .vmem, ⟨24, _⟩ => ⟨S2048x1024, .bf16⟩
  | .local _ .vmem, ⟨25, _⟩ => ⟨S2048x1024, .bf16⟩
  | .local _ .vmem, ⟨26, _⟩ => ⟨S1x1024x1024, .f32⟩
  | .local _ .vmem, ⟨27, _⟩ => ⟨S1x1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage1_0 : Fin 2 → Memref sig .tc .vmem S2048x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![2, 8, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage3_0 : Fin 2 → Memref sig .tc .vmem S2048x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1x1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== Reference2Ideal.lean ====
abbrev S2048x2048 : Shape := ⟨2, ![2048, 2048]⟩
abbrev S4x2048x2048 : Shape := ⟨3, ![4, 2048, 2048]⟩
abbrev S1x8192x2048 : Shape := ⟨3, ![1, 8192, 2048]⟩
abbrev S2048x4x2048 : Shape := ⟨3, ![2048, 4, 2048]⟩
abbrev S2048x8192 : Shape := ⟨2, ![2048, 8192]⟩
abbrev S8192x2048 : Shape := ⟨2, ![8192, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x2048, .bf16⟩
  | .hbm, ⟨2, _⟩ => ⟨S1x8192x2048, .bf16⟩
  | .hbm, ⟨3, _⟩ => ⟨S2048x2048, .bf16⟩
  | .hbm, ⟨4, _⟩ => ⟨S2048x2048, .f32⟩
  | .hbm, ⟨5, _⟩ => ⟨S4x2048x2048, .f32⟩
  | .hbm, ⟨6, _⟩ => ⟨S2048x4x2048, .f32⟩
  | .hbm, ⟨7, _⟩ => ⟨S2048x8192, .f32⟩
  | .hbm, ⟨8, _⟩ => ⟨S1x8192x2048, .f32⟩
  | .hbm, ⟨9, _⟩ => ⟨S8192x2048, .f32⟩
  | .hbm, ⟨10, _⟩ => ⟨S2048x8192, .f32⟩
  | .hbm, ⟨11, _⟩ => ⟨S_, .f32⟩
  | .hbm, ⟨12, _⟩ => ⟨S2048x8192, .f32⟩
  | .hbm, ⟨13, _⟩ => ⟨S2048x8192, .f32⟩
  | .hbm, ⟨14, _⟩ => ⟨S_, .f32⟩
  | .hbm, ⟨15, _⟩ => ⟨S2048x8192, .f32⟩
  | .hbm, ⟨16, _⟩ => ⟨S2048x8192, .i1⟩
  | .hbm, ⟨17, _⟩ => ⟨S_, .f32⟩
  | .hbm, ⟨18, _⟩ => ⟨S2048x8192, .f32⟩
  | .hbm, ⟨19, _⟩ => ⟨S2048x8192, .f32⟩
  | .hbm, ⟨20, _⟩ => ⟨S_, .f32⟩
  | .hbm, ⟨21, _⟩ => ⟨S2048x8192, .f32⟩
  | .hbm, ⟨22, _⟩ => ⟨S2048x8192, .f32⟩
  | .hbm, ⟨23, _⟩ => ⟨S2048x2048, .f32⟩
  | .hbm, ⟨24, _⟩ => ⟨S2048x2048, .f32⟩
  | .hbm, ⟨25, _⟩ => ⟨S2048x8192, .f32⟩
  | .hbm, ⟨26, _⟩ => ⟨S8192x2048, .f32⟩
  | .hbm, ⟨27, _⟩ => ⟨S2048x8192, .f32⟩
  | .hbm, ⟨28, _⟩ => ⟨S2048x8192, .f32⟩
  | .hbm, ⟨29, _⟩ => ⟨S_, .f32⟩
  | .hbm, ⟨30, _⟩ => ⟨S2048x8192, .f32⟩
  | .hbm, ⟨31, _⟩ => ⟨S2048x8192, .f32⟩
  | .hbm, ⟨32, _⟩ => ⟨S8192x2048, .f32⟩
  | .hbm, ⟨33, _⟩ => ⟨S2048x8192, .f32⟩
  | .hbm, ⟨34, _⟩ => ⟨S2048x2048, .f32⟩
  | .hbm, ⟨35, _⟩ => ⟨S2048x8192, .bf16⟩
  | .hbm, ⟨36, _⟩ => ⟨S2048x8192, .bf16⟩
  | .hbm, ⟨37, _⟩ => ⟨S2048x4x2048, .f32⟩
  | .hbm, ⟨38, _⟩ => ⟨S4x2048x2048, .f32⟩
  | .hbm, ⟨39, _⟩ => ⟨S1x8192x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel3.lean ====
abbrev S2048x8192 : Shape := ⟨2, ![2048, 8192]⟩
abbrev S1x8192x2048 : Shape := ⟨3, ![1, 8192, 2048]⟩
abbrev S2048x2048 : Shape := ⟨2, ![2048, 2048]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S2048x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_7 : BitVec 32 := 1#32
  let v12 : BitVec 1 := Scalar.cmpi .eq arg2 c1_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S1x8192x2048 : Shape := ⟨3, ![1, 8192, 2048]⟩
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S1x8192x2048, .bf16⟩
  | .hbm, ⟨2, _⟩ => ⟨S2048x8192, .f32⟩
  | .hbm, ⟨3, _⟩ => ⟨S1x8192x2048, .f32⟩
  | .hbm, ⟨4, _⟩ => ⟨S8192x2048, .f32⟩
  | .hbm, ⟨5, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S2048x8192 : Shape := ⟨2, ![2048, 8192]⟩
abbrev S4x2048x2048 : Shape := ⟨3, ![4, 2048, 2048]⟩
abbrev S2048x2048 : Shape := ⟨2, ![2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2048x8192 : Shape := ⟨2, ![2048, 8192]⟩
abbrev S4x2048x2048 : Shape := ⟨3, ![4, 2048, 2048]⟩
abbrev S2048x4x2048 : Shape := ⟨3, ![2048, 4, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S4x2048x2048, .bf16⟩
  | .hbm, ⟨2, _⟩ => ⟨S4x2048x2048, .f32⟩
  | .hbm, ⟨3, _⟩ => ⟨S2048x4x2048, .f32⟩
  | .hbm, ⟨4, _⟩ => ⟨S2048x8192, .f32⟩
  | .hbm, ⟨5, _⟩ => ⟨S2048x8192, .f32⟩
  | .hbm, ⟨6, _⟩ => ⟨S2048x2048, .f32⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S2048x2048 : Shape := ⟨2, ![2048, 2048]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩
abbrev S512x256 : Shape := ⟨2, ![512, 256]⟩
abbrev S2048x256 : Shape := ⟨2, ![2048, 256]⟩
abbrev S512x2048 : Shape := ⟨2, ![512, 2048]⟩
abbrev S512 : Shape := ⟨1, ![512]⟩
abbrev S512x1 : Shape := ⟨2, ![512, 1]⟩
abbrev S2048x128 : Shape := ⟨2, ![2048, 128]⟩
abbrev S512x128 : Shape := ⟨2, ![512, 128]⟩
abbrev S256x256 : Shape := ⟨2, ![256, 256]⟩
abbrev S256x128 : Shape := ⟨2, ![256, 128]⟩
abbrev S256x2048 : Shape := ⟨2, ![256, 2048]⟩
abbrev S256 : Shape := ⟨1, ![256]⟩
abbrev S256x1 : Shape := ⟨2, ![256, 1]⟩

abbrev nBuf : Space → Nat
  | .hbm => 9
  | .vmem => 28
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .bf16⟩
  | .hbm, ⟨3, _⟩ => ⟨S2048x1024, .bf16⟩
  | .hbm, ⟨4, _⟩ => ⟨S2048x1024, .f32⟩
  | .hbm, ⟨5, _⟩ => ⟨S2048x1024, .f32⟩
  | .hbm, ⟨6, _⟩ => ⟨S2048x2048, .f32⟩
  | .hbm, ⟨7, _⟩ => ⟨S2048x2048, .f32⟩
  | .hbm, ⟨8, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x512, .bf16⟩
  | .local _ .vmem, ⟨5, _⟩ => ⟨S2048x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S2048x512, .bf16⟩
  | .local _ .vmem, ⟨13, _⟩ => ⟨S2048x512, .bf16⟩
  | .local _ .vmem, ⟨14, _⟩ => ⟨S2048x256, .bf16⟩
  | .local _ .vmem, ⟨15, _⟩ => ⟨S2048x256, .bf16⟩
  | .local _ .vmem, ⟨16, _⟩ => ⟨S512x256, .bf16⟩
  | .local _ .vmem, ⟨17, _⟩ => ⟨S512x256, .bf16⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x512, .f32⟩
  | .local _ .vmem, ⟨23, _⟩ => ⟨S512x512, .f32⟩
  | .local _ .vmem, ⟨24, _⟩ => ⟨S2048x512, .f32⟩
  | .local _ .vmem, ⟨25, _⟩ => ⟨S2048x512, .f32⟩
  | .local _ .vmem, ⟨26, _⟩ => ⟨S2048x256, .f32⟩
  | .local _ .vmem, ⟨27, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25
abbrev cc1_sem8_0 : DmaSem sig := 26
abbrev cc1_sem8_1 : DmaSem sig := 27

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let v18 : BitVec 32 := Scalar.divsi v17 c4_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c4_i32_5 c0_i32_8
  let v25 : BitVec 32 := Scalar.extui v24
  let c0_i32_9 : BitVec 32 := 0#32
  let v26 : BitVec 1 := Scalar.cmpi .slt c4_i32_5 c0_i32_9
  let v27 : BitVec 32 := Scalar.extui v26
  let v28 : BitVec 32 := Scalar.subi v25 v27
  let v29 : BitVec 1 := Scalar.cmpi .ne v23 v28
  let v30 : BitVec 32 := Scalar.remsi v17 c4_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c4_i32_5 : BitVec 32 := 4#32
  let v18 : BitVec 32 := Scalar.divsi v17 c4_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c4_i32_5 c0_i32_8
  let v25 : BitVec 32 := Scalar.extui v24
  let c0_i32_9 : BitVec 32 := 0#32
  let v26 : BitVec 1 := Scalar.cmpi .slt c4_i32_5 c0_i32_9
  let v27 : BitVec 32 := Scalar.extui v26
  let v28 : BitVec 32 := Scalar.subi v25 v27
  let v29 : BitVec 1 := Scalar.cmpi .ne v23 v28
  let v30 : BitVec 32 := Scalar.remsi v17 c4_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![4, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.divsi v17 c2_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c2_i32_5 c0_i32_8
  let v25 : BitVec 32 := Scalar.extui v24
  let c0_i32_9 : BitVec 32 := 0#32
  let v26 : BitVec 1 := Scalar.cmpi .slt c2_i32_5 c0_i32_9
  let v27 : BitVec 32 := Scalar.extui v26
  let v28 : BitVec 32 := Scalar.subi v25 v27
  let v29 : BitVec 1 := Scalar.cmpi .ne v23 v28
  let v30 : BitVec 32 := Scalar.remsi v17 c2_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc1_transform_2 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.divsi v17 c2_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c2_i32_5 c0_i32_8
  let v25 : BitVec 32 := Scalar.extui v24
  let c0_i32_9 : BitVec 32 := 0#32
  let v26 : BitVec 1 := Scalar.cmpi .slt c2_i32_5 c0_i32_9
  let v27 : BitVec 32 := Scalar.extui v26
  let v28 : BitVec 32 := Scalar.subi v25 v27
  let v29 : BitVec 1 := Scalar.cmpi .ne v23 v28
  let v30 : BitVec 32 := Scalar.remsi v17 c2_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.divsi v17 c2_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c2_i32_5 c0_i32_8
  let v25 : BitVec 32 := Scalar.extui v24
  let c0_i32_9 : BitVec 32 := 0#32
  let v26 : BitVec 1 := Scalar.cmpi .slt c2_i32_5 c0_i32_9
  let v27 : BitVec 32 := Scalar.extui v26
  let v28 : BitVec 32 := Scalar.subi v25 v27
  let v29 : BitVec 1 := Scalar.cmpi .ne v23 v28
  let v30 : BitVec 32 := Scalar.remsi v17 c2_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.divsi v0 c1_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi v0 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c2_i32_5 : BitVec 32 := 2#32
  let v18 : BitVec 32 := Scalar.divsi v17 c2_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c2_i32_5 c0_i32_8
  let v25 : BitVec 32 := Scalar.extui v24
  let c0_i32_9 : BitVec 32 := 0#32
  let v26 : BitVec 1 := Scalar.cmpi .slt c2_i32_5 c0_i32_9
  let v27 : BitVec 32 := Scalar.extui v26
  let v28 : BitVec 32 := Scalar.subi v25 v27
  let v29 : BitVec 1 := Scalar.cmpi .ne v23 v28
  let v30 : BitVec 32 := Scalar.remsi v17 c2_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c0_i32_12 : BitVec 32 := 0#32
  let c0_i32_13 : BitVec 32 := 0#32
  ![c0_i32_12.toNat, v34.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S2048x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== Reference6Ideal.lean ====
abbrev S2048x2048 : Shape := ⟨2, ![2048, 2048]⟩
abbrev S2048x1024 : Shape := ⟨2, ![2048, 1024]⟩
abbrev S2048x8x256 : Shape := ⟨3, ![2048, 8, 256]⟩
abbrev S8x2048x256 : Shape := ⟨3, ![8, 2048, 256]⟩
abbrev S2048x8x128 : Shape := ⟨3, ![2048, 8, 128]⟩
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x128x2048 : Shape := ⟨3, ![8, 128, 2048]⟩

abbrev nBuf : Space → Nat
  | .hbm => 89
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x1024, .bf16⟩
  | .hbm, ⟨3, _⟩ => ⟨S2048x1024, .bf16⟩
  | .hbm, ⟨4, _⟩ => ⟨S2048x2048, .f32⟩
  | .hbm, ⟨5, _⟩ => ⟨S2048x2048, .f32⟩
  | .hbm, ⟨6, _⟩ => ⟨S2048x1024, .f32⟩
  | .hbm, ⟨7, _⟩ => ⟨S2048x8x256, .f32⟩
  | .hbm, ⟨8, _⟩ => ⟨S8x2048x256, .f32⟩
  | .hbm, ⟨9, _⟩ => ⟨S2048x8x256, .f32⟩
  | .hbm, ⟨10, _⟩ => ⟨S8x2048x256, .f32⟩
  | .hbm, ⟨11, _⟩ => ⟨S2048x8x128, .f32⟩
  | .hbm, ⟨12, _⟩ => ⟨S8x2048x128, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S8x2048x2048, .f32⟩
  | .hbm, ⟨21, _⟩ => ⟨S8x2048x2048, .i1⟩
  | .hbm, ⟨22, _⟩ => ⟨S8x2048x2048, .f32⟩
  | .hbm, ⟨23, _⟩ => ⟨S_, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S_, .f32⟩
  | .hbm, ⟨29, _⟩ => ⟨S8x2048, .f32⟩
  | .hbm, ⟨30, _⟩ => ⟨S8x2048, .i1⟩
  | .hbm, ⟨31, _⟩ => ⟨S_, .f32⟩
  | .hbm, ⟨32, _⟩ => ⟨S8x2048, .f32⟩
  | .hbm, ⟨33, _⟩ => ⟨S8x2048, .i1⟩
  | .hbm, ⟨34, _⟩ => ⟨S_, .f32⟩
  | .hbm, ⟨35, _⟩ => ⟨S8x2048, .f32⟩
  | .hbm, ⟨36, _⟩ => ⟨S_, .f32⟩
  | .hbm, ⟨37, _⟩ => ⟨S8x2048, .f32⟩
  | .hbm, ⟨38, _⟩ => ⟨S_, .f32⟩
  | .hbm, ⟨39, _⟩ => ⟨S8x2048, .f32⟩
  | .hbm, ⟨40, _⟩ => ⟨S8x2048, .f32⟩
  | .hbm, ⟨41, _⟩ => ⟨S8x2048, .f32⟩
  | .hbm, ⟨42, _⟩ => ⟨S8x2048x1, .f32⟩
  | .hbm, ⟨43, _⟩ => ⟨S8x2048x2048, .f32⟩
  | .hbm, ⟨44, _⟩ => ⟨S8x2048x2048, .f32⟩
  | .hbm, ⟨45, _⟩ => ⟨S8x2048x2048, .f32⟩
  | .hbm, ⟨46, _⟩ => ⟨S_, .f32⟩
  | .hbm, ⟨47, _⟩ => ⟨S8x2048, .f32⟩
  | .hbm, ⟨48, _⟩ => ⟨S8x2048x1, .f32⟩
  | .hbm, ⟨49, _⟩ => ⟨S8x2048x2048, .f32⟩
  | .hbm, ⟨50, _⟩ => ⟨S8x2048x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S8x2048x128, .f32⟩
  | .hbm, ⟨56, _⟩ => ⟨S2048x8x128, .f32⟩
  | .hbm, ⟨57, _⟩ => ⟨S2048x1024, .f32⟩
  | .hbm, ⟨58, _⟩ => ⟨S2048x1024, .f32⟩
  | .hbm, ⟨59, _⟩ => ⟨S2048x8x128, .f32⟩
  | .hbm, ⟨60, _⟩ => ⟨S8x2048x128, .f32⟩
  | .hbm, ⟨61, _⟩ => ⟨S8x128x2048, .f32⟩
  | .hbm, ⟨62, _⟩ => ⟨S8x2048x128, .f32⟩
  | .hbm, ⟨63, _⟩ => ⟨S8x2048x2048, .f32⟩
  | .hbm, ⟨64, _⟩ => ⟨S8x2048x2048, .f32⟩
  | .hbm, ⟨65, _⟩ => ⟨S8x2048x2048, .f32⟩
  | .hbm, ⟨66, _⟩ => ⟨S8x2048x2048, .f32⟩
  | .hbm, ⟨67, _⟩ => ⟨S_, .f32⟩
  | .hbm, ⟨68, _⟩ => ⟨S8x2048, .f32⟩
  | .hbm, ⟨69, _⟩ => ⟨S8x2048x1, .f32⟩
  | .hbm, ⟨70, _⟩ => ⟨S8x2048x1, .f32⟩
  | .hbm, ⟨71, _⟩ => ⟨S8x2048x2048, .f32⟩
  | .hbm, ⟨72, _⟩ => ⟨S8x2048x2048, .f32⟩
  | .hbm, ⟨73, _⟩ => ⟨S_, .f32⟩
  | .hbm, ⟨74, _⟩ => ⟨S8x2048, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048x2048, .f32⟩
  | .hbm, ⟨80, _⟩ => ⟨S8x2048x2048, .f32⟩
  | .hbm, ⟨81, _⟩ => ⟨S8x2048x256, .f32⟩
  | .hbm, ⟨82, _⟩ => ⟨S8x2048x256, .f32⟩
  | .hbm, ⟨83, _⟩ => ⟨S2048x8x128, .f32⟩
  | .hbm, ⟨84, _⟩ => ⟨S2048x1024, .f32⟩
  | .hbm, ⟨85, _⟩ => ⟨S2048x8x256, .f32⟩
  | .hbm, ⟨86, _⟩ => ⟨S2048x2048, .f32⟩
  | .hbm, ⟨87, _⟩ => ⟨S2048x8x256, .f32⟩
  | .hbm, ⟨88, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_cst_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel7.lean ====
abbrev S2048x2048 : Shape := ⟨2, ![2048, 2048]⟩
abbrev S2048x512 : Shape := ⟨2, ![2048, 512]⟩
abbrev S1x2048x2048 : Shape := ⟨3, ![1, 2048, 2048]⟩
abbrev S2048x1024 : Shape := ⟨2, ![2048, 1024]⟩
abbrev S1x1024x1024 : Shape := ⟨3, ![1, 1024, 1024]⟩
abbrev S1024x1024 : Shape := ⟨2, ![1024, 1024]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x512, .bf16⟩
  | .hbm, ⟨3, _⟩ => ⟨S2048x2048, .bf16⟩
  | .hbm, ⟨4, _⟩ => ⟨S1x2048x2048, .f32⟩
  | .hbm, ⟨5, _⟩ => ⟨S4x512x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S1x512x512, .f32⟩
  | .local _ .vmem, ⟨10, _⟩ => ⟨S1x512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![1, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage1_0 : Fin 1 → Memref sig .tc .vmem S2048x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false, true]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference7Ideal.lean ====
abbrev S2048x2048 : Shape := ⟨2, ![2048, 2048]⟩
abbrev S2048x512 : Shape := ⟨2, ![2048, 512]⟩
abbrev S512x2048 : Shape := ⟨2, ![512, 2048]⟩
abbrev S1x2048x2048 : Shape := ⟨3, ![1, 2048, 2048]⟩
abbrev S512x4x512 : Shape := ⟨3, ![512, 4, 512]⟩
abbrev S4x512x512 : Shape := ⟨3, ![4, 512, 512]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x512, .bf16⟩
  | .hbm, ⟨3, _⟩ => ⟨S2048x2048, .bf16⟩
  | .hbm, ⟨4, _⟩ => ⟨S2048x512, .f32⟩
  | .hbm, ⟨5, _⟩ => ⟨S2048x2048, .f32⟩
  | .hbm, ⟨6, _⟩ => ⟨S2048x512, .f32⟩
  | .hbm, ⟨7, _⟩ => ⟨S512x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S1x2048x2048, .f32⟩
  | .hbm, ⟨13, _⟩ => ⟨S512x4x512, .f32⟩
  | .hbm, ⟨14, _⟩ => ⟨S4x512x512, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel9.lean ====
abbrev S2048x512 : Shape := ⟨2, ![2048, 512]⟩
abbrev S4x512x512 : Shape := ⟨3, ![4, 512, 512]⟩
abbrev S2048x128 : Shape := ⟨2, ![2048, 128]⟩
abbrev S2048x2048 : Shape := ⟨2, ![2048, 2048]⟩
abbrev S2048x1024 : Shape := ⟨2, ![2048, 1024]⟩
abbrev S1024x512 : Shape := ⟨2, ![1024, 512]⟩
abbrev S1x512x512 : Shape := ⟨3, ![1, 512, 512]⟩
abbrev S1024x128 : Shape := ⟨2, ![1024, 128]⟩
abbrev S1024x256 : Shape := ⟨2, ![1024, 256]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x512, .bf16⟩
  | .hbm, ⟨1, _⟩ => ⟨S4x512x512, .bf16⟩
  | .hbm, ⟨2, _⟩ => ⟨S2048x128, .bf16⟩
  | .hbm, ⟨3, _⟩ => ⟨S2048x2048, .bf16⟩
  | .hbm, ⟨4, _⟩ => ⟨S2048x1024, .bf16⟩
  | .local _ .vmem, ⟨0, _⟩ => ⟨S1024x512, .bf16⟩
  | .local _ .vmem, ⟨1, _⟩ => ⟨S1024x512, .bf16⟩
  | .local _ .vmem, ⟨2, _⟩ => ⟨S1x512x512, .bf16⟩
  | .local _ .vmem, ⟨3, _⟩ => ⟨S1x512x512, .bf16⟩
  | .local _ .vmem, ⟨4, _⟩ => ⟨S1024x128, .bf16⟩
  | .local _ .vmem, ⟨5, _⟩ => ⟨S1024x128, .bf16⟩
  | .local _ .vmem, ⟨6, _⟩ => ⟨S1024x512, .bf16⟩
  | .local _ .vmem, ⟨7, _⟩ => ⟨S1024x512, .bf16⟩
  | .local _ .vmem, ⟨8, _⟩ => ⟨S1024x256, .bf16⟩
  | .local _ .vmem, ⟨9, _⟩ => ⟨S1024x256, .bf16⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S2048x512 : Shape := ⟨2, ![2048, 512]⟩
abbrev S4x512x512 : Shape := ⟨3, ![4, 512, 512]⟩
abbrev S2048x128 : Shape := ⟨2, ![2048, 128]⟩
abbrev S512x4x512 : Shape := ⟨3, ![512, 4, 512]⟩
abbrev S512x2048 : Shape := ⟨2, ![512, 2048]⟩
abbrev S2048x2048 : Shape := ⟨2, ![2048, 2048]⟩
abbrev S2048x8x256 : Shape := ⟨3, ![2048, 8, 256]⟩
abbrev S2048x8x128 : Shape := ⟨3, ![2048, 8, 128]⟩
abbrev S2048x1x128 : Shape := ⟨3, ![2048, 1, 128]⟩
abbrev S2048x1024 : Shape := ⟨2, ![2048, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S4x512x512, .bf16⟩
  | .hbm, ⟨2, _⟩ => ⟨S2048x128, .bf16⟩
  | .hbm, ⟨3, _⟩ => ⟨S2048x512, .f32⟩
  | .hbm, ⟨4, _⟩ => ⟨S4x512x512, .f32⟩
  | .hbm, ⟨5, _⟩ => ⟨S512x4x512, .f32⟩
  | .hbm, ⟨6, _⟩ => ⟨S512x2048, .f32⟩
  | .hbm, ⟨7, _⟩ => ⟨S2048x2048, .f32⟩
  | .hbm, ⟨8, _⟩ => ⟨S2048x128, .f32⟩
  | .hbm, ⟨9, _⟩ => ⟨S2048x8x256, .f32⟩
  | .hbm, ⟨10, _⟩ => ⟨S2048x8x128, .f32⟩
  | .hbm, ⟨11, _⟩ => ⟨S2048x1x128, .f32⟩
  | .hbm, ⟨12, _⟩ => ⟨S2048x8x128, .f32⟩
  | .hbm, ⟨13, _⟩ => ⟨S2048x8x256, .f32⟩
  | .hbm, ⟨14, _⟩ => ⟨S2048x2048, .f32⟩
  | .hbm, ⟨15, _⟩ => ⟨S2048x8x128, .f32⟩
  | .hbm, ⟨16, _⟩ => ⟨S2048x1024, .f32⟩
  | .hbm, ⟨17, _⟩ => ⟨S2048x2048, .bf16⟩
  | .hbm, ⟨18, _⟩ => ⟨S2048x1024, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel5.lean ====
abbrev S2048x2048 : Shape := ⟨2, ![2048, 2048]⟩
abbrev S3648x2048 : Shape := ⟨2, ![3648, 2048]⟩
abbrev S2048x4224 : Shape := ⟨2, ![2048, 4224]⟩
abbrev S1536x2048 : Shape := ⟨2, ![1536, 2048]⟩
abbrev S8x192x2048 : Shape := ⟨3, ![8, 192, 2048]⟩
abbrev S8x64x2048 : Shape := ⟨3, ![8, 64, 2048]⟩
abbrev S_ : Shape := ⟨0, ![]⟩
abbrev S8x128x2048 : Shape := ⟨3, ![8, 128, 2048]⟩
abbrev S576x2048 : Shape := ⟨2, ![576, 2048]⟩
abbrev S1024x2048 : Shape := ⟨2, ![1024, 2048]⟩
abbrev S64x2048 : Shape := ⟨2, ![64, 2048]⟩
abbrev S4224x2048 : Shape := ⟨2, ![4224, 2048]⟩
abbrev S1x4224x2048 : Shape := ⟨3, ![1, 4224, 2048]⟩
abbrev S1x1408x2048 : Shape := ⟨3, ![1, 1408, 2048]⟩
abbrev S1024x1408 : Shape := ⟨2, ![1024, 1408]⟩
abbrev S1408x2048 : Shape := ⟨2, ![1408, 2048]⟩
abbrev S1024x4224 : Shape := ⟨2, ![1024, 4224]⟩
abbrev S1x4224x1024 : Shape := ⟨3, ![1, 4224, 1024]⟩
abbrev S1024x1024 : Shape := ⟨2, ![1024, 1024]⟩
abbrev S4224x1024 : Shape := ⟨2, ![4224, 1024]⟩

abbrev nBuf : Space → Nat
  | .hbm => 20
  | .vmem => 12
  | .smem => 0
  | _ => 0

abbrev bufTy : (tb : Table) → Fin (tcTables nBuf tb) → BufTy
  | .hbm, ⟨0, _⟩ => ⟨S2048x2048, .bf16⟩
  | .hbm, ⟨1, _⟩ => ⟨S3648x2048, .bf16⟩
  | .hbm, ⟨2, _⟩ => ⟨S2048x4224, .bf16⟩
  | .hbm, ⟨3, _⟩ => ⟨S1536x2048, .bf16⟩
  | .hbm, ⟨4, _⟩ => ⟨S8x192x2048, .bf16⟩
  | .hbm, ⟨5, _⟩ => ⟨S8x64x2048, .bf16⟩
  | .hbm, ⟨6, _⟩ => ⟨S_, .bf16⟩
  | .hbm, ⟨7, _⟩ => ⟨S8x64x2048, .bf16⟩
  | .hbm, ⟨8, _⟩ => ⟨S8x128x2048, .bf16⟩
  | .hbm, ⟨9, _⟩ => ⟨S576x2048, .bf16⟩
  | .hbm, ⟨10, _⟩ => ⟨S1536x2048, .bf16⟩
  | .hbm, ⟨11, _⟩ => ⟨S8x128x2048, .bf16⟩
  | .hbm, ⟨12, _⟩ => ⟨S1024x2048, .bf16⟩
  | .hbm, ⟨13, _⟩ => ⟨S1024x2048, .bf16⟩
  | .hbm, ⟨14, _⟩ => ⟨S_, .bf16⟩
  | .hbm, ⟨15, _⟩ => ⟨S64x2048, .bf16⟩
  | .hbm, ⟨16, _⟩ => ⟨S4224x2048, .bf16⟩
  | .hbm, ⟨17, _⟩ => ⟨S1x4224x2048, .bf16⟩
  | .hbm, ⟨18, _⟩ => ⟨S2048x4224, .f32⟩
  | .hbm, ⟨19, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1024x1408, .f32⟩
  | .local _ .vmem, ⟨5, _⟩ => ⟨S1024x1408, .f32⟩
  | .local _ .vmem, ⟨6, _⟩ => ⟨S1024x4224, .bf16⟩
  | .local _ .vmem, ⟨7, _⟩ => ⟨S1024x4224, .bf16⟩
  | .local _ .vmem, ⟨8, _⟩ => ⟨S1x4224x1024, .bf16⟩
  | .local _ .vmem, ⟨9, _⟩ => ⟨S1x4224x1024, .bf16⟩
  | .local _ .vmem, ⟨10, _⟩ => ⟨S1024x1024, .f32⟩
  | .local _ .vmem, ⟨11, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![2, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4224 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x4224x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S2048x2048 : Shape := ⟨2, ![2048, 2048]⟩
abbrev S3648x2048 : Shape := ⟨2, ![3648, 2048]⟩
abbrev S2048x4224 : Shape := ⟨2, ![2048, 4224]⟩
abbrev S2048x3648 : Shape := ⟨2, ![2048, 3648]⟩
abbrev S2048x1536 : Shape := ⟨2, ![2048, 1536]⟩
abbrev S2048x8x192 : Shape := ⟨3, ![2048, 8, 192]⟩
abbrev S2048x8x64 : Shape := ⟨3, ![2048, 8, 64]⟩
abbrev S_ : Shape := ⟨0, ![]⟩
abbrev S2048x8x128 : Shape := ⟨3, ![2048, 8, 128]⟩
abbrev S2048x1024 : Shape := ⟨2, ![2048, 1024]⟩
abbrev S2048x576 : Shape := ⟨2, ![2048, 576]⟩
abbrev S2048x640 : Shape := ⟨2, ![2048, 640]⟩

abbrev nBuf : Space → Nat
  | .hbm => 36
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S3648x2048, .bf16⟩
  | .hbm, ⟨2, _⟩ => ⟨S2048x4224, .bf16⟩
  | .hbm, ⟨3, _⟩ => ⟨S2048x2048, .f32⟩
  | .hbm, ⟨4, _⟩ => ⟨S3648x2048, .f32⟩
  | .hbm, ⟨5, _⟩ => ⟨S2048x3648, .f32⟩
  | .hbm, ⟨6, _⟩ => ⟨S2048x3648, .f32⟩
  | .hbm, ⟨7, _⟩ => ⟨S2048x1536, .f32⟩
  | .hbm, ⟨8, _⟩ => ⟨S2048x8x192, .f32⟩
  | .hbm, ⟨9, _⟩ => ⟨S2048x8x64, .f32⟩
  | .hbm, ⟨10, _⟩ => ⟨S_, .i32⟩
  | .hbm, ⟨11, _⟩ => ⟨S_, .f32⟩
  | .hbm, ⟨12, _⟩ => ⟨S2048x8x128, .f32⟩
  | .hbm, ⟨13, _⟩ => ⟨S2048x1536, .f32⟩
  | .hbm, ⟨14, _⟩ => ⟨S2048x8x128, .f32⟩
  | .hbm, ⟨15, _⟩ => ⟨S2048x1024, .f32⟩
  | .hbm, ⟨16, _⟩ => ⟨S2048x1024, .f32⟩
  | .hbm, ⟨17, _⟩ => ⟨S2048x576, .f32⟩
  | .hbm, ⟨18, _⟩ => ⟨S_, .i32⟩
  | .hbm, ⟨19, _⟩ => ⟨S_, .f32⟩
  | .hbm, ⟨20, _⟩ => ⟨S2048x640, .f32⟩
  | .hbm, ⟨21, _⟩ => ⟨S2048x4224, .f32⟩
  | .hbm, ⟨22, _⟩ => ⟨S2048x4224, .f32⟩
  | .hbm, ⟨23, _⟩ => ⟨S2048x1024, .f32⟩
  | .hbm, ⟨24, _⟩ => ⟨S2048x8x128, .f32⟩
  | .hbm, ⟨25, _⟩ => ⟨S2048x1024, .f32⟩
  | .hbm, ⟨26, _⟩ => ⟨S2048x8x128, .f32⟩
  | .hbm, ⟨27, _⟩ => ⟨S2048x8x64, .f32⟩
  | .hbm, ⟨28, _⟩ => ⟨S2048x8x192, .f32⟩
  | .hbm, ⟨29, _⟩ => ⟨S2048x1536, .f32⟩
  | .hbm, ⟨30, _⟩ => ⟨S2048x1536, .f32⟩
  | .hbm, ⟨31, _⟩ => ⟨S2048x576, .f32⟩
  | .hbm, ⟨32, _⟩ => ⟨S2048x3648, .f32⟩
  | .hbm, ⟨33, _⟩ => ⟨S3648x2048, .f32⟩
  | .hbm, ⟨34, _⟩ => ⟨S2048x3648, .f32⟩
  | .hbm, ⟨35, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Kernel10.lean ====
abbrev S2048x2048 : Shape := ⟨2, ![2048, 2048]⟩
abbrev S2048x1024 : Shape := ⟨2, ![2048, 1024]⟩
abbrev S4x512x512 : Shape := ⟨3, ![4, 512, 512]⟩
abbrev S2048x512 : Shape := ⟨2, ![2048, 512]⟩
abbrev S2048x128 : Shape := ⟨2, ![2048, 128]⟩
abbrev S1024x512 : Shape := ⟨2, ![1024, 512]⟩
abbrev S1024x256 : Shape := ⟨2, ![1024, 256]⟩
abbrev S1x512x512 : Shape := ⟨3, ![1, 512, 512]⟩
abbrev S1024x128 : Shape := ⟨2, ![1024, 128]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S4x512x512, .bf16⟩
  | .hbm, ⟨3, _⟩ => ⟨S2048x512, .f32⟩
  | .hbm, ⟨4, _⟩ => ⟨S2048x2048, .bf16⟩
  | .hbm, ⟨5, _⟩ => ⟨S2048x128, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S1x512x512, .bf16⟩
  | .local _ .vmem, ⟨5, _⟩ => ⟨S1x512x512, .bf16⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x128, .f32⟩
  | .local _ .vmem, ⟨11, _⟩ => ⟨S1024x128, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let v14 : BitVec 32 := Scalar.extui v13
  let c0_i32_13 : BitVec 32 := 0#32
  let v15 : BitVec 1 := Scalar.cmpi .ne v14 c0_i32_13
  v15

def k0_cond2 (i : grid0.Coords) : BitVec 1 :=
  let arg1 : BitVec 32 := BitVec.ofNat 32 (i 1).val
  let c0_i32_14 : BitVec 32 := 0#32
  let v16 : BitVec 1 := Scalar.cmpi .sgt arg1 c0_i32_14
  let v17 : BitVec 32 := Scalar.extui v16
  let c0_i32_15 : BitVec 32 := 0#32
  let v18 : BitVec 1 := Scalar.cmpi .ne v17 c0_i32_15
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference10Ideal.lean ====
abbrev S2048x2048 : Shape := ⟨2, ![2048, 2048]⟩
abbrev S2048x1024 : Shape := ⟨2, ![2048, 1024]⟩
abbrev S4x512x512 : Shape := ⟨3, ![4, 512, 512]⟩
abbrev S512x4x512 : Shape := ⟨3, ![512, 4, 512]⟩
abbrev S512x2048 : Shape := ⟨2, ![512, 2048]⟩
abbrev S2048x8x128 : Shape := ⟨3, ![2048, 8, 128]⟩
abbrev S_ : Shape := ⟨0, ![]⟩
abbrev S2048x8x256 : Shape := ⟨3, ![2048, 8, 256]⟩
abbrev S2048x128 : Shape := ⟨2, ![2048, 128]⟩
abbrev S2048x1x128 : Shape := ⟨3, ![2048, 1, 128]⟩
abbrev S2048x512 : Shape := ⟨2, ![2048, 512]⟩

abbrev nBuf : Space → Nat
  | .hbm => 23
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S4x512x512, .bf16⟩
  | .hbm, ⟨3, _⟩ => ⟨S4x512x512, .f32⟩
  | .hbm, ⟨4, _⟩ => ⟨S512x4x512, .f32⟩
  | .hbm, ⟨5, _⟩ => ⟨S512x2048, .f32⟩
  | .hbm, ⟨6, _⟩ => ⟨S2048x8x128, .f32⟩
  | .hbm, ⟨7, _⟩ => ⟨S_, .f32⟩
  | .hbm, ⟨8, _⟩ => ⟨S2048x8x256, .f32⟩
  | .hbm, ⟨9, _⟩ => ⟨S2048x8x256, .f32⟩
  | .hbm, ⟨10, _⟩ => ⟨S2048x8x128, .f32⟩
  | .hbm, ⟨11, _⟩ => ⟨S2048x8x128, .f32⟩
  | .hbm, ⟨12, _⟩ => ⟨S_, .f32⟩
  | .hbm, ⟨13, _⟩ => ⟨S2048x128, .f32⟩
  | .hbm, ⟨14, _⟩ => ⟨S2048x1x128, .f32⟩
  | .hbm, ⟨15, _⟩ => ⟨S_, .f32⟩
  | .hbm, ⟨16, _⟩ => ⟨S2048x128, .f32⟩
  | .hbm, ⟨17, _⟩ => ⟨S_, .f32⟩
  | .hbm, ⟨18, _⟩ => ⟨S2048x8x256, .f32⟩
  | .hbm, ⟨19, _⟩ => ⟨S2048x8x256, .f32⟩
  | .hbm, ⟨20, _⟩ => ⟨S2048x2048, .f32⟩
  | .hbm, ⟨21, _⟩ => ⟨S2048x512, .f32⟩
  | .hbm, ⟨22, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel8.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024 : Shape := ⟨2, ![1, 1024]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S2048x2048, .bf16⟩
  | .hbm, ⟨7, _⟩ => ⟨S2048x1024, .bf16⟩
  | .hbm, ⟨8, _⟩ => ⟨S2048x1024, .bf16⟩
  | .hbm, ⟨9, _⟩ => ⟨S1x1024, .f32⟩
  | .hbm, ⟨10, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference8Ideal.lean ====
abbrev S2048x2048 : Shape := ⟨2, ![2048, 2048]⟩
abbrev S1x2048x2048 : Shape := ⟨3, ![1, 2048, 2048]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 100
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1x2048x2048, .bf16⟩
  | .hbm, ⟨2, _⟩ => ⟨S2048x1024, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S1x2048x2048, .f32⟩
  | .hbm, ⟨7, _⟩ => ⟨S2048x2048, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S2048, .f32⟩
  | .hbm, ⟨61, _⟩ => ⟨S2048x1, .f32⟩
  | .hbm, ⟨62, _⟩ => ⟨S2048x1024, .f32⟩
  | .hbm, ⟨63, _⟩ => ⟨S2048x1024, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S_, .f32⟩
  | .hbm, ⟨69, _⟩ => ⟨S2048, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S2048x1024, .f32⟩
  | .hbm, ⟨80, _⟩ => ⟨S2048x1024, .f32⟩
  | .hbm, ⟨81, _⟩ => ⟨S2048x1024, .f32⟩
  | .hbm, ⟨82, _⟩ => ⟨S_, .f32⟩
  | .hbm, ⟨83, _⟩ => ⟨S2048, .f32⟩
  | .hbm, ⟨84, _⟩ => ⟨S2048x1, .f32⟩
  | .hbm, ⟨85, _⟩ => ⟨S2048x1024, .f32⟩
  | .hbm, ⟨86, _⟩ => ⟨S2048x1024, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .bf16⟩
  | .hbm, ⟨99, _⟩ => ⟨S2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_9 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_12 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩

abbrev nD : Nat := 1
abbrev τ : Topo := Topo.v7x

variable {F : FTy → Type} [FloatOps F]
-- ==== Kernel11.lean ====
abbrev S2048x2048 : Shape := ⟨2, ![2048, 2048]⟩
abbrev S512x2048 : Shape := ⟨2, ![512, 2048]⟩
abbrev S512x512 : Shape := ⟨2, ![512, 512]⟩
abbrev S912x2048 : Shape := ⟨2, ![912, 2048]⟩
abbrev S1x23296 : Shape := ⟨2, ![1, 23296]⟩
abbrev S256x2048 : Shape := ⟨2, ![256, 2048]⟩
abbrev S152x2048 : Shape := ⟨2, ![152, 2048]⟩

abbrev nBuf : Space → Nat
  | .hbm => 47
  | .vmem => 79
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x512, .f32⟩
  | .hbm, ⟨13, _⟩ => ⟨S512x512, .f32⟩
  | .hbm, ⟨14, _⟩ => ⟨S512x512, .f32⟩
  | .hbm, ⟨15, _⟩ => ⟨S512x512, .f32⟩
  | .hbm, ⟨16, _⟩ => ⟨S912x2048, .f32⟩
  | .hbm, ⟨17, _⟩ => ⟨S912x2048, .f32⟩
  | .hbm, ⟨18, _⟩ => ⟨S912x2048, .f32⟩
  | .hbm, ⟨19, _⟩ => ⟨S912x2048, .f32⟩
  | .hbm, ⟨20, _⟩ => ⟨S1x23296, .f32⟩
  | .hbm, ⟨21, _⟩ => ⟨S1x23296, .f32⟩
  | .hbm, ⟨22, _⟩ => ⟨S1x23296, .f32⟩
  | .hbm, ⟨23, _⟩ => ⟨S1x23296, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S912x2048, .f32⟩
  | .hbm, ⟨41, _⟩ => ⟨S912x2048, .f32⟩
  | .hbm, ⟨42, _⟩ => ⟨S912x2048, .f32⟩
  | .hbm, ⟨43, _⟩ => ⟨S912x2048, .f32⟩
  | .hbm, ⟨44, _⟩ => ⟨S1x23296, .f32⟩
  | .hbm, ⟨45, _⟩ => ⟨S1x23296, .f32⟩
  | .hbm, ⟨46, _⟩ => ⟨S1x23296, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .f32⟩
  | .local _ .vmem, ⟨23, _⟩ => ⟨S256x2048, .f32⟩
  | .local _ .vmem, ⟨24, _⟩ => ⟨S256x2048, .f32⟩
  | .local _ .vmem, ⟨25, _⟩ => ⟨S256x2048, .f32⟩
  | .local _ .vmem, ⟨26, _⟩ => ⟨S256x2048, .f32⟩
  | .local _ .vmem, ⟨27, _⟩ => ⟨S256x2048, .f32⟩
  | .local _ .vmem, ⟨28, _⟩ => ⟨S256x2048, .f32⟩
  | .local _ .vmem, ⟨29, _⟩ => ⟨S256x2048, .f32⟩
  | .local _ .vmem, ⟨30, _⟩ => ⟨S256x2048, .f32⟩
  | .local _ .vmem, ⟨31, _⟩ => ⟨S256x2048, .f32⟩
  | .local _ .vmem, ⟨32, _⟩ => ⟨S256x2048, .f32⟩
  | .local _ .vmem, ⟨33, _⟩ => ⟨S256x2048, .f32⟩
  | .local _ .vmem, ⟨34, _⟩ => ⟨S256x2048, .f32⟩
  | .local _ .vmem, ⟨35, _⟩ => ⟨S256x2048, .f32⟩
  | .local _ .vmem, ⟨36, _⟩ => ⟨S256x2048, .f32⟩
  | .local _ .vmem, ⟨37, _⟩ => ⟨S256x2048, .f32⟩
  | .local _ .vmem, ⟨38, _⟩ => ⟨S256x2048, .f32⟩
  | .local _ .vmem, ⟨39, _⟩ => ⟨S256x2048, .f32⟩
  | .local _ .vmem, ⟨40, _⟩ => ⟨S256x2048, .f32⟩
  | .local _ .vmem, ⟨41, _⟩ => ⟨S256x2048, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S256x2048, .f32⟩
  | .local _ .vmem, ⟨47, _⟩ => ⟨S256x2048, .f32⟩
  | .local _ .vmem, ⟨48, _⟩ => ⟨S512x512, .f32⟩
  | .local _ .vmem, ⟨49, _⟩ => ⟨S512x512, .f32⟩
  | .local _ .vmem, ⟨50, _⟩ => ⟨S512x512, .f32⟩
  | .local _ .vmem, ⟨51, _⟩ => ⟨S512x512, .f32⟩
  | .local _ .vmem, ⟨52, _⟩ => ⟨S512x512, .f32⟩
  | .local _ .vmem, ⟨53, _⟩ => ⟨S512x512, .f32⟩
  | .local _ .vmem, ⟨54, _⟩ => ⟨S512x512, .f32⟩
  | .local _ .vmem, ⟨55, _⟩ => ⟨S512x512, .f32⟩
  | .local _ .vmem, ⟨56, _⟩ => ⟨S152x2048, .f32⟩
  | .local _ .vmem, ⟨57, _⟩ => ⟨S152x2048, .f32⟩
  | .local _ .vmem, ⟨58, _⟩ => ⟨S152x2048, .f32⟩
  | .local _ .vmem, ⟨59, _⟩ => ⟨S152x2048, .f32⟩
  | .local _ .vmem, ⟨60, _⟩ => ⟨S152x2048, .f32⟩
  | .local _ .vmem, ⟨61, _⟩ => ⟨S152x2048, .f32⟩
  | .local _ .vmem, ⟨62, _⟩ => ⟨S152x2048, .f32⟩
  | .local _ .vmem, ⟨63, _⟩ => ⟨S152x2048, .f32⟩
  | .local _ .vmem, ⟨64, _⟩ => ⟨S152x2048, .f32⟩
  | .local _ .vmem, ⟨65, _⟩ => ⟨S152x2048, .f32⟩
  | .local _ .vmem, ⟨66, _⟩ => ⟨S152x2048, .f32⟩
  | .local _ .vmem, ⟨67, _⟩ => ⟨S152x2048, .f32⟩
  | .local _ .vmem, ⟨68, _⟩ => ⟨S152x2048, .f32⟩
  | .local _ .vmem, ⟨69, _⟩ => ⟨S152x2048, .f32⟩
  | .local _ .vmem, ⟨70, _⟩ => ⟨S152x2048, .f32⟩
  | .local _ .vmem, ⟨71, _⟩ => ⟨S152x2048, .f32⟩
  | .local _ .vmem, ⟨72, _⟩ => ⟨S1x23296, .f32⟩
  | .local _ .vmem, ⟨73, _⟩ => ⟨S1x23296, .f32⟩
  | .local _ .vmem, ⟨74, _⟩ => ⟨S1x23296, .f32⟩
  | .local _ .vmem, ⟨75, _⟩ => ⟨S1x23296, .f32⟩
  | .local _ .vmem, ⟨76, _⟩ => ⟨S1x23296, .f32⟩
  | .local _ .vmem, ⟨77, _⟩ => ⟨S1x23296, .f32⟩
  | .local _ .vmem, ⟨78, _⟩ => ⟨S1x23296, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v1_3 : Ref sig .tc := ⟨.hbm, 31, rfl⟩
abbrev main_v2_0 : Ref sig .tc := ⟨.hbm, 32, rfl⟩
abbrev main_v2_1 : Ref sig .tc := ⟨.hbm, 33, rfl⟩
abbrev main_v2_2 : Ref sig .tc := ⟨.hbm, 34, rfl⟩
abbrev main_v2_3 : Ref sig .tc := ⟨.hbm, 35, rfl⟩
abbrev main_v3_0 : Ref sig .tc := ⟨.hbm, 36, rfl⟩
abbrev main_v3_1 : Ref sig .tc := ⟨.hbm, 37, rfl⟩
abbrev main_v3_2 : Ref sig .tc := ⟨.hbm, 38, rfl⟩
abbrev main_v3_3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v4_3 : Ref sig .tc := ⟨.hbm, 43, rfl⟩
abbrev main_v5_0 : Ref sig .tc := ⟨.hbm, 44, rfl⟩
abbrev main_v5_1 : Ref sig .tc := ⟨.hbm, 45, rfl⟩
abbrev main_v5_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg5_0 : Ref sig .tc := ⟨.vmem, 53, rfl⟩
abbrev cc3_stg6_0 : Ref sig .tc := ⟨.vmem, 54, rfl⟩
abbrev cc3_stg7_0 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc4_stg3_0 : Ref sig .tc := ⟨.vmem, 62, rfl⟩
abbrev cc4_stg3_1 : Ref sig .tc := ⟨.vmem, 63, rfl⟩
abbrev cc4_stg4_0 : Ref sig .tc := ⟨.vmem, 64, rfl⟩
abbrev cc4_stg4_1 : Ref sig .tc := ⟨.vmem, 65, rfl⟩
abbrev cc4_stg5_0 : Ref sig .tc := ⟨.vmem, 66, rfl⟩
abbrev cc4_stg5_1 : Ref sig .tc := ⟨.vmem, 67, rfl⟩
abbrev cc4_stg6_0 : Ref sig .tc := ⟨.vmem, 68, rfl⟩
abbrev cc4_stg6_1 : Ref sig .tc := ⟨.vmem, 69, rfl⟩
abbrev cc4_stg7_0 : Ref sig .tc := ⟨.vmem, 70, rfl⟩
abbrev cc4_stg7_1 : Ref sig .tc := ⟨.vmem, 71, rfl⟩
abbrev cc5_stg0_0 : Ref sig .tc := ⟨.vmem, 72, rfl⟩
abbrev cc5_stg1_0 : Ref sig .tc := ⟨.vmem, 73, rfl⟩
abbrev cc5_stg2_0 : Ref sig .tc := ⟨.vmem, 74, rfl⟩
abbrev cc5_stg3_0 : Ref sig .tc := ⟨.vmem, 75, rfl⟩
abbrev cc5_stg4_0 : Ref sig .tc := ⟨.vmem, 76, rfl⟩
abbrev cc5_stg5_0 : Ref sig .tc := ⟨.vmem, 77, rfl⟩
abbrev cc5_stg6_0 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem5_0 : DmaSem sig := 53
abbrev cc3_sem6_0 : DmaSem sig := 54
abbrev cc3_sem7_0 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc4_sem3_0 : DmaSem sig := 62
abbrev cc4_sem3_1 : DmaSem sig := 63
abbrev cc4_sem4_0 : DmaSem sig := 64
abbrev cc4_sem4_1 : DmaSem sig := 65
abbrev cc4_sem5_0 : DmaSem sig := 66
abbrev cc4_sem5_1 : DmaSem sig := 67
abbrev cc4_sem6_0 : DmaSem sig := 68
abbrev cc4_sem6_1 : DmaSem sig := 69
abbrev cc4_sem7_0 : DmaSem sig := 70
abbrev cc4_sem7_1 : DmaSem sig := 71
abbrev cc5_sem0_0 : DmaSem sig := 72
abbrev cc5_sem1_0 : DmaSem sig := 73
abbrev cc5_sem2_0 : DmaSem sig := 74
abbrev cc5_sem3_0 : DmaSem sig := 75
abbrev cc5_sem4_0 : DmaSem sig := 76
abbrev cc5_sem5_0 : DmaSem sig := 77
abbrev cc5_sem6_0 : DmaSem sig := 78

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 1 → Memref sig .tc .vmem S512x512 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true]

abbrev stage3_1 : Fin 1 → Memref sig .tc .vmem S512x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true]

abbrev stage3_2 : Fin 1 → Memref sig .tc .vmem S512x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true]

abbrev stage3_3 : Fin 1 → Memref sig .tc .vmem S512x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![true]

abbrev stage3_4 : Fin 1 → Memref sig .tc .vmem S512x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![true]

abbrev stage3_5 : Fin 1 → Memref sig .tc .vmem S512x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![true]

abbrev stage3_6 : Fin 1 → Memref sig .tc .vmem S512x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![true]

abbrev stage3_7 : Fin 1 → Memref sig .tc .vmem S512x512 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![true]

abbrev grid4 : Pipeline.Grid := ⟨1, ![6], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S152x2048 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S152x2048 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S152x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S152x2048 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S152x2048 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S152x2048 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S152x2048 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S152x2048 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S1x23296 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x23296 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x23296 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S1x23296 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S1x23296 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S1x23296 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S1x23296 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]
-- ==== Reference11Ideal.lean ====
abbrev S2048x2048 : Shape := ⟨2, ![2048, 2048]⟩
abbrev S512x2048 : Shape := ⟨2, ![512, 2048]⟩
abbrev S512x512 : Shape := ⟨2, ![512, 512]⟩
abbrev S912x2048 : Shape := ⟨2, ![912, 2048]⟩
abbrev S1x23296 : Shape := ⟨2, ![1, 23296]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S2048x2048, .f32⟩
  | 1 => ⟨S2048x2048, .f32⟩
  | 2 => ⟨S2048x2048, .f32⟩
  | 3 => ⟨S2048x2048, .f32⟩
  | 4 => ⟨S2048x2048, .f32⟩
  | 5 => ⟨S2048x2048, .f32⟩
  | 6 => ⟨S2048x2048, .f32⟩
  | 7 => ⟨S2048x2048, .f32⟩
  | 8 => ⟨S512x2048, .f32⟩
  | 9 => ⟨S512x2048, .f32⟩
  | 10 => ⟨S512x2048, .f32⟩
  | 11 => ⟨S512x2048, .f32⟩
  | 12 => ⟨S512x512, .f32⟩
  | 13 => ⟨S512x512, .f32⟩
  | 14 => ⟨S512x512, .f32⟩
  | 15 => ⟨S512x512, .f32⟩
  | 16 => ⟨S912x2048, .f32⟩
  | 17 => ⟨S912x2048, .f32⟩
  | 18 => ⟨S912x2048, .f32⟩
  | 19 => ⟨S912x2048, .f32⟩
  | 20 => ⟨S1x23296, .f32⟩
  | 21 => ⟨S1x23296, .f32⟩
  | 22 => ⟨S1x23296, .f32⟩
  | 23 => ⟨S1x23296, .f32⟩
  | 24 => ⟨S_, .f32⟩
  | 25 => ⟨S2048x2048, .f32⟩
  | 26 => ⟨S2048x2048, .f32⟩
  | 27 => ⟨S_, .f32⟩
  | 28 => ⟨S2048x2048, .f32⟩
  | 29 => ⟨S2048x2048, .f32⟩
  | 30 => ⟨S2048x2048, .f32⟩
  | 31 => ⟨S_, .f32⟩
  | 32 => ⟨S2048x2048, .f32⟩
  | 33 => ⟨S2048x2048, .f32⟩
  | 34 => ⟨S2048x2048, .f32⟩
  | 35 => ⟨S_, .f32⟩
  | 36 => ⟨S2048x2048, .f32⟩
  | 37 => ⟨S2048x2048, .f32⟩
  | 38 => ⟨S2048x2048, .f32⟩
  | 39 => ⟨S_, .f32⟩
  | 40 => ⟨S2048x2048, .f32⟩
  | 41 => ⟨S2048x2048, .f32⟩
  | 42 => ⟨S_, .f32⟩
  | 43 => ⟨S2048x2048, .f32⟩
  | 44 => ⟨S2048x2048, .f32⟩
  | 45 => ⟨S2048x2048, .f32⟩
  | 46 => ⟨S_, .f32⟩
  | 47 => ⟨S2048x2048, .f32⟩
  | 48 => ⟨S2048x2048, .f32⟩
  | 49 => ⟨S2048x2048, .f32⟩
  | 50 => ⟨S_, .f32⟩
  | 51 => ⟨S2048x2048, .f32⟩
  | 52 => ⟨S2048x2048, .f32⟩
  | 53 => ⟨S2048x2048, .f32⟩
  | 54 => ⟨S_, .f32⟩
  | 55 => ⟨S2048x2048, .f32⟩
  | 56 => ⟨S2048x2048, .f32⟩
  | 57 => ⟨S_, .f32⟩
  | 58 => ⟨S2048x2048, .f32⟩
  | 59 => ⟨S2048x2048, .f32⟩
  | 60 => ⟨S_, .f32⟩
  | 61 => ⟨S2048x2048, .f32⟩
  | 62 => ⟨S2048x2048, .f32⟩
  | 63 => ⟨S2048x2048, .f32⟩
  | 64 => ⟨S_, .f32⟩
  | 65 => ⟨S2048x2048, .f32⟩
  | 66 => ⟨S2048x2048, .f32⟩
  | 67 => ⟨S2048x2048, .f32⟩
  | 68 => ⟨S_, .f32⟩
  | 69 => ⟨S2048x2048, .f32⟩
  | 70 => ⟨S2048x2048, .f32⟩
  | 71 => ⟨S2048x2048, .f32⟩
  | 72 => ⟨S_, .f32⟩
  | 73 => ⟨S2048x2048, .f32⟩
  | 74 => ⟨S2048x2048, .f32⟩
  | 75 => ⟨S_, .f32⟩
  | 76 => ⟨S2048x2048, .f32⟩
  | 77 => ⟨S2048x2048, .f32⟩
  | 78 => ⟨S2048x2048, .f32⟩
  | 79 => ⟨S_, .f32⟩
  | 80 => ⟨S2048x2048, .f32⟩
  | 81 => ⟨S2048x2048, .f32⟩
  | 82 => ⟨S2048x2048, .f32⟩
  | 83 => ⟨S_, .f32⟩
  | 84 => ⟨S2048x2048, .f32⟩
  | 85 => ⟨S2048x2048, .f32⟩
  | 86 => ⟨S2048x2048, .f32⟩
  | 87 => ⟨S_, .f32⟩
  | 88 => ⟨S2048x2048, .f32⟩
  | 89 => ⟨S2048x2048, .f32⟩
  | 90 => ⟨S_, .f32⟩
  | 91 => ⟨S512x2048, .f32⟩
  | 92 => ⟨S512x2048, .f32⟩
  | 93 => ⟨S_, .f32⟩
  | 94 => ⟨S512x2048, .f32⟩
  | 95 => ⟨S512x2048, .f32⟩
  | 96 => ⟨S512x2048, .f32⟩
  | 97 => ⟨S_, .f32⟩
  | 98 => ⟨S512x2048, .f32⟩
  | 99 => ⟨S512x2048, .f32⟩
  | 100 => ⟨S512x2048, .f32⟩
  | 101 => ⟨S_, .f32⟩
  | 102 => ⟨S512x2048, .f32⟩
  | 103 => ⟨S512x2048, .f32⟩
  | 104 => ⟨S512x2048, .f32⟩
  | 105 => ⟨S_, .f32⟩
  | 106 => ⟨S512x2048, .f32⟩
  | 107 => ⟨S512x2048, .f32⟩
  | 108 => ⟨S_, .f32⟩
  | 109 => ⟨S512x2048, .f32⟩
  | 110 => ⟨S512x2048, .f32⟩
  | 111 => ⟨S512x2048, .f32⟩
  | 112 => ⟨S_, .f32⟩
  | 113 => ⟨S512x2048, .f32⟩
  | 114 => ⟨S512x2048, .f32⟩
  | 115 => ⟨S512x2048, .f32⟩
  | 116 => ⟨S_, .f32⟩
  | 117 => ⟨S512x2048, .f32⟩
  | 118 => ⟨S512x2048, .f32⟩
  | 119 => ⟨S512x2048, .f32⟩
  | 120 => ⟨S_, .f32⟩
  | 121 => ⟨S512x2048, .f32⟩
  | 122 => ⟨S512x2048, .f32⟩
  | 123 => ⟨S_, .f32⟩
  | 124 => ⟨S512x512, .f32⟩
  | 125 => ⟨S512x512, .f32⟩
  | 126 => ⟨S_, .f32⟩
  | 127 => ⟨S512x512, .f32⟩
  | _ => ⟨S2048x2048, .f32⟩

abbrev hbmTy0_1 (i : Nat) : BufTy := match i % 128 with
  | 0 => ⟨S512x512, .f32⟩
  | 1 => ⟨S512x512, .f32⟩
  | 2 => ⟨S_, .f32⟩
  | 3 => ⟨S512x512, .f32⟩
  | 4 => ⟨S512x512, .f32⟩
  | 5 => ⟨S512x512, .f32⟩
  | 6 => ⟨S_, .f32⟩
  | 7 => ⟨S512x512, .f32⟩
  | 8 => ⟨S512x512, .f32⟩
  | 9 => ⟨S512x512, .f32⟩
  | 10 => ⟨S_, .f32⟩
  | 11 => ⟨S512x512, .f32⟩
  | 12 => ⟨S512x512, .f32⟩
  | 13 => ⟨S_, .f32⟩
  | 14 => ⟨S512x512, .f32⟩
  | 15 => ⟨S512x512, .f32⟩
  | 16 => ⟨S512x512, .f32⟩
  | 17 => ⟨S_, .f32⟩
  | 18 => ⟨S512x512, .f32⟩
  | 19 => ⟨S512x512, .f32⟩
  | 20 => ⟨S512x512, .f32⟩
  | 21 => ⟨S_, .f32⟩
  | 22 => ⟨S512x512, .f32⟩
  | 23 => ⟨S512x512, .f32⟩
  | 24 => ⟨S512x512, .f32⟩
  | 25 => ⟨S_, .f32⟩
  | 26 => ⟨S512x512, .f32⟩
  | 27 => ⟨S512x512, .f32⟩
  | 28 => ⟨S_, .f32⟩
  | 29 => ⟨S912x2048, .f32⟩
  | 30 => ⟨S912x2048, .f32⟩
  | 31 => ⟨S_, .f32⟩
  | 32 => ⟨S912x2048, .f32⟩
  | 33 => ⟨S912x2048, .f32⟩
  | 34 => ⟨S912x2048, .f32⟩
  | 35 => ⟨S_, .f32⟩
  | 36 => ⟨S912x2048, .f32⟩
  | 37 => ⟨S912x2048, .f32⟩
  | 38 => ⟨S912x2048, .f32⟩
  | 39 => ⟨S_, .f32⟩
  | 40 => ⟨S912x2048, .f32⟩
  | 41 => ⟨S912x2048, .f32⟩
  | 42 => ⟨S912x2048, .f32⟩
  | 43 => ⟨S_, .f32⟩
  | 44 => ⟨S912x2048, .f32⟩
  | 45 => ⟨S912x2048, .f32⟩
  | 46 => ⟨S_, .f32⟩
  | 47 => ⟨S912x2048, .f32⟩
  | 48 => ⟨S912x2048, .f32⟩
  | 49 => ⟨S912x2048, .f32⟩
  | 50 => ⟨S_, .f32⟩
  | 51 => ⟨S912x2048, .f32⟩
  | 52 => ⟨S912x2048, .f32⟩
  | 53 => ⟨S912x2048, .f32⟩
  | 54 => ⟨S_, .f32⟩
  | 55 => ⟨S912x2048, .f32⟩
  | 56 => ⟨S912x2048, .f32⟩
  | 57 => ⟨S912x2048, .f32⟩
  | 58 => ⟨S_, .f32⟩
  | 59 => ⟨S912x2048, .f32⟩
  | 60 => ⟨S912x2048, .f32⟩
  | 61 => ⟨S_, .f32⟩
  | 62 => ⟨S1x23296, .f32⟩
  | 63 => ⟨S1x23296, .f32⟩
  | 64 => ⟨S_, .f32⟩
  | 65 => ⟨S1x23296, .f32⟩
  | 66 => ⟨S1x23296, .f32⟩
  | 67 => ⟨S1x23296, .f32⟩
  | 68 => ⟨S_, .f32⟩
  | 69 => ⟨S1x23296, .f32⟩
  | 70 => ⟨S1x23296, .f32⟩
  | 71 => ⟨S1x23296, .f32⟩
  | 72 => ⟨S_, .f32⟩
  | 73 => ⟨S1x23296, .f32⟩
  | 74 => ⟨S1x23296, .f32⟩
  | 75 => ⟨S1x23296, .f32⟩
  | 76 => ⟨S_, .f32⟩
  | 77 => ⟨S1x23296, .f32⟩
  | 78 => ⟨S1x23296, .f32⟩
  | 79 => ⟨S_, .f32⟩
  | 80 => ⟨S1x23296, .f32⟩
  | 81 => ⟨S1x23296, .f32⟩
  | 82 => ⟨S1x23296, .f32⟩
  | 83 => ⟨S_, .f32⟩
  | 84 => ⟨S1x23296, .f32⟩
  | 85 => ⟨S1x23296, .f32⟩
  | 86 => ⟨S1x23296, .f32⟩
  | 87 => ⟨S_, .f32⟩
  | 88 => ⟨S1x23296, .f32⟩
  | 89 => ⟨S1x23296, .f32⟩
  | 90 => ⟨S1x23296, .f32⟩
  | 91 => ⟨S_, .f32⟩
  | 92 => ⟨S1x23296, .f32⟩
  | 93 => ⟨S1x23296, .f32⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Kernel12.lean ====
abbrev S2048x3072 : Shape := ⟨2, ![2048, 3072]⟩
abbrev S8x2048 : Shape := ⟨2, ![8, 2048]⟩
abbrev S8x3072 : Shape := ⟨2, ![8, 3072]⟩
abbrev S_ : Shape := ⟨0, ![]⟩
abbrev S16x2048 : Shape := ⟨2, ![16, 2048]⟩
abbrev S16x3072 : Shape := ⟨2, ![16, 3072]⟩
abbrev S128x3072 : Shape := ⟨2, ![128, 3072]⟩
abbrev S16x128 : Shape := ⟨2, ![16, 128]⟩

abbrev nBuf : Space → Nat
  | .hbm => 17
  | .vmem => 19
  | .smem => 0
  | _ => 0

abbrev bufTy : (tb : Table) → Fin (tcTables nBuf tb) → BufTy
  | .hbm, ⟨0, _⟩ => ⟨S2048x3072, .f32⟩
  | .hbm, ⟨1, _⟩ => ⟨S8x2048, .f32⟩
  | .hbm, ⟨2, _⟩ => ⟨S8x3072, .f32⟩
  | .hbm, ⟨3, _⟩ => ⟨S2048x3072, .f32⟩
  | .hbm, ⟨4, _⟩ => ⟨S2048x3072, .f32⟩
  | .hbm, ⟨5, _⟩ => ⟨S8x2048, .bf16⟩
  | .hbm, ⟨6, _⟩ => ⟨S_, .bf16⟩
  | .hbm, ⟨7, _⟩ => ⟨S8x2048, .bf16⟩
  | .hbm, ⟨8, _⟩ => ⟨S16x2048, .bf16⟩
  | .hbm, ⟨9, _⟩ => ⟨S_, .f32⟩
  | .hbm, ⟨10, _⟩ => ⟨S8x3072, .f32⟩
  | .hbm, ⟨11, _⟩ => ⟨S16x3072, .f32⟩
  | .hbm, ⟨12, _⟩ => ⟨S16x3072, .bf16⟩
  | .hbm, ⟨13, _⟩ => ⟨S2048x3072, .f32⟩
  | .hbm, ⟨14, _⟩ => ⟨S2048x3072, .f32⟩
  | .hbm, ⟨15, _⟩ => ⟨S2048x3072, .f32⟩
  | .hbm, ⟨16, _⟩ => ⟨S2048x3072, .f32⟩
  | .local _ .vmem, ⟨0, _⟩ => ⟨S8x2048, .f32⟩
  | .local _ .vmem, ⟨1, _⟩ => ⟨S8x2048, .bf16⟩
  | .local _ .vmem, ⟨2, _⟩ => ⟨S128x3072, .f32⟩
  | .local _ .vmem, ⟨3, _⟩ => ⟨S128x3072, .f32⟩
  | .local _ .vmem, ⟨4, _⟩ => ⟨S16x128, .bf16⟩
  | .local _ .vmem, ⟨5, _⟩ => ⟨S16x128, .bf16⟩
  | .local _ .vmem, ⟨6, _⟩ => ⟨S16x3072, .bf16⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | .local _ .vmem, ⟨17, _⟩ => ⟨S128x3072, .f32⟩
  | .local _ .vmem, ⟨18, _⟩ => ⟨S128x3072, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg3_1 : Ref sig .tc := ⟨.vmem, 8, rfl⟩
abbrev cc1_stg4_0 : Ref sig .tc := ⟨.vmem, 9, rfl⟩
abbrev cc1_stg4_1 : Ref sig .tc := ⟨.vmem, 10, rfl⟩
abbrev cc1_stg5_0 : Ref sig .tc := ⟨.vmem, 11, rfl⟩
abbrev cc1_stg5_1 : Ref sig .tc := ⟨.vmem, 12, rfl⟩
abbrev cc1_stg6_0 : Ref sig .tc := ⟨.vmem, 13, rfl⟩
abbrev cc1_stg6_1 : Ref sig .tc := ⟨.vmem, 14, rfl⟩
abbrev cc1_stg7_0 : Ref sig .tc := ⟨.vmem, 15, rfl⟩
abbrev cc1_stg7_1 : Ref sig .tc := ⟨.vmem, 16, rfl⟩
abbrev cc1_stg8_0 : Ref sig .tc := ⟨.vmem, 17, rfl⟩
abbrev cc1_stg8_1 : Ref sig .tc := ⟨.vmem, 18, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem5_1 : DmaSem sig := 12
abbrev cc1_sem6_0 : DmaSem sig := 13
abbrev cc1_sem6_1 : DmaSem sig := 14
abbrev cc1_sem7_0 : DmaSem sig := 15
abbrev cc1_sem7_1 : DmaSem sig := 16
abbrev cc1_sem8_0 : DmaSem sig := 17
abbrev cc1_sem8_1 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x3072 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x3072 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x3072 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x3072 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x3072 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x3072 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x3072 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S128x3072 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference12Ideal.lean ====
abbrev S2048x3072 : Shape := ⟨2, ![2048, 3072]⟩
abbrev S8x2048 : Shape := ⟨2, ![8, 2048]⟩
abbrev S8x3072 : Shape := ⟨2, ![8, 3072]⟩
abbrev S_ : Shape := ⟨0, ![]⟩
abbrev S3072x2048 : Shape := ⟨2, ![3072, 2048]⟩

abbrev nBuf : Space → Nat
  | .hbm => 49
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S8x2048, .f32⟩
  | .hbm, ⟨2, _⟩ => ⟨S8x3072, .f32⟩
  | .hbm, ⟨3, _⟩ => ⟨S2048x3072, .f32⟩
  | .hbm, ⟨4, _⟩ => ⟨S2048x3072, .f32⟩
  | .hbm, ⟨5, _⟩ => ⟨S8x2048, .f32⟩
  | .hbm, ⟨6, _⟩ => ⟨S8x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048, .f32⟩
  | .hbm, ⟨14, _⟩ => ⟨S3072x2048, .f32⟩
  | .hbm, ⟨15, _⟩ => ⟨S2048x3072, .f32⟩
  | .hbm, ⟨16, _⟩ => ⟨S_, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S2048x3072, .f32⟩
  | .hbm, ⟨27, _⟩ => ⟨S_, .f32⟩
  | .hbm, ⟨28, _⟩ => ⟨S2048x3072, .f32⟩
  | .hbm, ⟨29, _⟩ => ⟨S2048x3072, .f32⟩
  | .hbm, ⟨30, _⟩ => ⟨S2048x3072, .f32⟩
  | .hbm, ⟨31, _⟩ => ⟨S_, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S2048x3072, .f32⟩
  | .hbm, ⟨42, _⟩ => ⟨S_, .f32⟩
  | .hbm, ⟨43, _⟩ => ⟨S2048x3072, .f32⟩
  | .hbm, ⟨44, _⟩ => ⟨S2048x3072, .f32⟩
  | .hbm, ⟨45, _⟩ => ⟨S2048x3072, .f32⟩
  | .hbm, ⟨46, _⟩ => ⟨S_, .f32⟩
  | .hbm, ⟨47, _⟩ => ⟨S2048x3072, .f32⟩
  | .hbm, ⟨48, _⟩ => ⟨S2048x3072, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_6 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_7 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== Kernel13.lean ====
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference13Ideal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩
abbrev S2048x1 : Shape := ⟨2, ![2048, 1]⟩

abbrev nBuf : Space → Nat
  | .hbm => 66
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S1x2048, .f32⟩
  | .hbm, ⟨27, _⟩ => ⟨S1x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S_, .f32⟩
  | .hbm, ⟨34, _⟩ => ⟨S2048, .f32⟩
  | .hbm, ⟨35, _⟩ => ⟨S1x2048, .f32⟩
  | .hbm, ⟨36, _⟩ => ⟨S2048x2048, .f32⟩
  | .hbm, ⟨37, _⟩ => ⟨S_, .f32⟩
  | .hbm, ⟨38, _⟩ => ⟨S2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S_, .f32⟩
  | .hbm, ⟨44, _⟩ => ⟨S2048, .f32⟩
  | .hbm, ⟨45, _⟩ => ⟨S1x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S_, .f32⟩
  | .hbm, ⟨50, _⟩ => ⟨S2048, .f32⟩
  | .hbm, ⟨51, _⟩ => ⟨S2048x1, .f32⟩
  | .hbm, ⟨52, _⟩ => ⟨S2048x2048, .f32⟩
  | .hbm, ⟨53, _⟩ => ⟨S2048x2048, .f32⟩
  | .hbm, ⟨54, _⟩ => ⟨S2048x1, .f32⟩
  | .hbm, ⟨55, _⟩ => ⟨S_, .f32⟩
  | .hbm, ⟨56, _⟩ => ⟨S2048x1, .f32⟩
  | .hbm, ⟨57, _⟩ => ⟨S2048x1, .f32⟩
  | .hbm, ⟨58, _⟩ => ⟨S_, .f32⟩
  | .hbm, ⟨59, _⟩ => ⟨S2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.AttnMath.lean ====
/- The mathematics of one attention head over the real numbers, and how sums, exponentials and quotients of finite
   extended reals are read as real ones. Nothing here names a program. -/
module

public import Idealize.ShloMosaic.Lib.Pointwise
public import Idealize.ShloMosaic.Lib.IdealHost

@[expose] public section

noncomputable section

namespace Cert.Attn

open Idealize.ShloMosaic

/-! ## Finite extended reals -/

theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The running maximum of real numbers, from the least element, is a real number as soon as there is one of them. -/
theorem fold_max_coe {ι : Type*} (s : Finset ι) (hs : s.Nonempty) (f : ι → ℝ) :
    ∃ m : ℝ, s.fold max (⊥ : EReal) (fun i => ((f i : ℝ) : EReal)) = (m : EReal) := by
  classical
  induction hs using Finset.Nonempty.cons_induction with
  | singleton a => exact ⟨f a, by rw [Finset.fold_singleton, max_eq_left bot_le]⟩
  | cons a s ha hs ih =>
    obtain ⟨m, hm⟩ := ih
    exact ⟨max (f a) m, by rw [Finset.fold_cons, hm, EReal.coe_strictMono.monotone.map_max]⟩

theorem exp_coe (x : ℝ) : Ideal.exp (x : EReal) = ((Real.exp x : ℝ) : EReal) := rfl
theorem log_coe {x : ℝ} (h : 0 < x) : Ideal.log (x : EReal) = ((Real.log x : ℝ) : EReal) := by
  show (if x ≤ 0 then (⊥ : EReal) else ((Real.log x : ℝ) : EReal)) = _
  rw [if_neg (not_le.mpr h)]
theorem div_coe_coe (x : ℝ) {y : ℝ} (h : y ≠ 0) : Ideal.div (x : EReal) (y : EReal) = ((x / y : ℝ) : EReal) := by
  rw [Ideal.div_coe h, ← EReal.coe_mul, mul_one_div]

/-- The scale both texts multiply the scores by: the word of one over the square root of 128. -/
def σ : ℝ := (Ideal.ofBits .f32 0x3DB504F3#32).toReal

/-- The scale is a real number. -/
theorem scale_eq : Ideal.ofBits .f32 0x3DB504F3#32 = ((σ : ℝ) : EReal) := by
  rw [σ]
  refine (EReal.coe_toReal ?_ ?_).symm <;>
  · unfold Ideal.ofBits Ideal.ieee
    dsimp only
    rw [if_neg (by decide), if_neg (by decide)]
    first | exact EReal.coe_ne_top _ | exact EReal.coe_ne_bot _

theorem neg_inf : Ideal.ofBits .f32 0xFF800000#32 = (⊥ : EReal) := by
  unfold Ideal.ofBits Ideal.ieee
  dsimp only
  rw [if_pos (by decide), if_pos (by decide), if_pos (by decide)]

theorem pos_inf : Ideal.ofBits .f32 0x7F800000#32 = (⊤ : EReal) := by
  unfold Ideal.ofBits Ideal.ieee
  dsimp only
  rw [if_pos (by decide), if_pos (by decide), if_neg (by decide)]

/-! ## One query row of one head

`q` is the query row, `K` and `V` the keys and values, `g` the gradient of the output row. -/

variable {n d e : ℕ}

def score (c : ℝ) (q : Fin d → ℝ) (K : Fin n → Fin d → ℝ) (j : Fin n) : ℝ := (∑ x, q x * K j x) * c
def norm (c : ℝ) (q : Fin d → ℝ) (K : Fin n → Fin d → ℝ) : ℝ := ∑ j, Real.exp (score c q K j)
def prob (c : ℝ) (q : Fin d → ℝ) (K : Fin n → Fin d → ℝ) (j : Fin n) : ℝ := Real.exp (score c q K j) / norm c q K
def out (c : ℝ) (q : Fin d → ℝ) (K : Fin n → Fin d → ℝ) (V : Fin n → Fin e → ℝ) (x : Fin e) : ℝ := ∑ j, prob c q K j * V j x
def dprob (V : Fin n → Fin e → ℝ) (g : Fin e → ℝ) (j : Fin n) : ℝ := ∑ x, g x * V j x
def delta (c : ℝ) (q : Fin d → ℝ) (K : Fin n → Fin d → ℝ) (V : Fin n → Fin e → ℝ) (g : Fin e → ℝ) : ℝ :=
  ∑ x, g x * out c q K V x
def dscore (c : ℝ) (q : Fin d → ℝ) (K : Fin n → Fin d → ℝ) (V : Fin n → Fin e → ℝ) (g : Fin e → ℝ) (j : Fin n) : ℝ :=
  prob c q K j * ((dprob V g j - delta c q K V g) * c)

variable (c : ℝ) (q : Fin d → ℝ) (K : Fin n → Fin d → ℝ) (V : Fin n → Fin e → ℝ) (g : Fin e → ℝ)

theorem norm_pos [NeZero n] : 0 < norm c q K :=
  Finset.sum_pos (fun _ _ => Real.exp_pos _) ⟨0, Finset.mem_univ _⟩

/-- The exponentials of the scores less any shift `m`, taken before the scale, sum to the norm less that shift. -/
theorem shifted_sum (m : ℝ) :
    ∑ j, Real.exp (((∑ x, q x * K j x) - m) * c) = Real.exp (-(m * c)) * norm c q K := by
  rw [norm, Finset.mul_sum]
  refine Finset.sum_congr rfl fun j _ => ?_
  rw [← Real.exp_add, score]; congr 1; ring

/-- The output row as the forward pass forms it: the shifted exponentials' product with the values, times one over their sum. -/
theorem out_shifted [NeZero n] (m : ℝ) (x : Fin e) :
    (∑ j, Real.exp (((∑ x, q x * K j x) - m) * c) * V j x) * (1 / ∑ j, Real.exp (((∑ x, q x * K j x) - m) * c)) = out c q K V x := by
  have hN := (norm_pos c q K).ne'
  have hE := (Real.exp_pos (-(m * c))).ne'
  rw [shifted_sum, out, Finset.sum_mul]
  refine Finset.sum_congr rfl fun j _ => ?_
  have : Real.exp (((∑ x, q x * K j x) - m) * c) = Real.exp (-(m * c)) * Real.exp (score c q K j) := by
    rw [← Real.exp_add, score]; congr 1; ring
  rw [this, prob]; field_simp

/-- The log-sum-exp as the forward pass forms it. -/
theorem lse_shifted [NeZero n] (m : ℝ) :
    m * c + Real.log (∑ j, Real.exp (((∑ x, q x * K j x) - m) * c)) = Real.log (norm c q K) := by
  rw [shifted_sum, Real.log_mul (Real.exp_pos _).ne' (norm_pos c q K).ne', Real.log_exp]; ring

/-- The probability from the log-sum-exp. -/
theorem prob_of_lse [NeZero n] (j : Fin n) : Real.exp ((∑ x, q x * K j x) * c - Real.log (norm c q K)) = prob c q K j := by
  rw [Real.exp_sub, Real.exp_log (norm_pos c q K), prob, score]

/-- The probability from scores shifted after the scale. -/
theorem prob_shifted [NeZero n] (m : ℝ) (j : Fin n) :
    Real.exp (score c q K j - m) / ∑ i, Real.exp (score c q K i - m) = prob c q K j := by
  simp only [Real.exp_sub]
  rw [← Finset.sum_div, prob, norm]
  have := (Real.exp_pos m).ne'
  have hN : ∑ i, Real.exp (score c q K i) ≠ 0 := (norm_pos c q K).ne'
  field_simp

/-- The sum over the columns is the sum over the keys of the probabilities' gradients. -/
theorem delta_eq : delta c q K V g = ∑ j, prob c q K j * dprob V g j := by
  simp only [delta, out, dprob, Finset.mul_sum]
  rw [Finset.sum_comm]
  refine Finset.sum_congr rfl fun j _ => Finset.sum_congr rfl fun x _ => by ring

/-- The gradient of a score as the transposed softmax forms it: through the unnormalised exponentials `w` and their sum. -/
theorem dscore_shifted [NeZero n] (m : ℝ) (j : Fin n) :
    ((dprob V g j / ∑ i, Real.exp (score c q K i - m))
        + -(∑ i, dprob V g i * (1 / ((∑ i, Real.exp (score c q K i - m)) * ∑ i, Real.exp (score c q K i - m))) * Real.exp (score c q K i - m)))
      * Real.exp (score c q K j - m) * c = dscore c q K V g j := by
  have hp := prob_shifted c q K m
  set w := fun i => Real.exp (score c q K i - m) with hw
  set Z := ∑ i, w i with hZ
  have hZ0 : Z ≠ 0 := (Finset.sum_pos (fun _ _ => Real.exp_pos _) ⟨(0 : Fin n), Finset.mem_univ _⟩).ne'
  have hp' : ∀ i, prob c q K i = w i / Z := fun i => (hp i).symm
  have h1 : ∑ i, dprob V g i * (1 / (Z * Z)) * w i = delta c q K V g / Z := by
    rw [delta_eq, Finset.sum_div]
    refine Finset.sum_congr rfl fun i _ => ?_
    rw [hp' i]; field_simp
  show ((dprob V g j / Z) + -(∑ i, dprob V g i * (1 / (Z * Z)) * w i)) * w j * c = _
  rw [h1, dscore, hp' j]; field_simp; ring

end Cert.Attn

end
-- ==== Proof.Arr.lean ====
/- Matrices of real numbers read by natural coordinates, and one head's columns of them. -/
module

public import proofs.«01_k».proof.Proof.AttnMath

@[expose] public section

noncomputable section

namespace Cert.Attn

/-- Rows `r₀ …` of the 128 columns of head `h`. -/
def blk (A : ℕ → ℕ → ℝ) (n r₀ h : ℕ) : Fin n → Fin 128 → ℝ := fun r x => A (r₀ + r) (128 * h + x)

/-- Row `r` of the 128 columns of head `h`. -/
def row (A : ℕ → ℕ → ℝ) (h r : ℕ) : Fin 128 → ℝ := fun x => A r (128 * h + x)

theorem blk_row (A : ℕ → ℕ → ℝ) (n r₀ h : ℕ) (r : Fin n) : blk A n r₀ h r = row A h (r₀ + r) := rfl

/-- All keys (or values) of key-value head `w`. -/
def keys (A : ℕ → ℕ → ℝ) (w : ℕ) : Fin 2048 → Fin 128 → ℝ := fun j x => A j (128 * w + x)

end Cert.Attn

end
-- ==== Proof.FwdPay.lean ====
/- What the forward attention kernel's payloads hold at an index, for blocks of real numbers. -/
module

public import proofs.«01_k».proof.Proof.AttnMath
public import proofs.«01_k».proof.Proof.Gen.KernelIdeal.Skeleton

@[expose] public section

set_option maxRecDepth 16384

noncomputable section

namespace Cert.Attn

open Idealize.ShloMosaic Cert.KernelIdeal Cert.KernelIdeal.Gen Cert.KernelIdeal.Facts

variable {q : Vec Ideal S512x128 .bf16} {k v : Vec Ideal S2048x128 .bf16}
variable {Q : Fin 512 → Fin 128 → ℝ} {K V : Fin 2048 → Fin 128 → ℝ}

/-- The output block is the softmax's product with the values. -/
theorem fwd_out (hq : ∀ r x, q (ix2 r x) = Q r x) (hk : ∀ j x, k (ix2 j x) = K j x) (hv : ∀ j x, v (ix2 j x) = V j x)
    (r : Fin 512) (x : Fin 128) : k0_pay6 q k v (ix2 r x) = (out σ (Q r) K V x : EReal) := by
  unfold_payloads
  pointwise []
  obtain ⟨m, hm⟩ := fold_max_coe Finset.univ ⟨(0 : Fin 2048), Finset.mem_univ _⟩ fun j => ∑ x, Q r x * K j x
  have hS : (∑ j, Real.exp (((∑ x, Q r x * K j x) - m) * σ)) ≠ 0 := by
    rw [shifted_sum]; exact (mul_pos (Real.exp_pos _) (norm_pos _ _ _)).ne'
  simp only [hq, hk, hv, ← EReal.coe_mul, sum_coe, neg_inf, scale_eq, hm, ← EReal.coe_sub, exp_coe]
  rw [← EReal.coe_one, div_coe_coe _ hS, ← EReal.coe_mul, out_shifted]

/-- The log-sum-exp block, one number per row on all of its lanes. -/
theorem fwd_lse (hq : ∀ r x, q (ix2 r x) = Q r x) (hk : ∀ j x, k (ix2 j x) = K j x)
    (r : Fin 512) (x : Fin 128) : k0_pay7 q k (ix2 r x) = (Real.log (norm σ (Q r) K) : EReal) := by
  unfold_payloads
  pointwise []
  obtain ⟨m, hm⟩ := fold_max_coe Finset.univ ⟨(0 : Fin 2048), Finset.mem_univ _⟩ fun j => ∑ x, Q r x * K j x
  have hS : 0 < (∑ j, Real.exp (((∑ x, Q r x * K j x) - m) * σ)) := by
    rw [shifted_sum]; exact (mul_pos (Real.exp_pos _) (norm_pos _ _ _))
  simp only [hq, hk, ← EReal.coe_mul, sum_coe, neg_inf, scale_eq, hm, ← EReal.coe_sub, exp_coe]
  rw [log_coe hS, ← EReal.coe_add, lse_shifted]

end Cert.Attn

end
-- ==== Proof.Fwd.lean ====
/- The forward attention kernel's two arrays after its run. -/
module

public import proofs.«01_k».proof.Proof.Arr
public import proofs.«01_k».proof.Proof.FwdPay
public import proofs.«01_k».proof.Proof.Gen.KernelIdeal.Frame
public import Idealize.ShloMosaic.Lib.Pipeline.ValueKit

@[expose] public section

set_option maxRecDepth 16384

noncomputable section

namespace Cert.Attn

open Idealize.ShloMosaic Cert.KernelIdeal Cert.KernelIdeal.Gen Cert.KernelIdeal.Facts

/-- The output array over the real matrices: query head `h` attends over key-value head `h / 4`. -/
def outAt (Q K V : ℕ → ℕ → ℝ) (r l : ℕ) : ℝ :=
  out σ (row Q (l / 128) r) (keys K (l / 512)) (keys V (l / 512)) ⟨l % 128, Nat.mod_lt _ (by decide)⟩
def lseAt (Q K : ℕ → ℕ → ℝ) (r l : ℕ) : ℝ := Real.log (norm σ (row Q (l / 128) r) (keys K (l / 512)))

theorem idx0 : ∀ t : Fin grid0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4] := by
  decide +kernel

variable (V : (c : Dev nD) → (b : Ref sig .tc) → Buf (Elt Ideal) ((c.tc : Thread nD τ).loc b)) (c : Dev nD)
variable (Q K W : ℕ → ℕ → ℝ)

variable {V c Q K W}

section blocks

variable (hq : ∀ y : S2048x1024.Idx, V c main_arg0 y = ((Q (y 0) (y 1) : ℝ) : EReal))
variable (hk : ∀ y : S2048x256.Idx, V c main_arg1 y = ((K (y 0) (y 1) : ℝ) : EReal))
variable (hv : ∀ y : S2048x256.Idx, V c main_arg2 y = ((W (y 0) (y 1) : ℝ) : EReal))

include hq in
theorem q_blk (t : Fin cfg0.N) (y : S512x512.Idx) :
    iblk0 V c 0 t y = ((Q (t.val % 4 * 512 + y 0) (t.val / 4 * 512 + y 1) : ℝ) : EReal) := by
  refine (hq _).trans ?_
  blk_simp [(idx0 t).1]
include hk in
theorem k_blk (t : Fin cfg0.N) (y : S2048x128.Idx) : iblk0 V c 1 t y = ((K (y 0) (t.val / 4 * 128 + y 1) : ℝ) : EReal) := by
  refine (hk _).trans ?_
  blk_simp [(idx0 t).2.1]
include hv in
theorem v_blk (t : Fin cfg0.N) (y : S2048x128.Idx) : iblk0 V c 2 t y = ((W (y 0) (t.val / 4 * 128 + y 1) : ℝ) : EReal) := by
  refine (hv _).trans ?_
  blk_simp [(idx0 t).2.2.1]

include hq in
theorem q_ld (t : Fin cfg0.N) {o : ℕ} (h : ℕ) (ho : o = 128 * h) (inb) (r : Fin 512) (x : Fin 128) :
    View.ld (iblk0 V c 0 t) (Rect.unit (s := S512x512) ![0, o] S512x128.size inb) (ix2 r x)
      = ((blk Q 512 (t.val % 4 * 512) (t.val / 4 * 4 + h) r x : ℝ) : EReal) := by
  subst ho
  rw [View.ld_apply, q_blk hq]
  exact congrArg _ (congrArg₂ Q (by simp) (by simp; show _ + (_ + x.val) = _ + x.val; omega))
include hk in
theorem k_ld (t : Fin cfg0.N) (j : Fin 2048) (x : Fin 128) :
    View.ld (iblk0 V c 1 t) r0_1 (ix2 j x) = ((keys K (t.val / 4) j x : ℝ) : EReal) := by
  rw [View.ld_apply, k_blk hk]
  exact congrArg _ (congrArg₂ K (by simp) (by simp; omega))
include hv in
theorem v_ld (t : Fin cfg0.N) (j : Fin 2048) (x : Fin 128) :
    View.ld (iblk0 V c 2 t) r0_1 (ix2 j x) = ((keys W (t.val / 4) j x : ℝ) : EReal) := by
  rw [View.ld_apply, v_blk hv]
  exact congrArg _ (congrArg₂ W (by simp) (by simp; omega))

/-- Head `h` of point `t`'s block, at the array's coordinates. -/
theorem outAt_blk (t h : ℕ) (hh : h < 4) (r : Fin 512) (x : Fin 128) :
    out σ (blk Q 512 (t % 4 * 512) (t / 4 * 4 + h) r) (keys K (t / 4)) (keys W (t / 4)) x
      = outAt Q K W (t % 4 * 512 + r) (t / 4 * 512 + (128 * h + x)) := by
  have h1 : x.val < 128 := x.isLt
  have e1 : (t / 4 * 512 + (128 * h + x)) / 128 = t / 4 * 4 + h := by omega
  have e2 : (t / 4 * 512 + (128 * h + x)) / 512 = t / 4 := by omega
  have e3 : (t / 4 * 512 + (128 * h + x)) % 128 = x := by omega
  rw [outAt, blk_row]
  simp only [e1, e2, e3]
theorem lseAt_blk (t h : ℕ) (hh : h < 4) (r : Fin 512) (x : Fin 128) :
    Real.log (norm σ (blk Q 512 (t % 4 * 512) (t / 4 * 4 + h) r) (keys K (t / 4)))
      = lseAt Q K (t % 4 * 512 + r) (t / 4 * 512 + (128 * h + x)) := by
  have h1 : x.val < 128 := x.isLt
  have e1 : (t / 4 * 512 + (128 * h + x)) / 128 = t / 4 * 4 + h := by omega
  have e2 : (t / 4 * 512 + (128 * h + x)) / 512 = t / 4 := by omega
  rw [lseAt, blk_row]
  simp only [e1, e2]

include hq hk hv in
theorem out_piece (t : Fin cfg0.N) {o : ℕ} (h : ℕ) (hh : h < 4) (ho : o = 128 * h) (inb) (x : S512x128.Idx) :
    k0_pay6 (View.ld (iblk0 V c 0 t) (Rect.unit (s := S512x512) ![0, o] S512x128.size inb)) (View.ld (iblk0 V c 1 t) r0_1)
      (View.ld (iblk0 V c 2 t) r0_1) x
      = ((outAt Q K W (t.val % 4 * 512 + x 0) (t.val / 4 * 512 + (128 * h + x 1)) : ℝ) : EReal) := by
  refine .trans ?_ (congrArg _ (outAt_blk t h hh (x 0) (x 1)))
  have := fwd_out (q_ld hq t h ho inb) (k_ld hk t) (v_ld hv t) (x 0) (x 1)
  rwa [← eq_ix2] at this
include hq hk in
theorem lse_piece (t : Fin cfg0.N) {o : ℕ} (h : ℕ) (hh : h < 4) (ho : o = 128 * h) (inb) (x : S512x128.Idx) :
    k0_pay7 (View.ld (iblk0 V c 0 t) (Rect.unit (s := S512x512) ![0, o] S512x128.size inb)) (View.ld (iblk0 V c 1 t) r0_1) x
      = ((lseAt Q K (t.val % 4 * 512 + x 0) (t.val / 4 * 512 + (128 * h + x 1)) : ℝ) : EReal) := by
  refine .trans ?_ (congrArg _ (lseAt_blk t h hh (x 0) (x 1)))
  have := fwd_lse (q_ld hq t h ho inb) (k_ld hk t) (x 0) (x 1)
  rwa [← eq_ix2] at this

include hq hk hv in
/-- The output array. -/
theorem arr_out : (dat0 V c).arrAt 3 cfg0.N = fun y => ((outAt Q K W (y 0) (y 1) : ℝ) : EReal) := by
  refine (dat0 V c).arrAt_eq_of_covers 3 _ (by decide +kernel) fun t hf y => ?_
  blk_simp [(idx0 t).2.2.2.1]
  rw [after0_3]
  unfold_out out0_3
  canon_tiles x h
  · rw [h0, h1]; exact out_piece hq hk hv t 3 (by decide) rfl _ x
  · rw [h0, h1]; exact out_piece hq hk hv t 2 (by decide) rfl _ x
  · rw [h0, h1]; exact out_piece hq hk hv t 1 (by decide) rfl _ x
  · rw [h0, h1]; refine (out_piece hq hk hv t 0 (by decide) rfl _ x).trans ?_
    simp

include hq hk in
/-- The log-sum-exp array. -/
theorem arr_lse : (dat0 V c).arrAt 4 cfg0.N = fun y => ((lseAt Q K (y 0) (y 1) : ℝ) : EReal) := by
  refine (dat0 V c).arrAt_eq_of_covers 4 _ (by decide +kernel) fun t hf y => ?_
  blk_simp [(idx0 t).2.2.2.2]
  rw [after0_4]
  unfold_out out0_4
  canon_tiles x h
  · rw [h0, h1]; exact lse_piece hq hk t 3 (by decide) rfl _ x
  · rw [h0, h1]; exact lse_piece hq hk t 2 (by decide) rfl _ x
  · rw [h0, h1]; exact lse_piece hq hk t 1 (by decide) rfl _ x
  · rw [h0, h1]; refine (lse_piece hq hk t 0 (by decide) rfl _ x).trans ?_
    simp

end blocks

end Cert.Attn

end
-- ==== Proof.BwdPay.lean ====
/- What the backward attention kernel's payloads hold at an index, for blocks of real numbers. -/
module

public import proofs.«01_k».proof.Proof.AttnMath
public import Idealize.ShloMosaic.Lib.Pipeline.ValueKit
public import proofs.«01_k».proof.Proof.Gen.KernelIdeal.Skeleton

@[expose] public section

set_option maxRecDepth 16384

noncomputable section

namespace Cert.Attn

open Idealize.ShloMosaic Cert.KernelIdeal Cert.KernelIdeal.Gen Cert.KernelIdeal.Facts

variable {q g : Vec Ideal S256x128 .bf16} {o l : Vec Ideal S256x128 .f32} {k v : Vec Ideal S2048x128 .bf16}
variable {Q G : Fin 256 → Fin 128 → ℝ} {K V : Fin 2048 → Fin 128 → ℝ}

/-- Sixteen copies of a block side by side, of a row that holds one number on all of its lanes. -/
theorem lanes_apply (y : FVec Ideal S256x128 .f32) (r : Fin 256) (j : Fin 2048) (w : EReal) (hy : ∀ x, y (ix2 r x) = w) :
    concatenate S256x2048 1 [⟨S256x128, y⟩, ⟨S256x128, y⟩, ⟨S256x128, y⟩, ⟨S256x128, y⟩, ⟨S256x128, y⟩, ⟨S256x128, y⟩, ⟨S256x128, y⟩,
      ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩]
      concatenates_S256x128_S256x128_S256x128_S256x128_S256x128_S256x128_S256x128_S256x128_S256x128_S256x128_S256x128_S256x128_S256x128_S256x128_S256x128_S256x128_S256x2048_d1
      (ix2 r j) = w := by
  refine (concatenate_ofFn_apply (t := S256x2048) (s₁ := S256x128) (N := 16) (1 : Fin 2) (fun _ => y) _ rfl 128 rfl (ix2 r j) ⟨j.val / 128, by omega⟩ rfl
    (ix2 r ⟨j.val % 128, Nat.mod_lt _ (by decide)⟩) rfl fun b hb => ?_).trans (hy _)
  match b with
  | 0 => rfl
  | 1 => exact absurd rfl hb

/-- The gradients of the probabilities. -/
theorem bwd_dprob (hg : ∀ r x, g (ix2 r x) = G r x) (hv : ∀ j x, v (ix2 j x) = V j x)
    (r : Fin 256) (j : Fin 2048) : k1_pay5 v g (ix2 r j) = (dprob V (G r) j : EReal) := by
  unfold_payloads
  pointwise []
  simp only [hg, hv, ← EReal.coe_mul, sum_coe, dprob]

/-- The probabilities, from the saved log-sum-exp. -/
theorem bwd_prob (hq : ∀ r x, q (ix2 r x) = Q r x) (hk : ∀ j x, k (ix2 j x) = K j x)
    (hl : ∀ r x, l (ix2 r x) = (Real.log (norm σ (Q r) K) : ℝ))
    (r : Fin 256) (j : Fin 2048) : k1_pay4 k q l (ix2 r j) = (prob σ (Q r) K j : EReal) := by
  have hc := lanes_apply (shapeCast S256x128 l shapeCasts_S256x128_S256x128) r j (Real.log (norm σ (Q r) K) : ℝ)
    (fun x => by rw [shapeCast_self]; exact hl r x)
  have hs := bwd_dprob hq hk r j
  calc k1_pay4 k q l (ix2 r j)
      = Ideal.exp (k1_pay5 k q (ix2 r j) * Ideal.ofBits .f32 0x3DB504F3#32 - (Real.log (norm σ (Q r) K) : ℝ)) := by
        rw [← hc]; rfl
    _ = _ := by rw [hs, scale_eq, ← EReal.coe_mul, ← EReal.coe_sub, exp_coe, dprob, prob_of_lse]

variable {p dp : FVec Ideal S256x2048 .f32}

/-- The gradients of the scores. -/
theorem bwd_dscore (hg : ∀ r x, g (ix2 r x) = G r x)
    (ho : ∀ r x, o (ix2 r x) = (out σ (Q r) K V x : ℝ))
    (hp : ∀ r j, p (ix2 r j) = (prob σ (Q r) K j : ℝ)) (hdp : ∀ r j, dp (ix2 r j) = (dprob V (G r) j : ℝ))
    (r : Fin 256) (j : Fin 2048) : k1_pay8 p dp (k1_pay6 g) (k1_pay7 o) (ix2 r j) = (dscore σ (Q r) K V (G r) j : EReal) := by
  unfold_payloads
  pointwise []
  simp only [hg, ho, hp, hdp, scale_eq, ← EReal.coe_mul, sum_coe, ← EReal.coe_sub, dscore, delta]

/-- The block of the query's gradient. -/
theorem head_dq (hq : ∀ r x, q (ix2 r x) = Q r x) (hk : ∀ j x, k (ix2 j x) = K j x) (hv : ∀ j x, v (ix2 j x) = V j x)
    (hg : ∀ r x, g (ix2 r x) = G r x) (ho : ∀ r x, o (ix2 r x) = (out σ (Q r) K V x : ℝ))
    (hl : ∀ r x, l (ix2 r x) = (Real.log (norm σ (Q r) K) : ℝ)) (r : Fin 256) (x : Fin 128) :
    k1_pay10 k (k1_pay4 k q l) (k1_pay5 v g) (k1_pay6 g) (k1_pay7 o) (ix2 r x)
      = ((∑ j, dscore σ (Q r) K V (G r) j * K j x : ℝ) : EReal) := by
  have hd := bwd_dscore hg ho (bwd_prob hq hk hl) (bwd_dprob hg hv)
  generalize k1_pay4 k q l = p at hd ⊢
  generalize k1_pay5 v g = dp at hd ⊢
  unfold k1_pay10
  generalize k1_pay8 p dp (k1_pay6 g) (k1_pay7 o) = d at hd ⊢
  pointwise []
  simp only [hd, hk, ← EReal.coe_mul, sum_coe]

/-- What a block of queries adds to the key's gradient. -/
theorem head_dk (hq : ∀ r x, q (ix2 r x) = Q r x) (hk : ∀ j x, k (ix2 j x) = K j x) (hv : ∀ j x, v (ix2 j x) = V j x)
    (hg : ∀ r x, g (ix2 r x) = G r x) (ho : ∀ r x, o (ix2 r x) = (out σ (Q r) K V x : ℝ))
    (hl : ∀ r x, l (ix2 r x) = (Real.log (norm σ (Q r) K) : ℝ)) (a : Vec Ideal S2048x128 .f32) (j : Fin 2048) (x : Fin 128) :
    k1_pay11 q (k1_pay4 k q l) (k1_pay5 v g) (k1_pay6 g) (k1_pay7 o) a (ix2 j x)
      = a (ix2 j x) + ((∑ r, dscore σ (Q r) K V (G r) j * Q r x : ℝ) : EReal) := by
  have hd := bwd_dscore hg ho (bwd_prob hq hk hl) (bwd_dprob hg hv)
  generalize k1_pay4 k q l = p at hd ⊢
  generalize k1_pay5 v g = dp at hd ⊢
  unfold k1_pay11
  generalize k1_pay8 p dp (k1_pay6 g) (k1_pay7 o) = d at hd ⊢
  pointwise []
  simp only [hd, hq, ← EReal.coe_mul, sum_coe]

/-- What a block of queries adds to the value's gradient. -/
theorem head_dv (hq : ∀ r x, q (ix2 r x) = Q r x) (hk : ∀ j x, k (ix2 j x) = K j x) (hg : ∀ r x, g (ix2 r x) = G r x)
    (hl : ∀ r x, l (ix2 r x) = (Real.log (norm σ (Q r) K) : ℝ)) (a : Vec Ideal S2048x128 .f32) (j : Fin 2048) (x : Fin 128) :
    k1_pay9 g (k1_pay4 k q l) a (ix2 j x) = a (ix2 j x) + ((∑ r, prob σ (Q r) K j * G r x : ℝ) : EReal) := by
  have hd := bwd_prob hq hk hl
  generalize k1_pay4 k q l = p at hd ⊢
  unfold k1_pay9
  pointwise []
  simp only [hd, hg, ← EReal.coe_mul, sum_coe]

end Cert.Attn

end
-- ==== Proof.BwdStep.lean ====
/- What one grid point of the backward attention kernel leaves, as its four heads' contributions. -/
module

public import proofs.«01_k».proof.Proof.Fwd
public import proofs.«01_k».proof.Proof.BwdPay
public import Idealize.ShloMosaic.Lib.Pipeline.ReadBack

@[expose] public section

set_option maxRecDepth 16384

noncomputable section

namespace Cert.Attn

open Idealize.ShloMosaic Cert.KernelIdeal Cert.KernelIdeal.Gen Cert.KernelIdeal.Facts

/-! ## One head's contribution, as a function of its blocks -/

abbrev headQ (q : Vec Ideal S256x128 .bf16) (k v : Vec Ideal S2048x128 .bf16) (g : Vec Ideal S256x128 .bf16) (o l : Vec Ideal S256x128 .f32) :
    Vec Ideal S256x128 .f32 :=
  k1_pay10 k (k1_pay4 k q l) (k1_pay5 v g) (k1_pay6 g) (k1_pay7 o)
abbrev headK (q : Vec Ideal S256x128 .bf16) (k v : Vec Ideal S2048x128 .bf16) (g : Vec Ideal S256x128 .bf16) (o l : Vec Ideal S256x128 .f32)
    (a : Vec Ideal S2048x128 .f32) : Vec Ideal S2048x128 .f32 :=
  k1_pay11 q (k1_pay4 k q l) (k1_pay5 v g) (k1_pay6 g) (k1_pay7 o) a
abbrev headV (q : Vec Ideal S256x128 .bf16) (k : Vec Ideal S2048x128 .bf16) (g : Vec Ideal S256x128 .bf16) (l : Vec Ideal S256x128 .f32)
    (a : Vec Ideal S2048x128 .f32) : Vec Ideal S2048x128 .f32 :=
  k1_pay9 g (k1_pay4 k q l) a

abbrev Inb (o : ℕ) : Prop := ∀ a, (![0, o] : Fin 2 → ℕ) a + S256x128.size a ≤ S256x512.size a

/-- Lane block `o`, of 128 lanes. -/
abbrev lane {e : EltTy} (x : Vec Ideal S256x512 e) (o : ℕ) (h : Inb o) : Vec Ideal S256x128 e :=
  View.ld x (Rect.unit (s := S256x512) ![0, o] S256x128.size h)

variable (V : (c : Dev nD) → (b : Ref sig .tc) → Buf (Elt Ideal) ((c.tc : Thread nD τ).loc b)) (c : Dev nD)

/-- Head `o`'s three contributions at point `t`. -/
abbrev ptK (t : Fin cfg1.N) (o : ℕ) (h : Inb o) (a : Vec Ideal S2048x128 .f32) : Vec Ideal S2048x128 .f32 :=
  headK (lane (iblk1 V c 0 t) o h) (iblk1 V c 1 t) (iblk1 V c 2 t) (lane (iblk1 V c 3 t) o h) (lane (iblk1 V c 4 t) o h)
    (lane (iblk1 V c 5 t) o h) a
abbrev ptV (t : Fin cfg1.N) (o : ℕ) (h : Inb o) (a : Vec Ideal S2048x128 .f32) : Vec Ideal S2048x128 .f32 :=
  headV (lane (iblk1 V c 0 t) o h) (iblk1 V c 1 t) (lane (iblk1 V c 3 t) o h) (lane (iblk1 V c 5 t) o h) a
abbrev ptQ (t : Fin cfg1.N) (o : ℕ) (h : Inb o) : Vec Ideal S256x128 .f32 :=
  headQ (lane (iblk1 V c 0 t) o h) (iblk1 V c 1 t) (iblk1 V c 2 t) (lane (iblk1 V c 3 t) o h) (lane (iblk1 V c 4 t) o h)
    (lane (iblk1 V c 5 t) o h)

theorem stepK_A (t : Fin cfg1.N) (h0 : t.val % 8 = 0) : (outsAt1 V c t.val t.isLt).2.1
    = ptK V c t 384 inb_S256x512_S256x128_0_384 (ptK V c t 256 inb_S256x512_S256x128_0_256 (ptK V c t 128 inb_S256x512_S256x128_0_128
      (ptK V c t 0 inb_S256x512_S256x128_0_0 (k1_pay2 (F := Ideal))))) := by
  rw [outsAt1_A V c t h0]
  frame_open
  simp (disch := decide) only [↓ View.readCov_skip, ↓ View.readCov_cons_toLoadRect, ↓ View.readCov_fill]
  frame_out
  rfl
theorem stepK_B (t : Fin cfg1.N) (h0 : ¬ t.val % 8 = 0) : (outsAt1 V c t.val t.isLt).2.1
    = ptK V c t 384 inb_S256x512_S256x128_0_384 (ptK V c t 256 inb_S256x512_S256x128_0_256 (ptK V c t 128 inb_S256x512_S256x128_0_128
      (ptK V c t 0 inb_S256x512_S256x128_0_0 (outsAt1 V c (t.val - 1) (Nat.lt_of_le_of_lt (Nat.sub_le _ _) t.isLt)).2.1))) := by
  rw [outsAt1_B V c t h0]
  frame_open
  simp (disch := decide) only [↓ View.readCov_skip, ↓ View.readCov_cons_toLoadRect, ↓ View.readCov_fill]
  frame_out
  rfl
theorem stepV_A (t : Fin cfg1.N) (h0 : t.val % 8 = 0) : (outsAt1 V c t.val t.isLt).2.2
    = ptV V c t 384 inb_S256x512_S256x128_0_384 (ptV V c t 256 inb_S256x512_S256x128_0_256 (ptV V c t 128 inb_S256x512_S256x128_0_128
      (ptV V c t 0 inb_S256x512_S256x128_0_0 (k1_pay3 (F := Ideal))))) := by
  rw [outsAt1_A V c t h0]
  frame_open
  simp (disch := decide) only [↓ View.readCov_skip, ↓ View.readCov_cons_toLoadRect, ↓ View.readCov_fill]
  frame_out
  rfl
theorem stepV_B (t : Fin cfg1.N) (h0 : ¬ t.val % 8 = 0) : (outsAt1 V c t.val t.isLt).2.2
    = ptV V c t 384 inb_S256x512_S256x128_0_384 (ptV V c t 256 inb_S256x512_S256x128_0_256 (ptV V c t 128 inb_S256x512_S256x128_0_128
      (ptV V c t 0 inb_S256x512_S256x128_0_0 (outsAt1 V c (t.val - 1) (Nat.lt_of_le_of_lt (Nat.sub_le _ _) t.isLt)).2.2))) := by
  rw [outsAt1_B V c t h0]
  frame_open
  simp (disch := decide) only [↓ View.readCov_skip, ↓ View.readCov_cons_toLoadRect, ↓ View.readCov_fill]
  frame_out
  rfl

/-- The query gradient's block at any point: four heads side by side. -/
theorem stepQ (t : Fin cfg1.N) : (outsAt1 V c t.val t.isLt).1
    = View.canon [⟨Rect.unit (s := S256x512) ![0, 384] S256x128.size inb_S256x512_S256x128_0_384, ptQ V c t 384 inb_S256x512_S256x128_0_384⟩,
      ⟨Rect.unit (s := S256x512) ![0, 256] S256x128.size inb_S256x512_S256x128_0_256, ptQ V c t 256 inb_S256x512_S256x128_0_256⟩,
      ⟨Rect.unit (s := S256x512) ![0, 128] S256x128.size inb_S256x512_S256x128_0_128, ptQ V c t 128 inb_S256x512_S256x128_0_128⟩,
      ⟨Rect.unit (s := S256x512) ![0, 0] S256x128.size inb_S256x512_S256x128_0_0, ptQ V c t 0 inb_S256x512_S256x128_0_0⟩] := by
  by_cases h0 : t.val % 8 = 0
  · rw [outsAt1_A V c t h0]
    frame_open
    simp (disch := decide) only [↓ View.readCov_skip, ↓ View.readCov_cons_toLoadRect, ↓ View.readCov_fill]
    frame_out
    rfl
  · rw [outsAt1_B V c t h0]
    frame_open
    simp (disch := decide) only [↓ View.readCov_skip, ↓ View.readCov_cons_toLoadRect, ↓ View.readCov_fill]
    frame_out
    rfl

end Cert.Attn

end
-- ==== Proof.Bwd.lean ====
/- The backward attention kernel's three arrays after its run. -/
module

public import proofs.«01_k».proof.Proof.Fwd
public import proofs.«01_k».proof.Proof.BwdStep

@[expose] public section

set_option maxRecDepth 16384

noncomputable section

namespace Cert.Attn

open Idealize.ShloMosaic Cert.KernelIdeal Cert.KernelIdeal.Gen Cert.KernelIdeal.Facts

theorem idx1 : ∀ t : Fin grid1.N, win1_0.index t = ![t.val % 8, t.val / 8] ∧ win1_1.index t = ![0, t.val / 8]
    ∧ win1_2.index t = ![0, t.val / 8] ∧ win1_3.index t = ![t.val % 8, t.val / 8] ∧ win1_4.index t = ![t.val % 8, t.val / 8]
    ∧ win1_5.index t = ![t.val % 8, t.val / 8] ∧ win1_6.index t = ![t.val % 8, t.val / 8] ∧ win1_7.index t = ![0, t.val / 8]
    ∧ win1_8.index t = ![0, t.val / 8] := by
  decide +kernel

/-! ## The same over real matrices -/

/-- What query row `r` of head `h` of group `w` adds to the gradient of key `j` at column `x`, and of value `j`. -/
def keyTerm (Q K W D : ℕ → ℕ → ℝ) (w h j : ℕ) (x r : ℕ) : ℝ :=
  if hj : j < 2048 then
    dscore σ (row Q (w * 4 + h) r) (keys K w) (keys W w) (row D (w * 4 + h) r) ⟨j, hj⟩ * Q r (128 * (w * 4 + h) + x)
  else 0
def valTerm (Q K D : ℕ → ℕ → ℝ) (w h j : ℕ) (x r : ℕ) : ℝ :=
  if hj : j < 2048 then prob σ (row Q (w * 4 + h) r) (keys K w) ⟨j, hj⟩ * D r (128 * (w * 4 + h) + x) else 0

/-- A group's gradient of one key or value entry: over its four heads and all query rows. -/
def groupSum (f : ℕ → ℕ → ℝ) : ℝ := ∑ h ∈ Finset.range 4, ∑ r ∈ Finset.range 2048, f h r

/-- The blocks of 256 rows, four heads each, are all rows of the four heads. -/
theorem groupSum_blocks (f : ℕ → ℕ → ℝ) :
    ∑ s ∈ Finset.range 8, (((∑ r : Fin 256, f 0 (s * 256 + r)) + ∑ r : Fin 256, f 1 (s * 256 + r)) + (∑ r : Fin 256, f 2 (s * 256 + r))
      + ∑ r : Fin 256, f 3 (s * 256 + r)) = groupSum f := by
  have e : ∀ h, ∑ s ∈ Finset.range 8, ∑ r : Fin 256, f h (s * 256 + r) = ∑ r ∈ Finset.range 2048, f h r := fun h => by
    rw [show 2048 = 8 * 256 from rfl, Finset.sum_range_mul_split]
    exact Finset.sum_congr rfl fun s _ => (Finset.sum_range fun r => f h (s * 256 + r)).symm
  simp only [Finset.sum_add_distrib, e, groupSum]
  simp [Finset.sum_range_succ]

def dqAt (Q K W D : ℕ → ℕ → ℝ) (r l : ℕ) : ℝ :=
  ∑ j, dscore σ (row Q (l / 128) r) (keys K (l / 512)) (keys W (l / 512)) (row D (l / 128) r) j
    * keys K (l / 512) j ⟨l % 128, Nat.mod_lt _ (by decide)⟩
def dkAt (Q K W D : ℕ → ℕ → ℝ) (j l : ℕ) : ℝ := groupSum fun h r => keyTerm Q K W D (l / 128) h j (l % 128) r
def dvAt (Q K D : ℕ → ℕ → ℝ) (j l : ℕ) : ℝ := groupSum fun h r => valTerm Q K D (l / 128) h j (l % 128) r

variable {V : (c : Dev nD) → (b : Ref sig .tc) → Buf (Elt Ideal) ((c.tc : Thread nD τ).loc b)} {c : Dev nD} {Q K W D : ℕ → ℕ → ℝ}

section blocks

variable (hq : ∀ y : S2048x1024.Idx, V c main_arg0 y = ((Q (y 0) (y 1) : ℝ) : EReal))
variable (hk : ∀ y : S2048x256.Idx, V c main_arg1 y = ((K (y 0) (y 1) : ℝ) : EReal))
variable (hv : ∀ y : S2048x256.Idx, V c main_arg2 y = ((W (y 0) (y 1) : ℝ) : EReal))
variable (hd : ∀ y : S2048x1024.Idx, V c main_arg3 y = ((D (y 0) (y 1) : ℝ) : EReal))
variable (ho : ∀ y : S2048x1024.Idx, V c main_v0_0 y = ((outAt Q K W (y 0) (y 1) : ℝ) : EReal))
variable (hl : ∀ y : S2048x1024.Idx, V c main_v0_1 y = ((lseAt Q K (y 0) (y 1) : ℝ) : EReal))

/-- Where a lane block of point `t` sits in the array. -/
theorem lane_at (A : ℕ → ℕ → ℝ) {e : EltTy} (X : Vec Ideal S256x512 e) (rd : Elt Ideal e → EReal) (t o h : ℕ) (hb : Inb o) (hoh : o = 128 * h)
    (hX : ∀ y : S256x512.Idx, rd (X y) = ((A (t % 8 * 256 + y 0) (t / 8 * 512 + y 1) : ℝ) : EReal)) (r : Fin 256) (x : Fin 128) :
    rd (lane X o hb (ix2 r x)) = ((A (t % 8 * 256 + r) (128 * (t / 8 * 4 + h) + x) : ℝ) : EReal) := by
  subst hoh
  refine (hX _).trans ?_
  exact congrArg _ (congrArg₂ A (by simp) (by simp; omega))

include hq in
theorem q_blk1 (t : Fin cfg1.N) (y : S256x512.Idx) :
    iblk1 V c 0 t y = ((Q (t.val % 8 * 256 + y 0) (t.val / 8 * 512 + y 1) : ℝ) : EReal) := by
  refine (hq _).trans ?_
  blk_simp [(idx1 t).1]
include hk in
theorem k_blk1 (t : Fin cfg1.N) (j : Fin 2048) (x : Fin 128) : iblk1 V c 1 t (ix2 j x) = ((keys K (t.val / 8) j x : ℝ) : EReal) := by
  refine (hk _).trans ?_
  blk_simp [(idx1 t).2.1]
  exact congrArg _ (congrArg₂ K (by simp) (by simp; omega))
include hv in
theorem v_blk1 (t : Fin cfg1.N) (j : Fin 2048) (x : Fin 128) : iblk1 V c 2 t (ix2 j x) = ((keys W (t.val / 8) j x : ℝ) : EReal) := by
  refine (hv _).trans ?_
  blk_simp [(idx1 t).2.2.1]
  exact congrArg _ (congrArg₂ W (by simp) (by simp; omega))
include hd in
theorem d_blk1 (t : Fin cfg1.N) (y : S256x512.Idx) :
    iblk1 V c 3 t y = ((D (t.val % 8 * 256 + y 0) (t.val / 8 * 512 + y 1) : ℝ) : EReal) := by
  refine (hd _).trans ?_
  blk_simp [(idx1 t).2.2.2.1]
include ho in
theorem o_blk1 (t : Fin cfg1.N) (y : S256x512.Idx) :
    iblk1 V c 4 t y = ((outAt Q K W (t.val % 8 * 256 + y 0) (t.val / 8 * 512 + y 1) : ℝ) : EReal) := by
  refine (ho _).trans ?_
  blk_simp [(idx1 t).2.2.2.2.1]
include hl in
theorem l_blk1 (t : Fin cfg1.N) (y : S256x512.Idx) :
    iblk1 V c 5 t y = ((lseAt Q K (t.val % 8 * 256 + y 0) (t.val / 8 * 512 + y 1) : ℝ) : EReal) := by
  refine (hl _).trans ?_
  blk_simp [(idx1 t).2.2.2.2.2.1]

theorem outAt_lane (w h : ℕ) (hh : h < 4) (r : ℕ) (x : Fin 128) :
    outAt Q K W r (128 * (w * 4 + h) + x) = out σ (row Q (w * 4 + h) r) (keys K w) (keys W w) x := by
  have h1 : x.val < 128 := x.isLt
  have e1 : (128 * (w * 4 + h) + x) / 128 = w * 4 + h := by omega
  have e2 : (128 * (w * 4 + h) + x) / 512 = w := by omega
  have e3 : (128 * (w * 4 + h) + x) % 128 = x := by omega
  rw [outAt]
  simp only [e1, e2, e3]
theorem lseAt_lane (w h : ℕ) (hh : h < 4) (r : ℕ) (x : Fin 128) :
    lseAt Q K r (128 * (w * 4 + h) + x) = Real.log (norm σ (row Q (w * 4 + h) r) (keys K w)) := by
  have h1 : x.val < 128 := x.isLt
  have e1 : (128 * (w * 4 + h) + x) / 128 = w * 4 + h := by omega
  have e2 : (128 * (w * 4 + h) + x) / 512 = w := by omega
  rw [lseAt]
  simp only [e1, e2]
theorem dqAt_lane (w h : ℕ) (hh : h < 4) (r : ℕ) (x : Fin 128) :
    dqAt Q K W D r (128 * (w * 4 + h) + x)
      = ∑ j, dscore σ (row Q (w * 4 + h) r) (keys K w) (keys W w) (row D (w * 4 + h) r) j * keys K w j x := by
  have h1 : x.val < 128 := x.isLt
  have e1 : (128 * (w * 4 + h) + x) / 128 = w * 4 + h := by omega
  have e2 : (128 * (w * 4 + h) + x) / 512 = w := by omega
  have e3 : (128 * (w * 4 + h) + x) % 128 = x := by omega
  rw [dqAt]
  simp only [e1, e2, e3]

/-! The lane blocks of point `t`, at head `h` of its group -/

section lanes

variable (t : Fin cfg1.N) (o h : ℕ) (hh : h < 4) (hb : Inb o) (hoh : o = 128 * h) (r : Fin 256) (x : Fin 128)

include hq hoh in
theorem q_lane : lane (iblk1 V c 0 t) o hb (ix2 r x) = ((blk Q 256 (t.val % 8 * 256) (t.val / 8 * 4 + h) r x : ℝ) : EReal) :=
  lane_at Q (iblk1 V c 0 t) id t.val o h hb hoh (q_blk1 hq t) r x
include hd hoh in
theorem d_lane : lane (iblk1 V c 3 t) o hb (ix2 r x) = ((blk D 256 (t.val % 8 * 256) (t.val / 8 * 4 + h) r x : ℝ) : EReal) :=
  lane_at D (iblk1 V c 3 t) id t.val o h hb hoh (d_blk1 hd t) r x
include ho hoh hh in
theorem o_lane : lane (iblk1 V c 4 t) o hb (ix2 r x)
    = ((out σ (blk Q 256 (t.val % 8 * 256) (t.val / 8 * 4 + h) r) (keys K (t.val / 8)) (keys W (t.val / 8)) x : ℝ) : EReal) := by
  refine (lane_at (outAt Q K W) (iblk1 V c 4 t) id t.val o h hb hoh (o_blk1 ho t) r x).trans ?_
  rw [outAt_lane _ h hh, blk_row]
include hl hoh hh in
theorem l_lane : lane (iblk1 V c 5 t) o hb (ix2 r x)
    = ((Real.log (norm σ (blk Q 256 (t.val % 8 * 256) (t.val / 8 * 4 + h) r) (keys K (t.val / 8))) : ℝ) : EReal) := by
  refine (lane_at (lseAt Q K) (iblk1 V c 5 t) id t.val o h hb hoh (l_blk1 hl t) r x).trans ?_
  rw [lseAt_lane _ h hh, blk_row]

include hq hk hv hd ho hl hoh hh in
theorem pt_dk (a : Vec Ideal S2048x128 .f32) (j : Fin 2048) : ptK V c t o hb a (ix2 j x)
      = a (ix2 j x) + ((∑ r : Fin 256, keyTerm Q K W D (t.val / 8) h j x (t.val % 8 * 256 + r) : ℝ) : EReal) := by
  refine (head_dk (q_lane hq t o h hb hoh) (k_blk1 hk t) (v_blk1 hv t) (d_lane hd t o h hb hoh) (o_lane ho t o h hh hb hoh)
    (l_lane hl t o h hh hb hoh) a j x).trans ?_
  refine congrArg (fun z : ℝ => a (ix2 j x) + (z : EReal)) (Finset.sum_congr rfl fun r _ => ?_)
  rw [keyTerm, dif_pos j.isLt]; rfl

include hq hk hd hl hoh hh in
theorem pt_dv (a : Vec Ideal S2048x128 .f32) (j : Fin 2048) : ptV V c t o hb a (ix2 j x)
      = a (ix2 j x) + ((∑ r : Fin 256, valTerm Q K D (t.val / 8) h j x (t.val % 8 * 256 + r) : ℝ) : EReal) := by
  refine (head_dv (q_lane hq t o h hb hoh) (k_blk1 hk t) (d_lane hd t o h hb hoh)
    (l_lane hl t o h hh hb hoh) a j x).trans ?_
  refine congrArg (fun z : ℝ => a (ix2 j x) + (z : EReal)) (Finset.sum_congr rfl fun r _ => ?_)
  rw [valTerm, dif_pos j.isLt]; rfl

include hq hk hv hd ho hl hoh hh in
theorem pt_dq : ptQ V c t o hb (ix2 r x)
      = ((dqAt Q K W D (t.val % 8 * 256 + r) (128 * (t.val / 8 * 4 + h) + x) : ℝ) : EReal) := by
  refine (head_dq (q_lane hq t o h hb hoh) (k_blk1 hk t) (v_blk1 hv t) (d_lane hd t o h hb hoh) (o_lane ho t o h hh hb hoh)
    (l_lane hl t o h hh hb hoh) r x).trans ?_
  rw [dqAt_lane _ h hh]; rfl

end lanes

end blocks

end Cert.Attn

end
-- ==== Proof.BwdArr.lean ====
/- The backward attention kernel's three arrays after its run. -/
module

public import proofs.«01_k».proof.Proof.Bwd

@[expose] public section

set_option maxRecDepth 16384

noncomputable section

namespace Cert.Attn

open Idealize.ShloMosaic Cert.KernelIdeal Cert.KernelIdeal.Gen Cert.KernelIdeal.Facts

variable {V : (c : Dev nD) → (b : Ref sig .tc) → Buf (Elt Ideal) ((c.tc : Thread nD τ).loc b)} {c : Dev nD} {Q K W D : ℕ → ℕ → ℝ}
variable (hq : ∀ y : S2048x1024.Idx, V c main_arg0 y = ((Q (y 0) (y 1) : ℝ) : EReal))
variable (hk : ∀ y : S2048x256.Idx, V c main_arg1 y = ((K (y 0) (y 1) : ℝ) : EReal))
variable (hv : ∀ y : S2048x256.Idx, V c main_arg2 y = ((W (y 0) (y 1) : ℝ) : EReal))
variable (hd : ∀ y : S2048x1024.Idx, V c main_arg3 y = ((D (y 0) (y 1) : ℝ) : EReal))
variable (ho : ∀ y : S2048x1024.Idx, V c main_v0_0 y = ((outAt Q K W (y 0) (y 1) : ℝ) : EReal))
variable (hl : ∀ y : S2048x1024.Idx, V c main_v0_1 y = ((lseAt Q K (y 0) (y 1) : ℝ) : EReal))

include hq hk hv hd ho hl in
/-- The query's gradient. -/
theorem arr_dq : (dat1 V c).arrAt 6 cfg1.N = fun y => ((dqAt Q K W D (y 0) (y 1) : ℝ) : EReal) := by
  refine (dat1 V c).arrAt_eq_of_covers 6 _ (by decide +kernel) fun t hf y => ?_
  blk_simp [(idx1 t).2.2.2.2.2.2.1]
  rw [after1_6, stepQ]
  have fin : ∀ (h : ℕ) (hh : h < 4) (o : ℕ) (hb : Inb o) (hoh : o = 128 * h) (x : S256x128.Idx),
      ptQ V c t o hb x = ((dqAt Q K W D (t.val % 8 * 256 + x 0) (t.val / 8 * 512 + (o + x 1)) : ℝ) : EReal) := by
    intro h hh o hb hoh x
    have := pt_dq hq hk hv hd ho hl t o h hh hb hoh (x 0) (x 1)
    rw [← eq_ix2] at this
    refine this.trans (congrArg _ (congrArg (dqAt Q K W D _) ?_))
    omega
  canon_tiles x h
  · rw [h0, h1]; exact fin 3 (by decide) _ _ rfl x
  · rw [h0, h1]; exact fin 2 (by decide) _ _ rfl x
  · rw [h0, h1]; exact fin 1 (by decide) _ _ rfl x
  · rw [h0, h1]; refine (fin 0 (by decide) _ _ rfl x).trans ?_
    simp

theorem four_terms (a : EReal) (u v w z : ℝ) : a + (u : EReal) + (v : EReal) + (w : EReal) + (z : EReal) = a + ((u + v + w + z : ℝ) : EReal) := by
  simp only [EReal.coe_add, add_assoc]

/-- One block of 256 query rows, four heads. -/
def blockSum (f : ℕ → ℕ → ℝ) (s : ℕ) : ℝ :=
  (((∑ r : Fin 256, f 0 (s * 256 + r)) + ∑ r : Fin 256, f 1 (s * 256 + r)) + (∑ r : Fin 256, f 2 (s * 256 + r)) + ∑ r : Fin 256, f 3 (s * 256 + r))

include hq hk hv hd ho hl in
theorem nestK (t : Fin cfg1.N) (a : Vec Ideal S2048x128 .f32) (j : Fin 2048) (x : Fin 128) :
    ptK V c t 384 inb_S256x512_S256x128_0_384 (ptK V c t 256 inb_S256x512_S256x128_0_256 (ptK V c t 128 inb_S256x512_S256x128_0_128
      (ptK V c t 0 inb_S256x512_S256x128_0_0 a))) (ix2 j x)
      = a (ix2 j x) + ((blockSum (fun h r => keyTerm Q K W D (t.val / 8) h j x r) (t.val % 8) : ℝ) : EReal) :=
  calc _ = _ := pt_dk hq hk hv hd ho hl t 384 3 (by decide) inb_S256x512_S256x128_0_384 rfl x _ j
    _ = _ := congrArg (· + _) (pt_dk hq hk hv hd ho hl t 256 2 (by decide) inb_S256x512_S256x128_0_256 rfl x _ j)
    _ = _ := congrArg (· + _ + _) (pt_dk hq hk hv hd ho hl t 128 1 (by decide) inb_S256x512_S256x128_0_128 rfl x _ j)
    _ = _ := congrArg (· + _ + _ + _) (pt_dk hq hk hv hd ho hl t 0 0 (by decide) inb_S256x512_S256x128_0_0 rfl x a j)
    _ = _ := four_terms _ _ _ _ _

include hq hk hd hl in
theorem nestV (t : Fin cfg1.N) (a : Vec Ideal S2048x128 .f32) (j : Fin 2048) (x : Fin 128) :
    ptV V c t 384 inb_S256x512_S256x128_0_384 (ptV V c t 256 inb_S256x512_S256x128_0_256 (ptV V c t 128 inb_S256x512_S256x128_0_128
      (ptV V c t 0 inb_S256x512_S256x128_0_0 a))) (ix2 j x)
      = a (ix2 j x) + ((blockSum (fun h r => valTerm Q K D (t.val / 8) h j x r) (t.val % 8) : ℝ) : EReal) :=
  calc _ = _ := pt_dv hq hk hd hl t 384 3 (by decide) inb_S256x512_S256x128_0_384 rfl x _ j
    _ = _ := congrArg (· + _) (pt_dv hq hk hd hl t 256 2 (by decide) inb_S256x512_S256x128_0_256 rfl x _ j)
    _ = _ := congrArg (· + _ + _) (pt_dv hq hk hd hl t 128 1 (by decide) inb_S256x512_S256x128_0_128 rfl x _ j)
    _ = _ := congrArg (· + _ + _ + _) (pt_dv hq hk hd hl t 0 0 (by decide) inb_S256x512_S256x128_0_0 rfl x a j)
    _ = _ := four_terms _ _ _ _ _

/-- A running block that the first of eight points starts at zero and every point adds a real amount to. -/
theorem eight_points (f : (n : ℕ) → n < cfg1.N → S2048x128.Idx → EReal) (g : ℕ → ℕ → ℕ → ℕ → ℕ → ℝ)
    (h0 : ∀ t : Fin cfg1.N, t.val % 8 = 0 → ∀ (j : Fin 2048) (x : Fin 128),
      f t.val t.isLt (ix2 j x) = 0 + ((blockSum (fun h r => g (t.val / 8) h j x r) (t.val % 8) : ℝ) : EReal))
    (hs : ∀ t : Fin cfg1.N, ¬t.val % 8 = 0 → ∀ (j : Fin 2048) (x : Fin 128), f t.val t.isLt (ix2 j x)
      = f (t.val - 1) (Nat.lt_of_le_of_lt (Nat.sub_le _ _) t.isLt) (ix2 j x) + ((blockSum (fun h r => g (t.val / 8) h j x r) (t.val % 8) : ℝ) : EReal))
    (t : Fin cfg1.N) (hf : t.val % 8 = 7) (j : Fin 2048) (x : Fin 128) :
    f t.val t.isLt (ix2 j x) = ((groupSum (fun h r => g (t.val / 8) h j x r) : ℝ) : EReal) := by
  have acc := Pipeline.eq_sum_of_reset_step_apply_divmod (fun n h => fun p : Fin 2048 × Fin 128 => f n h (ix2 p.1 p.2)) 8 (fun _ => (0 : EReal))
    (fun w s p => ((blockSum (fun h r => g w h p.1 p.2 r) s : ℝ) : EReal)) (fun t h p => h0 t h p.1 p.2) (fun t h p => hs t h p.1 p.2) t (j, x)
  refine acc.trans ?_
  rw [hf, zero_add, sum_coe]
  exact congrArg _ (groupSum_blocks fun h r => g (t.val / 8) h j x r)

include hq hk hv hd ho hl in
/-- The key's gradient. -/
theorem arr_dk : (dat1 V c).arrAt 7 cfg1.N = fun y => ((dkAt Q K W D (y 0) (y 1) : ℝ) : EReal) := by
  refine (dat1 V c).arrAt_eq_of_covers 7 _ (by decide +kernel) fun t hf y => ?_
  blk_simp [(idx1 t).2.2.2.2.2.2.2.1]
  rw [after1_7]
  have acc := eight_points (fun n h => (outsAt1 V c n h).2.1) (keyTerm Q K W D)
    (fun t h j x => by
      refine (congrFun (stepK_A V c t h) _).trans ((nestK hq hk hv hd ho hl t _ j x).trans (congrArg (· + _) ?_))
      exact Ideal.ofBits_zero_f32)
    (fun t h j x => (congrFun (stepK_B V c t h) _).trans (nestK hq hk hv hd ho hl t _ j x)) t ((flush1_7 t).mp hf) (y 0) (y 1)
  have e : y = ix2 (y 0) (y 1) := eq_ix2 y
  refine (congrArg (outsAt1 V c t.val t.isLt).2.1 e).trans (acc.trans (congrArg _ ?_))
  have h1 : (y 1).val < 128 := (y 1).isLt
  rw [dkAt]
  simp only [show (t.val / 8 * 128 + (y 1).val) / 128 = t.val / 8 by omega, show (t.val / 8 * 128 + (y 1).val) % 128 = y 1 by omega,
    zero_mul, zero_add, Matrix.cons_val_zero, Matrix.cons_val_one, Nat.zero_mul, Nat.zero_add]

include hq hk hd hl in
/-- The value's gradient. -/
theorem arr_dv : (dat1 V c).arrAt 8 cfg1.N = fun y => ((dvAt Q K D (y 0) (y 1) : ℝ) : EReal) := by
  refine (dat1 V c).arrAt_eq_of_covers 8 _ (by decide +kernel) fun t hf y => ?_
  blk_simp [(idx1 t).2.2.2.2.2.2.2.2]
  rw [after1_8]
  have acc := eight_points (fun n h => (outsAt1 V c n h).2.2) (valTerm Q K D)
    (fun t h j x => by
      refine (congrFun (stepV_A V c t h) _).trans ((nestV hq hk hd hl t _ j x).trans (congrArg (· + _) ?_))
      exact Ideal.ofBits_zero_f32)
    (fun t h j x => (congrFun (stepV_B V c t h) _).trans (nestV hq hk hd hl t _ j x)) t ((flush1_8 t).mp hf) (y 0) (y 1)
  have e : y = ix2 (y 0) (y 1) := eq_ix2 y
  refine (congrArg (outsAt1 V c t.val t.isLt).2.2 e).trans (acc.trans (congrArg _ ?_))
  have h1 : (y 1).val < 128 := (y 1).isLt
  rw [dvAt]
  simp only [show (t.val / 8 * 128 + (y 1).val) / 128 = t.val / 8 by omega, show (t.val / 8 * 128 + (y 1).val) % 128 = y 1 by omega,
    zero_mul, zero_add, Matrix.cons_val_zero, Matrix.cons_val_one, Nat.zero_mul, Nat.zero_add]

end Cert.Attn

end
-- ==== Proof.RunA.lean ====
/- One run of the forward and backward attention kernels, and what its three results hold for finite arguments. -/
module

public import proofs.«01_k».proof.Proof.BwdArr

@[expose] public section

set_option maxRecDepth 16384

noncomputable section

namespace Cert.Attn

open Idealize.ShloMosaic Idealize.ShloMosaic.TcCoe Idealize.ShloMosaic.Tactic Cert.KernelIdeal Cert.KernelIdeal.Gen Cert.KernelIdeal.Facts
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- Every run ends with each result array at the second kernel's array of it, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨⟨(h c _ (mem_uc main_v1_0 (by decide))).trans (W2_arr m ρ c 6),
        (h c _ (mem_uc main_v1_1 (by decide))).trans (W2_arr m ρ c 7),
        (h c _ (mem_uc main_v1_2 (by decide))).trans (W2_arr m ρ c 8)⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

variable (m : (ℓ : Loc nD τ sig) → Buf (Elt Ideal) ℓ) (ρ : Dev nD → PrngReg) (c : Dev nD) {Q K W D : ℕ → ℕ → ℝ}
variable (hq : ∀ y : S2048x1024.Idx, m ((c.tc : Thread nD τ).loc main_arg0) y = ((Q (y 0) (y 1) : ℝ) : EReal))
variable (hk : ∀ y : S2048x256.Idx, m ((c.tc : Thread nD τ).loc main_arg1) y = ((K (y 0) (y 1) : ℝ) : EReal))
variable (hv : ∀ y : S2048x256.Idx, m ((c.tc : Thread nD τ).loc main_arg2) y = ((W (y 0) (y 1) : ℝ) : EReal))
variable (hd : ∀ y : S2048x1024.Idx, m ((c.tc : Thread nD τ).loc main_arg3) y = ((D (y 0) (y 1) : ℝ) : EReal))

include hq hk hv hd in
/-- The three gradients the run leaves. -/
theorem run_values :
    (dat1 (V1 m ρ) c).arrAt 6 cfg1.N = (fun y => ((dqAt Q K W D (y 0) (y 1) : ℝ) : EReal))
    ∧ (dat1 (V1 m ρ) c).arrAt 7 cfg1.N = (fun y => ((dkAt Q K W D (y 0) (y 1) : ℝ) : EReal))
    ∧ (dat1 (V1 m ρ) c).arrAt 8 cfg1.N = (fun y => ((dvAt Q K D (y 0) (y 1) : ℝ) : EReal)) := by
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a2 : V1 m ρ c main_arg2 = m ((c : Thread nD τ).loc main_arg2) := W1_args m ρ c main_arg2 (by decide)
  have a3 : V1 m ρ c main_arg3 = m ((c : Thread nD τ).loc main_arg3) := W1_args m ρ c main_arg3 (by decide)
  have b0 : V1 m ρ c main_v0_0 = (dat0 (V0 m ρ) c).arrAt 3 cfg0.N := W1_arr m ρ c 3
  have b1 : V1 m ρ c main_v0_1 = (dat0 (V0 m ρ) c).arrAt 4 cfg0.N := W1_arr m ρ c 4
  have hq1 : ∀ y : S2048x1024.Idx, V1 m ρ c main_arg0 y = ((Q (y 0) (y 1) : ℝ) : EReal) := fun y => (congrFun a0 y).trans (hq y)
  have hk1 : ∀ y : S2048x256.Idx, V1 m ρ c main_arg1 y = ((K (y 0) (y 1) : ℝ) : EReal) := fun y => (congrFun a1 y).trans (hk y)
  have hv1 : ∀ y : S2048x256.Idx, V1 m ρ c main_arg2 y = ((W (y 0) (y 1) : ℝ) : EReal) := fun y => (congrFun a2 y).trans (hv y)
  have hd1 : ∀ y : S2048x1024.Idx, V1 m ρ c main_arg3 y = ((D (y 0) (y 1) : ℝ) : EReal) := fun y => (congrFun a3 y).trans (hd y)
  have ho1 : ∀ y : S2048x1024.Idx, V1 m ρ c main_v0_0 y = ((outAt Q K W (y 0) (y 1) : ℝ) : EReal) := fun y =>
    (congrFun b0 y).trans (congrFun (arr_out (V := V0 m ρ) (c := c) hq hk hv) y)
  have hl1 : ∀ y : S2048x1024.Idx, V1 m ρ c main_v0_1 y = ((lseAt Q K (y 0) (y 1) : ℝ) : EReal) := fun y =>
    (congrFun b1 y).trans (congrFun (arr_lse (V := V0 m ρ) (c := c) hq hk) y)
  exact ⟨arr_dq hq1 hk1 hv1 hd1 ho1 hl1, arr_dk hq1 hk1 hv1 hd1 ho1 hl1, arr_dv hq1 hk1 hd1 hl1⟩

end Cert.Attn

end
-- ==== Proof.RefA.lean ====
/- What the reference attention gradients hold at an index, for finite arguments. -/
module

public import proofs.«01_k».proof.Proof.Bwd
public import proofs.«01_k».proof.Proof.Gen.ReferenceIdeal.Read

@[expose] public section

set_option maxRecDepth 16384

noncomputable section

namespace Cert.Attn

open Idealize.ShloMosaic Cert.ReferenceIdeal Cert.ReferenceIdeal.Gen Cert.ReferenceIdeal.Facts

open Cert.ReferenceIdeal.Read

variable {x0 x3 : (⟨S2048x1024, .bf16⟩ : BufTy).Contents (Elt Ideal)} {x1 x2 : (⟨S2048x256, .bf16⟩ : BufTy).Contents (Elt Ideal)}
variable {Q K W D : ℕ → ℕ → ℝ}
variable (hq : ∀ y : S2048x1024.Idx, x0 y = ((Q (y 0) (y 1) : ℝ) : EReal))
variable (hk : ∀ y : S2048x256.Idx, x1 y = ((K (y 0) (y 1) : ℝ) : EReal))
variable (hv : ∀ y : S2048x256.Idx, x2 y = ((W (y 0) (y 1) : ℝ) : EReal))
variable (hd : ∀ y : S2048x1024.Idx, x3 y = ((D (y 0) (y 1) : ℝ) : EReal))

theorem zero_word : Ideal.ofBits .f32 0x00000000#32 = (0 : EReal) := Ideal.ofBits_zero_f32
theorem one_word : Ideal.ofBits .f32 0x3F800000#32 = ((1 : ℝ) : EReal) := Ideal.ofBits_one_f32

include hq in
/-- The queries by key-value head, head of the group, row and lane. -/
theorem ref_q (i : S2x4x2048x128.Idx) : val_main_v4 (F := Ideal) x0 i = ((Q (i 2) (128 * ((i 0 : ℕ) * 4 + (i 1 : ℕ)) + (i 3 : ℕ)) : ℝ) : EReal) := by
  have h0 : (i 0).val < 2 := (i 0).isLt
  have h1 : (i 1).val < 4 := (i 1).isLt
  have h2 : (i 2).val < 2048 := (i 2).isLt
  have h3 : (i 3).val < 128 := (i 3).isLt
  rw [val_main_v4_apply, val_main_v3_apply, val_main_v0_apply]
  refine (hq _).trans ?_
  refine congrArg _ (congrArg₂ Q ?_ ?_)
  · show ((((i 2).val * 2 + (i 0).val) * 4 + (i 1).val) * 128 + (i 3).val) / 1024 = _
    omega
  · show ((((i 2).val * 2 + (i 0).val) * 4 + (i 1).val) * 128 + (i 3).val) % 1024 = _
    omega

include hd in
theorem ref_g (i : S2x4x2048x128.Idx) : val_main_v45 (F := Ideal) x3 i = ((D (i 2) (128 * ((i 0 : ℕ) * 4 + (i 1 : ℕ)) + (i 3 : ℕ)) : ℝ) : EReal) :=
  ref_q (Q := D) hd i

include hk in
theorem ref_k (i : S2x2048x128.Idx) : val_main_v6 (F := Ideal) x1 i = ((K (i 1) (128 * (i 0 : ℕ) + (i 2 : ℕ)) : ℝ) : EReal) := by
  have h0 : (i 0).val < 2 := (i 0).isLt
  have h1 : (i 1).val < 2048 := (i 1).isLt
  have h2 : (i 2).val < 128 := (i 2).isLt
  rw [val_main_v6_apply, val_main_v5_apply, val_main_v1_apply]
  refine (hk _).trans ?_
  refine congrArg _ (congrArg₂ K ?_ ?_)
  · show (((i 1).val * 2 + (i 0).val) * 128 + (i 2).val) / 256 = _
    omega
  · show (((i 1).val * 2 + (i 0).val) * 128 + (i 2).val) % 256 = _
    omega

include hv in
theorem ref_v (i : S2x2048x128.Idx) : val_main_v8 (F := Ideal) x2 i = ((W (i 1) (128 * (i 0 : ℕ) + (i 2 : ℕ)) : ℝ) : EReal) :=
  ref_k (K := W) hv i

include hq hk in
/-- The scaled scores. -/
theorem ref_score (i : S2x4x2048x2048.Idx) : val_main_v11 (F := Ideal) x0 x1 i
    = ((score σ (row Q ((i 0 : ℕ) * 4 + (i 1 : ℕ)) (i 2)) (keys K (i 0)) ⟨(i 3).val, (i 3).isLt⟩ : ℝ) : EReal) := by
  rw [val_main_v11_apply, val_main_v9_apply, val_main_v10_apply, val_main_cst_apply]
  simp only [ref_q hq, ref_k hk, ← EReal.coe_mul, sum_coe]
  refine (congrArg (fun z => FloatOps.mulf (F := Ideal) (φ := .f32) _ z) scale_eq).trans ?_
  exact (EReal.coe_mul _ _).symm

include hq hk in
/-- The row maximum the reference subtracts is some real number. -/
theorem ref_max : ∃ M : ℕ → ℕ → ℕ → ℝ, ∀ i : S2x4x2048.Idx, val_main_v19 (F := Ideal) x0 x1 i = ((M (i 0) (i 1) (i 2) : ℝ) : EReal) := by
  have key : ∀ i : S2x4x2048.Idx, ∃ M : ℝ, val_main_v19 (F := Ideal) x0 x1 i = (M : EReal) := by
    intro i
    obtain ⟨m, hm⟩ := fold_max_coe Finset.univ ⟨(0 : Fin 2048), Finset.mem_univ _⟩
      fun j => score σ (row Q ((i 0 : ℕ) * 4 + (i 1 : ℕ)) (i 2)) (keys K (i 0)) j
    refine ⟨m, ?_⟩
    have h12 : val_main_v12 (F := Ideal) x0 x1 i = (m : EReal) := by
      rw [val_main_v12]
      have hs := ref_score hq hk
      generalize val_main_v11 (F := Ideal) x0 x1 = s at hs
      pointwise []
      simp only [hs, neg_inf]
      exact hm
    rw [val_main_v19_apply, h12, val_main_v18_apply, val_main_cst_2_apply]
    refine (congrArg (fun z => FloatOps.maximumf (F := Ideal) (φ := .f32) z _) neg_inf).trans ?_
    exact max_eq_right bot_le
  choose f hf using key
  refine ⟨fun a b c => if h : a < 2 ∧ b < 4 ∧ c < 2048 then f (ix3 ⟨a, h.1⟩ ⟨b, h.2.1⟩ ⟨c, h.2.2⟩) else 0, fun i => ?_⟩
  refine (hf i).trans (congrArg _ ?_)
  refine Eq.trans ?_ (dif_pos (show (i 0).val < 2 ∧ (i 1).val < 4 ∧ (i 2).val < 2048 from ⟨(i 0).isLt, (i 1).isLt, (i 2).isLt⟩)).symm
  exact congrArg f (eq_ix3 i)

section shifted
variable {M : ℕ → ℕ → ℕ → ℝ} (hM : ∀ i : S2x4x2048.Idx, val_main_v19 (F := Ideal) x0 x1 i = ((M (i 0) (i 1) (i 2) : ℝ) : EReal))

/-- The shifted exponential of a score. -/
def wexp (Q K : ℕ → ℕ → ℝ) (M : ℕ → ℕ → ℕ → ℝ) (w g r : ℕ) (j : Fin 2048) : ℝ :=
  Real.exp (score σ (row Q (w * 4 + g) r) (keys K w) j - M w g r)

include hq hk hM in
theorem ref_exp (i : S2x4x2048x2048.Idx) :
    val_main_v32 (F := Ideal) x0 x1 i = ((wexp Q K M (i 0) (i 1) (i 2) ⟨(i 3).val, (i 3).isLt⟩ : ℝ) : EReal) := by
  rw [val_main_v32_apply, val_main_v31_apply, val_main_v30_apply, val_main_v29_apply, hM, ref_score hq hk]
  rfl

include hq hk hM in
theorem ref_norm (i : S2x4x2048.Idx) :
    val_main_v33 (F := Ideal) x0 x1 i = ((∑ j, wexp Q K M (i 0) (i 1) (i 2) j : ℝ) : EReal) := by
  rw [val_main_v33_apply, val_main_cst_8_apply]
  simp only [ref_exp hq hk hM, sum_coe]
  refine (congrArg (fun z : EReal => z + _) zero_word).trans ?_
  exact zero_add _

theorem wsum_pos (w g r : ℕ) : 0 < ∑ j, wexp Q K M w g r j :=
  Finset.sum_pos (fun _ _ => Real.exp_pos _) ⟨0, Finset.mem_univ _⟩

include hq hk hM in
theorem ref_prob (i : S2x4x2048x2048.Idx) : val_main_v36 (F := Ideal) x0 x1 i
    = ((prob σ (row Q ((i 0 : ℕ) * 4 + (i 1 : ℕ)) (i 2)) (keys K (i 0)) ⟨(i 3).val, (i 3).isLt⟩ : ℝ) : EReal) := by
  rw [val_main_v36_apply, val_main_v35_apply, val_main_v34_apply, ref_norm hq hk hM, ref_exp hq hk hM]
  refine (div_coe_coe _ (wsum_pos _ _ _).ne').trans (congrArg _ ?_)
  exact prob_shifted σ _ _ _ _

include hv hd in
theorem ref_dprob (i : S2x4x2048x2048.Idx) : val_main_v48 (F := Ideal) x2 x3 i
    = ((dprob (keys W (i 0)) (row D ((i 0 : ℕ) * 4 + (i 1 : ℕ)) (i 2)) ⟨(i 3).val, (i 3).isLt⟩ : ℝ) : EReal) := by
  rw [val_main_v48_apply]
  simp only [ref_g hd, ref_v hv, ← EReal.coe_mul, sum_coe]
  rfl

include hq hk hv hd hM in
theorem ref_dscore (i : S2x4x2048x2048.Idx) : val_main_v62 (F := Ideal) x0 x1 x2 x3 i
    = ((dscore σ (row Q ((i 0 : ℕ) * 4 + (i 1 : ℕ)) (i 2)) (keys K (i 0)) (keys W (i 0)) (row D ((i 0 : ℕ) * 4 + (i 1 : ℕ)) (i 2))
        ⟨(i 3).val, (i 3).isLt⟩ : ℝ) : EReal) := by
  have hz : ∀ i : S2x4x2048.Idx, val_main_v33 (F := Ideal) x0 x1 i ≠ 0 := fun i => by
    rw [ref_norm hq hk hM]; exact fun h => (wsum_pos (Q := Q) (K := K) (M := M) (i 0) (i 1) (i 2)).ne' (EReal.coe_eq_zero.mp h)
  have h39 : ∀ i : S2x4x2048x1.Idx, val_main_v39 (F := Ideal) x0 x1 i
      = ((1 / ((∑ j, wexp Q K M (i 0) (i 1) (i 2) j) * ∑ j, wexp Q K M (i 0) (i 1) (i 2) j) : ℝ) : EReal) := fun i => by
    rw [val_main_v39_apply, val_main_v38_apply, val_main_cst_9_apply, val_main_v37_apply, val_main_v34_apply, ref_norm hq hk hM]
    refine (congrArg₂ (fun a b : EReal => Ideal.div a b) one_word (EReal.coe_mul _ _).symm).trans ?_
    exact div_coe_coe _ (mul_pos (wsum_pos _ _ _) (wsum_pos _ _ _)).ne'
  have h54 : ∀ i : S2x4x2048x1.Idx, val_main_v54 (F := Ideal) x0 x1 x2 x3 i
      = ((-(∑ j, dprob (keys W (i 0)) (row D ((i 0 : ℕ) * 4 + (i 1 : ℕ)) (i 2)) j
          * (1 / ((∑ j, wexp Q K M (i 0) (i 1) (i 2) j) * ∑ j, wexp Q K M (i 0) (i 1) (i 2) j)) * wexp Q K M (i 0) (i 1) (i 2) j) : ℝ) : EReal) := fun i => by
    have h51 : ∀ i : S2x4x2048x2048.Idx, val_main_v51 (F := Ideal) x0 x1 x2 x3 i
        = ((dprob (keys W (i 0)) (row D ((i 0 : ℕ) * 4 + (i 1 : ℕ)) (i 2)) ⟨(i 3).val, (i 3).isLt⟩
          * (1 / ((∑ j, wexp Q K M (i 0) (i 1) (i 2) j) * ∑ j, wexp Q K M (i 0) (i 1) (i 2) j)) * wexp Q K M (i 0) (i 1) (i 2) ⟨(i 3).val, (i 3).isLt⟩ : ℝ) : EReal) := fun i => by
      rw [val_main_v51_apply, val_main_v50_apply, val_main_v49_apply, h39, ref_dprob hv hd, ref_exp hq hk hM]
      rw [EReal.coe_mul, EReal.coe_mul]; rfl
    have h0 : (i 0).val < 2 := (i 0).isLt
    have h1 : (i 1).val < 4 := (i 1).isLt
    have h2 : (i 2).val < 2048 := (i 2).isLt
    have h3 : (i 3).val < 1 := (i 3).isLt
    have e : idx_main_v53 i = ix3 ⟨(i 0).val, h0⟩ ⟨(i 1).val, h1⟩ ⟨(i 2).val, h2⟩ := by
      funext a
      match a with
      | ⟨0, _⟩ => exact Fin.ext (by show ((((i 0).val * 4 + (i 1).val) * 2048 + (i 2).val) * 1 + (i 3).val) / 8192 = (i 0).val; omega)
      | ⟨1, _⟩ => exact Fin.ext (by show ((((i 0).val * 4 + (i 1).val) * 2048 + (i 2).val) * 1 + (i 3).val) / 2048 % 4 = (i 1).val; omega)
      | ⟨2, _⟩ => exact Fin.ext (by show ((((i 0).val * 4 + (i 1).val) * 2048 + (i 2).val) * 1 + (i 3).val) % 2048 = (i 2).val; omega)
    rw [val_main_v54_apply, val_main_v53_apply, e, val_main_v52_apply, val_main_cst_10_apply]
    simp only [h51, sum_coe]
    refine (congrArg (fun z : EReal => -z) ((congrArg (fun z : EReal => z + _) zero_word).trans (zero_add _))).trans ?_
    exact (EReal.coe_neg _).symm
  have h57 : ∀ i : S2x4x2048.Idx, val_main_v57 (F := Ideal) x0 x1 x2 x3 i
      = ((-(∑ j, dprob (keys W (i 0)) (row D ((i 0 : ℕ) * 4 + (i 1 : ℕ)) (i 2)) j
          * (1 / ((∑ j, wexp Q K M (i 0) (i 1) (i 2) j) * ∑ j, wexp Q K M (i 0) (i 1) (i 2) j)) * wexp Q K M (i 0) (i 1) (i 2) j) : ℝ) : EReal) := fun i => by
    rw [val_main_v57_apply, val_main_cst_11_apply]
    simp only [h54, Fintype.sum_unique]
    refine ((congrArg (fun z : EReal => z + _) zero_word).trans (zero_add _))
  have h56 : val_main_v56 (F := Ideal) x0 x1 x2 x3 i
      = ((dprob (keys W (i 0)) (row D ((i 0 : ℕ) * 4 + (i 1 : ℕ)) (i 2)) ⟨(i 3).val, (i 3).isLt⟩ / ∑ j, wexp Q K M (i 0) (i 1) (i 2) j : ℝ) : EReal) := by
    rw [val_main_v56_apply, val_main_v55_apply, val_main_v34_apply, ref_norm hq hk hM, ref_dprob hv hd]
    exact div_coe_coe _ (wsum_pos _ _ _).ne'
  rw [val_main_v62_apply, val_main_v60_apply, val_main_v59_apply, val_main_v58_apply, h57, h56, ref_exp hq hk hM, val_main_v61_apply, val_main_cst_12_apply]
  refine (congrArg (fun z => FloatOps.mulf (F := Ideal) (φ := .f32) _ z) scale_eq).trans ?_
  refine Eq.trans ?_ (congrArg (fun z : ℝ => (z : EReal)) (dscore_shifted σ (row Q ((i 0 : ℕ) * 4 + (i 1 : ℕ)) (i 2)) (keys K (i 0)) (keys W (i 0))
    (row D ((i 0 : ℕ) * 4 + (i 1 : ℕ)) (i 2)) (M (i 0) (i 1) (i 2)) ⟨(i 3).val, (i 3).isLt⟩))
  rw [EReal.coe_mul, EReal.coe_mul, EReal.coe_add]
  rfl

end shifted

include hq hk hv hd in
/-- The gradient of the queries. -/
theorem ref_dq (y : S2048x1024.Idx) : val_main_v70 (F := Ideal) x0 x1 x2 x3 y = ((dqAt Q K W D (y 0) (y 1) : ℝ) : EReal) := by
  obtain ⟨M, hM⟩ := ref_max hq hk
  have h0 : (y 0).val < 2048 := (y 0).isLt
  have h1 : (y 1).val < 1024 := (y 1).isLt
  have h64 : ∀ i : S2x4x2048x128.Idx, val_main_v64 (F := Ideal) x0 x1 x2 x3 i
      = ((∑ j, dscore σ (row Q ((i 0 : ℕ) * 4 + (i 1 : ℕ)) (i 2)) (keys K (i 0)) (keys W (i 0)) (row D ((i 0 : ℕ) * 4 + (i 1 : ℕ)) (i 2)) j
        * keys K (i 0) j ⟨(i 3).val, (i 3).isLt⟩ : ℝ) : EReal) := fun i => by
    rw [val_main_v64_apply]
    simp only [ref_dscore hq hk hv hd hM, ref_k hk, ← EReal.coe_mul, sum_coe]
    rfl
  rw [val_main_v70_apply, val_main_v69_apply, h64]
  have e0 : ((y 0).val * 1024 + (y 1).val) / 1024 = (y 0).val := by omega
  have e1 : ((y 0).val * 1024 + (y 1).val) / 512 % 2 = (y 1).val / 512 := by omega
  have e2 : ((y 0).val * 1024 + (y 1).val) / 512 % 2 * 4 + ((y 0).val * 1024 + (y 1).val) / 128 % 4 = (y 1).val / 128 := by omega
  have e3 : ((y 0).val * 1024 + (y 1).val) % 128 = (y 1).val % 128 := by omega
  refine congrArg _ ?_
  show ∑ j, dscore σ (row Q (((y 0).val * 1024 + (y 1).val) / 512 % 2 * 4 + ((y 0).val * 1024 + (y 1).val) / 128 % 4) (((y 0).val * 1024 + (y 1).val) / 1024))
      (keys K (((y 0).val * 1024 + (y 1).val) / 512 % 2)) (keys W (((y 0).val * 1024 + (y 1).val) / 512 % 2))
      (row D (((y 0).val * 1024 + (y 1).val) / 512 % 2 * 4 + ((y 0).val * 1024 + (y 1).val) / 128 % 4) (((y 0).val * 1024 + (y 1).val) / 1024)) j
      * K j (128 * (((y 0).val * 1024 + (y 1).val) / 512 % 2) + ((y 0).val * 1024 + (y 1).val) % 128) = _
  rw [e2, e1, e0, e3]
  rfl

theorem keyTerm_of {w h j x r : ℕ} (hj : j < 2048) : keyTerm Q K W D w h j x r
    = dscore σ (row Q (w * 4 + h) r) (keys K w) (keys W w) (row D (w * 4 + h) r) ⟨j, hj⟩ * Q r (128 * (w * 4 + h) + x) := dif_pos hj
theorem valTerm_of {w h j x r : ℕ} (hj : j < 2048) : valTerm Q K D w h j x r
    = prob σ (row Q (w * 4 + h) r) (keys K w) ⟨j, hj⟩ * D r (128 * (w * 4 + h) + x) := dif_pos hj

/-- A double sum over a group's heads and rows. -/
theorem groupSum_fin (f : ℕ → ℕ → ℝ) : (∑ g : Fin 4, ∑ r : Fin 2048, f g r) = groupSum f := by
  rw [groupSum, Finset.sum_range]
  exact Finset.sum_congr rfl fun g _ => (Finset.sum_range _).symm

include hq hk hv hd in
/-- The gradient of the keys. -/
theorem ref_dk (y : S2048x256.Idx) : val_main_v68 (F := Ideal) x0 x1 x2 x3 y = ((dkAt Q K W D (y 0) (y 1) : ℝ) : EReal) := by
  obtain ⟨M, hM⟩ := ref_max hq hk
  have h63 : ∀ i : S2x2048x128.Idx, val_main_v63 (F := Ideal) x0 x1 x2 x3 i
      = ((groupSum fun h r => keyTerm Q K W D (i 0) h (i 1) (i 2) r : ℝ) : EReal) := fun i => by
    have hs := ref_dscore hq hk hv hd hM
    have hq' := ref_q hq
    rw [val_main_v63]
    generalize val_main_v62 (F := Ideal) x0 x1 x2 x3 = s at hs
    generalize val_main_v4 (F := Ideal) x0 = q at hq'
    pointwise []
    simp only [hs, hq', ← EReal.coe_mul, sum_coe]
    refine congrArg _ ?_
    rw [← groupSum_fin]
    exact Finset.sum_congr rfl fun g _ => Finset.sum_congr rfl fun r _ => (keyTerm_of (i 1).isLt).symm
  rw [val_main_v68_apply, val_main_v67_apply, h63]
  have h0 : (y 0).val < 2048 := (y 0).isLt
  have h1 : (y 1).val < 256 := (y 1).isLt
  have e0 : ((y 0).val * 256 + (y 1).val) / 256 = (y 0).val := by omega
  have e1 : ((y 0).val * 256 + (y 1).val) / 128 % 2 = (y 1).val / 128 := by omega
  have e2 : ((y 0).val * 256 + (y 1).val) % 128 = (y 1).val % 128 := by omega
  refine congrArg _ ?_
  show (groupSum fun h r => keyTerm Q K W D (((y 0).val * 256 + (y 1).val) / 128 % 2) h (((y 0).val * 256 + (y 1).val) / 256)
    (((y 0).val * 256 + (y 1).val) % 128) r) = _
  rw [e0, e1, e2]
  rfl

include hq hk hd in
/-- The gradient of the values. -/
theorem ref_dv (y : S2048x256.Idx) : val_main_v66 (F := Ideal) x0 x1 x3 y = ((dvAt Q K D (y 0) (y 1) : ℝ) : EReal) := by
  obtain ⟨M, hM⟩ := ref_max hq hk
  have h46 : ∀ i : S2x128x2048.Idx, val_main_v46 (F := Ideal) x0 x1 x3 i
      = ((groupSum fun h r => valTerm Q K D (i 0) h (i 2) (i 1) r : ℝ) : EReal) := fun i => by
    have hs := ref_prob hq hk hM
    have hg := ref_g hd
    rw [val_main_v46]
    generalize val_main_v36 (F := Ideal) x0 x1 = s at hs
    generalize val_main_v45 (F := Ideal) x3 = q at hg
    pointwise []
    simp only [hs, hg, ← EReal.coe_mul, sum_coe]
    refine congrArg _ ?_
    rw [← groupSum_fin]
    exact Finset.sum_congr rfl fun g _ => Finset.sum_congr rfl fun r _ => (mul_comm _ _).trans (valTerm_of (i 2).isLt).symm
  rw [val_main_v66_apply, val_main_v65_apply, val_main_v47_apply, h46]
  have h0 : (y 0).val < 2048 := (y 0).isLt
  have h1 : (y 1).val < 256 := (y 1).isLt
  have e0 : ((y 0).val * 256 + (y 1).val) / 256 = (y 0).val := by omega
  have e1 : ((y 0).val * 256 + (y 1).val) / 128 % 2 = (y 1).val / 128 := by omega
  have e2 : ((y 0).val * 256 + (y 1).val) % 128 = (y 1).val % 128 := by omega
  refine congrArg _ ?_
  show (groupSum fun h r => valTerm Q K D (((y 0).val * 256 + (y 1).val) / 128 % 2) h (((y 0).val * 256 + (y 1).val) / 256)
    (((y 0).val * 256 + (y 1).val) % 128) r) = _
  rw [e0, e1, e2]
  rfl

end Cert.Attn

end
-- ==== Proof.Pre.lean ====
/- Finite arguments are arrays of real numbers. -/
module

public import proofs.«01_k».proof.Proof.AttnMath
public import proofs.«01_k».proof.Defs

@[expose] public section

set_option maxRecDepth 16384

noncomputable section

namespace Cert.Attn

open Idealize.ShloMosaic

/-- A magnitude below plus infinity is a real number's. -/
theorem real_of_abs_lt {x : EReal} (h : FloatOps.cmpf (F := Ideal) (φ := .f32) .olt (FloatOps.hostAbsf x) (Ideal.ofBits .f32 0x7F800000#32) = 1#1) :
    x = ((x.toReal : ℝ) : EReal) := by
  rw [pos_inf] at h
  induction x using EReal.rec with
  | bot => exact absurd h (by decide)
  | top => exact absurd h (by decide)
  | coe r => rfl

/-- An array of real numbers by its two coordinates. -/
theorem real_array {a b : ℕ} {x : (⟨2, ![a, b]⟩ : Shape).Idx → EReal} (h : ∀ y, x y = (((x y).toReal : ℝ) : EReal)) :
    ∃ A : ℕ → ℕ → ℝ, ∀ y, x y = ((A (y 0) (y 1) : ℝ) : EReal) := by
  refine ⟨fun r l => if h : r < a ∧ l < b then (x (ix2 ⟨r, h.1⟩ ⟨l, h.2⟩)).toReal else 0, fun y => (h y).trans (congrArg _ ?_)⟩
  refine Eq.trans ?_ (dif_pos (show (y 0).val < a ∧ (y 1).val < b from ⟨(y 0).isLt, (y 1).isLt⟩)).symm
  exact congrArg (fun z => (x z).toReal) (eq_ix2 y)

open Cert.KernelIdeal in
/-- Under the precondition the four arguments are arrays of real numbers. -/
theorem real_args [hPre_finite : Cert.Pre_finite.Facts] {m : (ℓ : Loc nD τ sig) → Buf (Elt Ideal) ℓ} (h : Cert.Pre_KernelIdeal_finite m) (c : Dev nD) :
    ∃ Q K W D : ℕ → ℕ → ℝ,
      (∀ y : S2048x1024.Idx, m ((c.tc : Thread nD τ).loc main_arg0) y = ((Q (y 0) (y 1) : ℝ) : EReal))
      ∧ (∀ y : S2048x256.Idx, m ((c.tc : Thread nD τ).loc main_arg1) y = ((K (y 0) (y 1) : ℝ) : EReal))
      ∧ (∀ y : S2048x256.Idx, m ((c.tc : Thread nD τ).loc main_arg2) y = ((W (y 0) (y 1) : ℝ) : EReal))
      ∧ (∀ y : S2048x1024.Idx, m ((c.tc : Thread nD τ).loc main_arg3) y = ((D (y 0) (y 1) : ℝ) : EReal)) := by
  obtain ⟨h0, h1, h2, h3⟩ := h c
  obtain ⟨Q, hQ⟩ := real_array (x := m ((c.tc : Thread nD τ).loc main_arg0)) fun y => real_of_abs_lt (congrFun h0 y)
  obtain ⟨K, hK⟩ := real_array (x := m ((c.tc : Thread nD τ).loc main_arg1)) fun y => real_of_abs_lt (congrFun h1 y)
  obtain ⟨W, hW⟩ := real_array (x := m ((c.tc : Thread nD τ).loc main_arg2)) fun y => real_of_abs_lt (congrFun h2 y)
  obtain ⟨D, hD⟩ := real_array (x := m ((c.tc : Thread nD τ).loc main_arg3)) fun y => real_of_abs_lt (congrFun h3 y)
  exact ⟨Q, K, W, D, hQ, hK, hW, hD⟩

end Cert.Attn

end
-- ==== Proof.Mlp.lean ====
/- Arrays read at natural coordinates, and sums cut into chunks. -/
module

public import Idealize.ShloMosaic.Lib.Pointwise.Index
public import Idealize.ShloMosaic.PureOps.Ideal.Laws

@[expose] public section

noncomputable section

namespace Cert.Mlp

open Idealize.ShloMosaic

/-- A matrix at two natural coordinates. -/
def at2 {a b : ℕ} (X : (⟨2, ![a, b]⟩ : Shape).Idx → EReal) (i j : ℕ) : EReal :=
  if h : i < a ∧ j < b then X (ix2 ⟨i, h.1⟩ ⟨j, h.2⟩) else 0
theorem at2_of {a b : ℕ} (X : (⟨2, ![a, b]⟩ : Shape).Idx → EReal) (y : (⟨2, ![a, b]⟩ : Shape).Idx) : X y = at2 X (y 0) (y 1) := by
  have h : (y 0).val < a ∧ (y 1).val < b := ⟨(y 0).isLt, (y 1).isLt⟩
  rw [at2, dif_pos h]
  exact congrArg X (eq_ix2 y)

/-- A stack of matrices at three natural coordinates. -/
def at3 {a b c : ℕ} (X : (⟨3, ![a, b, c]⟩ : Shape).Idx → EReal) (i j k : ℕ) : EReal :=
  if h : i < a ∧ j < b ∧ k < c then X (ix3 ⟨i, h.1⟩ ⟨j, h.2.1⟩ ⟨k, h.2.2⟩) else 0
theorem at3_of {a b c : ℕ} (X : (⟨3, ![a, b, c]⟩ : Shape).Idx → EReal) (y : (⟨3, ![a, b, c]⟩ : Shape).Idx) :
    X y = at3 X (y 0) (y 1) (y 2) := by
  have h : (y 0).val < a ∧ (y 1).val < b ∧ (y 2).val < c := ⟨(y 0).isLt, (y 1).isLt, (y 2).isLt⟩
  rw [at3, dif_pos h]
  exact congrArg X (eq_ix3 y)

/-- An index of a stack of one matrix. -/
theorem ix3_unit {b c : ℕ} (x : (⟨3, ![1, b, c]⟩ : Shape).Idx) : ix3 (n0 := 1) 0 (x 1) (x 2) = x := by
  funext a
  match a with
  | ⟨0, _⟩ => exact Fin.ext (Nat.lt_one_iff.mp (x 0).isLt).symm
  | ⟨1, _⟩ => rfl
  | ⟨2, _⟩ => rfl

/-- The sum of `n` terms from number `s`. -/
def part (f : ℕ → EReal) (s n : ℕ) : EReal := ∑ k : Fin n, f (s + k)

theorem part_add (f : ℕ → EReal) (s n m : ℕ) : part f s n + part f (s + n) m = part f s (n + m) := by
  simp only [part]
  rw [Fin.sum_univ_add]
  simp only [Fin.val_castAdd, Fin.val_natAdd, add_assoc]

end Cert.Mlp

end
-- ==== Proof.MlpMid.lean ====
/- The four middle products of the feed-forward part: what each leaves in its arrays. -/
module

public import proofs.«01_k».proof.Proof.Mlp
public import proofs.«01_k».proof.Proof.Gen.Kernel2Ideal.Frame
public import Idealize.ShloMosaic.Lib.Pipeline.ValueKit

@[expose] public section

set_option maxRecDepth 16384

noncomputable section

namespace Cert.MlpMid

open Idealize.ShloMosaic Idealize.ShloMosaic.TcCoe Cert.Mlp Cert.Kernel2Ideal Cert.Kernel2Ideal.Gen Cert.Kernel2Ideal.Facts

/-- The number two, as the programs write it. -/
def two : EReal := FloatOps.ofBits (F := Ideal) .f32 0x40000000#32

/-- The hidden layer before its activation. -/
def preAt (H : ℕ → ℕ → EReal) (Wi : ℕ → ℕ → ℕ → EReal) (i j : ℕ) : EReal := part (fun k => H i k * Wi (j / 2048) k (j % 2048)) 0 2048
/-- Its positive part. -/
def reluAt (H : ℕ → ℕ → EReal) (Wi : ℕ → ℕ → ℕ → EReal) (i j : ℕ) : EReal := max (preAt H Wi i j) 0
/-- The activation, the positive part squared. -/
def actAt (H : ℕ → ℕ → EReal) (Wi : ℕ → ℕ → ℕ → EReal) (i j : ℕ) : EReal := reluAt H Wi i j * reluAt H Wi i j
/-- The activation's gradient. -/
def dactAt (Wo Y : ℕ → ℕ → EReal) (i j : ℕ) : EReal := part (fun k => Y i k * Wo j k) 0 2048
/-- The hidden layer's gradient. -/
def dpreAt (H : ℕ → ℕ → EReal) (Wi : ℕ → ℕ → ℕ → EReal) (Wo Y : ℕ → ℕ → EReal) (i j : ℕ) : EReal :=
  dactAt Wo Y i j * (two * reluAt H Wi i j)
/-- The second weight's gradient. -/
def dwoAt (H : ℕ → ℕ → EReal) (Wi : ℕ → ℕ → ℕ → EReal) (Y : ℕ → ℕ → EReal) (i j : ℕ) : EReal := part (fun k => actAt H Wi k i * Y k j) 0 2048
/-- The first weight's gradient. -/
def dwiAt (H : ℕ → ℕ → EReal) (Wi : ℕ → ℕ → ℕ → EReal) (Wo Y : ℕ → ℕ → EReal) (p i j : ℕ) : EReal :=
  part (fun k => H k i * dpreAt H Wi Wo Y k (p * 2048 + j)) 0 2048

theorem idx0 : ∀ t : Fin grid0.N, win0_0.index t = ![t.val / 8, 0] ∧ win0_1.index t = ![t.val % 8 / 2, 0, t.val % 8 % 2]
    ∧ win0_2.index t = ![t.val / 8, t.val % 8] ∧ win0_3.index t = ![t.val / 8, t.val % 8] := by
  decide +kernel
theorem idx1 : ∀ t : Fin grid1.N, win1_0.index t = ![0, t.val / 2] ∧ win1_1.index t = ![0, t.val % 2]
    ∧ win1_2.index t = ![0, t.val / 2, t.val % 2] := by
  decide +kernel
theorem idx2 : ∀ t : Fin grid2.N, win2_0.index t = ![t.val / 8, 0] ∧ win2_1.index t = ![0, t.val % 8, 0]
    ∧ win2_2.index t = ![t.val / 8, t.val % 8] ∧ win2_3.index t = ![t.val / 8, t.val % 8] := by
  decide +kernel
theorem idx3 : ∀ t : Fin grid3.N, win3_0.index t = ![0, t.val / 8] ∧ win3_1.index t = ![0, t.val % 8]
    ∧ win3_2.index t = ![t.val % 8 / 2, t.val / 8, t.val % 8 % 2] := by
  decide +kernel

theorem pay0_relu (v0 : Vec Ideal S1024x2048 .bf16) (v1 : Vec Ideal S1x2048x1024 .bf16) (r x : Fin 1024) :
    k0_pay2 v0 v1 (ix2 r x) = max (∑ k : Fin 2048, v0 (ix2 r k) * v1 (ix3 0 k x)) 0 := by
  unfold_payloads
  pointwise []
theorem pay0_act (v0 : Vec Ideal S1024x2048 .bf16) (v1 : Vec Ideal S1x2048x1024 .bf16) (r x : Fin 1024) :
    k0_pay3 v0 v1 (ix2 r x) = max (∑ k : Fin 2048, v0 (ix2 r k) * v1 (ix3 0 k x)) 0 * max (∑ k : Fin 2048, v0 (ix2 r k) * v1 (ix3 0 k x)) 0 := by
  unfold_payloads
  pointwise []
theorem pay1_at (v0 v2 : Vec Ideal S2048x1024 .bf16) (r x : Fin 1024) :
    k1_pay1 v0 v2 (ix3 0 r x) = ∑ k : Fin 2048, v0 (ix2 k r) * v2 (ix2 k x) := by
  unfold_payloads
  pointwise []
theorem pay2_at (v0 : Vec Ideal S1024x2048 .bf16) (v1 : Vec Ideal S1x1024x2048 .bf16) (v4 : Vec Ideal S1024x1024 .bf16) (r x : Fin 1024) :
    k2_pay1 v0 v1 v4 (ix2 r x) = (∑ k : Fin 2048, v0 (ix2 r k) * v1 (ix3 0 x k)) * (two * v4 (ix2 r x)) := by
  unfold_payloads
  pointwise []
  rfl
theorem pay3_at (v0 v1 : Vec Ideal S2048x1024 .bf16) (r x : Fin 1024) :
    k3_pay1 v0 v1 (ix3 0 r x) = ∑ k : Fin 2048, v0 (ix2 k r) * v1 (ix2 k x) := by
  unfold_payloads
  pointwise []

variable {V : (c : Dev nD) → (b : Ref sig .tc) → Buf (Elt Ideal) ((c.tc : Thread nD τ).loc b)} {c : Dev nD}
variable {H Wo Y : ℕ → ℕ → EReal} {Wi : ℕ → ℕ → ℕ → EReal}

section hidden
/-- Point `t`'s rows of the hidden input. -/
abbrev hLd (V : (c : Dev nD) → (b : Ref sig .tc) → Buf (Elt Ideal) ((c.tc : Thread nD τ).loc b)) (c : Dev nD) (t : Fin cfg0.N) :
    Vec Ideal S1024x2048 .bf16 := View.ld (iblk0 V c 0 t) r0_0
/-- Point `t`'s columns of the first weight. -/
abbrev wLd (V : (c : Dev nD) → (b : Ref sig .tc) → Buf (Elt Ideal) ((c.tc : Thread nD τ).loc b)) (c : Dev nD) (t : Fin cfg0.N) :
    Vec Ideal S1x2048x1024 .bf16 := View.ld (iblk0 V c 1 t) r0_1

variable (hh : ∀ y : S2048x2048.Idx, V c main_arg0 y = H (y 0) (y 1))
variable (hi : ∀ y : S4x2048x2048.Idx, V c main_arg1 y = Wi (y 0) (y 1) (y 2))

include hh in
theorem h_ld (t : Fin cfg0.N) (r : Fin 1024) (k : Fin 2048) :
    View.ld (iblk0 V c 0 t) r0_0 (ix2 r k) = H (t.val / 8 * 1024 + r) k := by
  rw [View.ld_apply]
  refine (hh _).trans ?_
  blk_simp [(idx0 t).1]
  simp
include hi in
theorem wi_ld (t : Fin cfg0.N) (k : Fin 2048) (x : Fin 1024) :
    View.ld (iblk0 V c 1 t) r0_1 (ix3 0 k x) = Wi (t.val % 8 / 2) k (t.val % 8 % 2 * 1024 + x) := by
  rw [View.ld_apply]
  refine (hi _).trans ?_
  blk_simp [(idx0 t).2.1]
  simp

include hh hi in
/-- One block's products are the hidden layer's, at the array's coordinates. -/
theorem pre_blk (t : Fin cfg0.N) (r x : Fin 1024) :
    ∑ k : Fin 2048, hLd V c t (ix2 r k) * wLd V c t (ix3 0 k x)
      = preAt H Wi (t.val / 8 * 1024 + r) (t.val % 8 * 1024 + x) := by
  have hx : x.val < 1024 := x.isLt
  have e1 : (t.val % 8 * 1024 + x.val) / 2048 = t.val % 8 / 2 := by omega
  have e2 : (t.val % 8 * 1024 + x.val) % 2048 = t.val % 8 % 2 * 1024 + x.val := by omega
  rw [preAt, part, e1, e2]
  refine Finset.sum_congr rfl fun k _ => ?_
  rw [Nat.zero_add]
  exact congrArg₂ (· * ·) (h_ld hh t r k) (wi_ld hi t k x)

include hh hi in
theorem arr_relu : (dat0 V c).arrAt 2 cfg0.N = fun y => reluAt H Wi (y 0) (y 1) := by
  refine (dat0 V c).arrAt_eq_of_covers 2 _ (by decide +kernel) fun t hf y => ?_
  blk_simp [(idx0 t).2.2.1]
  rw [after0_2]
  unfold out0_2
  canon_tiles x h
  rw [h0, h1]
  have := (pay0_relu (hLd V c t) (wLd V c t) (x 0) (x 1)).trans (congrArg (fun z : EReal => max z 0) (pre_blk hh hi t (x 0) (x 1)))
  rw [← eq_ix2] at this
  exact this
include hh hi in
theorem arr_act : (dat0 V c).arrAt 3 cfg0.N = fun y => actAt H Wi (y 0) (y 1) := by
  refine (dat0 V c).arrAt_eq_of_covers 3 _ (by decide +kernel) fun t hf y => ?_
  blk_simp [(idx0 t).2.2.2]
  rw [after0_3]
  unfold out0_3
  canon_tiles x h
  rw [h0, h1]
  have := (pay0_act (hLd V c t) (wLd V c t) (x 0) (x 1)).trans
    (congrArg (fun z : EReal => max z 0 * max z 0) (pre_blk hh hi t (x 0) (x 1)))
  rw [← eq_ix2] at this
  exact this
end hidden

section second
variable (hA : ∀ y : S2048x8192.Idx, V c main_v0_1 y = actAt H Wi (y 0) (y 1))
variable (hy : ∀ y : S2048x2048.Idx, V c main_arg3 y = Y (y 0) (y 1))

include hA in
theorem act_ld (t : Fin cfg1.N) (k : Fin 2048) (r : Fin 1024) :
    View.ld (iblk1 V c 0 t) r1_0 (ix2 k r) = actAt H Wi k (t.val / 2 * 1024 + r) := by
  rw [View.ld_apply]
  refine (hA _).trans ?_
  blk_simp [(idx1 t).1]
  simp
include hy in
theorem dy_ld (t : Fin cfg1.N) (k : Fin 2048) (r : Fin 1024) :
    View.ld (iblk1 V c 1 t) r1_0 (ix2 k r) = Y k (t.val % 2 * 1024 + r) := by
  rw [View.ld_apply]
  refine (hy _).trans ?_
  blk_simp [(idx1 t).2.1]
  simp

include hA hy in
theorem arr_dwo : (dat1 V c).arrAt 2 cfg1.N = fun y => dwoAt H Wi Y (y 1) (y 2) := by
  refine (dat1 V c).arrAt_eq_of_covers 2 _ (by decide +kernel) fun t hf y => ?_
  blk_simp [(idx1 t).2.2]
  rw [after1_2]
  unfold out1_2
  canon_tiles x h
  rw [h1, h2]
  have := (pay1_at (View.ld (iblk1 V c 0 t) r1_0) (View.ld (iblk1 V c 1 t) r1_0) (x 1) (x 2)).trans
    (Finset.sum_congr rfl fun k _ => congrArg₂ (· * ·) (act_ld hA t k (x 1)) (dy_ld hy t k (x 2)))
  refine (congrArg (k1_pay1 _ _) (ix3_unit x).symm).trans (this.trans ?_)
  rw [dwoAt, part]
  simp only [Nat.zero_add]
end second

section third
variable (hy : ∀ y : S2048x2048.Idx, V c main_arg3 y = Y (y 0) (y 1))
variable (ho : ∀ y : S1x8192x2048.Idx, V c main_arg2 y = Wo (y 1) (y 2))
variable (hR : ∀ y : S2048x8192.Idx, V c main_v0_0 y = reluAt H Wi (y 0) (y 1))

include hy in
theorem dy_row (t : Fin cfg2.N) (r : Fin 1024) (k : Fin 2048) :
    View.ld (iblk2 V c 0 t) r2_0 (ix2 r k) = Y (t.val / 8 * 1024 + r) k := by
  rw [View.ld_apply]
  refine (hy _).trans ?_
  blk_simp [(idx2 t).1]
  simp
include ho in
theorem wo_ld (t : Fin cfg2.N) (x : Fin 1024) (k : Fin 2048) :
    View.ld (iblk2 V c 1 t) r2_1 (ix3 0 x k) = Wo (t.val % 8 * 1024 + x) k := by
  rw [View.ld_apply]
  refine (ho _).trans ?_
  blk_simp [(idx2 t).2.1]
  simp
include hR in
theorem relu_ld (t : Fin cfg2.N) (r x : Fin 1024) :
    View.ld (iblk2 V c 2 t) r2_2 (ix2 r x) = reluAt H Wi (t.val / 8 * 1024 + r) (t.val % 8 * 1024 + x) := by
  rw [View.ld_apply]
  refine (hR _).trans ?_
  blk_simp [(idx2 t).2.2.1]
  simp

include hy ho hR in
theorem arr_dpre : (dat2 V c).arrAt 3 cfg2.N = fun y => dpreAt H Wi Wo Y (y 0) (y 1) := by
  refine (dat2 V c).arrAt_eq_of_covers 3 _ (by decide +kernel) fun t hf y => ?_
  blk_simp [(idx2 t).2.2.2]
  rw [after2_3]
  unfold out2_3
  canon_tiles x h
  rw [h0, h1]
  have := (pay2_at (View.ld (iblk2 V c 0 t) r2_0) (View.ld (iblk2 V c 1 t) r2_1) (View.ld (iblk2 V c 2 t) r2_2) (x 0) (x 1)).trans
    (congrArg₂ (fun a b => a * (two * b))
      (Finset.sum_congr rfl fun k _ => congrArg₂ (· * ·) (dy_row hy t (x 0) k) (wo_ld ho t (x 1) k)) (relu_ld hR t (x 0) (x 1)))
  rw [← eq_ix2] at this
  rw [dpreAt, dactAt, part]
  simp only [Nat.zero_add]
  exact this
end third

section fourth
variable (hh : ∀ y : S2048x2048.Idx, V c main_arg0 y = H (y 0) (y 1))
variable (hD : ∀ y : S2048x8192.Idx, V c main_v2 y = dpreAt H Wi Wo Y (y 0) (y 1))

include hh in
theorem h_col (t : Fin cfg3.N) (k : Fin 2048) (r : Fin 1024) :
    View.ld (iblk3 V c 0 t) r3_0 (ix2 k r) = H k (t.val / 8 * 1024 + r) := by
  rw [View.ld_apply]
  refine (hh _).trans ?_
  blk_simp [(idx3 t).1]
  simp
include hD in
theorem dpre_ld (t : Fin cfg3.N) (k : Fin 2048) (x : Fin 1024) :
    View.ld (iblk3 V c 1 t) r3_0 (ix2 k x) = dpreAt H Wi Wo Y k (t.val % 8 * 1024 + x) := by
  rw [View.ld_apply]
  refine (hD _).trans ?_
  blk_simp [(idx3 t).2.1]
  simp

include hh hD in
theorem arr_dwi : (dat3 V c).arrAt 2 cfg3.N = fun y => dwiAt H Wi Wo Y (y 0) (y 1) (y 2) := by
  refine (dat3 V c).arrAt_eq_of_covers 2 _ (by decide +kernel) fun t hf y => ?_
  blk_simp [(idx3 t).2.2]
  rw [after3_2]
  unfold out3_2
  canon_tiles x h
  rw [h1, h2]
  have := (pay3_at (View.ld (iblk3 V c 0 t) r3_0) (View.ld (iblk3 V c 1 t) r3_0) (x 1) (x 2)).trans
    (Finset.sum_congr rfl fun k _ => congrArg₂ (· * ·) (h_col hh t k (x 1)) (dpre_ld hD t k (x 2)))
  refine (congrArg (k3_pay1 _ _) (ix3_unit x).symm).trans (this.trans ?_)
  rw [dwiAt, part]
  refine Finset.sum_congr rfl fun k _ => ?_
  have hx : (x 2).val < 1024 := (x 2).isLt
  rw [Nat.zero_add]
  refine congrArg₂ (· * ·) rfl (congrArg (dpreAt H Wi Wo Y k) ?_)
  omega
end fourth

end Cert.MlpMid

end
-- ==== Proof.MlpMidRun.lean ====
/- One run of the four middle products of the feed-forward part. -/
module

public import proofs.«01_k».proof.Proof.MlpMid

@[expose] public section

set_option maxRecDepth 16384

noncomputable section

namespace Cert.MlpMid

open Idealize.ShloMosaic Idealize.ShloMosaic.TcCoe Idealize.ShloMosaic.Tactic Cert.Mlp Cert.Kernel2Ideal Cert.Kernel2Ideal.Gen Cert.Kernel2Ideal.Facts
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- Every run ends with each result array as the fourth product leaves it, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v0_1) = W4 m ρ c (Proc.devRef .tc main_v0_1)
      ∧ r.2.mem ((c.tc : Thread nD τ).loc main_v2) = W4 m ρ c (Proc.devRef .tc main_v2)
      ∧ r.2.mem ((c.tc : Thread nD τ).loc main_v3) = W4 m ρ c (Proc.devRef .tc main_v3)
      ∧ r.2.mem ((c.tc : Thread nD τ).loc main_v1) = W4 m ρ c (Proc.devRef .tc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨⟨h c _ (mem_uc main_v0_1 (by decide)), h c _ (mem_uc main_v2 (by decide)), h c _ (mem_uc main_v3 (by decide)),
        h c _ (mem_uc main_v1 (by decide))⟩,
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

variable (m : (ℓ : Loc nD τ sig) → Buf (Elt Ideal) ℓ) (ρ : Dev nD → PrngReg) (c : Dev nD)
variable {H Wo Y : ℕ → ℕ → EReal} {Wi : ℕ → ℕ → ℕ → EReal}
variable (hh : ∀ y : S2048x2048.Idx, m ((c.tc : Thread nD τ).loc main_arg0) y = H (y 0) (y 1))
variable (hi : ∀ y : S4x2048x2048.Idx, m ((c.tc : Thread nD τ).loc main_arg1) y = Wi (y 0) (y 1) (y 2))
variable (ho : ∀ y : S1x8192x2048.Idx, m ((c.tc : Thread nD τ).loc main_arg2) y = Wo (y 1) (y 2))
variable (hy : ∀ y : S2048x2048.Idx, m ((c.tc : Thread nD τ).loc main_arg3) y = Y (y 0) (y 1))

include hh hi ho hy in
/-- The four arrays the run leaves. -/
theorem run_values :
    W4 m ρ c (Proc.devRef .tc main_v0_1) = (fun y => actAt H Wi (y 0) (y 1))
    ∧ W4 m ρ c (Proc.devRef .tc main_v2) = (fun y => dpreAt H Wi Wo Y (y 0) (y 1))
    ∧ W4 m ρ c (Proc.devRef .tc main_v3) = (fun y => dwiAt H Wi Wo Y (y 0) (y 1) (y 2))
    ∧ W4 m ρ c (Proc.devRef .tc main_v1) = (fun y => dwoAt H Wi Y (y 1) (y 2)) := by
  have r1 : V1 m ρ c main_v0_0 = (fun y => reluAt H Wi (y 0) (y 1)) := (W1_arr m ρ c 2).trans (arr_relu (V := V0 m ρ) hh hi)
  have a1 : V1 m ρ c main_v0_1 = (fun y => actAt H Wi (y 0) (y 1)) := (W1_arr m ρ c 3).trans (arr_act (V := V0 m ρ) hh hi)
  have y1 : V1 m ρ c main_arg3 = m ((c : Thread nD τ).loc main_arg3) := W1_args m ρ c main_arg3 (by decide)
  have o2 : V2 m ρ c main_v1 = (fun y => dwoAt H Wi Y (y 1) (y 2)) :=
    (W2_arr m ρ c 2).trans (arr_dwo (V := V1 m ρ) (fun y => congrFun a1 y) (fun y => (congrFun y1 y).trans (hy y)))
  have r2 : V2 m ρ c main_v0_0 = (fun y => reluAt H Wi (y 0) (y 1)) := (W2_of m ρ c main_v0_0 (by decide)).trans r1
  have a2 : V2 m ρ c main_v0_1 = (fun y => actAt H Wi (y 0) (y 1)) := (W2_of m ρ c main_v0_1 (by decide)).trans a1
  have y2 : V2 m ρ c main_arg3 = m ((c : Thread nD τ).loc main_arg3) := W2_args m ρ c main_arg3 (by decide)
  have w2 : V2 m ρ c main_arg2 = m ((c : Thread nD τ).loc main_arg2) := W2_args m ρ c main_arg2 (by decide)
  have d3 : V3 m ρ c main_v2 = (fun y => dpreAt H Wi Wo Y (y 0) (y 1)) :=
    (W3_arr m ρ c 3).trans (arr_dpre (V := V2 m ρ) (fun y => (congrFun y2 y).trans (hy y)) (fun y => (congrFun w2 y).trans (ho y)) (fun y => congrFun r2 y))
  have a3 : V3 m ρ c main_v0_1 = (fun y => actAt H Wi (y 0) (y 1)) := (W3_of m ρ c main_v0_1 (by decide)).trans a2
  have o3 : V3 m ρ c main_v1 = (fun y => dwoAt H Wi Y (y 1) (y 2)) := (W3_of m ρ c main_v1 (by decide)).trans o2
  have h3 : V3 m ρ c main_arg0 = m ((c : Thread nD τ).loc main_arg0) := W3_args m ρ c main_arg0 (by decide)
  exact ⟨(W4_of m ρ c main_v0_1 (by decide)).trans a3, (W4_of m ρ c main_v2 (by decide)).trans d3,
    (W4_arr m ρ c 2).trans (arr_dwi (V := V3 m ρ) (fun y => (congrFun h3 y).trans (hh y)) (fun y => congrFun d3 y)),
    (W4_of m ρ c main_v1 (by decide)).trans o3⟩

end Cert.MlpMid

end
-- ==== Proof.MlpMidRef.lean ====
/- The reference of the four middle products, and its agreement with the kernels. -/
module

public import proofs.«01_k».proof.Proof.MlpMidRun
public import proofs.«01_k».proof.Proof.Gen.Reference2Ideal.Read
public import proofs.«01_k».proof.Defs

@[expose] public section

set_option maxRecDepth 16384

noncomputable section

namespace Cert.MlpMid

open Idealize.ShloMosaic Idealize.ShloMosaic.TcCoe Idealize.SL.Sem Cert.Mlp Cert.Reference2Ideal Cert.Reference2Ideal.Read

variable {x0 : (⟨S2048x2048, .bf16⟩ : BufTy).Contents (Elt Ideal)} {x1 : (⟨S4x2048x2048, .bf16⟩ : BufTy).Contents (Elt Ideal)}
variable {x2 : (⟨S1x8192x2048, .bf16⟩ : BufTy).Contents (Elt Ideal)} {x3 : (⟨S2048x2048, .bf16⟩ : BufTy).Contents (Elt Ideal)}
variable {H Wo Y : ℕ → ℕ → EReal} {Wi : ℕ → ℕ → ℕ → EReal}
variable (hh : ∀ y : S2048x2048.Idx, x0 y = H (y 0) (y 1))
variable (hi : ∀ y : S4x2048x2048.Idx, x1 y = Wi (y 0) (y 1) (y 2))
variable (ho : ∀ y : S1x8192x2048.Idx, x2 y = Wo (y 1) (y 2))
variable (hy : ∀ y : S2048x2048.Idx, x3 y = Y (y 0) (y 1))

theorem zero_bits : (FloatOps.ofBits (F := Ideal) .f32 0x00000000#32 : EReal) = 0 := by
  simp

include hi in
theorem ref_wi (i : S2048x8192.Idx) : val_main_v3 (F := Ideal) x1 i = Wi ((i 1).val / 2048) (i 0) ((i 1).val % 2048) := by
  have h1 : (i 1).val < 8192 := (i 1).isLt
  rw [val_main_v3_apply, val_main_v2_apply, val_main_v1_apply]
  refine (hi _).trans ?_
  have e0 : ((i 0).val * 8192 + (i 1).val) / 8192 = (i 0).val := by omega
  have e1 : ((i 0).val * 8192 + (i 1).val) / 2048 % 4 = (i 1).val / 2048 := by omega
  have e2 : ((i 0).val * 8192 + (i 1).val) % 2048 = (i 1).val % 2048 := by omega
  show Wi (((i 0).val * 8192 + (i 1).val) / 2048 % 4) (((i 0).val * 8192 + (i 1).val) / 8192) (((i 0).val * 8192 + (i 1).val) % 2048) = _
  rw [e0, e1, e2]
include ho in
theorem ref_wo (i : S8192x2048.Idx) : val_main_v5 (F := Ideal) x2 i = Wo (i 0) (i 1) := by
  have h0 : (i 0).val < 8192 := (i 0).isLt
  have h1 : (i 1).val < 2048 := (i 1).isLt
  rw [val_main_v5_apply, val_main_v4_apply]
  refine (ho _).trans ?_
  have e1 : ((i 0).val * 2048 + (i 1).val) / 2048 % 8192 = (i 0).val := by omega
  have e2 : ((i 0).val * 2048 + (i 1).val) % 2048 = (i 1).val := by omega
  show Wo (((i 0).val * 2048 + (i 1).val) / 2048 % 8192) (((i 0).val * 2048 + (i 1).val) % 2048) = _
  rw [e1, e2]

include hh hi in
theorem ref_pre (i : S2048x8192.Idx) : val_main_v6 (F := Ideal) x0 x1 i = preAt H Wi (i 0) (i 1) := by
  rw [val_main_v6_apply, preAt, part]
  refine Finset.sum_congr rfl fun k _ => ?_
  rw [val_main_v0_apply, ref_wi hi, Nat.zero_add]
  exact congrArg₂ (· * ·) (hh _) rfl
include hh hi in
theorem ref_relu (i : S2048x8192.Idx) : val_main_v7 (F := Ideal) x0 x1 i = reluAt H Wi (i 0) (i 1) := by
  rw [val_main_v7_apply, ref_pre hh hi, val_main_call0_v0_apply, val_main_call0_cst_apply, zero_bits]
  rfl
include hh hi in
theorem ref_act (i : S2048x8192.Idx) : val_main_v11 (F := Ideal) x0 x1 i = actAt H Wi (i 0) (i 1) := by
  rw [val_main_v11_apply, ref_relu hh hi]
  rfl
include hy ho in
theorem ref_dact (i : S2048x8192.Idx) : val_main_v18 (F := Ideal) x2 x3 i = dactAt Wo Y (i 0) (i 1) := by
  rw [val_main_v18_apply, dactAt, part]
  refine Finset.sum_congr rfl fun k _ => ?_
  rw [val_main_v15_apply, ref_wo ho, Nat.zero_add]
  exact congrArg₂ (· * ·) (hy _) rfl
include hh hi ho hy in
theorem ref_dpre (i : S2048x8192.Idx) : val_main_v21 (F := Ideal) x0 x1 x2 x3 i = dpreAt H Wi Wo Y (i 0) (i 1) := by
  rw [val_main_v21_apply, val_main_v9_apply, val_main_v8_apply, val_main_cst_apply, val_main_v19_apply, val_main_v13_apply, val_main_v12_apply,
    val_main_cst_1_apply, val_main_v20_apply, val_main_cst_2_apply, ref_dact ho hy, ref_relu hh hi, ref_pre hh hi, zero_bits]
  by_cases hz : 0 < preAt H Wi (i 0) (i 1)
  · exact (if_pos ((Ideal.cmp_ogt_eq_one _ _).mpr hz)).trans rfl
  · refine (if_neg (fun q => hz ((Ideal.cmp_ogt_eq_one _ _).mp q))).trans ?_
    · have e : reluAt H Wi (i 0) (i 1) = 0 := max_eq_right (not_lt.mp hz)
      rw [dpreAt, e, mul_zero, mul_zero]

include hh hi in
theorem ref_a (i : S2048x8192.Idx) : val_main_v25 (F := Ideal) x0 x1 i = actAt H Wi (i 0) (i 1) := by
  rw [val_main_v25_apply]
  exact ref_act hh hi i
include hh hi ho hy in
theorem ref_du (i : S2048x8192.Idx) : val_main_v26 (F := Ideal) x0 x1 x2 x3 i = dpreAt H Wi Wo Y (i 0) (i 1) := by
  rw [val_main_v26_apply]
  exact ref_dpre hh hi ho hy i
include hh hi ho hy in
theorem ref_dwi (i : S4x2048x2048.Idx) : val_main_v28 (F := Ideal) x0 x1 x2 x3 i = dwiAt H Wi Wo Y (i 0) (i 1) (i 2) := by
  have h0 : (i 0).val < 4 := (i 0).isLt
  have h1 : (i 1).val < 2048 := (i 1).isLt
  have h2 : (i 2).val < 2048 := (i 2).isLt
  have e0 : (((i 1).val * 4 + (i 0).val) * 2048 + (i 2).val) / 8192 = (i 1).val := by omega
  have e1 : (((i 1).val * 4 + (i 0).val) * 2048 + (i 2).val) % 8192 = (i 0).val * 2048 + (i 2).val := by omega
  rw [val_main_v28_apply, val_main_v27_apply, val_main_v23_apply, val_main_v22_apply, dwiAt, part]
  refine Finset.sum_congr rfl fun k _ => ?_
  rw [ref_dpre hh hi ho hy, val_main_v0_apply, Nat.zero_add, mul_comm]
  refine congrArg₂ (· * ·) ((hh _).trans ?_) ?_
  · exact congrArg (H k) e0
  · exact congrArg (dpreAt H Wi Wo Y k) e1
include hh hi hy in
theorem ref_dwo (i : S1x8192x2048.Idx) : val_main_v29 (F := Ideal) x0 x1 x3 i = dwoAt H Wi Y (i 1) (i 2) := by
  have h0 : (i 0).val = 0 := Nat.lt_one_iff.mp (i 0).isLt
  have h1 : (i 1).val < 8192 := (i 1).isLt
  have h2 : (i 2).val < 2048 := (i 2).isLt
  have e0 : (((i 0).val * 8192 + (i 1).val) * 2048 + (i 2).val) / 2048 = (i 1).val := by omega
  have e1 : (((i 0).val * 8192 + (i 1).val) * 2048 + (i 2).val) % 2048 = (i 2).val := by omega
  rw [val_main_v29_apply, val_main_v17_apply, val_main_v16_apply, dwoAt, part]
  refine Finset.sum_congr rfl fun k _ => ?_
  rw [ref_act hh hi, val_main_v15_apply, Nat.zero_add, mul_comm]
  refine congrArg₂ (· * ·) ?_ ((hy _).trans ?_)
  · exact congrArg (actAt H Wi k) e0
  · exact congrArg (Y k) e1

theorem algebraic : Cert.algebraic_Kernel2Ideal_Reference2Ideal (hKernel2Ideal := Cert.Kernel2Ideal.Gen.facts)
    (hReference2Ideal := Cert.Reference2Ideal.Gen.facts) := by
  intro m g m' g' _ hag
  refine ⟨fun c => Cert.Kernel2Ideal.Gen.W4 m g c (Proc.devRef .tc Cert.Kernel2Ideal.main_v0_1),
    fun c => Cert.Kernel2Ideal.Gen.W4 m g c (Proc.devRef .tc Cert.Kernel2Ideal.main_v2),
    fun c => Cert.Kernel2Ideal.Gen.W4 m g c (Proc.devRef .tc Cert.Kernel2Ideal.main_v3),
    fun c => Cert.Kernel2Ideal.Gen.W4 m g c (Proc.devRef .tc Cert.Kernel2Ideal.main_v1), ?_, ?_⟩
  · exact (θ_run _ _ _).mono (fun _ h c => ⟨(h c).1.1, (h c).1.2.1, (h c).1.2.2.1, (h c).1.2.2.2, (h c).2⟩) (run_arrays m g)
  · refine (θ_run _ _ _).mono (fun _ h c => ?_) (Cert.Reference2Ideal.Value.run (F := Ideal) m' g')
    obtain ⟨e0, e1, e2, e3, ha⟩ := h c
    obtain ⟨m0, m1, m2, m3⟩ := hag c
    have hh : ∀ y : S2048x2048.Idx, m ((c.tc : Thread _ _).loc Cert.Kernel2Ideal.main_arg0) y
        = at2 (m ((c.tc : Thread _ _).loc Cert.Kernel2Ideal.main_arg0)) (y 0) (y 1) := at2_of _
    have hi : ∀ y : S4x2048x2048.Idx, m ((c.tc : Thread _ _).loc Cert.Kernel2Ideal.main_arg1) y
        = at3 (m ((c.tc : Thread _ _).loc Cert.Kernel2Ideal.main_arg1)) (y 0) (y 1) (y 2) := at3_of _
    have ho : ∀ y : S1x8192x2048.Idx, m ((c.tc : Thread _ _).loc Cert.Kernel2Ideal.main_arg2) y
        = at3 (m ((c.tc : Thread _ _).loc Cert.Kernel2Ideal.main_arg2)) 0 (y 1) (y 2) := fun y => by
      rw [← show (y 0).val = 0 from Nat.lt_one_iff.mp (y 0).isLt]
      exact at3_of _ y
    have hy : ∀ y : S2048x2048.Idx, m ((c.tc : Thread _ _).loc Cert.Kernel2Ideal.main_arg3) y
        = at2 (m ((c.tc : Thread _ _).loc Cert.Kernel2Ideal.main_arg3)) (y 0) (y 1) := at2_of _
    obtain ⟨r0, r1, r2, r3⟩ := run_values m g c hh hi ho hy
    have hh' := fun y => (congrFun m0 y).trans (hh y)
    have hi' := fun y => (congrFun m1 y).trans (hi y)
    have ho' := fun y => (congrFun m2 y).trans (ho y)
    have hy' := fun y => (congrFun m3 y).trans (hy y)
    refine ⟨(e0.trans (val_main_v25_eq _ _)).trans ?_, (e1.trans (val_main_v26_eq _ _ _ _)).trans ?_,
      (e2.trans (val_main_v28_eq _ _ _ _)).trans ?_, (e3.trans (val_main_v29_eq _ _ _)).trans ?_, ha⟩
    · exact (funext fun y => ref_a hh' hi' y).trans r0.symm
    · exact (funext fun y => ref_du hh' hi' ho' hy' y).trans r1.symm
    · exact (funext fun y => ref_dwi hh' hi' ho' hy' y).trans r2.symm
    · exact (funext fun y => ref_dwo hh' hi' hy' y).trans r3.symm

end Cert.MlpMid

end
-- ==== Proof.MlpOut.lean ====
/- The second projection's array after its run. -/
module

public import proofs.«01_k».proof.Proof.Mlp
public import proofs.«01_k».proof.Proof.Gen.Kernel3Ideal.Value
public import Idealize.ShloMosaic.Lib.Pipeline.ReadBack
public import Idealize.ShloMosaic.Lib.Pipeline.ValueKit

@[expose] public section

set_option maxRecDepth 16384

noncomputable section

namespace Cert.MlpOut

open Idealize.ShloMosaic Idealize.ShloMosaic.TcCoe Cert.Mlp Cert.Kernel3Ideal Cert.Kernel3Ideal.Gen Cert.Kernel3Ideal.Facts

theorem idx0 : ∀ t : Fin grid0.N, win0_0.index t = ![t.val / 4, t.val % 2] ∧ win0_1.index t = ![0, t.val % 2, t.val / 2 % 2]
    ∧ win0_2.index t = ![t.val / 4, t.val / 2 % 2] := by
  decide +kernel

theorem pay1_at (v0 : Vec Ideal S1024x4096 .bf16) (v1 : Vec Ideal S1x4096x1024 .bf16) (r x : Fin 1024) :
    k0_pay1 v0 v1 (ix2 r x) = ∑ k : Fin 4096, v0 (ix2 r k) * v1 (ix3 0 k x) := by
  unfold_payloads
  pointwise []

variable {m : (ℓ : Loc nD τ sig) → Buf (Elt Ideal) ℓ} {c : Dev nD} {A W : ℕ → ℕ → EReal}
variable (ha : ∀ y : S2048x8192.Idx, V m c main_arg0 y = A (y 0) (y 1))
variable (hw : ∀ y : S1x8192x2048.Idx, V m c main_arg1 y = W (y 1) (y 2))

include ha in
theorem a_blk (t : Fin cfg0.N) (y : S1024x4096.Idx) : iblk m c 0 t y = A (t.val / 4 * 1024 + y 0) (t.val % 2 * 4096 + y 1) := by
  refine (ha _).trans ?_
  blk_simp [(idx0 t).1]
include hw in
theorem w_blk (t : Fin cfg0.N) (y : S1x4096x1024.Idx) :
    iblk m c 1 t y = W (t.val % 2 * 4096 + y 1) (t.val / 2 % 2 * 1024 + y 2) := by
  refine (hw _).trans ?_
  blk_simp [(idx0 t).2.1]

include ha hw in
/-- One chunk's product, at the array's coordinates. -/
theorem pay1_blk (t : Fin cfg0.N) (r x : Fin 1024) :
    k0_pay1 (iblk m c 0 t) (iblk m c 1 t) (ix2 r x)
      = part (fun k => A (t.val / 4 * 1024 + r) k * W k (t.val / 2 % 2 * 1024 + x)) (t.val % 2 * 4096) 4096 := by
  rw [pay1_at, part]
  refine Finset.sum_congr rfl fun k _ => ?_
  rw [a_blk ha, w_blk hw]
  rfl

/-- What the scratch holds after a first chunk. -/
theorem scratch_A (t : Fin cfg0.N) (h0 : t.val % 2 = 0) (h2 : ¬t.val % 2 = 1) :
    (outsAt0 m c t.val t.isLt).2 = k0_pay2 (iblk m c 0 t) (iblk m c 1 t) := by
  rw [outsAt0_A m c t h0 h2]
  frame_open
  simp (disch := decide) only [↓ View.readCov_skip, ↓ View.readCov_cons_toLoadRect, ↓ View.readCov_fill]
  frame_out

/-- What the output's buffer holds after a last chunk. -/
theorem out_B (t : Fin cfg0.N) (h0 : ¬t.val % 2 = 0) (h2 : t.val % 2 = 1) :
    (outsAt0 m c t.val t.isLt).1
      = k0_pay4 (iblk m c 0 t) (iblk m c 1 t) (outsAt0 m c (t.val - 1) (Nat.lt_of_le_of_lt (Nat.sub_le _ _) t.isLt)).2 := by
  rw [outsAt0_B m c t h0 h2]
  frame_open
  simp (disch := decide) only [↓ View.readCov_skip, ↓ View.readCov_cons_toLoadRect, ↓ View.readCov_fill]
  frame_out
  exact congrArg _ (Memref.IsWhole.read_unread (Memref.isWhole_whole cc0_scratch0) _)

theorem pay2_at (v0 : Vec Ideal S1024x4096 .bf16) (v1 : Vec Ideal S1x4096x1024 .bf16) (y : S1024x1024.Idx) :
    k0_pay2 v0 v1 y = k0_pay1 v0 v1 y := by
  unfold k0_pay2
  pointwise []
theorem pay4_at (v0 : Vec Ideal S1024x4096 .bf16) (v1 : Vec Ideal S1x4096x1024 .bf16) (v : Vec Ideal S1024x1024 .f32) (y : S1024x1024.Idx) :
    k0_pay4 v0 v1 v y = v y + k0_pay1 v0 v1 y := by
  unfold k0_pay4
  pointwise []

include ha hw in
/-- The output's buffer after a last chunk, at the array's coordinates. -/
theorem out_at (t : Fin cfg0.N) (h2 : t.val % 2 = 1) (r x : Fin 1024) :
    (outsAt0 m c t.val t.isLt).1 (ix2 r x) = part (fun k => A (t.val / 4 * 1024 + r) k * W k (t.val / 2 % 2 * 1024 + x)) 0 8192 := by
  have hN : t.val - 1 < cfg0.N := Nat.lt_of_le_of_lt (Nat.sub_le _ _) t.isLt
  rw [out_B t (by omega) h2, pay4_at, pay1_blk ha hw t, scratch_A ⟨t.val - 1, hN⟩ (by show (t.val - 1) % 2 = 0; omega) (by show ¬ (t.val - 1) % 2 = 1; omega),
    pay2_at, pay1_blk ha hw ⟨t.val - 1, hN⟩]
  have e1 : (t.val - 1) / 4 = t.val / 4 := by omega
  have e2 : (t.val - 1) / 2 % 2 = t.val / 2 % 2 := by omega
  have e3 : (t.val - 1) % 2 = 0 := by omega
  simp only [e1, e2, e3, h2, Nat.zero_mul, Nat.one_mul]
  exact part_add _ 0 4096 4096

include ha hw in
/-- The whole array. -/
theorem arr : (dats m 0 c).arrAt 2 cfg0.N = fun y => part (fun k => A (y 0) k * W k (y 1)) 0 8192 := by
  refine (dats m 0 c).arrAt_eq_of_covers 2 _ (by decide +kernel) fun t hf y => ?_
  have h2 : t.val % 2 = 1 := (flush0_2 t).mp hf
  blk_simp [(idx0 t).2.2]
  rw [after0_2]
  have := out_at ha hw t h2 (y 0) (y 1)
  rw [← eq_ix2] at this
  exact this

end Cert.MlpOut

end
-- ==== Proof.MlpOutRef.lean ====
/- The second projection's reference, and its agreement with the kernel. -/
module

public import proofs.«01_k».proof.Proof.MlpOut
public import proofs.«01_k».proof.Proof.Gen.Reference3Ideal.Read
public import proofs.«01_k».proof.Defs

@[expose] public section

set_option maxRecDepth 16384

noncomputable section

namespace Cert.MlpOut

open Idealize.ShloMosaic Idealize.ShloMosaic.TcCoe Idealize.SL.Sem Cert.Mlp Cert.Reference3Ideal Cert.Reference3Ideal.Read

theorem ref_out {x0 : (⟨S2048x8192, .bf16⟩ : BufTy).Contents (Elt Ideal)} {x1 : (⟨S1x8192x2048, .bf16⟩ : BufTy).Contents (Elt Ideal)}
    {A W : ℕ → ℕ → EReal} (ha : ∀ y : S2048x8192.Idx, x0 y = A (y 0) (y 1)) (hw : ∀ y : S1x8192x2048.Idx, x1 y = W (y 1) (y 2)) :
    val_main_v3 (F := Ideal) x0 x1 = fun y => part (fun k => A (y 0) k * W k (y 1)) 0 8192 := by
  funext y
  have h1 : (y 1).val < 2048 := (y 1).isLt
  rw [val_main_v3_apply]
  refine Finset.sum_congr rfl fun k _ => ?_
  have hk : k.val < 8192 := k.isLt
  rw [val_main_v2_apply, val_main_v0_apply, val_main_v1_apply]
  refine congrArg₂ (· * ·) ((ha _).trans ?_) ((hw _).trans (congrArg₂ W ?_ ?_))
  · show A (y 0) k = A (y 0) (0 + k)
    rw [Nat.zero_add]
  · show (k.val * 2048 + (y 1).val) / 2048 % 8192 = 0 + k.val
    omega
  · show (k.val * 2048 + (y 1).val) % 2048 = (y 1).val
    omega

theorem algebraic : Cert.algebraic_Kernel3Ideal_Reference3Ideal (hKernel3Ideal := Cert.Kernel3Ideal.Gen.facts) (hReference3Ideal := Cert.Reference3Ideal.Gen.facts) := by
  intro m g m' g' _ hag
  refine ⟨fun c => (Cert.Kernel3Ideal.Gen.dats m 0 c).arrAt 2 Cert.Kernel3Ideal.cfg0.N, Cert.Kernel3Ideal.Value.run_blocks m g,
    (θ_run _ _ _).mono (fun r h c => ⟨(h c).1.trans ?_, (h c).2⟩) (Cert.Reference3Ideal.Value.run m' g')⟩
  rw [val_main_v3_eq, (hag c).1, (hag c).2]
  have ha : ∀ y : S2048x8192.Idx, m ((c.tc : Thread _ _).loc Cert.Kernel3Ideal.main_arg0) y
      = at2 (m ((c.tc : Thread _ _).loc Cert.Kernel3Ideal.main_arg0)) (y 0) (y 1) := at2_of _
  have hw : ∀ y : S1x8192x2048.Idx, m ((c.tc : Thread _ _).loc Cert.Kernel3Ideal.main_arg1) y
      = at3 (m ((c.tc : Thread _ _).loc Cert.Kernel3Ideal.main_arg1)) 0 (y 1) (y 2) := fun y => by
    rw [← show (y 0).val = 0 from Nat.lt_one_iff.mp (y 0).isLt]
    exact at3_of _ y
  exact (ref_out ha hw).trans (arr (fun y => (congrFun (Cert.Kernel3Ideal.Gen.V_main_arg0 m c) y).trans (ha y))
    (fun y => (congrFun (Cert.Kernel3Ideal.Gen.V_main_arg1 m c) y).trans (hw y))).symm

end Cert.MlpOut

end
-- ==== Proof.MlpIn.lean ====
/- The hidden input's gradient's array after its run. -/
module

public import proofs.«01_k».proof.Proof.Mlp
public import proofs.«01_k».proof.Proof.Gen.Kernel4Ideal.Value
public import Idealize.ShloMosaic.Lib.Pipeline.ReadBack
public import Idealize.ShloMosaic.Lib.Pipeline.ValueKit

@[expose] public section

set_option maxRecDepth 16384

noncomputable section

namespace Cert.MlpIn

open Idealize.ShloMosaic Idealize.ShloMosaic.TcCoe Cert.Mlp Cert.Kernel4Ideal Cert.Kernel4Ideal.Gen Cert.Kernel4Ideal.Facts

theorem idx0 : ∀ t : Fin grid0.N, win0_0.index t = ![t.val / 8, t.val % 4] ∧ win0_1.index t = ![t.val % 4, t.val / 4 % 2, 0]
    ∧ win0_2.index t = ![t.val / 8, t.val / 4 % 2] := by
  decide +kernel

theorem pay1_at (v0 : Vec Ideal S1024x2048 .bf16) (v1 : Vec Ideal S1x1024x2048 .bf16) (r x : Fin 1024) :
    k0_pay1 v0 v1 (ix2 r x) = ∑ k : Fin 2048, v0 (ix2 r k) * v1 (ix3 0 x k) := by
  unfold_payloads
  pointwise []
theorem pay2_at (v0 : Vec Ideal S1024x2048 .bf16) (v1 : Vec Ideal S1x1024x2048 .bf16) (y : S1024x1024.Idx) :
    k0_pay2 v0 v1 y = k0_pay1 v0 v1 y := by
  unfold k0_pay2
  pointwise []
theorem pay3_at (v0 : Vec Ideal S1024x2048 .bf16) (v1 : Vec Ideal S1x1024x2048 .bf16) (v : Vec Ideal S1024x1024 .f32) (y : S1024x1024.Idx) :
    k0_pay3 v0 v1 v y = v y + k0_pay1 v0 v1 y := by
  unfold k0_pay3
  pointwise []
theorem pay4_at (v0 : Vec Ideal S1024x2048 .bf16) (v1 : Vec Ideal S1x1024x2048 .bf16) (v : Vec Ideal S1024x1024 .f32) (y : S1024x1024.Idx) :
    k0_pay4 v0 v1 v y = v y + k0_pay1 v0 v1 y := by
  unfold k0_pay4
  pointwise []

variable {m : (ℓ : Loc nD τ sig) → Buf (Elt Ideal) ℓ} {c : Dev nD} {A : ℕ → ℕ → EReal} {W : ℕ → ℕ → ℕ → EReal}
variable (ha : ∀ y : S2048x8192.Idx, V m c main_arg0 y = A (y 0) (y 1))
variable (hw : ∀ y : S4x2048x2048.Idx, V m c main_arg1 y = W (y 0) (y 1) (y 2))

/-- The terms of one element's sum, the weight's columns dealt over four pieces. -/
def term (A : ℕ → ℕ → EReal) (W : ℕ → ℕ → ℕ → EReal) (i j k : ℕ) : EReal := A i k * W (k / 2048) j (k % 2048)

include ha in
theorem a_blk (t : Fin cfg0.N) (y : S1024x2048.Idx) : iblk m c 0 t y = A (t.val / 8 * 1024 + y 0) (t.val % 4 * 2048 + y 1) := by
  refine (ha _).trans ?_
  blk_simp [(idx0 t).1]
include hw in
theorem w_blk (t : Fin cfg0.N) (y : S1x1024x2048.Idx) :
    iblk m c 1 t y = W (t.val % 4) (t.val / 4 % 2 * 1024 + y 1) (y 2) := by
  have h0 : (y 0).val = 0 := Nat.lt_one_iff.mp (y 0).isLt
  refine (hw _).trans ?_
  blk_simp [(idx0 t).2.1, h0]

include ha hw in
/-- One chunk's product, at the array's coordinates. -/
theorem pay1_blk (t : Fin cfg0.N) (r x : Fin 1024) :
    k0_pay1 (iblk m c 0 t) (iblk m c 1 t) (ix2 r x)
      = part (term A W (t.val / 8 * 1024 + r) (t.val / 4 % 2 * 1024 + x)) (t.val % 4 * 2048) 2048 := by
  rw [pay1_at, part]
  refine Finset.sum_congr rfl fun k _ => ?_
  have hk : k.val < 2048 := k.isLt
  rw [a_blk ha, w_blk hw, term, show (t.val % 4 * 2048 + k.val) / 2048 = t.val % 4 by omega, show (t.val % 4 * 2048 + k.val) % 2048 = k.val by omega]
  rfl

/-- The scratch after a first chunk. -/
theorem scratch_A (t : Fin cfg0.N) (h0 : t.val % 4 = 0) (h1 : ¬(1 ≤ t.val % 4 ∧ t.val % 4 ≤ 2)) (h2 : ¬t.val % 4 = 3) :
    (outsAt0 m c t.val t.isLt).2 = k0_pay2 (iblk m c 0 t) (iblk m c 1 t) := by
  rw [outsAt0_A m c t h0 h1 h2]
  frame_open
  simp (disch := decide) only [↓ View.readCov_skip, ↓ View.readCov_cons_toLoadRect, ↓ View.readCov_fill]
  frame_out

/-- The scratch after a middle chunk. -/
theorem scratch_B (t : Fin cfg0.N) (h0 : ¬t.val % 4 = 0) (h1 : (1 ≤ t.val % 4 ∧ t.val % 4 ≤ 2)) (h2 : ¬t.val % 4 = 3) :
    (outsAt0 m c t.val t.isLt).2
      = k0_pay3 (iblk m c 0 t) (iblk m c 1 t) (outsAt0 m c (t.val - 1) (Nat.lt_of_le_of_lt (Nat.sub_le _ _) t.isLt)).2 := by
  rw [outsAt0_B m c t h0 h1 h2]
  frame_open
  simp (disch := decide) only [↓ View.readCov_skip, ↓ View.readCov_cons_toLoadRect, ↓ View.readCov_fill]
  frame_out
  exact congrArg _ (Memref.IsWhole.read_unread (Memref.isWhole_whole cc0_scratch0) _)

/-- The output's buffer after a last chunk. -/
theorem out_C (t : Fin cfg0.N) (h0 : ¬t.val % 4 = 0) (h1 : ¬(1 ≤ t.val % 4 ∧ t.val % 4 ≤ 2)) (h2 : t.val % 4 = 3) :
    (outsAt0 m c t.val t.isLt).1
      = k0_pay4 (iblk m c 0 t) (iblk m c 1 t) (outsAt0 m c (t.val - 1) (Nat.lt_of_le_of_lt (Nat.sub_le _ _) t.isLt)).2 := by
  rw [outsAt0_C m c t h0 h1 h2]
  frame_open
  simp (disch := decide) only [↓ View.readCov_skip, ↓ View.readCov_cons_toLoadRect, ↓ View.readCov_fill]
  frame_out
  exact congrArg _ (Memref.IsWhole.read_unread (Memref.isWhole_whole cc0_scratch0) _)

include ha hw in
/-- The scratch before the last chunk: the sum of the chunks so far. -/
theorem scratch_at : ∀ (n : ℕ) (hn : n < cfg0.N), n % 4 ≤ 2 → ∀ r x : Fin 1024,
    (outsAt0 m c n hn).2 (ix2 r x) = part (term A W (n / 8 * 1024 + r) (n / 4 % 2 * 1024 + x)) 0 (n % 4 * 2048 + 2048) := by
  intro n
  induction n with
  | zero =>
    intro hn _ r x
    rw [scratch_A ⟨0, hn⟩ rfl (by show ¬(1 ≤ 0 % 4 ∧ _); omega) (by show ¬0 % 4 = 3; omega), pay2_at, pay1_blk ha hw ⟨0, hn⟩]
    rfl
  | succ n ih =>
    intro hn h r x
    by_cases h0 : (n + 1) % 4 = 0
    · rw [scratch_A ⟨n + 1, hn⟩ h0 (by show ¬(1 ≤ (n + 1) % 4 ∧ _); omega) (by show ¬(n + 1) % 4 = 3; omega), pay2_at, pay1_blk ha hw ⟨n + 1, hn⟩]
      show part _ ((n + 1) % 4 * 2048) 2048 = _
      rw [h0, Nat.zero_mul, Nat.zero_add]
    · rw [scratch_B ⟨n + 1, hn⟩ h0 (by show 1 ≤ (n + 1) % 4 ∧ (n + 1) % 4 ≤ 2; omega) (by show ¬(n + 1) % 4 = 3; omega), pay3_at,
        pay1_blk ha hw ⟨n + 1, hn⟩]
      have e := ih (Nat.lt_of_succ_lt hn) (by omega) r x
      rw [show n / 8 = (n + 1) / 8 by omega, show n / 4 % 2 = (n + 1) / 4 % 2 by omega, show n % 4 * 2048 + 2048 = (n + 1) % 4 * 2048 by omega] at e
      refine (congrArg (· + _) e).trans ?_
      have := part_add (term A W ((n + 1) / 8 * 1024 + r) ((n + 1) / 4 % 2 * 1024 + x)) 0 ((n + 1) % 4 * 2048) 2048
      rwa [Nat.zero_add] at this

include ha hw in
/-- The output's buffer after a last chunk, at the array's coordinates. -/
theorem out_at (t : Fin cfg0.N) (h2 : t.val % 4 = 3) (r x : Fin 1024) :
    (outsAt0 m c t.val t.isLt).1 (ix2 r x) = part (term A W (t.val / 8 * 1024 + r) (t.val / 4 % 2 * 1024 + x)) 0 8192 := by
  have hN : t.val - 1 < cfg0.N := Nat.lt_of_le_of_lt (Nat.sub_le _ _) t.isLt
  rw [out_C t (by omega) (by omega) h2, pay4_at, pay1_blk ha hw t, scratch_at ha hw (t.val - 1) hN (by omega)]
  rw [show (t.val - 1) / 8 = t.val / 8 by omega, show (t.val - 1) / 4 % 2 = t.val / 4 % 2 by omega, show (t.val - 1) % 4 = 2 by omega, h2]
  exact part_add _ 0 6144 2048

include ha hw in
/-- The whole array. -/
theorem arr : (dats m 0 c).arrAt 2 cfg0.N = fun y => part (term A W (y 0) (y 1)) 0 8192 := by
  refine (dats m 0 c).arrAt_eq_of_covers 2 _ (by decide +kernel) fun t hf y => ?_
  have h2 : t.val % 4 = 3 := (flush0_2 t).mp hf
  blk_simp [(idx0 t).2.2]
  rw [after0_2]
  have := out_at ha hw t h2 (y 0) (y 1)
  rw [← eq_ix2] at this
  exact this

end Cert.MlpIn

end
-- ==== Proof.MlpInRef.lean ====
/- The reference of the hidden input's gradient, and its agreement with the kernel. -/
module

public import proofs.«01_k».proof.Proof.MlpIn
public import proofs.«01_k».proof.Proof.Gen.Reference4Ideal.Read
public import proofs.«01_k».proof.Defs

@[expose] public section

set_option maxRecDepth 16384

noncomputable section

namespace Cert.MlpIn

open Idealize.ShloMosaic Idealize.ShloMosaic.TcCoe Idealize.SL.Sem Cert.Mlp Cert.Reference4Ideal Cert.Reference4Ideal.Read

theorem ref_out {x0 : (⟨S2048x8192, .bf16⟩ : BufTy).Contents (Elt Ideal)} {x1 : (⟨S4x2048x2048, .bf16⟩ : BufTy).Contents (Elt Ideal)}
    {A : ℕ → ℕ → EReal} {W : ℕ → ℕ → ℕ → EReal} (ha : ∀ y : S2048x8192.Idx, x0 y = A (y 0) (y 1))
    (hw : ∀ y : S4x2048x2048.Idx, x1 y = W (y 0) (y 1) (y 2)) :
    val_main_v4 (F := Ideal) x0 x1 = fun y => part (term A W (y 0) (y 1)) 0 8192 := by
  funext y
  have h1 : (y 1).val < 2048 := (y 1).isLt
  rw [val_main_v4_apply]
  refine Finset.sum_congr rfl fun k _ => ?_
  have hk : k.val < 8192 := k.isLt
  rw [val_main_v2_apply, val_main_v1_apply, val_main_v0_apply, val_main_v3_apply, term, Nat.zero_add]
  refine congrArg₂ (· * ·) (ha _) ((hw _).trans ?_)
  have e0 : ((y 1).val * 8192 + k.val) / 8192 = (y 1).val := by omega
  have e1 : ((y 1).val * 8192 + k.val) / 2048 % 4 = k.val / 2048 := by omega
  have e2 : ((y 1).val * 8192 + k.val) % 2048 = k.val % 2048 := by omega
  show W (((y 1).val * 8192 + k.val) / 2048 % 4) (((y 1).val * 8192 + k.val) / 8192) (((y 1).val * 8192 + k.val) % 2048) = _
  rw [e0, e1, e2]

theorem algebraic : Cert.algebraic_Kernel4Ideal_Reference4Ideal (hKernel4Ideal := Cert.Kernel4Ideal.Gen.facts) (hReference4Ideal := Cert.Reference4Ideal.Gen.facts) := by
  intro m g m' g' _ hag
  refine ⟨fun c => (Cert.Kernel4Ideal.Gen.dats m 0 c).arrAt 2 Cert.Kernel4Ideal.cfg0.N, Cert.Kernel4Ideal.Value.run_blocks m g,
    (θ_run _ _ _).mono (fun r h c => ⟨(h c).1.trans ?_, (h c).2⟩) (Cert.Reference4Ideal.Value.run m' g')⟩
  rw [val_main_v4_eq, (hag c).1, (hag c).2]
  have ha : ∀ y : S2048x8192.Idx, m ((c.tc : Thread _ _).loc Cert.Kernel4Ideal.main_arg0) y
      = at2 (m ((c.tc : Thread _ _).loc Cert.Kernel4Ideal.main_arg0)) (y 0) (y 1) := at2_of _
  have hw : ∀ y : S4x2048x2048.Idx, m ((c.tc : Thread _ _).loc Cert.Kernel4Ideal.main_arg1) y
      = at3 (m ((c.tc : Thread _ _).loc Cert.Kernel4Ideal.main_arg1)) (y 0) (y 1) (y 2) := at3_of _
  exact (ref_out ha hw).trans (arr (fun y => (congrFun (Cert.Kernel4Ideal.Gen.V_main_arg0 m c) y).trans (ha y))
    (fun y => (congrFun (Cert.Kernel4Ideal.Gen.V_main_arg1 m c) y).trans (hw y))).symm

end Cert.MlpIn

end
-- ==== Proof.ArrB.lean ====
/- The second attention's scale, and one head's columns: 256 for queries and keys, 128 for values. -/
module

public import proofs.«01_k».proof.Proof.Arr

@[expose] public section

noncomputable section

namespace Cert.AttnB

open Idealize.ShloMosaic

/-- The scale both texts multiply the second attention's scores by: the word of one over the square root of 192. -/
def sb : ℝ := (Ideal.ofBits .f32 0x3D93CD3A#32).toReal

theorem sb_eq : Ideal.ofBits .f32 0x3D93CD3A#32 = ((sb : ℝ) : EReal) := by
  rw [sb]
  refine (EReal.coe_toReal ?_ ?_).symm <;>
  · unfold Ideal.ofBits Ideal.ieee
    dsimp only
    rw [if_neg (by decide), if_neg (by decide)]
    first | exact EReal.coe_ne_top _ | exact EReal.coe_ne_bot _

/-- Row `r` of the 256 columns of head `h`. -/
def row2 (A : ℕ → ℕ → ℝ) (h r : ℕ) : Fin 256 → ℝ := fun x => A r (256 * h + x)

/-- All keys of head `h`, 256 columns each. -/
def keys2 (A : ℕ → ℕ → ℝ) (h : ℕ) : Fin 2048 → Fin 256 → ℝ := fun j x => A j (256 * h + x)

end Cert.AttnB

end
-- ==== Proof.FwdPayB.lean ====
/- What the forward attention kernel's payloads hold at an index, for blocks of real numbers. -/
module

public import proofs.«01_k».proof.Proof.ArrB
public import proofs.«01_k».proof.Proof.Gen.Kernel6Ideal.Skeleton

@[expose] public section

set_option maxRecDepth 16384

noncomputable section

namespace Cert.AttnB

open Idealize.ShloMosaic Cert.Attn Cert.Kernel6Ideal Cert.Kernel6Ideal.Gen Cert.Kernel6Ideal.Facts

variable {q : Vec Ideal S512x256 .bf16} {k : Vec Ideal S2048x256 .bf16} {v : Vec Ideal S2048x128 .bf16}
variable {Q : Fin 512 → Fin 256 → ℝ} {K : Fin 2048 → Fin 256 → ℝ} {V : Fin 2048 → Fin 128 → ℝ}

/-- The output block is the softmax's product with the values. -/
theorem fwd_out (hq : ∀ r x, q (ix2 r x) = Q r x) (hk : ∀ j x, k (ix2 j x) = K j x) (hv : ∀ j x, v (ix2 j x) = V j x)
    (r : Fin 512) (x : Fin 128) : k0_pay6 q k v (ix2 r x) = (out sb (Q r) K V x : EReal) := by
  unfold_payloads
  pointwise []
  obtain ⟨m, hm⟩ := fold_max_coe Finset.univ ⟨(0 : Fin 2048), Finset.mem_univ _⟩ fun j => ∑ x, Q r x * K j x
  have hS : (∑ j, Real.exp (((∑ x, Q r x * K j x) - m) * sb)) ≠ 0 := by
    rw [shifted_sum]; exact (mul_pos (Real.exp_pos _) (norm_pos _ _ _)).ne'
  simp only [hq, hk, hv, ← EReal.coe_mul, sum_coe, neg_inf, sb_eq, hm, ← EReal.coe_sub, exp_coe]
  rw [← EReal.coe_one, div_coe_coe _ hS, ← EReal.coe_mul, out_shifted]

/-- The log-sum-exp block, one number per row on all of its lanes. -/
theorem fwd_lse (hq : ∀ r x, q (ix2 r x) = Q r x) (hk : ∀ j x, k (ix2 j x) = K j x)
    (r : Fin 512) (x : Fin 128) : k0_pay7 q k (ix2 r x) = (Real.log (norm sb (Q r) K) : EReal) := by
  unfold_payloads
  pointwise []
  obtain ⟨m, hm⟩ := fold_max_coe Finset.univ ⟨(0 : Fin 2048), Finset.mem_univ _⟩ fun j => ∑ x, Q r x * K j x
  have hS : 0 < (∑ j, Real.exp (((∑ x, Q r x * K j x) - m) * sb)) := by
    rw [shifted_sum]; exact (mul_pos (Real.exp_pos _) (norm_pos _ _ _))
  simp only [hq, hk, ← EReal.coe_mul, sum_coe, neg_inf, sb_eq, hm, ← EReal.coe_sub, exp_coe]
  rw [log_coe hS, ← EReal.coe_add, lse_shifted]

end Cert.AttnB

end
-- ==== Proof.FwdB.lean ====
/- The forward attention kernel's two arrays after its run. -/
module

public import proofs.«01_k».proof.Proof.ArrB
public import proofs.«01_k».proof.Proof.FwdPayB
public import proofs.«01_k».proof.Proof.Gen.Kernel6Ideal.Frame
public import Idealize.ShloMosaic.Lib.Pipeline.ValueKit

@[expose] public section

set_option maxRecDepth 16384

noncomputable section

namespace Cert.AttnB

open Idealize.ShloMosaic Cert.Attn Cert.Kernel6Ideal Cert.Kernel6Ideal.Gen Cert.Kernel6Ideal.Facts

/-- The output array over the real matrices: every head attends over its own keys. -/
def outAt (Q K V : ℕ → ℕ → ℝ) (r l : ℕ) : ℝ :=
  out sb (row2 Q (l / 128) r) (keys2 K (l / 128)) (keys V (l / 128)) ⟨l % 128, Nat.mod_lt _ (by decide)⟩
def lseAt (Q K : ℕ → ℕ → ℝ) (r l : ℕ) : ℝ := Real.log (norm sb (row2 Q (l / 128) r) (keys2 K (l / 128)))

theorem idx0 : ∀ t : Fin grid0.N, win0_0.index t = ![t.val % 4, t.val / 4] ∧ win0_1.index t = ![0, t.val / 4]
    ∧ win0_2.index t = ![0, t.val / 4] ∧ win0_3.index t = ![t.val % 4, t.val / 4] ∧ win0_4.index t = ![t.val % 4, t.val / 4] := by
  decide +kernel

variable (V : (c : Dev nD) → (b : Ref sig .tc) → Buf (Elt Ideal) ((c.tc : Thread nD τ).loc b)) (c : Dev nD)
variable (Q K W : ℕ → ℕ → ℝ)

variable {V c Q K W}

theorem outAt_lane (h : ℕ) (r : ℕ) (x : Fin 128) :
    outAt Q K W r (128 * h + x) = out sb (row2 Q h r) (keys2 K h) (keys W h) x := by
  have h1 : x.val < 128 := x.isLt
  have e1 : (128 * h + x) / 128 = h := by omega
  have e3 : (128 * h + x) % 128 = x := by omega
  rw [outAt]
  simp only [e1, e3]
theorem lseAt_lane (h : ℕ) (r : ℕ) (x : Fin 128) : lseAt Q K r (128 * h + x) = Real.log (norm sb (row2 Q h r) (keys2 K h)) := by
  have h1 : x.val < 128 := x.isLt
  have e1 : (128 * h + x) / 128 = h := by omega
  rw [lseAt]
  simp only [e1]

section blocks

variable (hq : ∀ y : S2048x2048.Idx, V c main_arg0 y = ((Q (y 0) (y 1) : ℝ) : EReal))
variable (hk : ∀ y : S2048x2048.Idx, V c main_arg1 y = ((K (y 0) (y 1) : ℝ) : EReal))
variable (hv : ∀ y : S2048x1024.Idx, V c main_arg2 y = ((W (y 0) (y 1) : ℝ) : EReal))

include hq in
theorem q_ld (t : Fin cfg0.N) {o : ℕ} (h : ℕ) (ho : o = 256 * h) (inb) (r : Fin 512) (x : Fin 256) :
    View.ld (iblk0 V c 0 t) (Rect.unit (s := S512x1024) ![0, o] S512x256.size inb) (ix2 r x)
      = ((row2 Q (t.val / 4 * 4 + h) (t.val % 4 * 512 + r) x : ℝ) : EReal) := by
  subst ho
  rw [View.ld_apply]
  refine (hq _).trans ?_
  blk_simp [(idx0 t).1]
  exact congrArg _ (congrArg₂ Q (by simp) (by simp; omega))
include hk in
theorem k_ld (t : Fin cfg0.N) {o : ℕ} (h : ℕ) (ho : o = 256 * h) (inb) (j : Fin 2048) (x : Fin 256) :
    View.ld (iblk0 V c 1 t) (Rect.unit (s := S2048x1024) ![0, o] S2048x256.size inb) (ix2 j x)
      = ((keys2 K (t.val / 4 * 4 + h) j x : ℝ) : EReal) := by
  subst ho
  rw [View.ld_apply]
  refine (hk _).trans ?_
  blk_simp [(idx0 t).2.1]
  exact congrArg _ (congrArg₂ K (by simp) (by simp; omega))
include hv in
theorem v_ld (t : Fin cfg0.N) {o : ℕ} (h : ℕ) (ho : o = 128 * h) (inb) (j : Fin 2048) (x : Fin 128) :
    View.ld (iblk0 V c 2 t) (Rect.unit (s := S2048x512) ![0, o] S2048x128.size inb) (ix2 j x)
      = ((keys W (t.val / 4 * 4 + h) j x : ℝ) : EReal) := by
  subst ho
  rw [View.ld_apply]
  refine (hv _).trans ?_
  blk_simp [(idx0 t).2.2.1]
  exact congrArg _ (congrArg₂ W (by simp) (by simp; omega))

theorem col_at (t h x : ℕ) : t / 4 * 512 + (128 * h + x) = 128 * (t / 4 * 4 + h) + x := by omega

include hq hk hv in
theorem out_piece (t : Fin cfg0.N) {o p : ℕ} (h : ℕ) (ho : o = 256 * h) (hp : p = 128 * h) (inb inb' inb'') (x : S512x128.Idx) :
    k0_pay6 (View.ld (iblk0 V c 0 t) (Rect.unit (s := S512x1024) ![0, o] S512x256.size inb))
      (View.ld (iblk0 V c 1 t) (Rect.unit (s := S2048x1024) ![0, o] S2048x256.size inb'))
      (View.ld (iblk0 V c 2 t) (Rect.unit (s := S2048x512) ![0, p] S2048x128.size inb'')) x
      = ((outAt Q K W (t.val % 4 * 512 + x 0) (t.val / 4 * 512 + (128 * h + x 1)) : ℝ) : EReal) := by
  have := fwd_out (q_ld hq t h ho inb) (k_ld hk t h ho inb') (v_ld hv t h hp inb'') (x 0) (x 1)
  rw [← eq_ix2] at this
  rw [this, col_at]
  exact congrArg _ (outAt_lane _ _ (x 1)).symm
include hq hk in
theorem lse_piece (t : Fin cfg0.N) {o : ℕ} (h : ℕ) (ho : o = 256 * h) (inb inb') (x : S512x128.Idx) :
    k0_pay7 (View.ld (iblk0 V c 0 t) (Rect.unit (s := S512x1024) ![0, o] S512x256.size inb))
      (View.ld (iblk0 V c 1 t) (Rect.unit (s := S2048x1024) ![0, o] S2048x256.size inb')) x
      = ((lseAt Q K (t.val % 4 * 512 + x 0) (t.val / 4 * 512 + (128 * h + x 1)) : ℝ) : EReal) := by
  have := fwd_lse (q_ld hq t h ho inb) (k_ld hk t h ho inb') (x 0) (x 1)
  rw [← eq_ix2] at this
  rw [this, col_at]
  exact congrArg _ (lseAt_lane _ _ (x 1)).symm

include hq hk hv in
/-- The output array. -/
theorem arr_out : (dat0 V c).arrAt 3 cfg0.N = fun y => ((outAt Q K W (y 0) (y 1) : ℝ) : EReal) := by
  refine (dat0 V c).arrAt_eq_of_covers 3 _ (by decide +kernel) fun t hf y => ?_
  blk_simp [(idx0 t).2.2.2.1]
  rw [after0_3]
  unfold_out out0_3
  canon_tiles x h
  · rw [h0, h1]; exact out_piece hq hk hv t 3 rfl rfl _ _ _ x
  · rw [h0, h1]; exact out_piece hq hk hv t 2 rfl rfl _ _ _ x
  · rw [h0, h1]; exact out_piece hq hk hv t 1 rfl rfl _ _ _ x
  · rw [h0, h1]; refine (out_piece hq hk hv t 0 rfl rfl _ _ _ x).trans ?_
    simp

include hq hk in
/-- The log-sum-exp array. -/
theorem arr_lse : (dat0 V c).arrAt 4 cfg0.N = fun y => ((lseAt Q K (y 0) (y 1) : ℝ) : EReal) := by
  refine (dat0 V c).arrAt_eq_of_covers 4 _ (by decide +kernel) fun t hf y => ?_
  blk_simp [(idx0 t).2.2.2.2]
  rw [after0_4]
  unfold_out out0_4
  canon_tiles x h
  · rw [h0, h1]; exact lse_piece hq hk t 3 rfl _ _ x
  · rw [h0, h1]; exact lse_piece hq hk t 2 rfl _ _ x
  · rw [h0, h1]; exact lse_piece hq hk t 1 rfl _ _ x
  · rw [h0, h1]; refine (lse_piece hq hk t 0 rfl _ _ x).trans ?_
    simp

end blocks

end Cert.AttnB

end
-- ==== Proof.BwdPayB.lean ====
/- What the backward attention kernel's payloads hold at an index, for blocks of real numbers. -/
module

public import proofs.«01_k».proof.Proof.ArrB
public import Idealize.ShloMosaic.Lib.Pipeline.ValueKit
public import proofs.«01_k».proof.Proof.Gen.Kernel6Ideal.Skeleton

@[expose] public section

set_option maxRecDepth 16384

noncomputable section

namespace Cert.AttnB

open Idealize.ShloMosaic Cert.Attn Cert.Kernel6Ideal Cert.Kernel6Ideal.Gen Cert.Kernel6Ideal.Facts

variable {q : Vec Ideal S256x256 .bf16} {g : Vec Ideal S256x128 .bf16} {o l : Vec Ideal S256x128 .f32} {k : Vec Ideal S2048x256 .bf16} {v : Vec Ideal S2048x128 .bf16}
variable {Q : Fin 256 → Fin 256 → ℝ} {G : Fin 256 → Fin 128 → ℝ} {K : Fin 2048 → Fin 256 → ℝ} {V : Fin 2048 → Fin 128 → ℝ}

/-- Sixteen copies of a block side by side, of a row that holds one number on all of its lanes. -/
theorem lanes_apply (y : FVec Ideal S256x128 .f32) (r : Fin 256) (j : Fin 2048) (w : EReal) (hy : ∀ x, y (ix2 r x) = w) :
    concatenate S256x2048 1 [⟨S256x128, y⟩, ⟨S256x128, y⟩, ⟨S256x128, y⟩, ⟨S256x128, y⟩, ⟨S256x128, y⟩, ⟨S256x128, y⟩, ⟨S256x128, y⟩,
      ⟨S256x128, y⟩, ⟨S256x128, y⟩, ⟨S256x128, y⟩, ⟨S256x128, y⟩, ⟨S256x128, y⟩, ⟨S256x128, y⟩, ⟨S256x128, y⟩, ⟨S256x128, y⟩, ⟨S256x128, y⟩]
      concatenates_S256x128_S256x128_S256x128_S256x128_S256x128_S256x128_S256x128_S256x128_S256x128_S256x128_S256x128_S256x128_S256x128_S256x128_S256x128_S256x128_S256x2048_d1
      (ix2 r j) = w := by
  refine (concatenate_ofFn_apply (t := S256x2048) (s₁ := S256x128) (N := 16) (1 : Fin 2) (fun _ => y) _ rfl 128 rfl (ix2 r j) ⟨j.val / 128, by omega⟩ rfl
    (ix2 r ⟨j.val % 128, Nat.mod_lt _ (by decide)⟩) rfl fun b hb => ?_).trans (hy _)
  match b with
  | 0 => rfl
  | 1 => exact absurd rfl hb

/-- The gradients of the probabilities. -/
theorem bwd_dprob (hg : ∀ r x, g (ix2 r x) = G r x) (hv : ∀ j x, v (ix2 j x) = V j x)
    (r : Fin 256) (j : Fin 2048) : k1_pay4 v g (ix2 r j) = (dprob V (G r) j : EReal) := by
  unfold_payloads
  pointwise []
  simp only [hg, hv, ← EReal.coe_mul, sum_coe, dprob]

/-- The products of the queries with the keys. -/
theorem bwd_score (hq : ∀ r x, q (ix2 r x) = Q r x) (hk : ∀ j x, k (ix2 j x) = K j x)
    (r : Fin 256) (j : Fin 2048) : k1_pay17 k q (ix2 r j) = ((∑ x, Q r x * K j x : ℝ) : EReal) := by
  unfold_payloads
  pointwise []
  simp only [hq, hk, ← EReal.coe_mul, sum_coe]

/-- The probabilities, from the saved log-sum-exp. -/
theorem bwd_prob (hq : ∀ r x, q (ix2 r x) = Q r x) (hk : ∀ j x, k (ix2 j x) = K j x)
    (hl : ∀ r x, l (ix2 r x) = (Real.log (norm sb (Q r) K) : ℝ))
    (r : Fin 256) (j : Fin 2048) : k1_pay3 k q l (ix2 r j) = (prob sb (Q r) K j : EReal) := by
  have hc := lanes_apply (shapeCast S256x128 l shapeCasts_S256x128_S256x128) r j (Real.log (norm sb (Q r) K) : ℝ)
    (fun x => by rw [shapeCast_self]; exact hl r x)
  have hs := bwd_score hq hk r j
  calc k1_pay3 k q l (ix2 r j)
      = Ideal.exp (k1_pay17 k q (ix2 r j) * Ideal.ofBits .f32 0x3D93CD3A#32 - (Real.log (norm sb (Q r) K) : ℝ)) := by
        rw [← hc]; rfl
    _ = _ := by rw [hs, sb_eq, ← EReal.coe_mul, ← EReal.coe_sub, exp_coe, prob_of_lse]

variable {p dp : FVec Ideal S256x2048 .f32}

/-- The gradients of the scores. -/
theorem bwd_dscore (hg : ∀ r x, g (ix2 r x) = G r x)
    (ho : ∀ r x, o (ix2 r x) = (out sb (Q r) K V x : ℝ))
    (hp : ∀ r j, p (ix2 r j) = (prob sb (Q r) K j : ℝ)) (hdp : ∀ r j, dp (ix2 r j) = (dprob V (G r) j : ℝ))
    (r : Fin 256) (j : Fin 2048) : k1_pay7 p dp (k1_pay5 g) (k1_pay6 o) (ix2 r j) = (dscore sb (Q r) K V (G r) j : EReal) := by
  unfold_payloads
  pointwise []
  simp only [hg, ho, hp, hdp, sb_eq, ← EReal.coe_mul, sum_coe, ← EReal.coe_sub, dscore, delta]

/-- The block of the query's gradient. -/
theorem head_dq (hq : ∀ r x, q (ix2 r x) = Q r x) (hk : ∀ j x, k (ix2 j x) = K j x) (hv : ∀ j x, v (ix2 j x) = V j x)
    (hg : ∀ r x, g (ix2 r x) = G r x) (ho : ∀ r x, o (ix2 r x) = (out sb (Q r) K V x : ℝ))
    (hl : ∀ r x, l (ix2 r x) = (Real.log (norm sb (Q r) K) : ℝ)) (r : Fin 256) (x : Fin 256) :
    k1_pay9 k (k1_pay3 k q l) (k1_pay4 v g) (k1_pay5 g) (k1_pay6 o) (ix2 r x)
      = ((∑ j, dscore sb (Q r) K V (G r) j * K j x : ℝ) : EReal) := by
  have hd := bwd_dscore hg ho (bwd_prob hq hk hl) (bwd_dprob hg hv)
  generalize k1_pay3 k q l = p at hd ⊢
  generalize k1_pay4 v g = dp at hd ⊢
  unfold k1_pay9
  generalize k1_pay7 p dp (k1_pay5 g) (k1_pay6 o) = d at hd ⊢
  pointwise []
  simp only [hd, hk, ← EReal.coe_mul, sum_coe]

/-- What a block of queries adds to the key's gradient. -/
theorem head_dk (hq : ∀ r x, q (ix2 r x) = Q r x) (hk : ∀ j x, k (ix2 j x) = K j x) (hv : ∀ j x, v (ix2 j x) = V j x)
    (hg : ∀ r x, g (ix2 r x) = G r x) (ho : ∀ r x, o (ix2 r x) = (out sb (Q r) K V x : ℝ))
    (hl : ∀ r x, l (ix2 r x) = (Real.log (norm sb (Q r) K) : ℝ)) (a : Vec Ideal S2048x256 .f32) (j : Fin 2048) (x : Fin 256) :
    k1_pay10 q (k1_pay3 k q l) (k1_pay4 v g) (k1_pay5 g) (k1_pay6 o) a (ix2 j x)
      = a (ix2 j x) + ((∑ r, dscore sb (Q r) K V (G r) j * Q r x : ℝ) : EReal) := by
  have hd := bwd_dscore hg ho (bwd_prob hq hk hl) (bwd_dprob hg hv)
  generalize k1_pay3 k q l = p at hd ⊢
  generalize k1_pay4 v g = dp at hd ⊢
  unfold k1_pay10
  generalize k1_pay7 p dp (k1_pay5 g) (k1_pay6 o) = d at hd ⊢
  pointwise []
  simp only [hd, hq, ← EReal.coe_mul, sum_coe]

/-- What a block of queries adds to the value's gradient. -/
theorem head_dv (hq : ∀ r x, q (ix2 r x) = Q r x) (hk : ∀ j x, k (ix2 j x) = K j x) (hg : ∀ r x, g (ix2 r x) = G r x)
    (hl : ∀ r x, l (ix2 r x) = (Real.log (norm sb (Q r) K) : ℝ)) (a : Vec Ideal S2048x128 .f32) (j : Fin 2048) (x : Fin 128) :
    k1_pay8 g (k1_pay3 k q l) a (ix2 j x) = a (ix2 j x) + ((∑ r, prob sb (Q r) K j * G r x : ℝ) : EReal) := by
  have hd := bwd_prob hq hk hl
  generalize k1_pay3 k q l = p at hd ⊢
  unfold k1_pay8
  pointwise []
  simp only [hd, hg, ← EReal.coe_mul, sum_coe]

end Cert.AttnB

end
-- ==== Proof.BwdStepB.lean ====
/- What one grid point of the second backward attention kernel leaves: two heads, each over two halves of its rows. -/
module

public import proofs.«01_k».proof.Proof.FwdB
public import proofs.«01_k».proof.Proof.BwdPayB
public import Idealize.ShloMosaic.Lib.Pipeline.ValueKit
public import Idealize.ShloMosaic.Lib.Pipeline.ReadBack

@[expose] public section

set_option maxRecDepth 16384

noncomputable section

namespace Cert.AttnB

open Idealize.ShloMosaic Cert.Attn Cert.Kernel6Ideal Cert.Kernel6Ideal.Gen Cert.Kernel6Ideal.Facts

/-! ## One half's contribution, as a function of its blocks -/

abbrev headQ (q : Vec Ideal S256x256 .bf16) (k : Vec Ideal S2048x256 .bf16) (v : Vec Ideal S2048x128 .bf16) (g : Vec Ideal S256x128 .bf16)
    (o l : Vec Ideal S256x128 .f32) : Vec Ideal S256x256 .f32 :=
  k1_pay9 k (k1_pay3 k q l) (k1_pay4 v g) (k1_pay5 g) (k1_pay6 o)
abbrev headK (q : Vec Ideal S256x256 .bf16) (k : Vec Ideal S2048x256 .bf16) (v : Vec Ideal S2048x128 .bf16) (g : Vec Ideal S256x128 .bf16)
    (o l : Vec Ideal S256x128 .f32) (a : Vec Ideal S2048x256 .f32) : Vec Ideal S2048x256 .f32 :=
  k1_pay10 q (k1_pay3 k q l) (k1_pay4 v g) (k1_pay5 g) (k1_pay6 o) a
abbrev headV (q : Vec Ideal S256x256 .bf16) (k : Vec Ideal S2048x256 .bf16) (g : Vec Ideal S256x128 .bf16) (l : Vec Ideal S256x128 .f32)
    (a : Vec Ideal S2048x128 .f32) : Vec Ideal S2048x128 .f32 :=
  k1_pay8 g (k1_pay3 k q l) a

theorem inbQ (s j : Fin 2) : ∀ a, (![256 * s.val, 256 * j.val] : Fin 2 → ℕ) a + S256x256.size a ≤ S512x512.size a := by
  revert s j; decide
theorem inbK (j : Fin 2) : ∀ a, (![0, 256 * j.val] : Fin 2 → ℕ) a + S2048x256.size a ≤ S2048x512.size a := by
  revert j; decide
theorem inbV (j : Fin 2) : ∀ a, (![0, 128 * j.val] : Fin 2 → ℕ) a + S2048x128.size a ≤ S2048x256.size a := by
  revert j; decide
theorem inbO (s j : Fin 2) : ∀ a, (![256 * s.val, 128 * j.val] : Fin 2 → ℕ) a + S256x128.size a ≤ S512x256.size a := by
  revert s j; decide

/-- The part of a block that half `s` of the rows and head `j` read. -/
abbrev tileQ {e : EltTy} (X : Vec Ideal S512x512 e) (s j : Fin 2) : Vec Ideal S256x256 e :=
  View.ld X (Rect.unit (s := S512x512) ![256 * s.val, 256 * j.val] S256x256.size (inbQ s j))
abbrev tileK {e : EltTy} (X : Vec Ideal S2048x512 e) (j : Fin 2) : Vec Ideal S2048x256 e :=
  View.ld X (Rect.unit (s := S2048x512) ![0, 256 * j.val] S2048x256.size (inbK j))
abbrev tileV {e : EltTy} (X : Vec Ideal S2048x256 e) (j : Fin 2) : Vec Ideal S2048x128 e :=
  View.ld X (Rect.unit (s := S2048x256) ![0, 128 * j.val] S2048x128.size (inbV j))
abbrev tileO {e : EltTy} (X : Vec Ideal S512x256 e) (s j : Fin 2) : Vec Ideal S256x128 e :=
  View.ld X (Rect.unit (s := S512x256) ![256 * s.val, 128 * j.val] S256x128.size (inbO s j))

variable (V : (c : Dev nD) → (b : Ref sig .tc) → Buf (Elt Ideal) ((c.tc : Thread nD τ).loc b)) (c : Dev nD)

/-- The three contributions of half `s`, head `j` at point `t`. -/
abbrev ptK (t : Fin cfg1.N) (s j : Fin 2) (a : Vec Ideal S2048x256 .f32) : Vec Ideal S2048x256 .f32 :=
  headK (tileQ (iblk1 V c 0 t) s j) (tileK (iblk1 V c 1 t) j) (tileV (iblk1 V c 2 t) j) (tileO (iblk1 V c 3 t) s j)
    (tileO (iblk1 V c 4 t) s j) (tileO (iblk1 V c 5 t) s j) a
abbrev ptV (t : Fin cfg1.N) (s j : Fin 2) (a : Vec Ideal S2048x128 .f32) : Vec Ideal S2048x128 .f32 :=
  headV (tileQ (iblk1 V c 0 t) s j) (tileK (iblk1 V c 1 t) j) (tileO (iblk1 V c 3 t) s j) (tileO (iblk1 V c 5 t) s j) a
abbrev ptQ (t : Fin cfg1.N) (s j : Fin 2) : Vec Ideal S256x256 .f32 :=
  headQ (tileQ (iblk1 V c 0 t) s j) (tileK (iblk1 V c 1 t) j) (tileV (iblk1 V c 2 t) j) (tileO (iblk1 V c 3 t) s j)
    (tileO (iblk1 V c 4 t) s j) (tileO (iblk1 V c 5 t) s j)

/-- Two blocks of columns, each stored twice, over whatever was there: what the later store of each left. -/
abbrev storesK (w : Fin 2 → Fin 2 → Vec Ideal S2048x256 .f32) (L : List (View.Piece (Elt Ideal) S2048x512 .f32)) :
    List (View.Piece (Elt Ideal) S2048x512 .f32) :=
  ⟨Rect.unit (s := S2048x512) ![0, 256] S2048x256.size (inbK 1), w 1 1⟩ :: ⟨Rect.unit (s := S2048x512) ![0, 256] S2048x256.size (inbK 1), w 0 1⟩
    :: ⟨Rect.unit (s := S2048x512) ![0, 0] S2048x256.size (inbK 0), w 1 0⟩ :: ⟨Rect.unit (s := S2048x512) ![0, 0] S2048x256.size (inbK 0), w 0 0⟩ :: L
abbrev storesV (w : Fin 2 → Fin 2 → Vec Ideal S2048x128 .f32) (L : List (View.Piece (Elt Ideal) S2048x256 .f32)) :
    List (View.Piece (Elt Ideal) S2048x256 .f32) :=
  ⟨Rect.unit (s := S2048x256) ![0, 128] S2048x128.size (inbV 1), w 1 1⟩ :: ⟨Rect.unit (s := S2048x256) ![0, 128] S2048x128.size (inbV 1), w 0 1⟩
    :: ⟨Rect.unit (s := S2048x256) ![0, 0] S2048x128.size (inbV 0), w 1 0⟩ :: ⟨Rect.unit (s := S2048x256) ![0, 0] S2048x128.size (inbV 0), w 0 0⟩ :: L

theorem storesK_apply (w : Fin 2 → Fin 2 → Vec Ideal S2048x256 .f32) (L : List (View.Piece (Elt Ideal) S2048x512 .f32)) (j : Fin 2) (x : S2048x256.Idx)
    (z : S2048x512.Idx) (h0 : (z 0).val = (x 0).val) (h1 : (z 1).val = 256 * j.val + (x 1).val) : View.canon (storesK w L) z = w 1 j x := by
  have h2 : (x 1).val < 256 := (x 1).isLt
  have e : (Rect.unit (s := S2048x512) ![0, 256 * j.val] S2048x256.size (inbK j)).emb x = z := by
    funext a
    refine Fin.ext ?_
    rw [ValueKit.rect_emb_unit_val]
    fin_cases a
    · refine Eq.trans ?_ h0.symm; exact Nat.zero_add _
    · exact h1.symm
  have key := fun L => View.canon_cons_emb (Val := Elt Ideal) (e := .f32) (Rect.unit (s := S2048x512) ![0, 256 * j.val] S2048x256.size (inbK j)) (w 1 j) L x
  rw [e] at key
  by_cases hj : j = 1
  · subst hj
    exact key _
  · obtain rfl : j = 0 := by omega
    have n : z ∉ (Rect.unit (s := S2048x512) ![0, 256] S2048x256.size (inbK 1)).set := by
      rw [Rect.mem_set_unit]
      intro h
      have h3 : 256 ≤ (z 1).val := (h 1).1
      rw [h1] at h3
      have h4 : 256 ≤ 256 * 0 + (x 1).val := h3
      omega
    refine (View.canon_cons_of_not_mem ⟨(Rect.unit (s := S2048x512) ![0, 256] S2048x256.size (inbK 1)), w 1 1⟩ _ n).trans
      ((View.canon_cons_of_not_mem ⟨(Rect.unit (s := S2048x512) ![0, 256] S2048x256.size (inbK 1)), w 0 1⟩ _ n).trans ?_)
    exact key _
theorem storesV_apply (w : Fin 2 → Fin 2 → Vec Ideal S2048x128 .f32) (L : List (View.Piece (Elt Ideal) S2048x256 .f32)) (j : Fin 2) (x : S2048x128.Idx)
    (z : S2048x256.Idx) (h0 : (z 0).val = (x 0).val) (h1 : (z 1).val = 128 * j.val + (x 1).val) : View.canon (storesV w L) z = w 1 j x := by
  have h2 : (x 1).val < 128 := (x 1).isLt
  have e : (Rect.unit (s := S2048x256) ![0, 128 * j.val] S2048x128.size (inbV j)).emb x = z := by
    funext a
    refine Fin.ext ?_
    rw [ValueKit.rect_emb_unit_val]
    fin_cases a
    · refine Eq.trans ?_ h0.symm; exact Nat.zero_add _
    · exact h1.symm
  have key := fun L => View.canon_cons_emb (Val := Elt Ideal) (e := .f32) (Rect.unit (s := S2048x256) ![0, 128 * j.val] S2048x128.size (inbV j)) (w 1 j) L x
  rw [e] at key
  by_cases hj : j = 1
  · subst hj
    exact key _
  · obtain rfl : j = 0 := by omega
    have n : z ∉ (Rect.unit (s := S2048x256) ![0, 128] S2048x128.size (inbV 1)).set := by
      rw [Rect.mem_set_unit]
      intro h
      have h3 : 128 ≤ (z 1).val := (h 1).1
      rw [h1] at h3
      have h4 : 128 ≤ 128 * 0 + (x 1).val := h3
      omega
    refine (View.canon_cons_of_not_mem ⟨(Rect.unit (s := S2048x256) ![0, 128] S2048x128.size (inbV 1)), w 1 1⟩ _ n).trans
      ((View.canon_cons_of_not_mem ⟨(Rect.unit (s := S2048x256) ![0, 128] S2048x128.size (inbV 1)), w 0 1⟩ _ n).trans ?_)
    exact key _
/-- The two nested contributions of each head to a running block `a`. -/
abbrev runK (t : Fin cfg1.N) (a : Vec Ideal S2048x512 .f32) (s j : Fin 2) : Vec Ideal S2048x256 .f32 :=
  match s with
  | 0 => ptK V c t 0 j (tileK a j)
  | 1 => ptK V c t 1 j (ptK V c t 0 j (tileK a j))
abbrev runV (t : Fin cfg1.N) (a : Vec Ideal S2048x256 .f32) (s j : Fin 2) : Vec Ideal S2048x128 .f32 :=
  match s with
  | 0 => ptV V c t 0 j (tileV a j)
  | 1 => ptV V c t 1 j (ptV V c t 0 j (tileV a j))

theorem stepK_A (t : Fin cfg1.N) (h0 : t.val % 4 = 0) : (outsAt1 V c t.val t.isLt).2.1
    = View.canon (storesK (runK V c t (k1_pay1 (F := Ideal))) [⟨Rect.unit (s := S2048x512) ![0, 0] S2048x512.size (by decide), k1_pay1 (F := Ideal)⟩]) := by
  rw [outsAt1_A V c t h0]
  frame_open
  simp (disch := decide) only [↓ View.readCov_skip, ↓ View.readCov_cons_toLoadRect, ↓ View.readCov_fill]
  frame_out
  rfl
theorem stepK_B (t : Fin cfg1.N) (h0 : ¬ t.val % 4 = 0) : (outsAt1 V c t.val t.isLt).2.1
    = View.canon (storesK (runK V c t (outsAt1 V c (t.val - 1) (Nat.lt_of_le_of_lt (Nat.sub_le _ _) t.isLt)).2.1) []) := by
  rw [outsAt1_B V c t h0]
  frame_open
  simp (disch := decide) only [↓ View.readCov_skip, ↓ View.readCov_cons_toLoadRect, ↓ View.readCov_fill]
  frame_out
  rfl
theorem stepV_A (t : Fin cfg1.N) (h0 : t.val % 4 = 0) : (outsAt1 V c t.val t.isLt).2.2
    = View.canon (storesV (runV V c t (k1_pay2 (F := Ideal))) [⟨Rect.unit (s := S2048x256) ![0, 0] S2048x256.size (by decide), k1_pay2 (F := Ideal)⟩]) := by
  rw [outsAt1_A V c t h0]
  frame_open
  simp (disch := decide) only [↓ View.readCov_skip, ↓ View.readCov_cons_toLoadRect, ↓ View.readCov_fill]
  frame_out
  rfl
theorem stepV_B (t : Fin cfg1.N) (h0 : ¬ t.val % 4 = 0) : (outsAt1 V c t.val t.isLt).2.2
    = View.canon (storesV (runV V c t (outsAt1 V c (t.val - 1) (Nat.lt_of_le_of_lt (Nat.sub_le _ _) t.isLt)).2.2) []) := by
  rw [outsAt1_B V c t h0]
  frame_open
  simp (disch := decide) only [↓ View.readCov_skip, ↓ View.readCov_cons_toLoadRect, ↓ View.readCov_fill]
  frame_out
  rfl

/-- The query gradient's block at any point: four tiles. -/
theorem stepQ (t : Fin cfg1.N) : (outsAt1 V c t.val t.isLt).1
    = View.canon [⟨Rect.unit (s := S512x512) ![256, 256] S256x256.size (inbQ 1 1), ptQ V c t 1 1⟩,
      ⟨Rect.unit (s := S512x512) ![0, 256] S256x256.size (inbQ 0 1), ptQ V c t 0 1⟩,
      ⟨Rect.unit (s := S512x512) ![256, 0] S256x256.size (inbQ 1 0), ptQ V c t 1 0⟩,
      ⟨Rect.unit (s := S512x512) ![0, 0] S256x256.size (inbQ 0 0), ptQ V c t 0 0⟩] := by
  by_cases h0 : t.val % 4 = 0
  · rw [outsAt1_A V c t h0]
    frame_open
    simp (disch := decide) only [↓ View.readCov_skip, ↓ View.readCov_cons_toLoadRect, ↓ View.readCov_fill]
    frame_out
    rfl
  · rw [outsAt1_B V c t h0]
    frame_open
    simp (disch := decide) only [↓ View.readCov_skip, ↓ View.readCov_cons_toLoadRect, ↓ View.readCov_fill]
    frame_out
    rfl

end Cert.AttnB

end
-- ==== Proof.BwdB.lean ====
/- The second backward attention kernel's three arrays after its run. -/
module

public import proofs.«01_k».proof.Proof.BwdStepB

@[expose] public section

set_option maxRecDepth 16384

noncomputable section

namespace Cert.AttnB

open Idealize.ShloMosaic Cert.Attn Cert.Kernel6Ideal Cert.Kernel6Ideal.Gen Cert.Kernel6Ideal.Facts

theorem idx1 : ∀ t : Fin grid1.N, win1_0.index t = ![t.val % 4, t.val / 4] ∧ win1_1.index t = ![0, t.val / 4]
    ∧ win1_2.index t = ![0, t.val / 4] ∧ win1_3.index t = ![t.val % 4, t.val / 4] ∧ win1_4.index t = ![t.val % 4, t.val / 4]
    ∧ win1_5.index t = ![t.val % 4, t.val / 4] ∧ win1_6.index t = ![t.val % 4, t.val / 4] ∧ win1_7.index t = ![0, t.val / 4]
    ∧ win1_8.index t = ![0, t.val / 4] := by
  decide +kernel

/-! ## The same over real matrices -/

/-- What query row `r` of head `h` adds to the gradient of key `j` at column `x`, and of value `j`. -/
def keyTerm (Q K W D : ℕ → ℕ → ℝ) (h j : ℕ) (x r : ℕ) : ℝ :=
  if hj : j < 2048 then dscore sb (row2 Q h r) (keys2 K h) (keys W h) (row D h r) ⟨j, hj⟩ * Q r (256 * h + x) else 0
def valTerm (Q K D : ℕ → ℕ → ℝ) (h j : ℕ) (x r : ℕ) : ℝ :=
  if hj : j < 2048 then prob sb (row2 Q h r) (keys2 K h) ⟨j, hj⟩ * D r (128 * h + x) else 0

/-- One block of 512 query rows, in its two halves. -/
def blockSum (f : ℕ → ℝ) (b : ℕ) : ℝ := (∑ r : Fin 256, f (b * 512 + (256 * 0 + r))) + ∑ r : Fin 256, f (b * 512 + (256 * 1 + r))

/-- The four blocks are all rows. -/
theorem sum_blocks (f : ℕ → ℝ) : ∑ b ∈ Finset.range 4, blockSum f b = ∑ r ∈ Finset.range 2048, f r := by
  rw [show 2048 = 4 * 512 from rfl, Finset.sum_range_mul_split]
  refine Finset.sum_congr rfl fun b _ => ?_
  rw [show 512 = 2 * 256 from rfl, Finset.sum_range_mul_split, Finset.sum_range_succ, Finset.sum_range_one, blockSum,
    Finset.sum_range, Finset.sum_range]

def dqAt (Q K W D : ℕ → ℕ → ℝ) (r l : ℕ) : ℝ :=
  ∑ j, dscore sb (row2 Q (l / 256) r) (keys2 K (l / 256)) (keys W (l / 256)) (row D (l / 256) r) j
    * keys2 K (l / 256) j ⟨l % 256, Nat.mod_lt _ (by decide)⟩
def dkAt (Q K W D : ℕ → ℕ → ℝ) (j l : ℕ) : ℝ := ∑ r ∈ Finset.range 2048, keyTerm Q K W D (l / 256) j (l % 256) r
def dvAt (Q K D : ℕ → ℕ → ℝ) (j l : ℕ) : ℝ := ∑ r ∈ Finset.range 2048, valTerm Q K D (l / 128) j (l % 128) r

theorem dqAt_lane (Q K W D : ℕ → ℕ → ℝ) (h : ℕ) (r : ℕ) (x : Fin 256) :
    dqAt Q K W D r (256 * h + x) = ∑ j, dscore sb (row2 Q h r) (keys2 K h) (keys W h) (row D h r) j * keys2 K h j x := by
  have h1 : x.val < 256 := x.isLt
  have e1 : (256 * h + x) / 256 = h := by omega
  have e3 : (256 * h + x) % 256 = x := by omega
  rw [dqAt]
  simp only [e1, e3]

variable {V : (c : Dev nD) → (b : Ref sig .tc) → Buf (Elt Ideal) ((c.tc : Thread nD τ).loc b)} {c : Dev nD} {Q K W D : ℕ → ℕ → ℝ}

section blocks

variable (hq : ∀ y : S2048x2048.Idx, V c main_arg0 y = ((Q (y 0) (y 1) : ℝ) : EReal))
variable (hk : ∀ y : S2048x2048.Idx, V c main_arg1 y = ((K (y 0) (y 1) : ℝ) : EReal))
variable (hv : ∀ y : S2048x1024.Idx, V c main_arg2 y = ((W (y 0) (y 1) : ℝ) : EReal))
variable (hd : ∀ y : S2048x1024.Idx, V c main_arg3 y = ((D (y 0) (y 1) : ℝ) : EReal))
variable (ho : ∀ y : S2048x1024.Idx, V c main_v0_0 y = ((outAt Q K W (y 0) (y 1) : ℝ) : EReal))
variable (hl : ∀ y : S2048x1024.Idx, V c main_v0_1 y = ((lseAt Q K (y 0) (y 1) : ℝ) : EReal))

section tiles

variable (t : Fin cfg1.N) (s j : Fin 2)

/-- The head of column block `j` at point `t`, and the row of half `s`. -/
abbrev headOf (t j : ℕ) : ℕ := t / 4 * 2 + j
abbrev rowOf (t s r : ℕ) : ℕ := t % 4 * 512 + (256 * s + r)

include hq in
theorem q_tile (r x : Fin 256) : tileQ (iblk1 V c 0 t) s j (ix2 r x) = ((row2 Q (headOf t j) (rowOf t s r) x : ℝ) : EReal) := by
  refine (hq _).trans ?_
  blk_simp [(idx1 t).1]
  exact congrArg _ (congrArg₂ Q (by simp) (by simp [headOf]; omega))
include hk in
theorem k_tile (y : Fin 2048) (x : Fin 256) : tileK (iblk1 V c 1 t) j (ix2 y x) = ((keys2 K (headOf t j) y x : ℝ) : EReal) := by
  refine (hk _).trans ?_
  blk_simp [(idx1 t).2.1]
  exact congrArg _ (congrArg₂ K (by simp) (by simp [headOf]; omega))
include hv in
theorem v_tile (y : Fin 2048) (x : Fin 128) : tileV (iblk1 V c 2 t) j (ix2 y x) = ((keys W (headOf t j) y x : ℝ) : EReal) := by
  refine (hv _).trans ?_
  blk_simp [(idx1 t).2.2.1]
  exact congrArg _ (congrArg₂ W (by simp) (by simp [headOf]; omega))
include hd in
theorem d_tile (r : Fin 256) (x : Fin 128) : tileO (iblk1 V c 3 t) s j (ix2 r x) = ((row D (headOf t j) (rowOf t s r) x : ℝ) : EReal) := by
  refine (hd _).trans ?_
  blk_simp [(idx1 t).2.2.2.1]
  exact congrArg _ (congrArg₂ D (by simp) (by simp [headOf]; omega))
include ho in
theorem o_tile (r : Fin 256) (x : Fin 128) : tileO (iblk1 V c 4 t) s j (ix2 r x)
    = ((out sb (row2 Q (headOf t j) (rowOf t s r)) (keys2 K (headOf t j)) (keys W (headOf t j)) x : ℝ) : EReal) := by
  rw [← outAt_lane]
  refine (ho _).trans ?_
  blk_simp [(idx1 t).2.2.2.2.1]
  exact congrArg _ (congrArg₂ (outAt Q K W) (by simp) (by simp [headOf]; omega))
include hl in
theorem l_tile (r : Fin 256) (x : Fin 128) : tileO (iblk1 V c 5 t) s j (ix2 r x)
    = ((Real.log (norm sb (row2 Q (headOf t j) (rowOf t s r)) (keys2 K (headOf t j))) : ℝ) : EReal) := by
  rw [← lseAt_lane _ _ x]
  refine (hl _).trans ?_
  blk_simp [(idx1 t).2.2.2.2.2.1]
  exact congrArg _ (congrArg₂ (lseAt Q K) (by simp) (by simp [headOf]; omega))

include hq hk hv hd ho hl in
theorem pt_dk (a : Vec Ideal S2048x256 .f32) (y : Fin 2048) (x : Fin 256) : ptK V c t s j a (ix2 y x)
      = a (ix2 y x) + ((∑ r : Fin 256, keyTerm Q K W D (headOf t j) y x (rowOf t s r) : ℝ) : EReal) := by
  refine (head_dk (q_tile hq t s j) (k_tile hk t j) (v_tile hv t j) (d_tile hd t s j) (o_tile ho t s j) (l_tile hl t s j) a y x).trans ?_
  refine congrArg (fun z : ℝ => a (ix2 y x) + (z : EReal)) (Finset.sum_congr rfl fun r _ => ?_)
  rw [keyTerm, dif_pos y.isLt]; rfl

include hq hk hd hl in
theorem pt_dv (a : Vec Ideal S2048x128 .f32) (y : Fin 2048) (x : Fin 128) : ptV V c t s j a (ix2 y x)
      = a (ix2 y x) + ((∑ r : Fin 256, valTerm Q K D (headOf t j) y x (rowOf t s r) : ℝ) : EReal) := by
  refine (head_dv (q_tile hq t s j) (k_tile hk t j) (d_tile hd t s j) (l_tile hl t s j) a y x).trans ?_
  refine congrArg (fun z : ℝ => a (ix2 y x) + (z : EReal)) (Finset.sum_congr rfl fun r _ => ?_)
  rw [valTerm, dif_pos y.isLt]; rfl

include hq hk hv hd ho hl in
theorem pt_dq (x : S256x256.Idx) : ptQ V c t s j x
      = ((dqAt Q K W D (t.val % 4 * 512 + (256 * s + (x 0))) (t.val / 4 * 512 + (256 * j + (x 1))) : ℝ) : EReal) := by
  have := head_dq (q_tile hq t s j) (k_tile hk t j) (v_tile hv t j) (d_tile hd t s j) (o_tile ho t s j) (l_tile hl t s j) (x 0) (x 1)
  rw [← eq_ix2] at this
  refine this.trans (congrArg _ ?_)
  rw [show t.val / 4 * 512 + (256 * j.val + (x 1).val) = 256 * headOf t j + (x 1).val by simp only [headOf]; omega]
  exact (dqAt_lane Q K W D _ _ (x 1)).symm

end tiles

include hq hk hv hd ho hl in
/-- The query's gradient. -/
theorem arr_dq : (dat1 V c).arrAt 6 cfg1.N = fun y => ((dqAt Q K W D (y 0) (y 1) : ℝ) : EReal) := by
  refine (dat1 V c).arrAt_eq_of_covers 6 _ (by decide +kernel) fun t hf y => ?_
  blk_simp [(idx1 t).2.2.2.2.2.2.1]
  rw [after1_6, stepQ]
  canon_tiles x h
  · rw [h0, h1]; exact pt_dq hq hk hv hd ho hl t 1 1 x
  · rw [h0, h1]; refine (pt_dq hq hk hv hd ho hl t 0 1 x).trans ?_
    simp
  · rw [h0, h1]; refine (pt_dq hq hk hv hd ho hl t 1 0 x).trans ?_
    simp
  · rw [h0, h1]; refine (pt_dq hq hk hv hd ho hl t 0 0 x).trans ?_
    simp

include hq hk hv hd ho hl in
theorem run_dk (t : Fin cfg1.N) (a : Vec Ideal S2048x512 .f32) (L) (y : Fin 2048) (j : Fin 2) (x : Fin 256) (z : Fin 512) (hz : z.val = 256 * j.val + x.val) :
    View.canon (storesK (runK V c t a) L) (ix2 y z)
      = a (ix2 y z) + ((blockSum (keyTerm Q K W D (headOf t j) y x) (t.val % 4) : ℝ) : EReal) := by
  rw [storesK_apply (runK V c t a) L j (ix2 y x) (ix2 y z) rfl hz]
  refine (pt_dk hq hk hv hd ho hl t 1 j _ y x).trans ((congrArg (· + _) (pt_dk hq hk hv hd ho hl t 0 j _ y x)).trans ?_)
  have e : tileK a j (ix2 y x) = a (ix2 y z) := by
    refine congrArg a (funext fun i => Fin.ext ?_)
    fin_cases i
    · simp
    · simp [hz]
  rw [e, add_assoc, ← EReal.coe_add]
  rfl

include hq hk hd hl in
theorem run_dv (t : Fin cfg1.N) (a : Vec Ideal S2048x256 .f32) (L) (y : Fin 2048) (j : Fin 2) (x : Fin 128) (z : Fin 256) (hz : z.val = 128 * j.val + x.val) :
    View.canon (storesV (runV V c t a) L) (ix2 y z)
      = a (ix2 y z) + ((blockSum (valTerm Q K D (headOf t j) y x) (t.val % 4) : ℝ) : EReal) := by
  rw [storesV_apply (runV V c t a) L j (ix2 y x) (ix2 y z) rfl hz]
  refine (pt_dv hq hk hd hl t 1 j _ y x).trans ((congrArg (· + _) (pt_dv hq hk hd hl t 0 j _ y x)).trans ?_)
  have e : tileV a j (ix2 y x) = a (ix2 y z) := by
    refine congrArg a (funext fun i => Fin.ext ?_)
    fin_cases i
    · simp
    · simp [hz]
  rw [e, add_assoc, ← EReal.coe_add]
  rfl

end blocks

/-- A running block of two heads, `w` columns each, that the first of four points starts at zero and every point adds a real amount to. -/
theorem four_points {n : ℕ} (w : ℕ) (f : (m : ℕ) → m < cfg1.N → Fin 2048 → Fin n → EReal) (g : ℕ → ℕ → ℕ → ℕ → ℝ)
    (h0 : ∀ t : Fin cfg1.N, t.val % 4 = 0 → ∀ (y : Fin 2048) (z : Fin n),
      f t.val t.isLt y z = 0 + ((blockSum (g (headOf t (z / w)) y (z % w)) (t.val % 4) : ℝ) : EReal))
    (hs : ∀ t : Fin cfg1.N, ¬t.val % 4 = 0 → ∀ (y : Fin 2048) (z : Fin n), f t.val t.isLt y z
      = f (t.val - 1) (Nat.lt_of_le_of_lt (Nat.sub_le _ _) t.isLt) y z + ((blockSum (g (headOf t (z / w)) y (z % w)) (t.val % 4) : ℝ) : EReal))
    (t : Fin cfg1.N) (hf : t.val % 4 = 3) (y : Fin 2048) (z : Fin n) :
    f t.val t.isLt y z = ((∑ r ∈ Finset.range 2048, g (headOf t (z / w)) y (z % w) r : ℝ) : EReal) := by
  have acc := Pipeline.eq_sum_of_reset_step_apply_divmod (fun m h => fun p : Fin 2048 × Fin n => f m h p.1 p.2) 4 (fun _ => (0 : EReal))
    (fun q s p => ((blockSum (g (q * 2 + p.2 / w) p.1 (p.2 % w)) s : ℝ) : EReal)) (fun t h p => h0 t h p.1 p.2) (fun t h p => hs t h p.1 p.2) t (y, z)
  refine acc.trans ?_
  rw [hf, zero_add, sum_coe]
  exact congrArg _ (sum_blocks _)

section arrays

variable (hq : ∀ y : S2048x2048.Idx, V c main_arg0 y = ((Q (y 0) (y 1) : ℝ) : EReal))
variable (hk : ∀ y : S2048x2048.Idx, V c main_arg1 y = ((K (y 0) (y 1) : ℝ) : EReal))
variable (hv : ∀ y : S2048x1024.Idx, V c main_arg2 y = ((W (y 0) (y 1) : ℝ) : EReal))
variable (hd : ∀ y : S2048x1024.Idx, V c main_arg3 y = ((D (y 0) (y 1) : ℝ) : EReal))
variable (ho : ∀ y : S2048x1024.Idx, V c main_v0_0 y = ((outAt Q K W (y 0) (y 1) : ℝ) : EReal))
variable (hl : ∀ y : S2048x1024.Idx, V c main_v0_1 y = ((lseAt Q K (y 0) (y 1) : ℝ) : EReal))

include hq hk hv hd ho hl in
theorem first_dk (t : Fin cfg1.N) (h : t.val % 4 = 0) (y : Fin 2048) (z : Fin 512) : (outsAt1 V c t.val t.isLt).2.1 (ix2 y z)
    = 0 + ((blockSum (keyTerm Q K W D (headOf t (z / 256)) y (z % 256)) (t.val % 4) : ℝ) : EReal) := by
  have h2 : z.val / 256 < 2 := by omega
  rw [stepK_A V c t h]
  refine (run_dk hq hk hv hd ho hl t _ _ y ⟨z.val / 256, h2⟩ ⟨z.val % 256, Nat.mod_lt _ (by decide)⟩ z (Nat.div_add_mod _ _).symm).trans (congrArg (· + _) ?_)
  exact Ideal.ofBits_zero_f32
include hq hk hv hd ho hl in
theorem next_dk (t : Fin cfg1.N) (h : ¬t.val % 4 = 0) (y : Fin 2048) (z : Fin 512) : (outsAt1 V c t.val t.isLt).2.1 (ix2 y z)
    = (outsAt1 V c (t.val - 1) (Nat.lt_of_le_of_lt (Nat.sub_le _ _) t.isLt)).2.1 (ix2 y z)
      + ((blockSum (keyTerm Q K W D (headOf t (z / 256)) y (z % 256)) (t.val % 4) : ℝ) : EReal) := by
  have h2 : z.val / 256 < 2 := by omega
  rw [stepK_B V c t h]
  exact run_dk hq hk hv hd ho hl t _ _ y ⟨z.val / 256, h2⟩ ⟨z.val % 256, Nat.mod_lt _ (by decide)⟩ z (Nat.div_add_mod _ _).symm

include hq hk hv hd ho hl in
/-- The key's gradient. -/
theorem arr_dk : (dat1 V c).arrAt 7 cfg1.N = fun y => ((dkAt Q K W D (y 0) (y 1) : ℝ) : EReal) := by
  refine (dat1 V c).arrAt_eq_of_covers 7 _ (by decide +kernel) fun t hf y => ?_
  blk_simp [(idx1 t).2.2.2.2.2.2.2.1]
  rw [after1_7]
  have acc := four_points (n := 512) 256 (fun n h y z => (outsAt1 V c n h).2.1 (ix2 y z)) (keyTerm Q K W D)
    (first_dk hq hk hv hd ho hl) (next_dk hq hk hv hd ho hl) t ((flush1_7 t).mp hf) (y 0) (y 1)
  have e : y = ix2 (y 0) (y 1) := eq_ix2 y
  refine (congrArg (outsAt1 V c t.val t.isLt).2.1 e).trans (acc.trans (congrArg _ ?_))
  have h1 : (y 1).val < 512 := (y 1).isLt
  rw [dkAt]
  simp only [show (t.val / 4 * 512 + (y 1).val) / 256 = t.val / 4 * 2 + (y 1).val / 256 by omega,
    show (t.val / 4 * 512 + (y 1).val) % 256 = (y 1).val % 256 by omega,
    zero_mul, zero_add, Matrix.cons_val_zero, Matrix.cons_val_one, Nat.zero_mul, Nat.zero_add]

include hq hk hd hl in
theorem first_dv (t : Fin cfg1.N) (h : t.val % 4 = 0) (y : Fin 2048) (z : Fin 256) : (outsAt1 V c t.val t.isLt).2.2 (ix2 y z)
    = 0 + ((blockSum (valTerm Q K D (headOf t (z / 128)) y (z % 128)) (t.val % 4) : ℝ) : EReal) := by
  have h2 : z.val / 128 < 2 := by omega
  rw [stepV_A V c t h]
  refine (run_dv hq hk hd hl t _ _ y ⟨z.val / 128, h2⟩ ⟨z.val % 128, Nat.mod_lt _ (by decide)⟩ z (Nat.div_add_mod _ _).symm).trans (congrArg (· + _) ?_)
  exact Ideal.ofBits_zero_f32
include hq hk hd hl in
theorem next_dv (t : Fin cfg1.N) (h : ¬t.val % 4 = 0) (y : Fin 2048) (z : Fin 256) : (outsAt1 V c t.val t.isLt).2.2 (ix2 y z)
    = (outsAt1 V c (t.val - 1) (Nat.lt_of_le_of_lt (Nat.sub_le _ _) t.isLt)).2.2 (ix2 y z)
      + ((blockSum (valTerm Q K D (headOf t (z / 128)) y (z % 128)) (t.val % 4) : ℝ) : EReal) := by
  have h2 : z.val / 128 < 2 := by omega
  rw [stepV_B V c t h]
  exact run_dv hq hk hd hl t _ _ y ⟨z.val / 128, h2⟩ ⟨z.val % 128, Nat.mod_lt _ (by decide)⟩ z (Nat.div_add_mod _ _).symm

include hq hk hd hl in
/-- The value's gradient. -/
theorem arr_dv : (dat1 V c).arrAt 8 cfg1.N = fun y => ((dvAt Q K D (y 0) (y 1) : ℝ) : EReal) := by
  refine (dat1 V c).arrAt_eq_of_covers 8 _ (by decide +kernel) fun t hf y => ?_
  blk_simp [(idx1 t).2.2.2.2.2.2.2.2]
  rw [after1_8]
  have acc := four_points (n := 256) 128 (fun n h y z => (outsAt1 V c n h).2.2 (ix2 y z)) (valTerm Q K D)
    (first_dv hq hk hd hl) (next_dv hq hk hd hl) t ((flush1_8 t).mp hf) (y 0) (y 1)
  have e : y = ix2 (y 0) (y 1) := eq_ix2 y
  refine (congrArg (outsAt1 V c t.val t.isLt).2.2 e).trans (acc.trans (congrArg _ ?_))
  have h1 : (y 1).val < 256 := (y 1).isLt
  rw [dvAt]
  simp only [show (t.val / 4 * 256 + (y 1).val) / 128 = t.val / 4 * 2 + (y 1).val / 128 by omega,
    show (t.val / 4 * 256 + (y 1).val) % 128 = (y 1).val % 128 by omega,
    zero_mul, zero_add, Matrix.cons_val_zero, Matrix.cons_val_one, Nat.zero_mul, Nat.zero_add]

end arrays

end Cert.AttnB

end
-- ==== Proof.RunB.lean ====
/- One run of the second forward and backward attention kernels, and what its three results hold for finite arguments. -/
module

public import proofs.«01_k».proof.Proof.BwdB

@[expose] public section

set_option maxRecDepth 16384

noncomputable section

namespace Cert.AttnB

open Idealize.ShloMosaic Idealize.ShloMosaic.TcCoe Idealize.ShloMosaic.Tactic Cert.Attn Cert.Kernel6Ideal Cert.Kernel6Ideal.Gen Cert.Kernel6Ideal.Facts
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

set_option backward.isDefEq.respectTransparency.types false in
/-- Every run ends with each result array at the second kernel's array of it, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v1_0) = (dat1 (V1 m ρ) c).arrAt 6 cfg1.N
      ∧ r.2.mem ((c.tc : Thread nD τ).loc main_v1_1) = (dat1 (V1 m ρ) c).arrAt 7 cfg1.N
      ∧ r.2.mem ((c.tc : Thread nD τ).loc main_v1_2) = (dat1 (V1 m ρ) c).arrAt 8 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨⟨(h c _ (mem_uc main_v1_0 (by decide))).trans (W2_arr m ρ c 6),
        (h c _ (mem_uc main_v1_1 (by decide))).trans (W2_arr m ρ c 7),
        (h c _ (mem_uc main_v1_2 (by decide))).trans (W2_arr m ρ c 8)⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

variable (m : (ℓ : Loc nD τ sig) → Buf (Elt Ideal) ℓ) (ρ : Dev nD → PrngReg) (c : Dev nD) {Q K W D : ℕ → ℕ → ℝ}
variable (hq : ∀ y : S2048x2048.Idx, m ((c.tc : Thread nD τ).loc main_arg0) y = ((Q (y 0) (y 1) : ℝ) : EReal))
variable (hk : ∀ y : S2048x2048.Idx, m ((c.tc : Thread nD τ).loc main_arg1) y = ((K (y 0) (y 1) : ℝ) : EReal))
variable (hv : ∀ y : S2048x1024.Idx, m ((c.tc : Thread nD τ).loc main_arg2) y = ((W (y 0) (y 1) : ℝ) : EReal))
variable (hd : ∀ y : S2048x1024.Idx, m ((c.tc : Thread nD τ).loc main_arg3) y = ((D (y 0) (y 1) : ℝ) : EReal))

include hq hk hv hd in
/-- The three gradients the run leaves. -/
theorem run_values :
    (dat1 (V1 m ρ) c).arrAt 6 cfg1.N = (fun y => ((dqAt Q K W D (y 0) (y 1) : ℝ) : EReal))
    ∧ (dat1 (V1 m ρ) c).arrAt 7 cfg1.N = (fun y => ((dkAt Q K W D (y 0) (y 1) : ℝ) : EReal))
    ∧ (dat1 (V1 m ρ) c).arrAt 8 cfg1.N = (fun y => ((dvAt Q K D (y 0) (y 1) : ℝ) : EReal)) := by
  have a0 : V1 m ρ c main_arg0 = m ((c : Thread nD τ).loc main_arg0) := W1_args m ρ c main_arg0 (by decide)
  have a1 : V1 m ρ c main_arg1 = m ((c : Thread nD τ).loc main_arg1) := W1_args m ρ c main_arg1 (by decide)
  have a2 : V1 m ρ c main_arg2 = m ((c : Thread nD τ).loc main_arg2) := W1_args m ρ c main_arg2 (by decide)
  have a3 : V1 m ρ c main_arg3 = m ((c : Thread nD τ).loc main_arg3) := W1_args m ρ c main_arg3 (by decide)
  have b0 : V1 m ρ c main_v0_0 = (dat0 (V0 m ρ) c).arrAt 3 cfg0.N := W1_arr m ρ c 3
  have b1 : V1 m ρ c main_v0_1 = (dat0 (V0 m ρ) c).arrAt 4 cfg0.N := W1_arr m ρ c 4
  have hq1 : ∀ y : S2048x2048.Idx, V1 m ρ c main_arg0 y = ((Q (y 0) (y 1) : ℝ) : EReal) := fun y => (congrFun a0 y).trans (hq y)
  have hk1 : ∀ y : S2048x2048.Idx, V1 m ρ c main_arg1 y = ((K (y 0) (y 1) : ℝ) : EReal) := fun y => (congrFun a1 y).trans (hk y)
  have hv1 : ∀ y : S2048x1024.Idx, V1 m ρ c main_arg2 y = ((W (y 0) (y 1) : ℝ) : EReal) := fun y => (congrFun a2 y).trans (hv y)
  have hd1 : ∀ y : S2048x1024.Idx, V1 m ρ c main_arg3 y = ((D (y 0) (y 1) : ℝ) : EReal) := fun y => (congrFun a3 y).trans (hd y)
  have ho1 : ∀ y : S2048x1024.Idx, V1 m ρ c main_v0_0 y = ((outAt Q K W (y 0) (y 1) : ℝ) : EReal) := fun y =>
    (congrFun b0 y).trans (congrFun (arr_out (V := V0 m ρ) (c := c) hq hk hv) y)
  have hl1 : ∀ y : S2048x1024.Idx, V1 m ρ c main_v0_1 y = ((lseAt Q K (y 0) (y 1) : ℝ) : EReal) := fun y =>
    (congrFun b1 y).trans (congrFun (arr_lse (V := V0 m ρ) (c := c) hq hk) y)
  exact ⟨arr_dq hq1 hk1 hv1 hd1 ho1 hl1, arr_dk hq1 hk1 hv1 hd1 ho1 hl1, arr_dv hq1 hk1 hd1 hl1⟩

end Cert.AttnB

end
-- ==== Proof.RefB.lean ====
/- What the reference gradients of the second attention hold at an index, for finite arguments. -/
module

public import proofs.«01_k».proof.Proof.BwdB
public import proofs.«01_k».proof.Proof.Gen.Reference6Ideal.Read

@[expose] public section

set_option maxRecDepth 16384

noncomputable section

namespace Cert.AttnB

open Idealize.ShloMosaic Cert.Attn Cert.Reference6Ideal Cert.Reference6Ideal.Gen Cert.Reference6Ideal.Facts

open Cert.Reference6Ideal.Read

variable {x0 x1 : (⟨S2048x2048, .bf16⟩ : BufTy).Contents (Elt Ideal)} {x2 x3 : (⟨S2048x1024, .bf16⟩ : BufTy).Contents (Elt Ideal)}
theorem zero_word : Ideal.ofBits .f32 0x00000000#32 = (0 : EReal) := Ideal.ofBits_zero_f32
theorem one_word : Ideal.ofBits .f32 0x3F800000#32 = ((1 : ℝ) : EReal) := Ideal.ofBits_one_f32

variable {Q K W D : ℕ → ℕ → ℝ}
variable (hq : ∀ y : S2048x2048.Idx, x0 y = ((Q (y 0) (y 1) : ℝ) : EReal))
variable (hk : ∀ y : S2048x2048.Idx, x1 y = ((K (y 0) (y 1) : ℝ) : EReal))
variable (hv : ∀ y : S2048x1024.Idx, x2 y = ((W (y 0) (y 1) : ℝ) : EReal))
variable (hd : ∀ y : S2048x1024.Idx, x3 y = ((D (y 0) (y 1) : ℝ) : EReal))

include hq in
/-- The queries by head, row and column. -/
theorem ref_q (i : S8x2048x256.Idx) : val_main_v4 (F := Ideal) x0 i = ((Q (i 1) (256 * (i 0 : ℕ) + (i 2 : ℕ)) : ℝ) : EReal) := by
  have h0 : (i 0).val < 8 := (i 0).isLt
  have h1 : (i 1).val < 2048 := (i 1).isLt
  have h2 : (i 2).val < 256 := (i 2).isLt
  rw [val_main_v4_apply, val_main_v3_apply, val_main_v0_apply]
  refine (hq _).trans ?_
  refine congrArg _ (congrArg₂ Q ?_ ?_)
  · show (((i 1).val * 8 + (i 0).val) * 256 + (i 2).val) / 2048 = _
    omega
  · show (((i 1).val * 8 + (i 0).val) * 256 + (i 2).val) % 2048 = _
    omega

include hk in
/-- The keys. -/
theorem ref_k (i : S8x2048x256.Idx) : val_main_v6 (F := Ideal) x1 i = ((K (i 1) (256 * (i 0 : ℕ) + (i 2 : ℕ)) : ℝ) : EReal) := by
  have h0 : (i 0).val < 8 := (i 0).isLt
  have h1 : (i 1).val < 2048 := (i 1).isLt
  have h2 : (i 2).val < 256 := (i 2).isLt
  rw [val_main_v6_apply, val_main_v5_apply, val_main_v1_apply]
  refine (hk _).trans ?_
  refine congrArg _ (congrArg₂ K ?_ ?_)
  · show (((i 1).val * 8 + (i 0).val) * 256 + (i 2).val) / 2048 = _
    omega
  · show (((i 1).val * 8 + (i 0).val) * 256 + (i 2).val) % 2048 = _
    omega

include hv in
/-- The values. -/
theorem ref_v (i : S8x2048x128.Idx) : val_main_v8 (F := Ideal) x2 i = ((W (i 1) (128 * (i 0 : ℕ) + (i 2 : ℕ)) : ℝ) : EReal) := by
  have h0 : (i 0).val < 8 := (i 0).isLt
  have h1 : (i 1).val < 2048 := (i 1).isLt
  have h2 : (i 2).val < 128 := (i 2).isLt
  rw [val_main_v8_apply, val_main_v7_apply, val_main_v2_apply]
  refine (hv _).trans ?_
  refine congrArg _ (congrArg₂ W ?_ ?_)
  · show (((i 1).val * 8 + (i 0).val) * 128 + (i 2).val) / 1024 = _
    omega
  · show (((i 1).val * 8 + (i 0).val) * 128 + (i 2).val) % 1024 = _
    omega

include hd in
/-- The gradient of the output. -/
theorem ref_g (i : S8x2048x128.Idx) : val_main_v45 (F := Ideal) x3 i = ((D (i 1) (128 * (i 0 : ℕ) + (i 2 : ℕ)) : ℝ) : EReal) := by
  have h0 : (i 0).val < 8 := (i 0).isLt
  have h1 : (i 1).val < 2048 := (i 1).isLt
  have h2 : (i 2).val < 128 := (i 2).isLt
  rw [val_main_v45_apply, val_main_v44_apply, val_main_v43_apply]
  refine (hd _).trans ?_
  refine congrArg _ (congrArg₂ D ?_ ?_)
  · show (((i 1).val * 8 + (i 0).val) * 128 + (i 2).val) / 1024 = _
    omega
  · show (((i 1).val * 8 + (i 0).val) * 128 + (i 2).val) % 1024 = _
    omega

include hq hk in
/-- The scaled scores. -/
theorem ref_score (i : S8x2048x2048.Idx) : val_main_v11 (F := Ideal) x0 x1 i
    = ((score sb (row2 Q (i 0) (i 1)) (keys2 K (i 0)) ⟨(i 2).val, (i 2).isLt⟩ : ℝ) : EReal) := by
  rw [val_main_v11_apply, val_main_v9_apply, val_main_v10_apply, val_main_cst_apply]
  simp only [ref_q hq, ref_k hk, ← EReal.coe_mul, sum_coe]
  refine (congrArg (fun z => FloatOps.mulf (F := Ideal) (φ := .f32) _ z) sb_eq).trans ?_
  exact (EReal.coe_mul _ _).symm

include hq hk in
/-- The row maximum the reference subtracts is some real number. -/
theorem ref_max : ∃ M : ℕ → ℕ → ℝ, ∀ i : S8x2048.Idx, val_main_v19 (F := Ideal) x0 x1 i = ((M (i 0) (i 1) : ℝ) : EReal) := by
  have key : ∀ i : S8x2048.Idx, ∃ M : ℝ, val_main_v19 (F := Ideal) x0 x1 i = (M : EReal) := by
    intro i
    obtain ⟨m, hm⟩ := fold_max_coe Finset.univ ⟨(0 : Fin 2048), Finset.mem_univ _⟩
      fun j => score sb (row2 Q (i 0) (i 1)) (keys2 K (i 0)) j
    refine ⟨m, ?_⟩
    have h12 : val_main_v12 (F := Ideal) x0 x1 i = (m : EReal) := by
      rw [val_main_v12]
      have hs := ref_score hq hk
      generalize val_main_v11 (F := Ideal) x0 x1 = s at hs
      pointwise []
      simp only [hs, neg_inf]
      exact hm
    rw [val_main_v19_apply, h12, val_main_v18_apply, val_main_cst_2_apply]
    refine (congrArg (fun z => FloatOps.maximumf (F := Ideal) (φ := .f32) z _) neg_inf).trans ?_
    exact max_eq_right bot_le
  choose f hf using key
  refine ⟨fun a b => if h : a < 8 ∧ b < 2048 then f (ix2 ⟨a, h.1⟩ ⟨b, h.2⟩) else 0, fun i => ?_⟩
  refine (hf i).trans (congrArg _ ?_)
  refine Eq.trans ?_ (dif_pos (show (i 0).val < 8 ∧ (i 1).val < 2048 from ⟨(i 0).isLt, (i 1).isLt⟩)).symm
  exact congrArg f (eq_ix2 i)

section shifted
variable {M : ℕ → ℕ → ℝ} (hM : ∀ i : S8x2048.Idx, val_main_v19 (F := Ideal) x0 x1 i = ((M (i 0) (i 1) : ℝ) : EReal))

/-- The shifted exponential of a score. -/
def wexp (Q K : ℕ → ℕ → ℝ) (M : ℕ → ℕ → ℝ) (w r : ℕ) (j : Fin 2048) : ℝ :=
  Real.exp (score sb (row2 Q w r) (keys2 K w) j - M w r)

include hq hk hM in
theorem ref_exp (i : S8x2048x2048.Idx) :
    val_main_v32 (F := Ideal) x0 x1 i = ((wexp Q K M (i 0) (i 1) ⟨(i 2).val, (i 2).isLt⟩ : ℝ) : EReal) := by
  rw [val_main_v32_apply, val_main_v31_apply, val_main_v30_apply, val_main_v29_apply, hM, ref_score hq hk]
  rfl

include hq hk hM in
theorem ref_norm (i : S8x2048.Idx) :
    val_main_v33 (F := Ideal) x0 x1 i = ((∑ j, wexp Q K M (i 0) (i 1) j : ℝ) : EReal) := by
  rw [val_main_v33_apply, val_main_cst_8_apply]
  simp only [ref_exp hq hk hM, sum_coe]
  refine (congrArg (fun z : EReal => z + _) zero_word).trans ?_
  exact zero_add _

theorem wsum_pos (w r : ℕ) : 0 < ∑ j, wexp Q K M w r j :=
  Finset.sum_pos (fun _ _ => Real.exp_pos _) ⟨0, Finset.mem_univ _⟩

include hq hk hM in
theorem ref_prob (i : S8x2048x2048.Idx) : val_main_v36 (F := Ideal) x0 x1 i
    = ((prob sb (row2 Q (i 0) (i 1)) (keys2 K (i 0)) ⟨(i 2).val, (i 2).isLt⟩ : ℝ) : EReal) := by
  rw [val_main_v36_apply, val_main_v35_apply, val_main_v34_apply, ref_norm hq hk hM, ref_exp hq hk hM]
  refine (div_coe_coe _ (wsum_pos _ _).ne').trans (congrArg _ ?_)
  exact prob_shifted sb _ _ _ _

include hv hd in
theorem ref_dprob (i : S8x2048x2048.Idx) : val_main_v48 (F := Ideal) x2 x3 i
    = ((dprob (keys W (i 0)) (row D (i 0) (i 1)) ⟨(i 2).val, (i 2).isLt⟩ : ℝ) : EReal) := by
  rw [val_main_v48_apply]
  simp only [ref_g hd, ref_v hv, ← EReal.coe_mul, sum_coe]
  rfl

include hq hk hv hd hM in
theorem ref_dscore (i : S8x2048x2048.Idx) : val_main_v62 (F := Ideal) x0 x1 x2 x3 i
    = ((dscore sb (row2 Q (i 0) (i 1)) (keys2 K (i 0)) (keys W (i 0)) (row D (i 0) (i 1))
        ⟨(i 2).val, (i 2).isLt⟩ : ℝ) : EReal) := by
  have hz : ∀ i : S8x2048.Idx, val_main_v33 (F := Ideal) x0 x1 i ≠ 0 := fun i => by
    rw [ref_norm hq hk hM]; exact fun h => (wsum_pos (Q := Q) (K := K) (M := M) (i 0) (i 1)).ne' (EReal.coe_eq_zero.mp h)
  have h39 : ∀ i : S8x2048x1.Idx, val_main_v39 (F := Ideal) x0 x1 i
      = ((1 / ((∑ j, wexp Q K M (i 0) (i 1) j) * ∑ j, wexp Q K M (i 0) (i 1) j) : ℝ) : EReal) := fun i => by
    rw [val_main_v39_apply, val_main_v38_apply, val_main_cst_9_apply, val_main_v37_apply, val_main_v34_apply, ref_norm hq hk hM]
    refine (congrArg₂ (fun a b : EReal => Ideal.div a b) one_word (EReal.coe_mul _ _).symm).trans ?_
    exact div_coe_coe _ (mul_pos (wsum_pos _ _) (wsum_pos _ _)).ne'
  have h54 : ∀ i : S8x2048x1.Idx, val_main_v54 (F := Ideal) x0 x1 x2 x3 i
      = ((-(∑ j, dprob (keys W (i 0)) (row D (i 0) (i 1)) j
          * (1 / ((∑ j, wexp Q K M (i 0) (i 1) j) * ∑ j, wexp Q K M (i 0) (i 1) j)) * wexp Q K M (i 0) (i 1) j) : ℝ) : EReal) := fun i => by
    have h51 : ∀ i : S8x2048x2048.Idx, val_main_v51 (F := Ideal) x0 x1 x2 x3 i
        = ((dprob (keys W (i 0)) (row D (i 0) (i 1)) ⟨(i 2).val, (i 2).isLt⟩
          * (1 / ((∑ j, wexp Q K M (i 0) (i 1) j) * ∑ j, wexp Q K M (i 0) (i 1) j)) * wexp Q K M (i 0) (i 1) ⟨(i 2).val, (i 2).isLt⟩ : ℝ) : EReal) := fun i => by
      rw [val_main_v51_apply, val_main_v50_apply, val_main_v49_apply, h39, ref_dprob hv hd, ref_exp hq hk hM]
      rw [EReal.coe_mul, EReal.coe_mul]; rfl
    have h0 : (i 0).val < 8 := (i 0).isLt
    have h1 : (i 1).val < 2048 := (i 1).isLt
    have h2 : (i 2).val < 1 := (i 2).isLt
    have e : idx_main_v53 i = ix2 ⟨(i 0).val, h0⟩ ⟨(i 1).val, h1⟩ := by
      funext a
      match a with
      | ⟨0, _⟩ => exact Fin.ext (by show (((i 0).val * 2048 + (i 1).val) * 1 + (i 2).val) / 2048 = (i 0).val; omega)
      | ⟨1, _⟩ => exact Fin.ext (by show (((i 0).val * 2048 + (i 1).val) * 1 + (i 2).val) % 2048 = (i 1).val; omega)
    rw [val_main_v54_apply, val_main_v53_apply, e, val_main_v52_apply, val_main_cst_10_apply]
    simp only [h51, sum_coe]
    refine (congrArg (fun z : EReal => -z) ((congrArg (fun z : EReal => z + _) zero_word).trans (zero_add _))).trans ?_
    exact (EReal.coe_neg _).symm
  have h57 : ∀ i : S8x2048.Idx, val_main_v57 (F := Ideal) x0 x1 x2 x3 i
      = ((-(∑ j, dprob (keys W (i 0)) (row D (i 0) (i 1)) j
          * (1 / ((∑ j, wexp Q K M (i 0) (i 1) j) * ∑ j, wexp Q K M (i 0) (i 1) j)) * wexp Q K M (i 0) (i 1) j) : ℝ) : EReal) := fun i => by
    rw [val_main_v57_apply, val_main_cst_11_apply]
    simp only [h54, Fintype.sum_unique]
    refine ((congrArg (fun z : EReal => z + _) zero_word).trans (zero_add _))
  have h56 : val_main_v56 (F := Ideal) x0 x1 x2 x3 i
      = ((dprob (keys W (i 0)) (row D (i 0) (i 1)) ⟨(i 2).val, (i 2).isLt⟩ / ∑ j, wexp Q K M (i 0) (i 1) j : ℝ) : EReal) := by
    rw [val_main_v56_apply, val_main_v55_apply, val_main_v34_apply, ref_norm hq hk hM, ref_dprob hv hd]
    exact div_coe_coe _ (wsum_pos _ _).ne'
  rw [val_main_v62_apply, val_main_v60_apply, val_main_v59_apply, val_main_v58_apply, h57, h56, ref_exp hq hk hM, val_main_v61_apply, val_main_cst_12_apply]
  refine (congrArg (fun z => FloatOps.mulf (F := Ideal) (φ := .f32) _ z) sb_eq).trans ?_
  refine Eq.trans ?_ (congrArg (fun z : ℝ => (z : EReal)) (dscore_shifted sb (row2 Q (i 0) (i 1)) (keys2 K (i 0)) (keys W (i 0))
    (row D (i 0) (i 1)) (M (i 0) (i 1)) ⟨(i 2).val, (i 2).isLt⟩))
  rw [EReal.coe_mul, EReal.coe_mul, EReal.coe_add]
  rfl

end shifted

include hq hk hv hd in
/-- The gradient of the queries. -/
theorem ref_dq (y : S2048x2048.Idx) : val_main_v70 (F := Ideal) x0 x1 x2 x3 y = ((dqAt Q K W D (y 0) (y 1) : ℝ) : EReal) := by
  obtain ⟨M, hM⟩ := ref_max hq hk
  have h0 : (y 0).val < 2048 := (y 0).isLt
  have h1 : (y 1).val < 2048 := (y 1).isLt
  have h64 : ∀ i : S8x2048x256.Idx, val_main_v64 (F := Ideal) x0 x1 x2 x3 i
      = ((∑ j, dscore sb (row2 Q (i 0) (i 1)) (keys2 K (i 0)) (keys W (i 0)) (row D (i 0) (i 1)) j
        * keys2 K (i 0) j ⟨(i 2).val, (i 2).isLt⟩ : ℝ) : EReal) := fun i => by
    rw [val_main_v64_apply]
    simp only [ref_dscore hq hk hv hd hM, ref_k hk, ← EReal.coe_mul, sum_coe]
    rfl
  rw [val_main_v70_apply, val_main_v69_apply, h64]
  have e0 : ((y 0).val * 2048 + (y 1).val) / 2048 = (y 0).val := by omega
  have e1 : ((y 0).val * 2048 + (y 1).val) / 256 % 8 = (y 1).val / 256 := by omega
  have e2 : ((y 0).val * 2048 + (y 1).val) % 256 = (y 1).val % 256 := by omega
  refine congrArg _ ?_
  show ∑ j, dscore sb (row2 Q (((y 0).val * 2048 + (y 1).val) / 256 % 8) (((y 0).val * 2048 + (y 1).val) / 2048))
      (keys2 K (((y 0).val * 2048 + (y 1).val) / 256 % 8)) (keys W (((y 0).val * 2048 + (y 1).val) / 256 % 8))
      (row D (((y 0).val * 2048 + (y 1).val) / 256 % 8) (((y 0).val * 2048 + (y 1).val) / 2048)) j
      * K j (256 * (((y 0).val * 2048 + (y 1).val) / 256 % 8) + ((y 0).val * 2048 + (y 1).val) % 256) = _
  rw [e1, e0, e2]
  rfl

theorem keyTerm_of {h j x r : ℕ} (hj : j < 2048) : keyTerm Q K W D h j x r
    = dscore sb (row2 Q h r) (keys2 K h) (keys W h) (row D h r) ⟨j, hj⟩ * Q r (256 * h + x) := dif_pos hj
theorem valTerm_of {h j x r : ℕ} (hj : j < 2048) : valTerm Q K D h j x r
    = prob sb (row2 Q h r) (keys2 K h) ⟨j, hj⟩ * D r (128 * h + x) := dif_pos hj

include hq hk hv hd in
/-- The gradient of the keys. -/
theorem ref_dk (y : S2048x2048.Idx) : val_main_v68 (F := Ideal) x0 x1 x2 x3 y = ((dkAt Q K W D (y 0) (y 1) : ℝ) : EReal) := by
  obtain ⟨M, hM⟩ := ref_max hq hk
  have h63 : ∀ i : S8x2048x256.Idx, val_main_v63 (F := Ideal) x0 x1 x2 x3 i
      = ((∑ r ∈ Finset.range 2048, keyTerm Q K W D (i 0) (i 1) (i 2) r : ℝ) : EReal) := fun i => by
    have hs := ref_dscore hq hk hv hd hM
    have hq' := ref_q hq
    rw [val_main_v63_apply]
    simp only [hs, hq', ← EReal.coe_mul, sum_coe]
    refine congrArg _ ?_
    rw [Finset.sum_range]
    exact Finset.sum_congr rfl fun r _ => (keyTerm_of (i 1).isLt).symm
  rw [val_main_v68_apply, val_main_v67_apply, h63]
  have h0 : (y 0).val < 2048 := (y 0).isLt
  have h1 : (y 1).val < 2048 := (y 1).isLt
  have e0 : ((y 0).val * 2048 + (y 1).val) / 2048 = (y 0).val := by omega
  have e1 : ((y 0).val * 2048 + (y 1).val) / 256 % 8 = (y 1).val / 256 := by omega
  have e2 : ((y 0).val * 2048 + (y 1).val) % 256 = (y 1).val % 256 := by omega
  refine congrArg _ ?_
  show ∑ r ∈ Finset.range 2048, keyTerm Q K W D (((y 0).val * 2048 + (y 1).val) / 256 % 8) (((y 0).val * 2048 + (y 1).val) / 2048)
    (((y 0).val * 2048 + (y 1).val) % 256) r = _
  rw [e0, e1, e2]
  rfl

include hq hk hd in
/-- The gradient of the values. -/
theorem ref_dv (y : S2048x1024.Idx) : val_main_v66 (F := Ideal) x0 x1 x3 y = ((dvAt Q K D (y 0) (y 1) : ℝ) : EReal) := by
  obtain ⟨M, hM⟩ := ref_max hq hk
  have h46 : ∀ i : S8x128x2048.Idx, val_main_v46 (F := Ideal) x0 x1 x3 i
      = ((∑ r ∈ Finset.range 2048, valTerm Q K D (i 0) (i 2) (i 1) r : ℝ) : EReal) := fun i => by
    have hs := ref_prob hq hk hM
    have hg := ref_g hd
    rw [val_main_v46_apply]
    simp only [hs, hg, ← EReal.coe_mul, sum_coe]
    refine congrArg _ ?_
    rw [Finset.sum_range]
    exact Finset.sum_congr rfl fun r _ => (mul_comm _ _).trans (valTerm_of (i 2).isLt).symm
  rw [val_main_v66_apply, val_main_v65_apply, val_main_v47_apply, h46]
  have h0 : (y 0).val < 2048 := (y 0).isLt
  have h1 : (y 1).val < 1024 := (y 1).isLt
  have e0 : ((y 0).val * 1024 + (y 1).val) / 1024 = (y 0).val := by omega
  have e1 : ((y 0).val * 1024 + (y 1).val) / 128 % 8 = (y 1).val / 128 := by omega
  have e2 : ((y 0).val * 1024 + (y 1).val) % 128 = (y 1).val % 128 := by omega
  refine congrArg _ ?_
  show ∑ r ∈ Finset.range 2048, valTerm Q K D (((y 0).val * 1024 + (y 1).val) / 128 % 8) (((y 0).val * 1024 + (y 1).val) / 1024)
    (((y 0).val * 1024 + (y 1).val) % 128) r = _
  rw [e0, e1, e2]
  rfl

end Cert.AttnB

end
-- ==== Proof.AttnB.lean ====
/- The second attention's value claim: finite arguments are arrays of real numbers, and on those the run's arrays (RunB)
   are the reference's (RefB) index by index. -/
module

public import proofs.«01_k».proof.Proof.Pre
public import proofs.«01_k».proof.Proof.RunB
public import proofs.«01_k».proof.Proof.RefB

@[expose] public section

set_option maxRecDepth 16384

noncomputable section

namespace Cert.AttnB

open Idealize.ShloMosaic Idealize.SL.Sem Cert.Attn

open Cert.Kernel6Ideal in
/-- Under the second precondition the four arguments are arrays of real numbers. -/
theorem real_args [hPre_finite6 : Cert.Pre_finite6.Facts] {m : (ℓ : Loc nD τ sig) → Buf (Elt Ideal) ℓ} (h : Cert.Pre_Kernel6Ideal_finite6 m) (c : Dev nD) :
    ∃ Q K W D : ℕ → ℕ → ℝ,
      (∀ y : S2048x2048.Idx, m ((c.tc : Thread nD τ).loc main_arg0) y = ((Q (y 0) (y 1) : ℝ) : EReal))
      ∧ (∀ y : S2048x2048.Idx, m ((c.tc : Thread nD τ).loc main_arg1) y = ((K (y 0) (y 1) : ℝ) : EReal))
      ∧ (∀ y : S2048x1024.Idx, m ((c.tc : Thread nD τ).loc main_arg2) y = ((W (y 0) (y 1) : ℝ) : EReal))
      ∧ (∀ y : S2048x1024.Idx, m ((c.tc : Thread nD τ).loc main_arg3) y = ((D (y 0) (y 1) : ℝ) : EReal)) := by
  obtain ⟨h0, h1, h2, h3⟩ := h c
  obtain ⟨Q, hQ⟩ := real_array (x := m ((c.tc : Thread nD τ).loc main_arg0)) fun y => real_of_abs_lt (congrFun h0 y)
  obtain ⟨K, hK⟩ := real_array (x := m ((c.tc : Thread nD τ).loc main_arg1)) fun y => real_of_abs_lt (congrFun h1 y)
  obtain ⟨W, hW⟩ := real_array (x := m ((c.tc : Thread nD τ).loc main_arg2)) fun y => real_of_abs_lt (congrFun h2 y)
  obtain ⟨D, hD⟩ := real_array (x := m ((c.tc : Thread nD τ).loc main_arg3)) fun y => real_of_abs_lt (congrFun h3 y)
  exact ⟨Q, K, W, D, hQ, hK, hW, hD⟩

/-- The side conditions the second precondition's text states. -/
theorem pre_facts6 : Cert.Pre_finite6.Facts := ⟨by decide, by decide, by decide⟩

/-- The second attention's gradients, by the kernels and by the reference, are equal for finite arguments. -/
theorem algebraic : Cert.algebraic_Kernel6Ideal_Reference6Ideal_pre_finite6 (hKernel6Ideal := Cert.Kernel6Ideal.Gen.facts)
    (hReference6Ideal := Cert.Reference6Ideal.Gen.facts) (hPre_finite6 := pre_facts6) := by
  intro m g m' g' hpre hm
  refine ⟨fun c => (Cert.Kernel6Ideal.Gen.dat1 (Cert.Kernel6Ideal.Gen.V1 m g) c).arrAt 6 Cert.Kernel6Ideal.cfg1.N,
    fun c => (Cert.Kernel6Ideal.Gen.dat1 (Cert.Kernel6Ideal.Gen.V1 m g) c).arrAt 7 Cert.Kernel6Ideal.cfg1.N,
    fun c => (Cert.Kernel6Ideal.Gen.dat1 (Cert.Kernel6Ideal.Gen.V1 m g) c).arrAt 8 Cert.Kernel6Ideal.cfg1.N, ?_, ?_⟩
  · exact (θ_run _ _ _).mono (fun _ h c => ⟨(h c).1.1, (h c).1.2.1, (h c).1.2.2, (h c).2⟩) (run_arrays m g)
  · refine (θ_run _ _ _).mono (fun _ h c => ?_) (Cert.Reference6Ideal.Value.run (F := Ideal) m' g')
    obtain ⟨e0, e1, e2, ha⟩ := h c
    obtain ⟨Q, K, W, D, hq, hk, hv, hd⟩ := real_args (hPre_finite6 := pre_facts6) hpre c
    obtain ⟨r0, r1, r2⟩ := run_values m g c hq hk hv hd
    obtain ⟨m0, m1, m2, m3⟩ := hm c
    refine ⟨(e0.trans (Cert.Reference6Ideal.Read.val_main_v70_eq m' c)).trans ?_,
      (e1.trans (Cert.Reference6Ideal.Read.val_main_v68_eq m' c)).trans ?_,
      (e2.trans (Cert.Reference6Ideal.Read.val_main_v66_eq _ _ _)).trans ?_, ha⟩
    · refine Eq.trans (funext fun y => ?_) r0.symm
      exact ref_dq (fun y => (congrFun m0 y).trans (hq y)) (fun y => (congrFun m1 y).trans (hk y))
        (fun y => (congrFun m2 y).trans (hv y)) (fun y => (congrFun m3 y).trans (hd y)) y
    · refine Eq.trans (funext fun y => ?_) r1.symm
      exact ref_dk (fun y => (congrFun m0 y).trans (hq y)) (fun y => (congrFun m1 y).trans (hk y))
        (fun y => (congrFun m2 y).trans (hv y)) (fun y => (congrFun m3 y).trans (hd y)) y
    · refine Eq.trans (funext fun y => ?_) r2.symm
      exact ref_dv (fun y => (congrFun m0 y).trans (hq y)) (fun y => (congrFun m1 y).trans (hk y))
        (fun y => (congrFun m3 y).trans (hd y)) y

end Cert.AttnB

end
-- ==== Proof.WGrad.lean ====
/- Two weight gradients, each a product of columns with columns: the output projection's and the latent keys' and values'. -/
module

public import proofs.«01_k».proof.Proof.Mlp
public import proofs.«01_k».proof.Proof.Gen.Kernel7Ideal.Frame
public import Idealize.ShloMosaic.Lib.Pipeline.ValueKit

@[expose] public section

set_option maxRecDepth 16384

noncomputable section

namespace Cert.WGrad

open Idealize.ShloMosaic Idealize.ShloMosaic.TcCoe Idealize.ShloMosaic.Tactic Cert.Mlp Cert.Kernel7Ideal Cert.Kernel7Ideal.Gen Cert.Kernel7Ideal.Facts
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- A weight's gradient: column `i` of the product's input with column `j` of its output's gradient. -/
def gradAt (X G : ℕ → ℕ → EReal) (i j : ℕ) : EReal := ∑ k : Fin 2048, X k i * G k j

theorem idx0 : ∀ t : Fin grid0.N, win0_0.index t = ![0, t.val / 2] ∧ win0_1.index t = ![0, t.val % 2]
    ∧ win0_2.index t = ![0, t.val / 2, t.val % 2] := by
  decide +kernel
theorem idx1 : ∀ t : Fin grid1.N, win1_0.index t = ![0, 0] ∧ win1_1.index t = ![0, t.val]
    ∧ win1_2.index t = ![t.val, 0, 0] := by
  decide +kernel

theorem pay_out (v0 v1 : Vec Ideal S2048x1024 .bf16) (r x : Fin 1024) :
    k0_pay1 v0 v1 (ix3 0 r x) = ∑ k : Fin 2048, v0 (ix2 k r) * v1 (ix2 k x) := by
  unfold_payloads
  pointwise []
theorem pay_kv (v0 v1 : Vec Ideal S2048x512 .bf16) (r x : Fin 512) :
    k1_pay1 v0 v1 (ix3 0 r x) = ∑ k : Fin 2048, v0 (ix2 k r) * v1 (ix2 k x) := by
  unfold_payloads
  pointwise []

variable {V : (c : Dev nD) → (b : Ref sig .tc) → Buf (Elt Ideal) ((c.tc : Thread nD τ).loc b)} {c : Dev nD}
variable {A G C E : ℕ → ℕ → EReal}

section out
variable (hA : ∀ y : S2048x2048.Idx, V c main_arg0 y = A (y 0) (y 1))
variable (hG : ∀ y : S2048x2048.Idx, V c main_arg1 y = G (y 0) (y 1))

include hA in
theorem a_ld (t : Fin cfg0.N) (k : Fin 2048) (r : Fin 1024) :
    View.ld (iblk0 V c 0 t) r0_0 (ix2 k r) = A k (t.val / 2 * 1024 + r) := by
  rw [View.ld_apply]
  refine (hA _).trans ?_
  blk_simp [(idx0 t).1]
  simp
include hG in
theorem g_ld (t : Fin cfg0.N) (k : Fin 2048) (r : Fin 1024) :
    View.ld (iblk0 V c 1 t) r0_0 (ix2 k r) = G k (t.val % 2 * 1024 + r) := by
  rw [View.ld_apply]
  refine (hG _).trans ?_
  blk_simp [(idx0 t).2.1]
  simp

include hA hG in
theorem arr_out : (dat0 V c).arrAt 2 cfg0.N = fun y => gradAt A G (y 1) (y 2) := by
  refine (dat0 V c).arrAt_eq_of_covers 2 _ (by decide +kernel) fun t hf y => ?_
  blk_simp [(idx0 t).2.2]
  rw [after0_2]
  unfold out0_2
  canon_tiles x h
  rw [h1, h2]
  have := (pay_out (View.ld (iblk0 V c 0 t) r0_0) (View.ld (iblk0 V c 1 t) r0_0) (x 1) (x 2)).trans
    (Finset.sum_congr rfl fun k _ => congrArg₂ (· * ·) (a_ld hA t k (x 1)) (g_ld hG t k (x 2)))
  exact (congrArg (k0_pay1 _ _) (ix3_unit x).symm).trans this
end out

section kv
variable (hC : ∀ y : S2048x512.Idx, V c main_arg2 y = C (y 0) (y 1))
variable (hE : ∀ y : S2048x2048.Idx, V c main_arg3 y = E (y 0) (y 1))

include hC in
theorem c_ld (t : Fin cfg1.N) (k : Fin 2048) (r : Fin 512) :
    View.ld (iblk1 V c 0 t) r1_0 (ix2 k r) = C k r := by
  rw [View.ld_apply]
  refine (hC _).trans ?_
  blk_simp [(idx1 t).1]
  simp
include hE in
theorem e_ld (t : Fin cfg1.N) (k : Fin 2048) (r : Fin 512) :
    View.ld (iblk1 V c 1 t) r1_0 (ix2 k r) = E k (t.val * 512 + r) := by
  rw [View.ld_apply]
  refine (hE _).trans ?_
  blk_simp [(idx1 t).2.1]
  simp

include hC hE in
theorem arr_kv : (dat1 V c).arrAt 2 cfg1.N = fun y => gradAt C E (y 1) ((y 0).val * 512 + (y 2).val) := by
  refine (dat1 V c).arrAt_eq_of_covers 2 _ (by decide +kernel) fun t hf y => ?_
  blk_simp [(idx1 t).2.2]
  rw [after1_2]
  unfold out1_2
  canon_tiles x h
  rw [h1, h2]
  have := (pay_kv (View.ld (iblk1 V c 0 t) r1_0) (View.ld (iblk1 V c 1 t) r1_0) (x 1) (x 2)).trans
    (Finset.sum_congr rfl fun k _ => congrArg₂ (· * ·) (c_ld hC t k (x 1)) (e_ld hE t k (x 2)))
  exact (congrArg (k1_pay1 _ _) (ix3_unit x).symm).trans this
end kv

set_option backward.isDefEq.respectTransparency.types false in
/-- Every run ends with each result array as the last product leaves it, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v0) = W2 m ρ c (Proc.devRef .tc main_v0)
      ∧ r.2.mem ((c.tc : Thread nD τ).loc main_v1) = W2 m ρ c (Proc.devRef .tc main_v1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨⟨h c _ (mem_uc main_v0 (by decide)), h c _ (mem_uc main_v1 (by decide))⟩,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

variable (m : (ℓ : Loc nD τ sig) → Buf (Elt Ideal) ℓ) (ρ : Dev nD → PrngReg) (c : Dev nD)
variable {A G C E : ℕ → ℕ → EReal}
variable (hA : ∀ y : S2048x2048.Idx, m ((c.tc : Thread nD τ).loc main_arg0) y = A (y 0) (y 1))
variable (hG : ∀ y : S2048x2048.Idx, m ((c.tc : Thread nD τ).loc main_arg1) y = G (y 0) (y 1))
variable (hC : ∀ y : S2048x512.Idx, m ((c.tc : Thread nD τ).loc main_arg2) y = C (y 0) (y 1))
variable (hE : ∀ y : S2048x2048.Idx, m ((c.tc : Thread nD τ).loc main_arg3) y = E (y 0) (y 1))

include hA hG hC hE in
/-- The two arrays the run leaves. -/
theorem run_values :
    W2 m ρ c (Proc.devRef .tc main_v0) = (fun y => gradAt A G (y 1) (y 2))
    ∧ W2 m ρ c (Proc.devRef .tc main_v1) = (fun y => gradAt C E (y 1) ((y 0).val * 512 + (y 2).val)) := by
  have g1 : V1 m ρ c main_v0 = (fun y => gradAt A G (y 1) (y 2)) := (W1_arr m ρ c 2).trans (arr_out (V := V0 m ρ) hA hG)
  have c1 : V1 m ρ c main_arg2 = m ((c : Thread nD τ).loc main_arg2) := W1_args m ρ c main_arg2 (by decide)
  have e1 : V1 m ρ c main_arg3 = m ((c : Thread nD τ).loc main_arg3) := W1_args m ρ c main_arg3 (by decide)
  exact ⟨(W2_of m ρ c main_v0 (by decide)).trans g1,
    (W2_arr m ρ c 2).trans (arr_kv (V := V1 m ρ) (fun y => (congrFun c1 y).trans (hC y)) (fun y => (congrFun e1 y).trans (hE y)))⟩

end Cert.WGrad

end
-- ==== Proof.WGradRef.lean ====
/- The reference of the two weight gradients, and its agreement with the kernels. -/
module

public import proofs.«01_k».proof.Proof.WGrad
public import proofs.«01_k».proof.Proof.Gen.Reference7Ideal.Read
public import proofs.«01_k».proof.Defs

@[expose] public section

set_option maxRecDepth 16384

noncomputable section

namespace Cert.WGrad

open Idealize.ShloMosaic Idealize.ShloMosaic.TcCoe Idealize.SL.Sem Cert.Mlp Cert.Reference7Ideal Cert.Reference7Ideal.Read

variable {x0 x1 x3 : (⟨S2048x2048, .bf16⟩ : BufTy).Contents (Elt Ideal)} {x2 : (⟨S2048x512, .bf16⟩ : BufTy).Contents (Elt Ideal)}
variable {A G C E : ℕ → ℕ → EReal}
variable (hA : ∀ y : S2048x2048.Idx, x0 y = A (y 0) (y 1)) (hG : ∀ y : S2048x2048.Idx, x1 y = G (y 0) (y 1))
variable (hC : ∀ y : S2048x512.Idx, x2 y = C (y 0) (y 1)) (hE : ∀ y : S2048x2048.Idx, x3 y = E (y 0) (y 1))

include hA hG in
theorem ref_out (i : S1x2048x2048.Idx) : val_main_v8 (F := Ideal) x0 x1 i = gradAt A G (i 1) (i 2) := by
  rw [val_main_v8_apply, val_main_v7_apply, val_main_v6_apply]
  refine Finset.sum_congr rfl fun k _ => ?_
  rw [val_main_v5_apply, val_main_v4_apply, mul_comm]
  exact congrArg₂ (· * ·) (hA _) (hG _)
include hC hE in
theorem ref_kv (i : S4x512x512.Idx) : val_main_v10 (F := Ideal) x2 x3 i = gradAt C E (i 1) ((i 0).val * 512 + (i 2).val) := by
  have h0 : (i 0).val < 4 := (i 0).isLt
  have h1 : (i 1).val < 512 := (i 1).isLt
  have h2 : (i 2).val < 512 := (i 2).isLt
  have e0 : (((i 1).val * 4 + (i 0).val) * 512 + (i 2).val) / 2048 = (i 1).val := by omega
  have e1 : (((i 1).val * 4 + (i 0).val) * 512 + (i 2).val) % 2048 = (i 0).val * 512 + (i 2).val := by omega
  rw [val_main_v10_apply, val_main_v9_apply, val_main_v3_apply, val_main_v2_apply]
  refine Finset.sum_congr rfl fun k _ => ?_
  rw [val_main_v1_apply, val_main_v0_apply, mul_comm]
  exact congrArg₂ (· * ·) ((hC _).trans (congrArg (C k) e0)) ((hE _).trans (congrArg (E k) e1))

theorem algebraic : Cert.algebraic_Kernel7Ideal_Reference7Ideal (hKernel7Ideal := Cert.Kernel7Ideal.Gen.facts)
    (hReference7Ideal := Cert.Reference7Ideal.Gen.facts) := by
  intro m g m' g' _ hag
  refine ⟨fun c => Cert.Kernel7Ideal.Gen.W2 m g c (Proc.devRef .tc Cert.Kernel7Ideal.main_v0),
    fun c => Cert.Kernel7Ideal.Gen.W2 m g c (Proc.devRef .tc Cert.Kernel7Ideal.main_v1), ?_, ?_⟩
  · exact (θ_run _ _ _).mono (fun _ h c => ⟨(h c).1.1, (h c).1.2, (h c).2⟩) (run_arrays m g)
  · refine (θ_run _ _ _).mono (fun _ h c => ?_) (Cert.Reference7Ideal.Value.run (F := Ideal) m' g')
    obtain ⟨e0, e1, ha⟩ := h c
    obtain ⟨m0, m1, m2, m3⟩ := hag c
    have hA : ∀ y : S2048x2048.Idx, m ((c.tc : Thread _ _).loc Cert.Kernel7Ideal.main_arg0) y
        = at2 (m ((c.tc : Thread _ _).loc Cert.Kernel7Ideal.main_arg0)) (y 0) (y 1) := at2_of _
    have hG : ∀ y : S2048x2048.Idx, m ((c.tc : Thread _ _).loc Cert.Kernel7Ideal.main_arg1) y
        = at2 (m ((c.tc : Thread _ _).loc Cert.Kernel7Ideal.main_arg1)) (y 0) (y 1) := at2_of _
    have hC : ∀ y : S2048x512.Idx, m ((c.tc : Thread _ _).loc Cert.Kernel7Ideal.main_arg2) y
        = at2 (m ((c.tc : Thread _ _).loc Cert.Kernel7Ideal.main_arg2)) (y 0) (y 1) := at2_of _
    have hE : ∀ y : S2048x2048.Idx, m ((c.tc : Thread _ _).loc Cert.Kernel7Ideal.main_arg3) y
        = at2 (m ((c.tc : Thread _ _).loc Cert.Kernel7Ideal.main_arg3)) (y 0) (y 1) := at2_of _
    obtain ⟨r0, r1⟩ := run_values m g c hA hG hC hE
    refine ⟨(e0.trans (val_main_v8_eq _ _)).trans ?_, (e1.trans (val_main_v10_eq _ _)).trans ?_, ha⟩
    · exact (funext fun y => ref_out (fun y => (congrFun m0 y).trans (hA y)) (fun y => (congrFun m1 y).trans (hG y)) y).trans r0.symm
    · exact (funext fun y => ref_kv (fun y => (congrFun m2 y).trans (hC y)) (fun y => (congrFun m3 y).trans (hE y)) y).trans r1.symm

end Cert.WGrad

end
-- ==== Proof.Kv.lean ====
/- The latent product: every head's keys, with the shared rotated part, and values. -/
module

public import proofs.«01_k».proof.Proof.Mlp
public import proofs.«01_k».proof.Proof.Gen.Kernel9Ideal.Value
public import Idealize.ShloMosaic.Lib.Pipeline.ValueKit

@[expose] public section

set_option maxRecDepth 16384

noncomputable section

namespace Cert.Kv

open Idealize.ShloMosaic Idealize.ShloMosaic.TcCoe Cert.Mlp Cert.Kernel9Ideal Cert.Kernel9Ideal.Gen Cert.Kernel9Ideal.Facts

/-- The product of the latent row with the weight, which four devices' columns make up. -/
def prodAt (C : ℕ → ℕ → EReal) (W : ℕ → ℕ → ℕ → EReal) (i j : ℕ) : EReal := ∑ k : Fin 512, C i k * W (j / 512) k (j % 512)
/-- The keys: of every head's 256 columns the first 128 are the product's, the others the shared ones. -/
def keyAt (C : ℕ → ℕ → EReal) (W : ℕ → ℕ → ℕ → EReal) (P : ℕ → ℕ → EReal) (i j : ℕ) : EReal :=
  if j % 256 < 128 then prodAt C W i j else P i (j % 256 - 128)
/-- The values: the last 128 of every head's 256 columns. -/
def valAt (C : ℕ → ℕ → EReal) (W : ℕ → ℕ → ℕ → EReal) (i j : ℕ) : EReal := prodAt C W i (j / 128 * 256 + 128 + j % 128)

theorem idx0 : ∀ t : Fin grid0.N, win0_0.index t = ![t.val / 4, 0] ∧ win0_1.index t = ![t.val % 4, 0, 0]
    ∧ win0_2.index t = ![t.val / 4, 0] ∧ win0_3.index t = ![t.val / 4, t.val % 4] ∧ win0_4.index t = ![t.val / 4, t.val % 4] := by
  decide +kernel

theorem pay2_at (v0 : Vec Ideal S1024x512 .bf16) (v1 : Vec Ideal S1x512x512 .bf16) (r : Fin 1024) (x : Fin 128) :
    k0_pay2 v0 v1 (ix2 r x) = ∑ k : Fin 512, v0 (ix2 r k) * v1 (ix3 0 k ⟨0 + x.val, by omega⟩) := by
  unfold_payloads
  pointwise []
theorem pay3_at (v0 : Vec Ideal S1024x512 .bf16) (v1 : Vec Ideal S1x512x512 .bf16) (r : Fin 1024) (x : Fin 128) :
    k0_pay3 v0 v1 (ix2 r x) = ∑ k : Fin 512, v0 (ix2 r k) * v1 (ix3 0 k ⟨128 + x.val, by omega⟩) := by
  unfold_payloads
  pointwise []
theorem pay4_at (v0 : Vec Ideal S1024x512 .bf16) (v1 : Vec Ideal S1x512x512 .bf16) (r : Fin 1024) (x : Fin 128) :
    k0_pay4 v0 v1 (ix2 r x) = ∑ k : Fin 512, v0 (ix2 r k) * v1 (ix3 0 k ⟨256 + x.val, by omega⟩) := by
  unfold_payloads
  pointwise []
theorem pay5_at (v0 : Vec Ideal S1024x512 .bf16) (v1 : Vec Ideal S1x512x512 .bf16) (r : Fin 1024) (x : Fin 128) :
    k0_pay5 v0 v1 (ix2 r x) = ∑ k : Fin 512, v0 (ix2 r k) * v1 (ix3 0 k ⟨384 + x.val, by omega⟩) := by
  unfold_payloads
  pointwise []

variable {m : (ℓ : Loc nD τ sig) → Buf (Elt Ideal) ℓ} {c : Dev nD} {C P : ℕ → ℕ → EReal} {W : ℕ → ℕ → ℕ → EReal}
variable (hc : ∀ y : S2048x512.Idx, V m c main_arg0 y = C (y 0) (y 1))
variable (hw : ∀ y : S4x512x512.Idx, V m c main_arg1 y = W (y 0) (y 1) (y 2))
variable (hp : ∀ y : S2048x128.Idx, V m c main_arg2 y = P (y 0) (y 1))

/-- Point `t`'s rows of the latent input. -/
abbrev cLd (m : (ℓ : Loc nD τ sig) → Buf (Elt Ideal) ℓ) (c : Dev nD) (t : Fin cfg0.N) : Vec Ideal S1024x512 .bf16 := View.ld (iblk m c 0 t) r0_0
/-- Point `t`'s part of the weight. -/
abbrev wLd (m : (ℓ : Loc nD τ sig) → Buf (Elt Ideal) ℓ) (c : Dev nD) (t : Fin cfg0.N) : Vec Ideal S1x512x512 .bf16 := View.ld (iblk m c 1 t) r0_1

include hc in
theorem c_ld (t : Fin cfg0.N) (r : Fin 1024) (k : Fin 512) :
    View.ld (iblk m c 0 t) r0_0 (ix2 r k) = C (t.val / 4 * 1024 + r) k := by
  refine (hc _).trans ?_
  blk_simp [(idx0 t).1]
  simp
include hw in
theorem w_ld (t : Fin cfg0.N) (k x : Fin 512) :
    View.ld (iblk m c 1 t) r0_1 (ix3 0 k x) = W (t.val % 4) k x := by
  refine (hw _).trans ?_
  blk_simp [(idx0 t).2.1]
  simp
include hp in
theorem p_ld (t : Fin cfg0.N) (x : S1024x128.Idx) :
    View.ld (iblk m c 2 t) r0_3 x = P (t.val / 4 * 1024 + x 0) (x 1) := by
  refine (hp _).trans ?_
  blk_simp [(idx0 t).2.2.1]
  simp

include hc hw in
/-- One block's products, at the array's coordinates. -/
theorem prod_blk (t : Fin cfg0.N) (r : Fin 1024) (x : Fin 512) :
    ∑ k : Fin 512, cLd m c t (ix2 r k) * wLd m c t (ix3 0 k x)
      = prodAt C W (t.val / 4 * 1024 + r) (t.val % 4 * 512 + x) := by
  have hx : x.val < 512 := x.isLt
  have e1 : (t.val % 4 * 512 + x.val) / 512 = t.val % 4 := by omega
  have e2 : (t.val % 4 * 512 + x.val) % 512 = x.val := by omega
  rw [prodAt, e1, e2]
  exact Finset.sum_congr rfl fun k _ => congrArg₂ (· * ·) (c_ld hc t r k) (w_ld hw t k x)

/-- The keys' columns, by their place in a block. -/
theorem key_own (i : ℕ) (t : ℕ) (h : ℕ) (x : Fin 128) {z : ℕ} (hz : z = t * 512 + (h * 256 + x.val)) :
    keyAt C W P i z = prodAt C W i (t * 512 + (h * 256 + x.val)) := by
  have hx : x.val < 128 := x.isLt
  subst hz
  rw [keyAt, if_pos (by omega)]
theorem key_shared (i : ℕ) (t : ℕ) (h : ℕ) (x : Fin 128) {z : ℕ} (hz : z = t * 512 + (h * 256 + 128 + x.val)) :
    keyAt C W P i z = P i x := by
  have hx : x.val < 128 := x.isLt
  subst hz
  rw [keyAt, if_neg (by omega)]
  exact congrArg (P i) (by omega)
theorem val_own (i : ℕ) (t : ℕ) (h : ℕ) (hh : h < 2) (x : Fin 128) {z : ℕ} (hz : z = t * 256 + (h * 128 + x.val)) :
    valAt C W i z = prodAt C W i (t * 512 + (h * 256 + 128 + x.val)) := by
  have hx : x.val < 128 := x.isLt
  have e : (t * 256 + (h * 128 + x.val)) / 128 * 256 + 128 + (t * 256 + (h * 128 + x.val)) % 128 = t * 512 + (h * 256 + 128 + x.val) := by omega
  rw [hz, valAt, e]

include hc hw hp in
theorem arr_key : (dats m 0 c).arrAt 3 cfg0.N = fun y => keyAt C W P (y 0) (y 1) := by
  refine (dats m 0 c).arrAt_eq_of_covers 3 _ (by decide +kernel) fun t hf y => ?_
  blk_simp [(idx0 t).2.2.2.1]
  rw [after0_3]
  unfold out0_3
  canon_tiles x h
  · rw [h0, h1]
    refine (p_ld hp t x).trans (key_shared _ (t.val % 4) 1 (x 1) ?_).symm
    simp; try omega
  · rw [h0, h1]
    refine (congrArg (k0_pay4 _ _) (eq_ix2 x)).trans ((pay4_at (cLd m c t) (wLd m c t) _ _).trans ((prod_blk hc hw t (x 0) _).trans (Eq.trans ?_ (key_own _ (t.val % 4) 1 (x 1) ?_).symm)))
    · simp
    · simp; try omega
  · rw [h0, h1]
    refine (p_ld hp t x).trans (key_shared _ (t.val % 4) 0 (x 1) ?_).symm
    simp; try omega
  · rw [h0, h1]
    refine (congrArg (k0_pay2 _ _) (eq_ix2 x)).trans ((pay2_at (cLd m c t) (wLd m c t) _ _).trans ((prod_blk hc hw t (x 0) _).trans (Eq.trans ?_ (key_own _ (t.val % 4) 0 (x 1) ?_).symm)))
    · simp
    · simp; try omega

include hc hw in
theorem arr_val : (dats m 0 c).arrAt 4 cfg0.N = fun y => valAt C W (y 0) (y 1) := by
  refine (dats m 0 c).arrAt_eq_of_covers 4 _ (by decide +kernel) fun t hf y => ?_
  blk_simp [(idx0 t).2.2.2.2]
  rw [after0_4]
  unfold out0_4
  canon_tiles x h
  · rw [h0, h1]
    refine (congrArg (k0_pay5 _ _) (eq_ix2 x)).trans ((pay5_at (cLd m c t) (wLd m c t) _ _).trans ((prod_blk hc hw t (x 0) _).trans (Eq.trans ?_ (val_own _ (t.val % 4) 1 (by decide) (x 1) ?_).symm)))
    · simp
    · simp; try omega
  · rw [h0, h1]
    refine (congrArg (k0_pay3 _ _) (eq_ix2 x)).trans ((pay3_at (cLd m c t) (wLd m c t) _ _).trans ((prod_blk hc hw t (x 0) _).trans (Eq.trans ?_ (val_own _ (t.val % 4) 0 (by decide) (x 1) ?_).symm)))
    · simp
    · simp; try omega

end Cert.Kv

end
-- ==== Proof.KvRef.lean ====
/- The reference of the latent keys and values, and its agreement with the kernel. -/
module

public import proofs.«01_k».proof.Proof.Kv
public import proofs.«01_k».proof.Proof.Gen.Reference9Ideal.Read
public import proofs.«01_k».proof.Defs

@[expose] public section

set_option maxRecDepth 16384

noncomputable section

namespace Cert.Kv

open Idealize.ShloMosaic Idealize.ShloMosaic.TcCoe Idealize.SL.Sem Cert.Mlp Cert.Reference9Ideal Cert.Reference9Ideal.Read
open Cert.Reference9Ideal.Facts₀

variable {x0 : (⟨S2048x512, .bf16⟩ : BufTy).Contents (Elt Ideal)} {x1 : (⟨S4x512x512, .bf16⟩ : BufTy).Contents (Elt Ideal)}
variable {x2 : (⟨S2048x128, .bf16⟩ : BufTy).Contents (Elt Ideal)}
variable {C P : ℕ → ℕ → EReal} {W : ℕ → ℕ → ℕ → EReal}
variable (hc : ∀ y : S2048x512.Idx, x0 y = C (y 0) (y 1)) (hw : ∀ y : S4x512x512.Idx, x1 y = W (y 0) (y 1) (y 2))
variable (hp : ∀ y : S2048x128.Idx, x2 y = P (y 0) (y 1))

include hw in
theorem ref_w (i : S512x2048.Idx) : val_main_v3 (F := Ideal) x1 i = W ((i 1).val / 512) (i 0) ((i 1).val % 512) := by
  have h1 : (i 1).val < 2048 := (i 1).isLt
  have e0 : ((i 0).val * 2048 + (i 1).val) / 2048 = (i 0).val := by omega
  have e1 : ((i 0).val * 2048 + (i 1).val) / 512 % 4 = (i 1).val / 512 := by omega
  have e2 : ((i 0).val * 2048 + (i 1).val) % 512 = (i 1).val % 512 := by omega
  rw [val_main_v3_apply, val_main_v2_apply, val_main_v1_apply]
  refine (hw _).trans ?_
  show W (((i 0).val * 2048 + (i 1).val) / 512 % 4) (((i 0).val * 2048 + (i 1).val) / 2048) (((i 0).val * 2048 + (i 1).val) % 512) = _
  rw [e0, e1, e2]
include hc hw in
theorem ref_prod (i : S2048x8x256.Idx) : val_main_v6 (F := Ideal) x0 x1 i = prodAt C W (i 0) ((i 1).val * 256 + (i 2).val) := by
  have h1 : (i 1).val < 8 := (i 1).isLt
  have h2 : (i 2).val < 256 := (i 2).isLt
  have e0 : (((i 0).val * 8 + (i 1).val) * 256 + (i 2).val) / 2048 = (i 0).val := by omega
  have e1 : (((i 0).val * 8 + (i 1).val) * 256 + (i 2).val) % 2048 = (i 1).val * 256 + (i 2).val := by omega
  rw [val_main_v6_apply, val_main_v4_apply]
  refine Finset.sum_congr rfl fun k _ => ?_
  rw [val_main_v0_apply, ref_w hw]
  refine congrArg₂ (· * ·) ((hc _).trans ?_) ?_
  · exact congrArg (fun z => C z k) e0
  · exact congrArg (fun z => W (z / 512) k (z % 512)) e1
include hp in
theorem ref_shared (i : S2048x8x128.Idx) : val_main_v9 (F := Ideal) x2 i = P (i 0) (i 2) := by
  rw [val_main_v9_apply, val_main_v8_apply, val_main_v5_apply]
  exact hp _
include hc hw hp in
theorem ref_heads (i : S2048x8x256.Idx) : val_main_v10 (F := Ideal) x0 x1 x2 i = keyAt C W P (i 0) ((i 1).val * 256 + (i 2).val) := by
  have h2 : (i 2).val < 256 := (i 2).isLt
  by_cases h : (i 2).val < 128
  · refine (concatenate_pair_apply_left (t := S2048x8x256) 2 _ _ concatenates_S2048x8x128_S2048x8x128_S2048x8x256_d2 i rfl
      (ix3 (n0 := 2048) (n1 := 8) (n2 := 128) (i 0) (i 1) ⟨(i 2).val, h⟩) (fun b => by fin_cases b <;> rfl)).trans ?_
    rw [val_main_v7_apply, ref_prod hc hw, keyAt, if_pos (by omega)]
    rfl
  · refine (concatenate_pair_apply_right (t := S2048x8x256) 2 _ _ concatenates_S2048x8x128_S2048x8x128_S2048x8x256_d2 i rfl rfl
      (ix3 (n0 := 2048) (n1 := 8) (n2 := 128) (i 0) (i 1) ⟨(i 2).val - 128, by omega⟩) (fun b hb => ?_) ?_).trans ?_
    · fin_cases b
      · rfl
      · rfl
      · exact absurd rfl hb
    · show (i 2).val - 128 + 128 = (i 2).val
      omega
    · rw [ref_shared hp, keyAt, if_neg (by omega)]
      exact congrArg (P (i 0)) (show (i 2).val - 128 = ((i 1).val * 256 + (i 2).val) % 256 - 128 by omega)

include hc hw hp in
theorem ref_key (i : S2048x2048.Idx) : val_main_v14 (F := Ideal) x0 x1 x2 i = keyAt C W P (i 0) (i 1) := by
  have h1 : (i 1).val < 2048 := (i 1).isLt
  have e0 : ((i 0).val * 2048 + (i 1).val) / 2048 = (i 0).val := by omega
  have e1 : ((i 0).val * 2048 + (i 1).val) / 256 % 8 * 256 + ((i 0).val * 2048 + (i 1).val) % 256 = (i 1).val := by omega
  rw [val_main_v14_apply]
  refine (val_main_v11_apply x0 x1 x2 i).trans ((ref_heads hc hw hp _).trans ?_)
  exact congrArg₂ (keyAt C W P) e0 e1
include hc hw in
theorem ref_val (i : S2048x1024.Idx) : val_main_v15 (F := Ideal) x0 x1 i = valAt C W (i 0) (i 1) := by
  have h1 : (i 1).val < 1024 := (i 1).isLt
  have e0 : ((i 0).val * 1024 + (i 1).val) / 1024 = (i 0).val := by omega
  have e1 : ((i 0).val * 1024 + (i 1).val) / 128 % 8 * 256 + (128 + ((i 0).val * 1024 + (i 1).val) % 128)
      = (i 1).val / 128 * 256 + 128 + (i 1).val % 128 := by omega
  rw [val_main_v15_apply]
  refine (val_main_v13_apply x0 x1 i).trans ?_
  rw [val_main_v12_apply, ref_prod hc hw]
  exact congrArg₂ (prodAt C W) e0 e1

theorem algebraic : Cert.algebraic_Kernel9Ideal_Reference9Ideal (hKernel9Ideal := Cert.Kernel9Ideal.Gen.facts) (hReference9Ideal := Cert.Reference9Ideal.Gen.facts) := by
  intro m g m' g' _ hag
  refine ⟨fun c => (Cert.Kernel9Ideal.Gen.dats m 0 c).arrAt 3 Cert.Kernel9Ideal.cfg0.N,
    fun c => (Cert.Kernel9Ideal.Gen.dats m 0 c).arrAt 4 Cert.Kernel9Ideal.cfg0.N, Cert.Kernel9Ideal.Value.run_blocks m g,
    (θ_run _ _ _).mono (fun r h c => ?_) (Cert.Reference9Ideal.Value.run (F := Ideal) m' g')⟩
  obtain ⟨e0, e1, ha⟩ := h c
  obtain ⟨m0, m1, m2⟩ := hag c
  have hc : ∀ y : S2048x512.Idx, m ((c.tc : Thread _ _).loc Cert.Kernel9Ideal.main_arg0) y
      = at2 (m ((c.tc : Thread _ _).loc Cert.Kernel9Ideal.main_arg0)) (y 0) (y 1) := at2_of _
  have hw : ∀ y : S4x512x512.Idx, m ((c.tc : Thread _ _).loc Cert.Kernel9Ideal.main_arg1) y
      = at3 (m ((c.tc : Thread _ _).loc Cert.Kernel9Ideal.main_arg1)) (y 0) (y 1) (y 2) := at3_of _
  have hp : ∀ y : S2048x128.Idx, m ((c.tc : Thread _ _).loc Cert.Kernel9Ideal.main_arg2) y
      = at2 (m ((c.tc : Thread _ _).loc Cert.Kernel9Ideal.main_arg2)) (y 0) (y 1) := at2_of _
  have kc := fun y => (congrFun (Cert.Kernel9Ideal.Gen.V_main_arg0 m c) y).trans (hc y)
  have kw := fun y => (congrFun (Cert.Kernel9Ideal.Gen.V_main_arg1 m c) y).trans (hw y)
  have kp := fun y => (congrFun (Cert.Kernel9Ideal.Gen.V_main_arg2 m c) y).trans (hp y)
  refine ⟨(e0.trans (val_main_v14_eq _ _ _)).trans ?_, (e1.trans (val_main_v15_eq _ _)).trans ?_, ha⟩
  · exact (funext fun y => ref_key (fun y => (congrFun m0 y).trans (hc y)) (fun y => (congrFun m1 y).trans (hw y))
      (fun y => (congrFun m2 y).trans (hp y)) y).trans (arr_key kc kw kp).symm
  · exact (funext fun y => ref_val (fun y => (congrFun m0 y).trans (hc y)) (fun y => (congrFun m1 y).trans (hw y)) y).trans
      (arr_val kc kw).symm

end Cert.Kv

end
-- ==== Proof.Proj.lean ====
/- The input projection and the gradient of its rows, with the weight's rows as the step holds them. -/
module

public import proofs.«01_k».proof.Proof.Mlp
public import proofs.«01_k».proof.Proof.Gen.Kernel5Ideal.Frame
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.Proj

open Idealize.ShloMosaic Idealize.ShloMosaic.TcCoe Idealize.ShloMosaic.Tactic Cert.Mlp Cert.Kernel5Ideal Cert.Kernel5Ideal.Gen Cert.Kernel5Ideal.Facts
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The row of the projection's weight at column `n` of the rows as the step holds them. -/
def src (n : ℕ) : ℕ :=
  if n < 1536 then n else if n < 2560 then 1536 + (n - 1536) / 128 * 192 + (n - 1536) % 128
  else if n < 3584 then 1536 + (n - 2560) / 128 * 192 + 128 + (n - 2560) % 128 else n - 512
/-- The columns that are not padding. -/
abbrev live (n : ℕ) : Prop := (n < 2560 ∨ 3584 ≤ n ∨ (n - 2560) % 128 < 64) ∧ n < 4160
/-- The weight's rows as the step holds them: zero at the padding. -/
def heldAt (W : ℕ → ℕ → EReal) (n k : ℕ) : EReal := if live n then W (src n) k else 0
/-- The projection, zero at the padding. -/
def projAt (H W : ℕ → ℕ → EReal) (i n : ℕ) : EReal := if live n then ∑ k : Fin 2048, H i k * W (src n) k else 0
/-- The gradient of the projection's rows. -/
def backAt (D W : ℕ → ℕ → EReal) (i k : ℕ) : EReal := ∑ n : Fin 4224, D i n * heldAt W n k

section held
variable {x : (⟨S3648x2048, .bf16⟩ : BufTy).Contents (Elt Ideal)} {W : ℕ → ℕ → EReal}

/-- The second queries' rows, head by head. -/
def byHead (x : (⟨S3648x2048, .bf16⟩ : BufTy).Contents (Elt Ideal)) : (⟨S8x192x2048, .bf16⟩ : BufTy).Contents (Elt Ideal) :=
  shapeCast S8x192x2048 (extractStridedSlice S1536x2048 ![1536, 0] x slices_S3648x2048_S1536x2048_1536_0) shapeCasts_S1536x2048_S8x192x2048
/-- Their rotated parts, padded. -/
def rotated (x : (⟨S3648x2048, .bf16⟩ : BufTy).Contents (Elt Ideal)) : (⟨S8x128x2048, .bf16⟩ : BufTy).Contents (Elt Ideal) :=
  concatenate S8x128x2048 1 [⟨S8x64x2048, extractStridedSlice S8x64x2048 ![0, 128, 0] (byHead x) slices_S8x192x2048_S8x64x2048_0_128_0⟩,
    ⟨S8x64x2048, broadcastInDim S8x64x2048 ![] bcast_S_S8x64x2048 (constant (F := Ideal) S_ .bf16 0x0000#16)⟩]
    concatenates_S8x64x2048_S8x64x2048_S8x128x2048_d1
/-- All rows in the step's order. -/
def held (x : (⟨S3648x2048, .bf16⟩ : BufTy).Contents (Elt Ideal)) : (⟨S4224x2048, .bf16⟩ : BufTy).Contents (Elt Ideal) :=
  concatenate S4224x2048 0 [⟨S1536x2048, extractStridedSlice S1536x2048 ![0, 0] x slices_S3648x2048_S1536x2048_0_0⟩,
    ⟨S1024x2048, shapeCast S1024x2048 (extractStridedSlice S8x128x2048 ![0, 0, 0] (byHead x) slices_S8x192x2048_S8x128x2048_0_0_0)
      shapeCasts_S8x128x2048_S1024x2048⟩,
    ⟨S1024x2048, shapeCast S1024x2048 (rotated x) shapeCasts_S8x128x2048_S1024x2048⟩,
    ⟨S576x2048, extractStridedSlice S576x2048 ![3072, 0] x slices_S3648x2048_S576x2048_3072_0⟩,
    ⟨S64x2048, broadcastInDim S64x2048 ![] bcast_S_S64x2048 (constant (F := Ideal) S_ .bf16 0x0000#16)⟩]
    concatenates_S1536x2048_S1024x2048_S1024x2048_S576x2048_S64x2048_S4224x2048_d0

variable (hx : ∀ y : S3648x2048.Idx, x y = W (y 0) (y 1))

include hx in
theorem byHead_at (h : Fin 8) (r : Fin 192) (k : Fin 2048) : byHead x (ix3 h r k) = W (1536 + h.val * 192 + r.val) k := by
  refine (shapeCast_apply _ shapeCasts_S1536x2048_S8x192x2048 (ix3 h r k)
    (ix2 (n0 := 1536) (n1 := 2048) ⟨h.val * 192 + r.val, by omega⟩ k) ?_).trans ?_
  · rw [Shape.rowMajor_val_two, Shape.rowMajor_val_three]
    rfl
  · refine (extractStridedSlice_apply ![1536, 0] x _ _
      (ix2 (n0 := 3648) (n1 := 2048) ⟨1536 + (h.val * 192 + r.val), by omega⟩ k) (fun a => ?_)).trans ((hx _).trans ?_)
    · fin_cases a
      · rfl
      · exact (Nat.zero_add _).symm
    · exact congrArg (fun z => W z k) (show 1536 + (h.val * 192 + r.val) = 1536 + h.val * 192 + r.val by omega)

theorem zero_at {t : Shape} (hb) (i : t.Idx) : broadcastInDim t ![] hb (constant (F := Ideal) S_ .bf16 0x0000#16) i = (0 : EReal) := by
  pointwise []

include hx in
theorem rotated_at (h : Fin 8) (r : Fin 128) (k : Fin 2048) :
    rotated x (ix3 h r k) = if r.val < 64 then W (1536 + h.val * 192 + 128 + r.val) k else 0 := by
  unfold rotated
  by_cases hr : r.val < 64
  · rw [if_pos hr]
    refine (concatenate_pair_apply_left (t := S8x128x2048) 1 _ _ concatenates_S8x64x2048_S8x64x2048_S8x128x2048_d1 (ix3 h r k) rfl
      (ix3 (n0 := 8) (n1 := 64) (n2 := 2048) h ⟨r.val, hr⟩ k) (fun b => by fin_cases b <;> rfl)).trans ?_
    refine (extractStridedSlice_apply ![0, 128, 0] (byHead x) _ _
      (ix3 (n0 := 8) (n1 := 192) (n2 := 2048) h ⟨128 + r.val, by omega⟩ k) (fun a => ?_)).trans ((byHead_at hx _ _ _).trans ?_)
    · fin_cases a
      · exact (Nat.zero_add _).symm
      · rfl
      · exact (Nat.zero_add _).symm
    · exact congrArg (fun z => W z k) (show 1536 + h.val * 192 + (128 + r.val) = 1536 + h.val * 192 + 128 + r.val by omega)
  · rw [if_neg hr]
    refine (concatenate_pair_apply_right (t := S8x128x2048) 1 _ _ concatenates_S8x64x2048_S8x64x2048_S8x128x2048_d1 (ix3 h r k) rfl rfl
      (ix3 (n0 := 8) (n1 := 64) (n2 := 2048) h ⟨r.val - 64, by omega⟩ k) (fun b hb => ?_) ?_).trans (zero_at _ _)
    · fin_cases b
      · rfl
      · exact absurd rfl hb
      · rfl
    · show r.val - 64 + 64 = r.val
      omega

set_option maxHeartbeats 400000 in
include hx in
theorem held_at (n : Fin 4224) (k : Fin 2048) : held x (ix2 n k) = heldAt W n k := by
  unfold held
  by_cases h0 : n.val < 1536
  · have e : heldAt W n k = W n k := by rw [heldAt, if_pos (by omega), src, if_pos h0]
    refine Eq.trans (concatenate_apply_piece 0 _ _ (ix2 n k) 0 (by simp) S1536x2048 _ rfl rfl 0 rfl (ix2 (n0 := 1536) (n1 := 2048) ⟨n.val, h0⟩ k)
      (fun b hb => ?_) (Nat.zero_add _)) ?_
    · fin_cases b
      · exact absurd rfl hb
      · rfl
    · refine (extractStridedSlice_apply ![0, 0] x _ _ (ix2 (n0 := 3648) (n1 := 2048) ⟨n.val, by omega⟩ k) (fun a => ?_)).trans ((hx _).trans e.symm)
      fin_cases a <;> exact (Nat.zero_add _).symm
  by_cases h1 : n.val < 2560
  · have e : heldAt W n k = W (1536 + (n.val - 1536) / 128 * 192 + (n.val - 1536) % 128) k := by
      rw [heldAt, if_pos (by omega), src, if_neg h0, if_pos h1]
    refine Eq.trans (concatenate_apply_piece 0 _ _ (ix2 n k) 1 (by simp) S1024x2048 _ rfl rfl 1536 rfl (ix2 (n0 := 1024) (n1 := 2048) ⟨n.val - 1536, by omega⟩ k)
      (fun b hb => ?_) (show 1536 + (n.val - 1536) = n.val by omega)) ?_
    · fin_cases b
      · exact absurd rfl hb
      · rfl
    · refine (shapeCast_apply _ shapeCasts_S8x128x2048_S1024x2048 _
        (ix3 (n0 := 8) (n1 := 128) (n2 := 2048) ⟨(n.val - 1536) / 128, by omega⟩ ⟨(n.val - 1536) % 128, by omega⟩ k) ?_).trans ?_
      · rw [Shape.rowMajor_val_two, Shape.rowMajor_val_three]
        show ((n.val - 1536) / 128 * 128 + (n.val - 1536) % 128) * 2048 + k.val = (n.val - 1536) * 2048 + k.val
        omega
      · refine (extractStridedSlice_apply ![0, 0, 0] (byHead x) _ _
          (ix3 (n0 := 8) (n1 := 192) (n2 := 2048) ⟨(n.val - 1536) / 128, by omega⟩ ⟨(n.val - 1536) % 128, by omega⟩ k) (fun a => ?_)).trans
            ((byHead_at hx _ _ _).trans e.symm)
        fin_cases a <;> exact (Nat.zero_add _).symm
  by_cases h2 : n.val < 3584
  · have e : heldAt W n k = if (n.val - 2560) % 128 < 64 then W (1536 + (n.val - 2560) / 128 * 192 + 128 + (n.val - 2560) % 128) k else 0 := by
      by_cases hl : (n.val - 2560) % 128 < 64
      · rw [heldAt, if_pos (by omega), src, if_neg h0, if_neg h1, if_pos h2, if_pos hl]
      · rw [heldAt, if_neg (by omega), if_neg hl]
    refine Eq.trans (concatenate_apply_piece 0 _ _ (ix2 n k) 2 (by simp) S1024x2048 _ rfl rfl 2560 rfl (ix2 (n0 := 1024) (n1 := 2048) ⟨n.val - 2560, by omega⟩ k)
      (fun b hb => ?_) (show 2560 + (n.val - 2560) = n.val by omega)) ?_
    · fin_cases b
      · exact absurd rfl hb
      · rfl
    · refine (shapeCast_apply _ shapeCasts_S8x128x2048_S1024x2048 _
        (ix3 (n0 := 8) (n1 := 128) (n2 := 2048) ⟨(n.val - 2560) / 128, by omega⟩ ⟨(n.val - 2560) % 128, by omega⟩ k) ?_).trans
          ((rotated_at hx _ _ _).trans e.symm)
      rw [Shape.rowMajor_val_two, Shape.rowMajor_val_three]
      show ((n.val - 2560) / 128 * 128 + (n.val - 2560) % 128) * 2048 + k.val = (n.val - 2560) * 2048 + k.val
      omega
  by_cases h3 : n.val < 4160
  · have e : heldAt W n k = W (n.val - 512) k := by rw [heldAt, if_pos (by omega), src, if_neg h0, if_neg h1, if_neg h2]
    refine Eq.trans (concatenate_apply_piece 0 _ _ (ix2 n k) 3 (by simp) S576x2048 _ rfl rfl 3584 rfl (ix2 (n0 := 576) (n1 := 2048) ⟨n.val - 3584, by omega⟩ k)
      (fun b hb => ?_) (show 3584 + (n.val - 3584) = n.val by omega)) ?_
    · fin_cases b
      · exact absurd rfl hb
      · rfl
    · refine (extractStridedSlice_apply ![3072, 0] x _ _ (ix2 (n0 := 3648) (n1 := 2048) ⟨n.val - 512, by omega⟩ k) (fun a => ?_)).trans
        ((hx _).trans e.symm)
      fin_cases a
      · show n.val - 512 = 3072 + (n.val - 3584)
        omega
      · show k.val = 0 + k.val
        omega
  · have e : heldAt W n k = 0 := by rw [heldAt, if_neg (by omega)]
    refine Eq.trans (concatenate_apply_piece 0 _ _ (ix2 n k) 4 (by simp) S64x2048 _ rfl rfl 4160 rfl (ix2 (n0 := 64) (n1 := 2048) ⟨n.val - 4160, by omega⟩ k)
      (fun b hb => ?_) (show 4160 + (n.val - 4160) = n.val by omega)) ((zero_at _ _).trans e.symm)
    fin_cases b
    · exact absurd rfl hb
    · rfl
end held

theorem idx0 : ∀ t : Fin grid0.N, win0_0.index t = ![t.val / 3, 0] ∧ win0_1.index t = ![0, t.val % 3, 0]
    ∧ win0_2.index t = ![t.val / 3, t.val % 3] := by
  decide +kernel
theorem idx1 : ∀ t : Fin grid1.N, win1_0.index t = ![t.val / 2, 0] ∧ win1_1.index t = ![0, 0, t.val % 2]
    ∧ win1_2.index t = ![t.val / 2, t.val % 2] := by
  decide +kernel

theorem pay_proj (v0 : Vec Ideal S1024x2048 .bf16) (v1 : Vec Ideal S1x1408x2048 .bf16) (r : Fin 1024) (x : Fin 1408) :
    k0_pay1 v0 v1 (ix2 r x) = ∑ k : Fin 2048, v0 (ix2 r k) * v1 (ix3 0 x k) := by
  unfold_payloads
  pointwise []
theorem pay_back (v0 : Vec Ideal S1024x4224 .bf16) (v1 : Vec Ideal S1x4224x1024 .bf16) (r x : Fin 1024) :
    k1_pay1 v0 v1 (ix2 r x) = ∑ k : Fin 4224, v0 (ix2 r k) * v1 (ix3 0 k x) := by
  unfold_payloads
  pointwise []

section regions
variable {V : (c : Dev nD) → (b : Ref sig .tc) → Buf (Elt Ideal) ((c.tc : Thread nD τ).loc b)} {c : Dev nD}
variable {H W D : ℕ → ℕ → EReal}
variable (hW : ∀ y : S1x4224x2048.Idx, V c main_v12 y = heldAt W (y 1) (y 2))

section proj
variable (hH : ∀ y : S2048x2048.Idx, V c main_arg0 y = H (y 0) (y 1))

abbrev hLd (V : (c : Dev nD) → (b : Ref sig .tc) → Buf (Elt Ideal) ((c.tc : Thread nD τ).loc b)) (c : Dev nD) (t : Fin cfg0.N) :
    Vec Ideal S1024x2048 .bf16 := View.ld (iblk0 V c 0 t) r0_0
abbrev wLd (V : (c : Dev nD) → (b : Ref sig .tc) → Buf (Elt Ideal) ((c.tc : Thread nD τ).loc b)) (c : Dev nD) (t : Fin cfg0.N) :
    Vec Ideal S1x1408x2048 .bf16 := View.ld (iblk0 V c 1 t) r0_1

include hH in
theorem h_ld (t : Fin cfg0.N) (r : Fin 1024) (k : Fin 2048) : hLd V c t (ix2 r k) = H (t.val / 3 * 1024 + r) k := by
  refine (hH _).trans ?_
  blk_simp [(idx0 t).1]
  simp
include hW in
theorem w_ld (t : Fin cfg0.N) (x : Fin 1408) (k : Fin 2048) : wLd V c t (ix3 0 x k) = heldAt W (t.val % 3 * 1408 + x) k := by
  refine (hW _).trans ?_
  blk_simp [(idx0 t).2.1]
  simp

/-- The product with a held row is the held product. -/
theorem proj_held (i n : ℕ) : ∑ k : Fin 2048, H i k * heldAt W n k = projAt H W i n := by
  by_cases h : live n
  · simp only [projAt, heldAt, if_pos h]
  · simp only [projAt, heldAt, if_neg h, mul_zero, Finset.sum_const_zero]

include hH hW in
theorem arr_proj : (dat0 V c).arrAt 2 cfg0.N = fun y => projAt H W (y 0) (y 1) := by
  refine (dat0 V c).arrAt_eq_of_covers 2 _ (by decide +kernel) fun t hf y => ?_
  blk_simp [(idx0 t).2.2]
  rw [after0_2]
  unfold out0_2
  canon_tiles x h
  rw [h0, h1]
  exact (congrArg (k0_pay1 _ _) (eq_ix2 x)).trans ((pay_proj (hLd V c t) (wLd V c t) (x 0) (x 1)).trans
    ((Finset.sum_congr rfl fun k _ => congrArg₂ (· * ·) (h_ld hH t (x 0) k) (w_ld hW t (x 1) k)).trans (proj_held _ _)))
end proj

section back
variable (hD : ∀ y : S2048x4224.Idx, V c main_arg2 y = D (y 0) (y 1))

abbrev dLd (V : (c : Dev nD) → (b : Ref sig .tc) → Buf (Elt Ideal) ((c.tc : Thread nD τ).loc b)) (c : Dev nD) (t : Fin cfg1.N) :
    Vec Ideal S1024x4224 .bf16 := View.ld (iblk1 V c 0 t) r1_0
abbrev uLd (V : (c : Dev nD) → (b : Ref sig .tc) → Buf (Elt Ideal) ((c.tc : Thread nD τ).loc b)) (c : Dev nD) (t : Fin cfg1.N) :
    Vec Ideal S1x4224x1024 .bf16 := View.ld (iblk1 V c 1 t) r1_1

include hD in
theorem d_ld (t : Fin cfg1.N) (r : Fin 1024) (k : Fin 4224) : dLd V c t (ix2 r k) = D (t.val / 2 * 1024 + r) k := by
  refine (hD _).trans ?_
  blk_simp [(idx1 t).1]
  simp
include hW in
theorem u_ld (t : Fin cfg1.N) (k : Fin 4224) (x : Fin 1024) : uLd V c t (ix3 0 k x) = heldAt W k (t.val % 2 * 1024 + x) := by
  refine (hW _).trans ?_
  blk_simp [(idx1 t).2.1]
  simp

include hD hW in
theorem arr_back : (dat1 V c).arrAt 2 cfg1.N = fun y => backAt D W (y 0) (y 1) := by
  refine (dat1 V c).arrAt_eq_of_covers 2 _ (by decide +kernel) fun t hf y => ?_
  blk_simp [(idx1 t).2.2]
  rw [after1_2]
  unfold out1_2
  canon_tiles x h
  rw [h0, h1]
  exact (congrArg (k1_pay1 _ _) (eq_ix2 x)).trans ((pay_back (dLd V c t) (uLd V c t) (x 0) (x 1)).trans
    (Finset.sum_congr rfl fun k _ => congrArg₂ (· * ·) (d_ld hD t (x 0) k) (u_ld hW t k (x 1))))
end back
end regions

set_option backward.isDefEq.respectTransparency.types false in
/-- Every run ends with each result array as the last product leaves it, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v13) = W3 m ρ c (Proc.devRef .tc main_v13)
      ∧ r.2.mem ((c.tc : Thread nD τ).loc main_v14) = W3 m ρ c (Proc.devRef .tc main_v14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨⟨h c _ (mem_uc main_v13 (by decide)), h c _ (mem_uc main_v14 (by decide))⟩,
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

variable (m : (ℓ : Loc nD τ sig) → Buf (Elt Ideal) ℓ) (ρ : Dev nD → PrngReg) (c : Dev nD)

/-- The weight as the first region finds it. -/
theorem held_run : V1 m ρ c main_v12
    = broadcastInDim S1x4224x2048 ![1, 2] bcast_S4224x2048_S1x4224x2048_1_2 (held (m ((c.tc : Thread nD τ).loc main_arg1))) := by
  unfold V1 W1
  after_reads_simp
  rfl

variable {H W D : ℕ → ℕ → EReal}
variable (hH : ∀ y : S2048x2048.Idx, m ((c.tc : Thread nD τ).loc main_arg0) y = H (y 0) (y 1))
variable (hW : ∀ y : S3648x2048.Idx, m ((c.tc : Thread nD τ).loc main_arg1) y = W (y 0) (y 1))
variable (hD : ∀ y : S2048x4224.Idx, m ((c.tc : Thread nD τ).loc main_arg2) y = D (y 0) (y 1))

include hW in
theorem v1_held (y : S1x4224x2048.Idx) : V1 m ρ c main_v12 y = heldAt W (y 1) (y 2) := by
  rw [held_run]
  refine (broadcastInDim_apply _ _ _ _ (ix2 (n0 := 4224) (n1 := 2048) (y 1) (y 2)) (fun a => ?_)).trans (held_at hW _ _)
  fin_cases a <;> rfl

include hH hW hD in
/-- The two arrays the run leaves. -/
theorem run_values :
    W3 m ρ c (Proc.devRef .tc main_v13) = (fun y => projAt H W (y 0) (y 1))
    ∧ W3 m ρ c (Proc.devRef .tc main_v14) = (fun y => backAt D W (y 0) (y 1)) := by
  have a1 : V1 m ρ c main_arg0 = m ((c : Thread nD τ).loc main_arg0) := W1_args m ρ c main_arg0 (by decide)
  have g1 : V2 m ρ c main_v13 = (fun y => projAt H W (y 0) (y 1)) := (W2_arr m ρ c 2).trans
    (arr_proj (V := V1 m ρ) (v1_held m ρ c hW) (fun y => (congrFun a1 y).trans (hH y)))
  have d1 : V2 m ρ c main_arg2 = m ((c : Thread nD τ).loc main_arg2) := W2_args m ρ c main_arg2 (by decide)
  have w1 : V2 m ρ c main_v12 = V1 m ρ c main_v12 := W2_of m ρ c main_v12 (by decide)
  exact ⟨(W3_of m ρ c main_v13 (by decide)).trans g1,
    (W3_arr m ρ c 2).trans (arr_back (V := V2 m ρ) (fun y => (congrFun w1 y).trans (v1_held m ρ c hW y)) (fun y => (congrFun d1 y).trans (hD y)))⟩

end Cert.Proj

end
-- ==== Proof.ProjRef.lean ====
/- The reference of the input projection and its gradient, and its agreement with the kernels. -/
module

public import proofs.«01_k».proof.Proof.Proj
public import proofs.«01_k».proof.Proof.Gen.Reference5Ideal.Read
public import proofs.«01_k».proof.Defs

@[expose] public section

set_option maxRecDepth 16384

noncomputable section

namespace Cert.Proj

open Idealize.ShloMosaic Idealize.ShloMosaic.TcCoe Idealize.SL.Sem Cert.Mlp Cert.Reference5Ideal Cert.Reference5Ideal.Read
open Cert.Reference5Ideal.Facts₀

/-- The column of the rows as the step holds them at a row of the weight. -/
def dst (p : ℕ) : ℕ :=
  if p < 1536 then p else if p < 3072 then
    if (p - 1536) % 192 < 128 then 1536 + (p - 1536) / 192 * 128 + (p - 1536) % 192
    else 2560 + (p - 1536) / 192 * 128 + ((p - 1536) % 192 - 128)
  else p + 512

theorem dst_lt (p : Fin 3648) : dst p < 4224 := by
  have := p.isLt
  unfold dst
  split_ifs <;> omega
theorem live_dst (p : Fin 3648) : live (dst p) := by
  have := p.isLt
  unfold dst
  split_ifs <;> simp only [live] <;> omega
theorem src_dst (p : Fin 3648) : src (dst p) = p := by
  have := p.isLt
  unfold dst
  split_ifs with h0 h1 h2
  · rw [src, if_pos h0]
  · rw [src, if_neg (by omega), if_pos (by omega)]
    omega
  · rw [src, if_neg (by omega), if_neg (by omega), if_pos (by omega)]
    omega
  · rw [src, if_neg (by omega), if_neg (by omega), if_neg (by omega)]
    omega
theorem src_lt {n : ℕ} (h : live n) : src n < 3648 := by
  obtain ⟨h1, h2⟩ := h
  unfold src
  split_ifs <;> omega
theorem dst_src {n : ℕ} (h : live n) : dst (src n) = n := by
  obtain ⟨h1, h2⟩ := h
  unfold src
  split_ifs with h3 h4 h5
  · rw [dst, if_pos h3]
  · rw [dst, if_neg (by omega), if_pos (by omega), if_pos (by omega)]
    omega
  · rw [dst, if_neg (by omega), if_pos (by omega), if_neg (by omega)]
    omega
  · rw [dst, if_neg (by omega), if_neg (by omega)]
    omega

/-- The gradient summed over the weight's rows is the one summed over the held columns. -/
theorem back_sum (D W : ℕ → ℕ → EReal) (i k : ℕ) : ∑ p : Fin 3648, D i (dst p) * W p k = backAt D W i k := by
  refine Finset.sum_of_injOn (fun p : Fin 3648 => (⟨dst p, dst_lt p⟩ : Fin 4224)) (fun p _ q _ h => ?_) (fun _ _ => Finset.mem_coe.mpr (Finset.mem_univ _))
    (fun n _ hn => ?_) (fun p _ => ?_)
  · have e : dst p = dst q := congrArg Fin.val h
    exact Fin.ext ((src_dst p).symm.trans ((congrArg src e).trans (src_dst q)))
  · by_cases hl : live n
    · exact absurd ⟨⟨src n, src_lt hl⟩, Finset.mem_coe.mpr (Finset.mem_univ _), Fin.ext (dst_src hl)⟩ hn
    · rw [heldAt, if_neg hl, mul_zero]
  · show _ = D i (dst p) * heldAt W (dst p) k
    rw [heldAt, if_pos (live_dst p), src_dst]

variable {x0 : (⟨S2048x2048, .bf16⟩ : BufTy).Contents (Elt Ideal)} {x1 : (⟨S3648x2048, .bf16⟩ : BufTy).Contents (Elt Ideal)}
variable {x2 : (⟨S2048x4224, .bf16⟩ : BufTy).Contents (Elt Ideal)}
variable {H W D : ℕ → ℕ → EReal}
variable (hh : ∀ y : S2048x2048.Idx, x0 y = H (y 0) (y 1)) (hw : ∀ y : S3648x2048.Idx, x1 y = W (y 0) (y 1))
variable (hd : ∀ y : S2048x4224.Idx, x2 y = D (y 0) (y 1))

/-- The projection at a row of the weight. -/
def rowAt (H W : ℕ → ℕ → EReal) (i p : ℕ) : EReal := ∑ k : Fin 2048, H i k * W p k

include hw in
theorem ref_wt (i : S2048x3648.Idx) : val_main_v2 (F := Ideal) x1 i = W (i 1) (i 0) := by
  rw [val_main_v2_apply, val_main_v1_apply]
  exact hw _
include hh hw in
theorem ref_rows (i : S2048x3648.Idx) : val_main_v3 (F := Ideal) x0 x1 i = rowAt H W (i 0) (i 1) := by
  rw [val_main_v3_apply]
  refine Finset.sum_congr rfl fun k _ => ?_
  rw [val_main_v0_apply, ref_wt hw]
  exact congrArg₂ (· * ·) (hh _) rfl
include hh hw in
theorem ref_heads (i : S2048x8x192.Idx) : val_main_v5 (F := Ideal) x0 x1 i = rowAt H W (i 0) (1536 + (i 1).val * 192 + (i 2).val) := by
  have h1 : (i 1).val < 8 := (i 1).isLt
  have h2 : (i 2).val < 192 := (i 2).isLt
  have e0 : (((i 0).val * 8 + (i 1).val) * 192 + (i 2).val) / 1536 = (i 0).val := by omega
  have e1 : 1536 + (((i 0).val * 8 + (i 1).val) * 192 + (i 2).val) % 1536 = 1536 + (i 1).val * 192 + (i 2).val := by omega
  rw [val_main_v5_apply, val_main_v4_apply, ref_rows hh hw]
  exact congrArg₂ (rowAt H W) e0 e1
theorem fill0 (i : S_.Idx) : val_main_call0_v0 (F := Ideal) i = (0 : EReal) := by
  rw [val_main_call0_v0_apply, val_main_c_apply]
  show (((0#32).toInt : ℝ) : EReal) = 0
  simp
theorem fill1 (i : S_.Idx) : val_main_call1_v0 (F := Ideal) i = (0 : EReal) := by
  rw [val_main_call1_v0_apply, val_main_c_0_apply]
  show (((0#32).toInt : ℝ) : EReal) = 0
  simp
include hh hw in
theorem ref_rotated (i : S2048x8x128.Idx) : val_main_v7 (F := Ideal) x0 x1 i
    = if (i 2).val < 64 then rowAt H W (i 0) (1536 + (i 1).val * 192 + 128 + (i 2).val) else 0 := by
  unfold val_main_v7
  by_cases h : (i 2).val < 64
  · rw [if_pos h]
    refine (pad_apply_of_inside _ _ _ _ _ _ _ i (ix3 (n0 := 2048) (n1 := 8) (n2 := 64) (i 0) (i 1) ⟨(i 2).val, h⟩) (fun a => ?_)).trans ?_
    · fin_cases a <;> exact ((Nat.zero_add _).trans (Nat.mul_one _)).symm
    · rw [val_main_v6_apply, ref_heads hh hw]
      exact congrArg (rowAt H W (i 0)) (show 1536 + (i 1).val * 192 + (128 + (i 2).val) = 1536 + (i 1).val * 192 + 128 + (i 2).val by omega)
  · rw [if_neg h]
    refine (pad_apply_of_not_inside _ _ _ _ _ _ _ i 2 (fun hc => h ?_)).trans (fill0 _)
    have := hc.2.2
    simpa using this
include hh hw in
theorem ref_tail (i : S2048x640.Idx) : val_main_v13 (F := Ideal) x0 x1 i
    = if (i 1).val < 576 then rowAt H W (i 0) (3072 + (i 1).val) else 0 := by
  unfold val_main_v13
  by_cases h : (i 1).val < 576
  · rw [if_pos h]
    refine (pad_apply_of_inside _ _ _ _ _ _ _ i (ix2 (n0 := 2048) (n1 := 576) (i 0) ⟨(i 1).val, h⟩) (fun a => ?_)).trans ?_
    · fin_cases a <;> exact ((Nat.zero_add _).trans (Nat.mul_one _)).symm
    · rw [val_main_v12_apply, ref_rows hh hw]
      rfl
  · rw [if_neg h]
    refine (pad_apply_of_not_inside _ _ _ _ _ _ _ i 1 (fun hc => h ?_)).trans (fill1 _)
    have := hc.2.2
    simpa using this

theorem projAt_eq (i n : ℕ) : projAt H W i n = if live n then rowAt H W i (src n) else 0 := rfl

set_option maxHeartbeats 400000 in
include hh hw in
theorem ref_proj (i : S2048x4224.Idx) : val_main_v14 (F := Ideal) x0 x1 i = projAt H W (i 0) (i 1) := by
  have hi : (i 1).val < 4224 := (i 1).isLt
  unfold val_main_v14
  rw [projAt_eq]
  by_cases h0 : (i 1).val < 1536
  · rw [if_pos (by omega), src, if_pos h0]
    refine Eq.trans (concatenate_apply_piece 1 _ _ i 0 (by simp) S2048x1536 _ rfl rfl 0 rfl (ix2 (n0 := 2048) (n1 := 1536) (i 0) ⟨(i 1).val, h0⟩)
      (fun b hb => ?_) (Nat.zero_add _)) ?_
    · fin_cases b
      · rfl
      · exact absurd rfl hb
    · rw [val_main_v8_apply, ref_rows hh hw]
      rfl
  by_cases h1 : (i 1).val < 2560
  · rw [if_pos (by omega), src, if_neg h0, if_pos h1]
    refine Eq.trans (concatenate_apply_piece 1 _ _ i 1 (by simp) S2048x1024 _ rfl rfl 1536 rfl (ix2 (n0 := 2048) (n1 := 1024) (i 0) ⟨(i 1).val - 1536, by omega⟩)
      (fun b hb => ?_) (show 1536 + ((i 1).val - 1536) = (i 1).val by omega)) ?_
    · fin_cases b
      · rfl
      · exact absurd rfl hb
    · have e0 : ((i 0).val * 1024 + ((i 1).val - 1536)) / 1024 = (i 0).val := by omega
      have e1 : 1536 + ((i 0).val * 1024 + ((i 1).val - 1536)) / 128 % 8 * 192 + ((i 0).val * 1024 + ((i 1).val - 1536)) % 128
          = 1536 + ((i 1).val - 1536) / 128 * 192 + ((i 1).val - 1536) % 128 := by omega
      rw [val_main_v10_apply, val_main_v9_apply, ref_heads hh hw]
      exact congrArg₂ (rowAt H W) e0 e1
  by_cases h2 : (i 1).val < 3584
  · refine Eq.trans (concatenate_apply_piece 1 _ _ i 2 (by simp) S2048x1024 _ rfl rfl 2560 rfl (ix2 (n0 := 2048) (n1 := 1024) (i 0) ⟨(i 1).val - 2560, by omega⟩)
      (fun b hb => ?_) (show 2560 + ((i 1).val - 2560) = (i 1).val by omega)) ?_
    · fin_cases b
      · rfl
      · exact absurd rfl hb
    · have e0 : ((i 0).val * 1024 + ((i 1).val - 2560)) / 1024 = (i 0).val := by omega
      have e1 : ((i 0).val * 1024 + ((i 1).val - 2560)) / 128 % 8 = ((i 1).val - 2560) / 128 := by omega
      have e2 : ((i 0).val * 1024 + ((i 1).val - 2560)) % 128 = ((i 1).val - 2560) % 128 := by omega
      rw [val_main_v11_apply, ref_rotated hh hw]
      show (if ((i 0).val * 1024 + ((i 1).val - 2560)) % 128 < 64 then rowAt H W (((i 0).val * 1024 + ((i 1).val - 2560)) / 1024)
        (1536 + ((i 0).val * 1024 + ((i 1).val - 2560)) / 128 % 8 * 192 + 128 + ((i 0).val * 1024 + ((i 1).val - 2560)) % 128) else 0) = _
      rw [e0, e1, e2]
      by_cases hl : ((i 1).val - 2560) % 128 < 64
      · rw [if_pos hl, if_pos (by omega), src, if_neg h0, if_neg h1, if_pos h2]
      · rw [if_neg hl, if_neg (by omega)]
  · refine Eq.trans (concatenate_apply_piece 1 _ _ i 3 (by simp) S2048x640 _ rfl rfl 3584 rfl (ix2 (n0 := 2048) (n1 := 640) (i 0) ⟨(i 1).val - 3584, by omega⟩)
      (fun b hb => ?_) (show 3584 + ((i 1).val - 3584) = (i 1).val by omega)) ((ref_tail hh hw _).trans ?_)
    · fin_cases b
      · rfl
      · exact absurd rfl hb
    · show (if (i 1).val - 3584 < 576 then rowAt H W (i 0) (3072 + ((i 1).val - 3584)) else 0) = _
      by_cases hl : (i 1).val < 4160
      · have e : 3072 + ((i 1).val - 3584) = (i 1).val - 512 := by omega
        rw [if_pos (by omega), if_pos (by omega), src, if_neg h0, if_neg h1, if_neg h2, e]
      · rw [if_neg (by omega), if_neg (by omega)]

include hd in
theorem ref_d (i : S2048x4224.Idx) : val_main_v15 (F := Ideal) x2 i = D (i 0) (i 1) := by
  rw [val_main_v15_apply]
  exact hd _
include hd in
theorem ref_dheads (i : S2048x8x192.Idx) : val_main_v21 (F := Ideal) x2 i = D (i 0)
    (if (i 2).val < 128 then 1536 + (i 1).val * 128 + (i 2).val else 2560 + (i 1).val * 128 + ((i 2).val - 128)) := by
  have h1 : (i 1).val < 8 := (i 1).isLt
  have h2 : (i 2).val < 192 := (i 2).isLt
  unfold val_main_v21
  by_cases h : (i 2).val < 128
  · rw [if_pos h]
    refine (concatenate_pair_apply_left (t := S2048x8x192) 2 _ _ concatenates_S2048x8x128_S2048x8x64_S2048x8x192_d2 i rfl
      (ix3 (n0 := 2048) (n1 := 8) (n2 := 128) (i 0) (i 1) ⟨(i 2).val, h⟩) (fun b => by fin_cases b <;> rfl)).trans ?_
    have e0 : (((i 0).val * 8 + (i 1).val) * 128 + (i 2).val) / 1024 = (i 0).val := by omega
    have e1 : 1536 + (((i 0).val * 8 + (i 1).val) * 128 + (i 2).val) % 1024 = 1536 + (i 1).val * 128 + (i 2).val := by omega
    rw [val_main_v17_apply, val_main_v16_apply, ref_d hd]
    exact congrArg₂ D e0 e1
  · rw [if_neg h]
    refine (concatenate_pair_apply_right (t := S2048x8x192) 2 _ _ concatenates_S2048x8x128_S2048x8x64_S2048x8x192_d2 i rfl rfl
      (ix3 (n0 := 2048) (n1 := 8) (n2 := 64) (i 0) (i 1) ⟨(i 2).val - 128, by omega⟩) (fun b hb => ?_) ?_).trans ?_
    · fin_cases b
      · rfl
      · rfl
      · exact absurd rfl hb
    · show (i 2).val - 128 + 128 = (i 2).val
      omega
    · have e0 : (((i 0).val * 8 + (i 1).val) * 128 + ((i 2).val - 128)) / 1024 = (i 0).val := by omega
      have e1 : 2560 + (((i 0).val * 8 + (i 1).val) * 128 + ((i 2).val - 128)) % 1024 = 2560 + (i 1).val * 128 + ((i 2).val - 128) := by omega
      rw [val_main_v20_apply, val_main_v19_apply, val_main_v18_apply, ref_d hd]
      exact congrArg₂ D e0 e1

set_option maxHeartbeats 400000 in
include hd in
theorem ref_drows (i : S2048x3648.Idx) : val_main_v25 (F := Ideal) x2 i = D (i 0) (dst (i 1)) := by
  have hi : (i 1).val < 3648 := (i 1).isLt
  unfold val_main_v25
  by_cases h0 : (i 1).val < 1536
  · rw [dst, if_pos h0]
    refine Eq.trans (concatenate_apply_piece 1 _ _ i 0 (by simp) S2048x1536 _ rfl rfl 0 rfl (ix2 (n0 := 2048) (n1 := 1536) (i 0) ⟨(i 1).val, h0⟩)
      (fun b hb => ?_) (Nat.zero_add _)) ?_
    · fin_cases b
      · rfl
      · exact absurd rfl hb
    · rw [val_main_v22_apply, ref_d hd]
      rfl
  by_cases h1 : (i 1).val < 3072
  · rw [dst, if_neg h0, if_pos h1]
    refine Eq.trans (concatenate_apply_piece 1 _ _ i 1 (by simp) S2048x1536 _ rfl rfl 1536 rfl (ix2 (n0 := 2048) (n1 := 1536) (i 0) ⟨(i 1).val - 1536, by omega⟩)
      (fun b hb => ?_) (show 1536 + ((i 1).val - 1536) = (i 1).val by omega)) ?_
    · fin_cases b
      · rfl
      · exact absurd rfl hb
    · have e0 : ((i 0).val * 1536 + ((i 1).val - 1536)) / 1536 = (i 0).val := by omega
      have e1 : ((i 0).val * 1536 + ((i 1).val - 1536)) / 192 % 8 = ((i 1).val - 1536) / 192 := by omega
      have e2 : ((i 0).val * 1536 + ((i 1).val - 1536)) % 192 = ((i 1).val - 1536) % 192 := by omega
      rw [val_main_v23_apply, ref_dheads hd]
      show D (((i 0).val * 1536 + ((i 1).val - 1536)) / 1536)
        (if ((i 0).val * 1536 + ((i 1).val - 1536)) % 192 < 128 then
          1536 + ((i 0).val * 1536 + ((i 1).val - 1536)) / 192 % 8 * 128 + ((i 0).val * 1536 + ((i 1).val - 1536)) % 192
        else 2560 + ((i 0).val * 1536 + ((i 1).val - 1536)) / 192 % 8 * 128 + (((i 0).val * 1536 + ((i 1).val - 1536)) % 192 - 128)) = _
      rw [e0, e1, e2]
  · rw [dst, if_neg h0, if_neg h1]
    refine Eq.trans (concatenate_apply_piece 1 _ _ i 2 (by simp) S2048x576 _ rfl rfl 3072 rfl (ix2 (n0 := 2048) (n1 := 576) (i 0) ⟨(i 1).val - 3072, by omega⟩)
      (fun b hb => ?_) (show 3072 + ((i 1).val - 3072) = (i 1).val by omega)) ?_
    · fin_cases b
      · rfl
      · exact absurd rfl hb
    · rw [val_main_v24_apply, ref_d hd]
      exact congrArg (D (i 0)) (show 3584 + ((i 1).val - 3072) = (i 1).val + 512 by omega)

include hw hd in
theorem ref_back (i : S2048x2048.Idx) : val_main_v28 (F := Ideal) x1 x2 i = backAt D W (i 0) (i 1) := by
  rw [val_main_v28_apply, ← back_sum]
  refine Finset.sum_congr rfl fun k _ => ?_
  rw [ref_drows hd, ref_wt hw]

theorem algebraic : Cert.algebraic_Kernel5Ideal_Reference5Ideal (hKernel5Ideal := Cert.Kernel5Ideal.Gen.facts)
    (hReference5Ideal := Cert.Reference5Ideal.Gen.facts) := by
  intro m g m' g' _ hag
  refine ⟨fun c => Cert.Kernel5Ideal.Gen.W3 m g c (Proc.devRef .tc Cert.Kernel5Ideal.main_v13),
    fun c => Cert.Kernel5Ideal.Gen.W3 m g c (Proc.devRef .tc Cert.Kernel5Ideal.main_v14), ?_, ?_⟩
  · exact (θ_run _ _ _).mono (fun _ h c => ⟨(h c).1.1, (h c).1.2, (h c).2⟩) (run_arrays m g)
  · refine (θ_run _ _ _).mono (fun _ h c => ?_) (Cert.Reference5Ideal.Value.run (F := Ideal) m' g')
    obtain ⟨e0, e1, ha⟩ := h c
    obtain ⟨m0, m1, m2⟩ := hag c
    have hH : ∀ y : S2048x2048.Idx, m ((c.tc : Thread _ _).loc Cert.Kernel5Ideal.main_arg0) y
        = at2 (m ((c.tc : Thread _ _).loc Cert.Kernel5Ideal.main_arg0)) (y 0) (y 1) := at2_of _
    have hW : ∀ y : S3648x2048.Idx, m ((c.tc : Thread _ _).loc Cert.Kernel5Ideal.main_arg1) y
        = at2 (m ((c.tc : Thread _ _).loc Cert.Kernel5Ideal.main_arg1)) (y 0) (y 1) := at2_of _
    have hD : ∀ y : S2048x4224.Idx, m ((c.tc : Thread _ _).loc Cert.Kernel5Ideal.main_arg2) y
        = at2 (m ((c.tc : Thread _ _).loc Cert.Kernel5Ideal.main_arg2)) (y 0) (y 1) := at2_of _
    obtain ⟨r0, r1⟩ := run_values m g c hH hW hD
    refine ⟨(e0.trans (val_main_v14_eq _ _)).trans ?_, (e1.trans (val_main_v28_eq _ _)).trans ?_, ha⟩
    · exact (funext fun y => ref_proj (fun y => (congrFun m0 y).trans (hH y)) (fun y => (congrFun m1 y).trans (hW y)) y).trans r0.symm
    · exact (funext fun y => ref_back (fun y => (congrFun m1 y).trans (hW y)) (fun y => (congrFun m2 y).trans (hD y)) y).trans r1.symm

end Cert.Proj

end
-- ==== Proof.KvBwd.lean ====
/- The gradients of the latent product's operands: the latent row's, the product's, and the shared rotated part's. -/
module

public import proofs.«01_k».proof.Proof.Mlp
public import proofs.«01_k».proof.Proof.Gen.Kernel10Ideal.Value
public import Idealize.ShloMosaic.Lib.Pipeline.ValueKit
public import Idealize.ShloMosaic.Lib.Pipeline.ReadBack

@[expose] public section

set_option maxRecDepth 16384

noncomputable section

namespace Cert.KvBwd

open Idealize.ShloMosaic Idealize.ShloMosaic.TcCoe Cert.Mlp Cert.Kernel10Ideal Cert.Kernel10Ideal.Gen Cert.Kernel10Ideal.Facts

/-- The product's gradient: of every head's 256 columns the first 128 are the keys', the others the values'. -/
def dkvAt (K U : ℕ → ℕ → EReal) (i j : ℕ) : EReal := if j % 256 < 128 then K i j else U i (j / 256 * 128 + (j % 256 - 128))
/-- One term of the latent row's gradient. -/
def termAt (K U : ℕ → ℕ → EReal) (W : ℕ → ℕ → ℕ → EReal) (i x k : ℕ) : EReal := dkvAt K U i k * W (k / 512) x (k % 512)
/-- One head's gradient of the shared part. -/
def peAt (K : ℕ → ℕ → EReal) (i x h : ℕ) : EReal := K i (h * 256 + 128 + x)

theorem idx0 : ∀ t : Fin grid0.N, win0_0.index t = ![t.val / 4, t.val % 4] ∧ win0_1.index t = ![t.val / 4, t.val % 4]
    ∧ win0_2.index t = ![t.val % 4, 0, 0] ∧ win0_3.index t = ![t.val / 4, 0] ∧ win0_4.index t = ![t.val / 4, t.val % 4]
    ∧ win0_5.index t = ![t.val / 4, 0] := by
  decide +kernel

theorem pay1_at (v2 v5 : Vec Ideal S1024x128 .f32) (y : S1024x128.Idx) : k0_pay1 v2 v5 y = v2 y + v5 y := by
  unfold_payloads
  pointwise []
theorem pay5_at (v2 v5 v : Vec Ideal S1024x128 .f32) (y : S1024x128.Idx) : k0_pay5 v2 v5 v y = v y + k0_pay1 v2 v5 y := by
  unfold k0_pay5
  pointwise []
theorem pay4_at (v0 v1 v3 v4 : Vec Ideal S1024x128 .f32) (w : Vec Ideal S1x512x512 .bf16) (v : Vec Ideal S1024x512 .f32) (y : S1024x512.Idx) :
    k0_pay4 v0 v1 v3 v4 w v y = v y + k0_pay3 v0 v1 v3 v4 w y := by
  unfold k0_pay4
  pointwise []
theorem pay3_at (v0 v1 v3 v4 : Vec Ideal S1024x128 .f32) (w : Vec Ideal S1x512x512 .bf16) (r : Fin 1024) (x : Fin 512) :
    k0_pay3 v0 v1 v3 v4 w (ix2 r x) = ∑ k : Fin 512, k0_pay2 v0 v1 v3 v4 (ix2 r k) * w (ix3 0 x k) := by
  unfold k0_pay3
  pointwise []
theorem pay2_at (v0 v1 v3 v4 : Vec Ideal S1024x128 .f32) (r : Fin 1024) (x : Fin 512) (d : ℕ → EReal)
    (e0 : ∀ y : Fin 128, v0 (ix2 r y) = d y) (e1 : ∀ y : Fin 128, v1 (ix2 r y) = d (128 + y))
    (e3 : ∀ y : Fin 128, v3 (ix2 r y) = d (256 + y)) (e4 : ∀ y : Fin 128, v4 (ix2 r y) = d (384 + y)) :
    k0_pay2 v0 v1 v3 v4 (ix2 r x) = d x := by
  have hx : x.val < 512 := x.isLt
  unfold k0_pay2
  pointwise []
  split_ifs
  all_goals first
    | exact e0 _
    | exact (e1 _).trans (congrArg d (by show 128 + (x.val - 128) = x.val; omega))
    | exact (e3 _).trans (congrArg d (by show 256 + (x.val - 128 - 128) = x.val; omega))
    | exact (e4 _).trans (congrArg d (by show 384 + (x.val - 128 - 128 - 128) = x.val; omega))

variable {m : (ℓ : Loc nD τ sig) → Buf (Elt Ideal) ℓ} {c : Dev nD} {K U : ℕ → ℕ → EReal} {W : ℕ → ℕ → ℕ → EReal}
variable (hk : ∀ y : S2048x2048.Idx, V m c main_arg0 y = K (y 0) (y 1))
variable (hu : ∀ y : S2048x1024.Idx, V m c main_arg1 y = U (y 0) (y 1))
variable (hw : ∀ y : S4x512x512.Idx, V m c main_arg2 y = W (y 0) (y 1) (y 2))

/-- Columns of point `t`'s block of the keys' gradient. -/
abbrev kLd (m : (ℓ : Loc nD τ sig) → Buf (Elt Ideal) ℓ) (c : Dev nD) (t : Fin cfg0.N) (o : ℕ) (ho : ∀ a, (![0, o] : Fin 2 → ℕ) a + (![1024, 128] : Fin 2 → ℕ) a ≤ S1024x512.size a) :
    Vec Ideal S1024x128 .f32 := View.ld (iblk m c 0 t) (Rect.unit (s := S1024x512) ![0, o] ![1024, 128] ho)
/-- Columns of point `t`'s block of the values' gradient. -/
abbrev uLd (m : (ℓ : Loc nD τ sig) → Buf (Elt Ideal) ℓ) (c : Dev nD) (t : Fin cfg0.N) (o : ℕ) (ho : ∀ a, (![0, o] : Fin 2 → ℕ) a + (![1024, 128] : Fin 2 → ℕ) a ≤ S1024x256.size a) :
    Vec Ideal S1024x128 .f32 := View.ld (iblk m c 1 t) (Rect.unit (s := S1024x256) ![0, o] ![1024, 128] ho)

/-- One point's block of the product's gradient. -/
abbrev dkvBlk (m : (ℓ : Loc nD τ sig) → Buf (Elt Ideal) ℓ) (c : Dev nD) (t : Fin cfg0.N) : Vec Ideal S1024x512 .bf16 :=
  k0_pay2 (kLd m c t 0 inb_S1024x512_S1024x128_0_0) (uLd m c t 0 inb_S1024x256_S1024x128_0_0)
    (kLd m c t 256 inb_S1024x512_S1024x128_0_256) (uLd m c t 128 inb_S1024x256_S1024x128_0_128)
/-- One point's part of the latent row's gradient. -/
abbrev dckBlk (m : (ℓ : Loc nD τ sig) → Buf (Elt Ideal) ℓ) (c : Dev nD) (t : Fin cfg0.N) : Vec Ideal S1024x512 .f32 :=
  k0_pay3 (kLd m c t 0 inb_S1024x512_S1024x128_0_0) (uLd m c t 0 inb_S1024x256_S1024x128_0_0)
    (kLd m c t 256 inb_S1024x512_S1024x128_0_256) (uLd m c t 128 inb_S1024x256_S1024x128_0_128) (iblk m c 2 t)
/-- One point's part of the shared part's gradient. -/
abbrev peBlk (m : (ℓ : Loc nD τ sig) → Buf (Elt Ideal) ℓ) (c : Dev nD) (t : Fin cfg0.N) : Vec Ideal S1024x128 .f32 :=
  k0_pay1 (kLd m c t 128 inb_S1024x512_S1024x128_0_128) (kLd m c t 384 inb_S1024x512_S1024x128_0_384)

theorem dck_A (t : Fin cfg0.N) (h0 : t.val % 4 = 0) (h1 : ¬1 ≤ t.val % 4) : (outsAt0 m c t.val t.isLt).1 = dckBlk m c t := by
  rw [outsAt0_A m c t h0 h1]
  frame_open
  simp (disch := decide) only [↓ View.readCov_skip, ↓ View.readCov_cons_toLoadRect, ↓ View.readCov_fill]
  frame_out
  rfl
theorem dkv_A (t : Fin cfg0.N) (h0 : t.val % 4 = 0) (h1 : ¬1 ≤ t.val % 4) : (outsAt0 m c t.val t.isLt).2.1 = dkvBlk m c t := by
  rw [outsAt0_A m c t h0 h1]
  frame_open
  simp (disch := decide) only [↓ View.readCov_skip, ↓ View.readCov_cons_toLoadRect, ↓ View.readCov_fill]
  frame_out
  rfl
theorem pe_A (t : Fin cfg0.N) (h0 : t.val % 4 = 0) (h1 : ¬1 ≤ t.val % 4) : (outsAt0 m c t.val t.isLt).2.2 = peBlk m c t := by
  rw [outsAt0_A m c t h0 h1]
  frame_open
  simp (disch := decide) only [↓ View.readCov_skip, ↓ View.readCov_cons_toLoadRect, ↓ View.readCov_fill]
  frame_out
  rfl
theorem dck_B (t : Fin cfg0.N) (h0 : ¬t.val % 4 = 0) (h1 : 1 ≤ t.val % 4) (y : S1024x512.Idx) : (outsAt0 m c t.val t.isLt).1 y
    = (outsAt0 m c (t.val - 1) (Nat.lt_of_le_of_lt (Nat.sub_le _ _) t.isLt)).1 y + dckBlk m c t y := by
  refine Eq.trans (congrFun ?_ y) (pay4_at (kLd m c t 0 inb_S1024x512_S1024x128_0_0) (uLd m c t 0 inb_S1024x256_S1024x128_0_0)
    (kLd m c t 256 inb_S1024x512_S1024x128_0_256) (uLd m c t 128 inb_S1024x256_S1024x128_0_128) (iblk m c 2 t) _ y)
  rw [outsAt0_B m c t h0 h1]
  frame_open
  simp (disch := decide) only [↓ View.readCov_skip, ↓ View.readCov_cons_toLoadRect, ↓ View.readCov_fill]
  frame_out
  rfl
theorem dkv_B (t : Fin cfg0.N) (h0 : ¬t.val % 4 = 0) (h1 : 1 ≤ t.val % 4) : (outsAt0 m c t.val t.isLt).2.1 = dkvBlk m c t := by
  rw [outsAt0_B m c t h0 h1]
  frame_open
  simp (disch := decide) only [↓ View.readCov_skip, ↓ View.readCov_cons_toLoadRect, ↓ View.readCov_fill]
  frame_out
  rfl
theorem pe_B (t : Fin cfg0.N) (h0 : ¬t.val % 4 = 0) (h1 : 1 ≤ t.val % 4) (y : S1024x128.Idx) : (outsAt0 m c t.val t.isLt).2.2 y
    = (outsAt0 m c (t.val - 1) (Nat.lt_of_le_of_lt (Nat.sub_le _ _) t.isLt)).2.2 y + peBlk m c t y := by
  refine Eq.trans (congrFun ?_ y) (pay5_at (kLd m c t 128 inb_S1024x512_S1024x128_0_128) (kLd m c t 384 inb_S1024x512_S1024x128_0_384) _ y)
  rw [outsAt0_B m c t h0 h1]
  frame_open
  simp (disch := decide) only [↓ View.readCov_skip, ↓ View.readCov_cons_toLoadRect, ↓ View.readCov_fill]
  frame_out
  rfl

include hk in
theorem k_ld (t : Fin cfg0.N) (o : ℕ) (ho : ∀ a, (![0, o] : Fin 2 → ℕ) a + (![1024, 128] : Fin 2 → ℕ) a ≤ S1024x512.size a) (r : Fin 1024) (x : Fin 128) :
    kLd m c t o ho (ix2 r x) = K (t.val / 4 * 1024 + r) (t.val % 4 * 512 + (o + x)) := by
  refine (hk _).trans ?_
  blk_simp [(idx0 t).1]
  simp
include hu in
theorem u_ld (t : Fin cfg0.N) (o : ℕ) (ho : ∀ a, (![0, o] : Fin 2 → ℕ) a + (![1024, 128] : Fin 2 → ℕ) a ≤ S1024x256.size a) (r : Fin 1024) (x : Fin 128) :
    uLd m c t o ho (ix2 r x) = U (t.val / 4 * 1024 + r) (t.val % 4 * 256 + (o + x)) := by
  refine (hu _).trans ?_
  blk_simp [(idx0 t).2.1]
  simp
include hw in
theorem w_ld (t : Fin cfg0.N) (x k : Fin 512) : (iblk m c 2 t : Vec Ideal S1x512x512 .bf16) (ix3 0 x k) = W (t.val % 4) x k := by
  refine (hw _).trans ?_
  blk_simp [(idx0 t).2.2.1]
  simp

include hk hu in
theorem dkv_blk (t : Fin cfg0.N) (r : Fin 1024) (x : Fin 512) :
    dkvBlk m c t (ix2 r x) = dkvAt K U (t.val / 4 * 1024 + r) (t.val % 4 * 512 + x) := by
  have key : ∀ (o : ℕ) (y : Fin 128), o % 256 = 0 → dkvAt K U (t.val / 4 * 1024 + r) (t.val % 4 * 512 + (o + y)) = K (t.val / 4 * 1024 + r) (t.val % 4 * 512 + (o + y)) := by
    intro o y h
    have hy : y.val < 128 := y.isLt
    rw [dkvAt, if_pos (by omega)]
  have val : ∀ (o p : ℕ) (y : Fin 128), o % 256 = 128 → p = o / 256 * 128 → dkvAt K U (t.val / 4 * 1024 + r) (t.val % 4 * 512 + (o + y)) = U (t.val / 4 * 1024 + r) (t.val % 4 * 256 + (p + y)) := by
    intro o p y h hp
    have hy : y.val < 128 := y.isLt
    rw [dkvAt, if_neg (by omega)]
    exact congrArg (U _) (by omega)
  refine pay2_at _ _ _ _ r x (fun z => dkvAt K U (t.val / 4 * 1024 + r) (t.val % 4 * 512 + z)) (fun y => ?_) (fun y => ?_) (fun y => ?_) (fun y => ?_)
  · refine (k_ld hk t 0 _ r y).trans ((key 0 y rfl).symm.trans ?_)
    simp only [Nat.zero_add]
  · exact (u_ld hu t 0 _ r y).trans (val 128 0 y rfl rfl).symm
  · exact (k_ld hk t 256 _ r y).trans (key 256 y rfl).symm
  · exact (u_ld hu t 128 _ r y).trans (val 384 128 y rfl rfl).symm

include hk hu hw in
theorem dck_blk (t : Fin cfg0.N) (r : Fin 1024) (x : Fin 512) :
    dckBlk m c t (ix2 r x) = part (termAt K U W (t.val / 4 * 1024 + r) x) (t.val % 4 * 512) 512 := by
  refine (pay3_at _ _ _ _ _ r x).trans (Finset.sum_congr rfl fun k _ => ?_)
  have hk' : k.val < 512 := k.isLt
  have e1 : (t.val % 4 * 512 + k.val) / 512 = t.val % 4 := by omega
  have e2 : (t.val % 4 * 512 + k.val) % 512 = k.val := by omega
  rw [termAt, e1, e2]
  exact congrArg₂ (· * ·) (dkv_blk hk hu t r k) (w_ld hw t x k)
include hk in
theorem pe_blk (t : Fin cfg0.N) (r : Fin 1024) (x : Fin 128) :
    peBlk m c t (ix2 r x) = part (peAt K (t.val / 4 * 1024 + r) x) (t.val % 4 * 2) 2 := by
  refine (pay1_at _ _ _).trans ((congrArg₂ (· + ·) (k_ld hk t 128 _ r x) (k_ld hk t 384 _ r x)).trans ?_)
  refine Eq.trans ?_ (Fin.sum_univ_two _).symm
  refine congrArg₂ (· + ·) ?_ ?_
  · exact congrArg (K _) (by show t.val % 4 * 512 + (128 + x.val) = (t.val % 4 * 2 + 0) * 256 + 128 + x.val; omega)
  · exact congrArg (K _) (by show t.val % 4 * 512 + (384 + x.val) = (t.val % 4 * 2 + 1) * 256 + 128 + x.val; omega)

/-- A sum kept from point to point: begun at every fourth point, added to at the others. -/
theorem kept {n : ℕ} (f : ∀ t : ℕ, t < cfg0.N → EReal) (g : ℕ → ℕ → EReal)
    (ha : ∀ t : Fin cfg0.N, t.val % 4 = 0 → f t.val t.isLt = part (g (t.val / 4)) (t.val % 4 * n) n)
    (hb : ∀ t : Fin cfg0.N, ¬t.val % 4 = 0 → f t.val t.isLt
      = f (t.val - 1) (Nat.lt_of_le_of_lt (Nat.sub_le _ _) t.isLt) + part (g (t.val / 4)) (t.val % 4 * n) n) (j : ℕ) :
    ∀ t : Fin cfg0.N, t.val % 4 = j → f t.val t.isLt = part (g (t.val / 4)) 0 ((j + 1) * n) := by
  induction j with
  | zero =>
    intro t h
    rw [ha t h, h, Nat.zero_mul, Nat.zero_add, Nat.one_mul]
  | succ j ih =>
    intro t h
    have e : (t.val - 1) / 4 = t.val / 4 := by omega
    have := ih ⟨t.val - 1, Nat.lt_of_le_of_lt (Nat.sub_le _ _) t.isLt⟩ (by show (t.val - 1) % 4 = j; omega)
    rw [hb t (by omega), this, h]
    show part (g ((t.val - 1) / 4)) 0 ((j + 1) * n) + _ = _
    rw [e]
    refine Eq.trans ?_ ((part_add _ 0 ((j + 1) * n) n).trans (congrArg (part _ 0) (Nat.succ_mul _ _).symm))
    rw [Nat.zero_add]

include hk hu hw in
theorem arr_dck : (dats m 0 c).arrAt 3 cfg0.N = fun y => part (termAt K U W (y 0) (y 1)) 0 2048 := by
  refine (dats m 0 c).arrAt_eq_of_covers 3 _ (by decide +kernel) fun t hf y => ?_
  have h3 : t.val % 4 = 3 := (flush0_3 t).mp hf
  blk_simp [(idx0 t).2.2.2.1]
  rw [after0_3]
  refine (congrArg (outsAt0 m c t.val t.isLt).1 (eq_ix2 y)).trans ((kept (n := 512) (fun s hs => (outsAt0 m c s hs).1 (ix2 (y 0) (y 1)))
    (fun i => termAt K U W (i * 1024 + (y 0).val) (y 1).val) (fun s h => ?_) (fun s h => ?_) 3 t h3).trans ?_)
  · exact (congrFun (dck_A s h (by omega)) _).trans (dck_blk hk hu hw s _ _)
  · exact (dck_B s h (by omega) _).trans (congrArg₂ (· + ·) rfl (dck_blk hk hu hw s _ _))
  · simp
include hk hu in
theorem arr_dkv : (dats m 0 c).arrAt 4 cfg0.N = fun y => dkvAt K U (y 0) (y 1) := by
  refine (dats m 0 c).arrAt_eq_of_covers 4 _ (by decide +kernel) fun t hf y => ?_
  blk_simp [(idx0 t).2.2.2.2.1]
  rw [after0_4]
  have e : (outsAt0 m c t.val t.isLt).2.1 = dkvBlk m c t := by
    by_cases h : t.val % 4 = 0
    · exact dkv_A t h (by omega)
    · exact dkv_B t h (by omega)
  exact (congrFun e y).trans ((congrArg (dkvBlk m c t) (eq_ix2 y)).trans (dkv_blk hk hu t _ _))
include hk in
theorem arr_pe : (dats m 0 c).arrAt 5 cfg0.N = fun y => part (peAt K (y 0) (y 1)) 0 8 := by
  refine (dats m 0 c).arrAt_eq_of_covers 5 _ (by decide +kernel) fun t hf y => ?_
  have h3 : t.val % 4 = 3 := (flush0_5 t).mp hf
  blk_simp [(idx0 t).2.2.2.2.2]
  rw [after0_5]
  refine (congrArg (outsAt0 m c t.val t.isLt).2.2 (eq_ix2 y)).trans ((kept (n := 2) (fun s hs => (outsAt0 m c s hs).2.2 (ix2 (y 0) (y 1)))
    (fun i => peAt K (i * 1024 + (y 0).val) (y 1).val) (fun s h => ?_) (fun s h => ?_) 3 t h3).trans ?_)
  · exact (congrFun (pe_A s h (by omega)) _).trans (pe_blk hk s _ _)
  · exact (pe_B s h (by omega) _).trans (congrArg₂ (· + ·) rfl (pe_blk hk s _ _))
  · simp

end Cert.KvBwd

end
-- ==== Proof.KvBwdRef.lean ====
/- The reference of the latent product's gradients, and its agreement with the kernel. -/
module

public import proofs.«01_k».proof.Proof.KvBwd
public import proofs.«01_k».proof.Proof.Gen.Reference10Ideal.Read
public import Idealize.ShloMosaic.Lib.KernelVsHost
public import proofs.«01_k».proof.Defs

@[expose] public section

set_option maxRecDepth 16384

noncomputable section

namespace Cert.KvBwd

open Idealize.ShloMosaic Idealize.ShloMosaic.TcCoe Idealize.SL.Sem Cert.Mlp Cert.Reference10Ideal Cert.Reference10Ideal.Read
open Cert.Reference10Ideal.Facts₀

variable {x0 : (⟨S2048x2048, .f32⟩ : BufTy).Contents (Elt Ideal)} {x1 : (⟨S2048x1024, .f32⟩ : BufTy).Contents (Elt Ideal)}
variable {x2 : (⟨S4x512x512, .bf16⟩ : BufTy).Contents (Elt Ideal)}
variable {K U : ℕ → ℕ → EReal} {W : ℕ → ℕ → ℕ → EReal}
variable (hk : ∀ y : S2048x2048.Idx, x0 y = K (y 0) (y 1)) (hu : ∀ y : S2048x1024.Idx, x1 y = U (y 0) (y 1))
variable (hw : ∀ y : S4x512x512.Idx, x2 y = W (y 0) (y 1) (y 2))

include hw in
theorem ref_w (i : S512x2048.Idx) : val_main_v2 (F := Ideal) x2 i = W ((i 1).val / 512) (i 0) ((i 1).val % 512) := by
  have h1 : (i 1).val < 2048 := (i 1).isLt
  have e0 : ((i 0).val * 2048 + (i 1).val) / 2048 = (i 0).val := by omega
  have e1 : ((i 0).val * 2048 + (i 1).val) / 512 % 4 = (i 1).val / 512 := by omega
  have e2 : ((i 0).val * 2048 + (i 1).val) % 512 = (i 1).val % 512 := by omega
  rw [val_main_v2_apply, val_main_v1_apply, val_main_v0_apply]
  refine (hw _).trans ?_
  show W (((i 0).val * 2048 + (i 1).val) / 512 % 4) (((i 0).val * 2048 + (i 1).val) / 2048) (((i 0).val * 2048 + (i 1).val) % 512) = _
  rw [e0, e1, e2]
theorem fill0 (i : S_.Idx) : val_main_cst (F := Ideal) i = (0 : EReal) := by
  rw [val_main_cst_apply]
  simp
theorem fill2 (i : S_.Idx) : val_main_cst_2 (F := Ideal) i = (0 : EReal) := by
  rw [val_main_cst_2_apply]
  simp
theorem fill1 (i : S_.Idx) : val_main_cst_1 (F := Ideal) i = (0 : EReal) := by
  rw [val_main_cst_1_apply]
  simp
theorem fill_0 (i : S_.Idx) : val_main_cst_0 (F := Ideal) i = (0 : EReal) := by
  rw [val_main_cst_0_apply]
  simp

include hk in
theorem ref_heads (i : S2048x8x256.Idx) : val_main_v5 (F := Ideal) x0 i = K (i 0) ((i 1).val * 256 + (i 2).val) := by
  have h1 : (i 1).val < 8 := (i 1).isLt
  have h2 : (i 2).val < 256 := (i 2).isLt
  have e0 : (((i 0).val * 8 + (i 1).val) * 256 + (i 2).val) / 2048 = (i 0).val := by omega
  have e1 : (((i 0).val * 8 + (i 1).val) * 256 + (i 2).val) % 2048 = (i 1).val * 256 + (i 2).val := by omega
  rw [val_main_v5_apply]
  refine (hk _).trans ?_
  exact congrArg₂ K e0 e1
include hk in
theorem ref_key (i : S2048x8x256.Idx) : val_main_v11 (F := Ideal) x0 i
    = if (i 2).val < 128 then K (i 0) ((i 1).val * 256 + (i 2).val) else 0 := by
  unfold val_main_v11
  by_cases h : (i 2).val < 128
  · rw [if_pos h]
    refine (pad_apply_of_inside _ _ _ _ _ _ _ i (ix3 (n0 := 2048) (n1 := 8) (n2 := 128) (i 0) (i 1) ⟨(i 2).val, h⟩) (fun a => ?_)).trans ?_
    · fin_cases a <;> exact ((Nat.zero_add _).trans (Nat.mul_one _)).symm
    · rw [val_main_v6_apply, ref_heads hk]
      rfl
  · rw [if_neg h]
    refine (pad_apply_of_not_inside _ _ _ _ _ _ _ i 2 (fun hc => h ?_)).trans (fill2 _)
    have := hc.2.2
    simpa using this
include hu in
theorem ref_val (i : S2048x8x256.Idx) : val_main_v4 (F := Ideal) x1 i
    = if (i 2).val < 128 then 0 else U (i 0) ((i 1).val * 128 + ((i 2).val - 128)) := by
  have h1 : (i 1).val < 8 := (i 1).isLt
  have h2 : (i 2).val < 256 := (i 2).isLt
  unfold val_main_v4
  by_cases h : (i 2).val < 128
  · rw [if_pos h]
    refine (pad_apply_of_not_inside _ _ _ _ _ _ _ i 2 (fun hc => ?_)).trans (fill0 _)
    have : 128 ≤ (i 2).val := hc.1
    omega
  · rw [if_neg h]
    refine (pad_apply_of_inside _ _ _ _ _ _ _ i (ix3 (n0 := 2048) (n1 := 8) (n2 := 128) (i 0) (i 1) ⟨(i 2).val - 128, by omega⟩) (fun a => ?_)).trans ?_
    · fin_cases a
      · exact ((Nat.zero_add _).trans (Nat.mul_one _)).symm
      · exact ((Nat.zero_add _).trans (Nat.mul_one _)).symm
      · show (i 2).val = 128 + ((i 2).val - 128) * (0 + 1)
        omega
    · rw [val_main_v3_apply]
      refine (hu _).trans ?_
      exact congrArg₂ U (show (((i 0).val * 8 + (i 1).val) * 128 + ((i 2).val - 128)) / 1024 = (i 0).val by omega)
        (show (((i 0).val * 8 + (i 1).val) * 128 + ((i 2).val - 128)) % 1024 = (i 1).val * 128 + ((i 2).val - 128) by omega)

include hk hu in
theorem ref_dkv (i : S2048x2048.Idx) : val_main_v13 (F := Ideal) x0 x1 i = dkvAt K U (i 0) (i 1) := by
  have h1 : (i 1).val < 2048 := (i 1).isLt
  have e0 : ((i 0).val * 2048 + (i 1).val) / 2048 = (i 0).val := by omega
  have e1 : ((i 0).val * 2048 + (i 1).val) / 256 % 8 = (i 1).val / 256 := by omega
  have e2 : ((i 0).val * 2048 + (i 1).val) % 256 = (i 1).val % 256 := by omega
  rw [val_main_v13_apply, val_main_v12_apply, ref_key hk, ref_val hu]
  show (if ((i 0).val * 2048 + (i 1).val) % 256 < 128 then 0
      else U (((i 0).val * 2048 + (i 1).val) / 2048) (((i 0).val * 2048 + (i 1).val) / 256 % 8 * 128 + (((i 0).val * 2048 + (i 1).val) % 256 - 128)))
    + (if ((i 0).val * 2048 + (i 1).val) % 256 < 128 then
        K (((i 0).val * 2048 + (i 1).val) / 2048) (((i 0).val * 2048 + (i 1).val) / 256 % 8 * 256 + ((i 0).val * 2048 + (i 1).val) % 256) else 0) = _
  rw [e0, e1, e2, dkvAt]
  by_cases h : (i 1).val % 256 < 128
  · rw [if_pos h, if_pos h, if_pos h, zero_add]
    exact congrArg (K (i 0)) (by omega)
  · rw [if_neg h, if_neg h, if_neg h, add_zero]

include hk hu hw in
theorem ref_dck (i : S2048x512.Idx) : val_main_v14 (F := Ideal) x0 x1 x2 i = part (termAt K U W (i 0) (i 1)) 0 2048 := by
  rw [val_main_v14_apply]
  refine Finset.sum_congr rfl fun k _ => ?_
  rw [ref_dkv hk hu, ref_w hw, Nat.zero_add]
  rfl
include hk in
theorem ref_pe (i : S2048x128.Idx) : val_main_v10 (F := Ideal) x0 i = part (peAt K (i 0) (i 1)) 0 8 := by
  rw [val_main_v10_apply, fill1, zero_add, Fin.sum_univ_one, val_main_v9_apply, val_main_v8_apply, fill_0, zero_add]
  refine Finset.sum_congr rfl fun k _ => ?_
  rw [val_main_v7_apply, ref_heads hk, Nat.zero_add]
  exact congrArg (K (i 0)) (show k.val * 256 + (128 + (i 1).val) = k.val * 256 + 128 + (i 1).val by omega)

theorem algebraic : Cert.algebraic_Kernel10Ideal_Reference10Ideal (hKernel10Ideal := Cert.Kernel10Ideal.Gen.facts) (hReference10Ideal := Cert.Reference10Ideal.Gen.facts) := by
  intro m g m' g' _ hag
  refine ⟨fun c => (Cert.Kernel10Ideal.Gen.dats m 0 c).arrAt 3 Cert.Kernel10Ideal.cfg0.N,
    fun c => (Cert.Kernel10Ideal.Gen.dats m 0 c).arrAt 4 Cert.Kernel10Ideal.cfg0.N,
    fun c => (Cert.Kernel10Ideal.Gen.dats m 0 c).arrAt 5 Cert.Kernel10Ideal.cfg0.N, Cert.Kernel10Ideal.Value.run_blocks m g,
    (θ_run _ _ _).mono (fun r h c => ?_) (Cert.Reference10Ideal.Value.run (F := Ideal) m' g')⟩
  obtain ⟨e0, e1, e2, ha⟩ := h c
  obtain ⟨m0, m1, m2⟩ := hag c
  have hk : ∀ y : S2048x2048.Idx, m ((c.tc : Thread _ _).loc Cert.Kernel10Ideal.main_arg0) y
      = at2 (m ((c.tc : Thread _ _).loc Cert.Kernel10Ideal.main_arg0)) (y 0) (y 1) := at2_of _
  have hu : ∀ y : S2048x1024.Idx, m ((c.tc : Thread _ _).loc Cert.Kernel10Ideal.main_arg1) y
      = at2 (m ((c.tc : Thread _ _).loc Cert.Kernel10Ideal.main_arg1)) (y 0) (y 1) := at2_of _
  have hw : ∀ y : S4x512x512.Idx, m ((c.tc : Thread _ _).loc Cert.Kernel10Ideal.main_arg2) y
      = at3 (m ((c.tc : Thread _ _).loc Cert.Kernel10Ideal.main_arg2)) (y 0) (y 1) (y 2) := at3_of _
  have kk := fun y => (congrFun (Cert.Kernel10Ideal.Gen.V_main_arg0 m c) y).trans (hk y)
  have ku := fun y => (congrFun (Cert.Kernel10Ideal.Gen.V_main_arg1 m c) y).trans (hu y)
  have kw := fun y => (congrFun (Cert.Kernel10Ideal.Gen.V_main_arg2 m c) y).trans (hw y)
  have rk := fun y => (congrFun m0 y).trans (hk y)
  have ru := fun y => (congrFun m1 y).trans (hu y)
  have rw' := fun y => (congrFun m2 y).trans (hw y)
  refine ⟨(e0.trans (val_main_v14_eq _ _ _)).trans ?_, (e1.trans (val_main_v15_eq _ _)).trans ?_, (e2.trans (val_main_v10_eq _)).trans ?_, ha⟩
  · exact (funext fun y => ref_dck rk ru rw' y).trans (arr_dck kk ku kw).symm
  · exact (funext fun y => (val_main_v15_apply _ _ y).trans (ref_dkv rk ru y)).trans (arr_dkv kk ku).symm
  · exact (funext fun y => ref_pe rk y).trans (arr_pe kk).symm

end Cert.KvBwd

end
-- ==== Proof.Mix.lean ====
/- The gradients behind the output projection: of the two attentions' normed outputs and of the norms' gains. -/
module

public import proofs.«01_k».proof.Proof.Mlp
public import proofs.«01_k».proof.Proof.Gen.Kernel8Ideal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Mix

open Idealize.ShloMosaic Idealize.ShloMosaic.TcCoe Cert.Mlp Cert.Kernel8Ideal Cert.Kernel8Ideal.Gen Cert.Kernel8Ideal.Facts

/-- The word of 1024, a row's length. -/
abbrev width : EReal := Ideal.ofBits .f32 0x44800000#32
/-- A row's mean square, with the word added. -/
def ms (x : ℕ → EReal) : EReal := Ideal.div (∑ k : Fin 1024, x k * x k) width + Ideal.ofBits .f32 0x358637BD#32
/-- One over its root. -/
def rr (x : ℕ → EReal) : EReal := Ideal.rsqrt (ms x)
/-- The normed row. -/
def nrm (x : ℕ → EReal) (k : ℕ) : EReal := x k * rr x
/-- The gradient of a row from the gradient `d` of its norm scaled by `g`. -/
def dn (x g d : ℕ → EReal) (k : ℕ) : EReal := rr x * (d k * g k - nrm x k * Ideal.div (∑ j : Fin 1024, d j * g j * nrm x j) width)
/-- The gradient of the normed outputs side by side. -/
def dont (D W : ℕ → ℕ → EReal) (i j : ℕ) : EReal := ∑ n : Fin 2048, D i n * W j n

theorem idx0 : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0]
    ∧ win0_7.index t = ![t.val, 0] ∧ win0_8.index t = ![0, 0] ∧ win0_9.index t = ![0, 0] := by
  decide +kernel

section payloads

variable {v0 : Vec Ideal S512x2048 .bf16} {v1 : Vec Ideal S2048x2048 .bf16} {v4 v5 : Vec Ideal S512x1024 .f32} {v6 v7 : Vec Ideal S1x1024 .f32}
variable {D W X Y : ℕ → ℕ → EReal} {G E : ℕ → EReal}
variable (hd : ∀ (r : Fin 512) (n : Fin 2048), v0 (ix2 r n) = (D r n)) (hw : ∀ j n : Fin 2048, v1 (ix2 j n) = (W j n))
variable (hx : ∀ (r : Fin 512) (k : Fin 1024), v4 (ix2 r k) = (X r k)) (hy : ∀ (r : Fin 512) (k : Fin 1024), v5 (ix2 r k) = (Y r k))
variable (hg : ∀ k : Fin 1024, v6 (ix2 0 k) = (G k)) (he : ∀ k : Fin 1024, v7 (ix2 0 k) = (E k))

include hd hw in
theorem pay1_at (r : Fin 512) (j : Fin 2048) : k0_pay1 v0 v1 (ix2 r j) = (dont D W r j) := by
  unfold k0_pay1
  pointwise []
  simp only [hd, hw]
  rfl
include hd hw in
theorem pay6_at (r : Fin 512) (k : Fin 1024) : k0_pay6 v0 v1 (ix2 r k) = (dont D W r k) := by
  refine Eq.trans ?_ (pay1_at hd hw r ⟨k.val, by omega⟩)
  unfold k0_pay6
  pointwise []
include hd hw in
theorem pay7_at (r : Fin 512) (k : Fin 1024) : k0_pay7 v0 v1 (ix2 r k) = (dont D W r (1024 + k)) := by
  refine Eq.trans ?_ (pay1_at hd hw r ⟨1024 + k.val, by omega⟩)
  unfold k0_pay7
  pointwise []
include hx in
theorem pay2_at (r : Fin 512) : k0_pay2 v4 (ix2 r 0) = (rr (X r)) := by
  unfold k0_pay2
  pointwise []
  simp only [hx]
  rfl
include hx in
theorem pay3_at (r : Fin 512) (k : Fin 1024) : k0_pay3 v4 (ix2 r k) = (nrm (X r) k) := by
  unfold k0_pay3
  pointwise []
  rw [hx, pay2_at hx]
  rfl
include hy in
theorem pay4_at (r : Fin 512) : k0_pay4 v5 (ix2 r 0) = (rr (Y r)) := by
  unfold k0_pay4
  pointwise []
  simp only [hy]
  rfl
include hy in
theorem pay5_at (r : Fin 512) (k : Fin 1024) : k0_pay5 v5 (ix2 r k) = (nrm (Y r) k) := by
  unfold k0_pay5
  pointwise []
  rw [hy, pay4_at hy]
  rfl
include hd hw hg in
theorem pay8_at (r : Fin 512) (k : Fin 1024) : k0_pay8 v0 v1 v6 (ix2 r k) = (dont D W r k * G k) := by
  unfold k0_pay8
  pointwise []
  rw [hg, pay6_at hd hw]
include hd hw hx hg in
theorem pay9_at (r : Fin 512) (k : Fin 1024) : k0_pay9 v0 v1 v4 v6 (ix2 r k)
    = Ideal.div (∑ j : Fin 1024, dont D W r j * G j * nrm (X r) j) width := by
  unfold k0_pay9
  pointwise []
  simp only [pay8_at hd hw hg, pay3_at hx]
include hd hw hx hg in
theorem pay10_at (r : Fin 512) (k : Fin 1024) : k0_pay10 (k0_pay2 v4) (k0_pay3 v4) (k0_pay8 v0 v1 v6) (k0_pay9 v0 v1 v4 v6) (ix2 r k)
    = (dn (X r) G (dont D W r) k) := by
  unfold k0_pay10
  pointwise []
  simp only [pay2_at hx, pay3_at hx, pay8_at hd hw hg, pay9_at hd hw hx hg]
  rfl
include hd hw hy he in
theorem pay11_at (r : Fin 512) (k : Fin 1024) : k0_pay11 v7 (k0_pay4 v5) (k0_pay5 v5) (k0_pay7 v0 v1) (ix2 r k)
    = (dn (Y r) E (fun k => dont D W r (1024 + k)) k) := by
  unfold k0_pay11
  pointwise []
  simp only [pay4_at hy, pay5_at hy, pay7_at hd hw, he]
  rfl
theorem pay12_at (y : S1x1024.Idx) : k0_pay12 (F := Ideal) y = 0 := by
  unfold k0_pay12
  pointwise []
theorem pay13_at (y : S1x1024.Idx) : k0_pay13 (F := Ideal) y = 0 := by
  unfold k0_pay13
  pointwise []
include hd hw hx in
theorem pay14_at (v : Vec Ideal S1x1024 .f32) (k : Fin 1024) : k0_pay14 (k0_pay3 v4) (k0_pay6 v0 v1) v (ix2 0 k)
    = v (ix2 0 k) + ∑ r : Fin 512, (dont D W r k * nrm (X r) k) := by
  unfold k0_pay14
  pointwise []
  simp only [pay3_at hx, pay6_at hd hw]
include hd hw hy in
theorem pay15_at (v : Vec Ideal S1x1024 .f32) (k : Fin 1024) : k0_pay15 (k0_pay5 v5) (k0_pay7 v0 v1) v (ix2 0 k)
    = v (ix2 0 k) + ∑ r : Fin 512, (dont D W r (1024 + k) * nrm (Y r) k) := by
  unfold k0_pay15
  pointwise []
  simp only [pay5_at hy, pay7_at hd hw]

end payloads

variable {m : (ℓ : Loc nD τ sig) → Buf (Elt Ideal) ℓ} {c : Dev nD} {D W A B : ℕ → ℕ → EReal} {G E : ℕ → EReal}
variable (hd : ∀ y : S2048x2048.Idx, V m c main_arg0 y = (D (y 0) (y 1)))
variable (hw : ∀ y : S2048x2048.Idx, V m c main_v0 y = (W (y 0) (y 1)))
variable (ha : ∀ y : S2048x1024.Idx, V m c main_arg2 y = (A (y 0) (y 1)))
variable (hb : ∀ y : S2048x1024.Idx, V m c main_arg3 y = (B (y 0) (y 1)))
variable (hg : ∀ y : S1x1024.Idx, V m c main_arg4 y = (G (y 1)))
variable (he : ∀ y : S1x1024.Idx, V m c main_arg5 y = (E (y 1)))

include hd in
theorem ld0 (t : Fin cfg0.N) (r : Fin 512) (k : Fin 2048) : (iblk m c 0 t : Vec Ideal S512x2048 .bf16) (ix2 r k) = (D (t.val * 512 + r : ℕ) k) := by
  refine (hd _).trans ?_
  blk_simp [(idx0 t).1]
  try simp
include hw in
theorem ld1 (t : Fin cfg0.N) (r : Fin 2048) (k : Fin 2048) : (iblk m c 1 t : Vec Ideal S2048x2048 .bf16) (ix2 r k) = (W r k) := by
  refine (hw _).trans ?_
  blk_simp [(idx0 t).2.1]
  try simp
include ha in
theorem ld2 (t : Fin cfg0.N) (r : Fin 512) (k : Fin 1024) : (iblk m c 2 t : Vec Ideal S512x1024 .f32) (ix2 r k) = (A (t.val * 512 + r : ℕ) k) := by
  refine (ha _).trans ?_
  blk_simp [(idx0 t).2.2.1]
  try simp
include hb in
theorem ld3 (t : Fin cfg0.N) (r : Fin 512) (k : Fin 1024) : (iblk m c 3 t : Vec Ideal S512x1024 .f32) (ix2 r k) = (B (t.val * 512 + r : ℕ) k) := by
  refine (hb _).trans ?_
  blk_simp [(idx0 t).2.2.2.1]
  try simp
include hg in
theorem ld4 (t : Fin cfg0.N) (k : Fin 1024) : (iblk m c 4 t : Vec Ideal S1x1024 .f32) (ix2 0 k) = (G k) := by
  refine (hg _).trans ?_
  blk_simp [(idx0 t).2.2.2.2.1]
  try simp
include he in
theorem ld5 (t : Fin cfg0.N) (k : Fin 1024) : (iblk m c 5 t : Vec Ideal S1x1024 .f32) (ix2 0 k) = (E k) := by
  refine (he _).trans ?_
  blk_simp [(idx0 t).2.2.2.2.2.1]
  try simp
theorem doa_A (t : Fin cfg0.N) (h0 : t.val % 4 = 0) : (outsAt0 m c t.val t.isLt).1
    = k0_pay10 (k0_pay2 (iblk m c 2 t)) (k0_pay3 (iblk m c 2 t)) (k0_pay8 (iblk m c 0 t) (iblk m c 1 t) (iblk m c 4 t)) (k0_pay9 (iblk m c 0 t) (iblk m c 1 t) (iblk m c 2 t) (iblk m c 4 t)) := by
  rw [outsAt0_A m c t h0]
  frame_open
  simp (disch := decide) only [↓ View.readCov_skip, ↓ View.readCov_cons_toLoadRect, ↓ View.readCov_fill]
  frame_out
theorem doa_B (t : Fin cfg0.N) (h0 : ¬t.val % 4 = 0) : (outsAt0 m c t.val t.isLt).1
    = k0_pay10 (k0_pay2 (iblk m c 2 t)) (k0_pay3 (iblk m c 2 t)) (k0_pay8 (iblk m c 0 t) (iblk m c 1 t) (iblk m c 4 t)) (k0_pay9 (iblk m c 0 t) (iblk m c 1 t) (iblk m c 2 t) (iblk m c 4 t)) := by
  rw [outsAt0_B m c t h0]
  frame_open
  simp (disch := decide) only [↓ View.readCov_skip, ↓ View.readCov_cons_toLoadRect, ↓ View.readCov_fill]
  frame_out
theorem dob_A (t : Fin cfg0.N) (h0 : t.val % 4 = 0) : (outsAt0 m c t.val t.isLt).2.1
    = k0_pay11 (iblk m c 5 t) (k0_pay4 (iblk m c 3 t)) (k0_pay5 (iblk m c 3 t)) (k0_pay7 (iblk m c 0 t) (iblk m c 1 t)) := by
  rw [outsAt0_A m c t h0]
  frame_open
  simp (disch := decide) only [↓ View.readCov_skip, ↓ View.readCov_cons_toLoadRect, ↓ View.readCov_fill]
  frame_out
theorem dob_B (t : Fin cfg0.N) (h0 : ¬t.val % 4 = 0) : (outsAt0 m c t.val t.isLt).2.1
    = k0_pay11 (iblk m c 5 t) (k0_pay4 (iblk m c 3 t)) (k0_pay5 (iblk m c 3 t)) (k0_pay7 (iblk m c 0 t) (iblk m c 1 t)) := by
  rw [outsAt0_B m c t h0]
  frame_open
  simp (disch := decide) only [↓ View.readCov_skip, ↓ View.readCov_cons_toLoadRect, ↓ View.readCov_fill]
  frame_out
theorem dga_A (t : Fin cfg0.N) (h0 : t.val % 4 = 0) : (outsAt0 m c t.val t.isLt).2.2.1
    = k0_pay14 (k0_pay3 (iblk m c 2 t)) (k0_pay6 (iblk m c 0 t) (iblk m c 1 t)) (k0_pay12 (F := Ideal)) := by
  rw [outsAt0_A m c t h0]
  frame_open
  simp (disch := decide) only [↓ View.readCov_skip, ↓ View.readCov_cons_toLoadRect, ↓ View.readCov_fill]
  frame_out
theorem dga_B (t : Fin cfg0.N) (h0 : ¬t.val % 4 = 0) : (outsAt0 m c t.val t.isLt).2.2.1
    = k0_pay14 (k0_pay3 (iblk m c 2 t)) (k0_pay6 (iblk m c 0 t) (iblk m c 1 t)) (outsAt0 m c (t.val - 1) (Nat.lt_of_le_of_lt (Nat.sub_le _ _) t.isLt)).2.2.1 := by
  rw [outsAt0_B m c t h0]
  frame_open
  simp (disch := decide) only [↓ View.readCov_skip, ↓ View.readCov_cons_toLoadRect, ↓ View.readCov_fill]
  frame_out
theorem dgb_A (t : Fin cfg0.N) (h0 : t.val % 4 = 0) : (outsAt0 m c t.val t.isLt).2.2.2
    = k0_pay15 (k0_pay5 (iblk m c 3 t)) (k0_pay7 (iblk m c 0 t) (iblk m c 1 t)) (k0_pay13 (F := Ideal)) := by
  rw [outsAt0_A m c t h0]
  frame_open
  simp (disch := decide) only [↓ View.readCov_skip, ↓ View.readCov_cons_toLoadRect, ↓ View.readCov_fill]
  frame_out
theorem dgb_B (t : Fin cfg0.N) (h0 : ¬t.val % 4 = 0) : (outsAt0 m c t.val t.isLt).2.2.2
    = k0_pay15 (k0_pay5 (iblk m c 3 t)) (k0_pay7 (iblk m c 0 t) (iblk m c 1 t)) (outsAt0 m c (t.val - 1) (Nat.lt_of_le_of_lt (Nat.sub_le _ _) t.isLt)).2.2.2 := by
  rw [outsAt0_B m c t h0]
  frame_open
  simp (disch := decide) only [↓ View.readCov_skip, ↓ View.readCov_cons_toLoadRect, ↓ View.readCov_fill]
  frame_out
include hd hw ha hg in
theorem arr_doa : (dats m 0 c).arrAt 6 cfg0.N = fun y => (dn (A (y 0)) G (dont D W (y 0)) (y 1)) := by
  refine (dats m 0 c).arrAt_eq_of_covers 6 _ (by decide +kernel) fun t hf y => ?_
  have e : (outsAt0 m c t.val t.isLt).1 = k0_pay10 (k0_pay2 (iblk m c 2 t)) (k0_pay3 (iblk m c 2 t)) (k0_pay8 (iblk m c 0 t) (iblk m c 1 t) (iblk m c 4 t)) (k0_pay9 (iblk m c 0 t) (iblk m c 1 t) (iblk m c 2 t) (iblk m c 4 t)) := by
    by_cases h : t.val % 4 = 0
    · exact doa_A t h
    · exact doa_B t h
  have := pay10_at (D := fun r => D (t.val * 512 + r)) (X := fun r => A (t.val * 512 + r)) (ld0 hd t) (ld1 hw t) (ld2 ha t) (ld4 hg t) (y 0) (y 1)
  blk_simp [(idx0 t).2.2.2.2.2.2.1]
  rw [after0_6]
  refine (congrFun e y).trans ((congrArg (k0_pay10 (k0_pay2 (iblk m c 2 t)) (k0_pay3 (iblk m c 2 t)) (k0_pay8 (iblk m c 0 t) (iblk m c 1 t) (iblk m c 4 t)) (k0_pay9 (iblk m c 0 t) (iblk m c 1 t) (iblk m c 2 t) (iblk m c 4 t))) (eq_ix2 y)).trans (this.trans ?_))
  simp
  try rfl
include hd hw hb he in
theorem arr_dob : (dats m 0 c).arrAt 7 cfg0.N = fun y => (dn (B (y 0)) E (fun k => dont D W (y 0) (1024 + k)) (y 1)) := by
  refine (dats m 0 c).arrAt_eq_of_covers 7 _ (by decide +kernel) fun t hf y => ?_
  have e : (outsAt0 m c t.val t.isLt).2.1 = k0_pay11 (iblk m c 5 t) (k0_pay4 (iblk m c 3 t)) (k0_pay5 (iblk m c 3 t)) (k0_pay7 (iblk m c 0 t) (iblk m c 1 t)) := by
    by_cases h : t.val % 4 = 0
    · exact dob_A t h
    · exact dob_B t h
  have := pay11_at (D := fun r => D (t.val * 512 + r)) (Y := fun r => B (t.val * 512 + r)) (ld0 hd t) (ld1 hw t) (ld3 hb t) (ld5 he t) (y 0) (y 1)
  blk_simp [(idx0 t).2.2.2.2.2.2.2.1]
  rw [after0_7]
  refine (congrFun e y).trans ((congrArg (k0_pay11 (iblk m c 5 t) (k0_pay4 (iblk m c 3 t)) (k0_pay5 (iblk m c 3 t)) (k0_pay7 (iblk m c 0 t) (iblk m c 1 t))) (eq_ix2 y)).trans (this.trans ?_))
  simp
  try rfl
/-- One row's term of the gain's gradient. -/
def term_dga (D W A : ℕ → ℕ → EReal) (k i : ℕ) : EReal := (dont D W i k * nrm (A i) k)
include hd hw ha in
theorem kept_dga (k : Fin 1024) (n : ℕ) : ∀ t : Fin cfg0.N, t.val = n →
    (outsAt0 m c t.val t.isLt).2.2.1 (ix2 0 k) = part (term_dga D W A k) 0 ((n + 1) * 512) := by
  have hN : ∀ t : Fin cfg0.N, t.val < 4 := fun t => lt_of_lt_of_eq t.isLt (show cfg0.N = 4 from N_0)
  induction n with
  | zero =>
    intro t h
    refine (congrFun (dga_A t (by omega)) _).trans ((pay14_at (D := fun r => D (t.val * 512 + r)) (X := fun r => A (t.val * 512 + r)) (ld0 hd t) (ld1 hw t) (ld2 ha t) _ k).trans ?_)
    rw [pay12_at, zero_add, h]
    refine Finset.sum_congr rfl fun r _ => ?_
    show _ = term_dga D W _ k (0 + r.val)
    simp only [Nat.zero_mul]
    rfl
  | succ n ih =>
    intro t h
    have h4 := hN t
    have i' := ih ⟨t.val - 1, Nat.lt_of_le_of_lt (Nat.sub_le _ _) t.isLt⟩ (by show t.val - 1 = n; omega)
    refine (congrFun (dga_B t (by omega)) _).trans ((pay14_at (D := fun r => D (t.val * 512 + r)) (X := fun r => A (t.val * 512 + r)) (ld0 hd t) (ld1 hw t) (ld2 ha t) _ k).trans ?_)
    refine (congrArg₂ (· + ·) i' (show _ = part (term_dga D W A k) ((n + 1) * 512) 512 from ?_)).trans ?_
    · rw [h]
      rfl
    · refine Eq.trans ?_ ((part_add _ 0 ((n + 1) * 512) 512).trans (congrArg (part _ 0) (Nat.succ_mul _ _).symm))
      rw [Nat.zero_add]
include hd hw ha in
theorem arr_dga : (dats m 0 c).arrAt 8 cfg0.N = fun y => part (term_dga D W A (y 1)) 0 2048 := by
  refine (dats m 0 c).arrAt_eq_of_covers 8 _ (by decide +kernel) fun t hf y => ?_
  have h4 : t.val < 4 := lt_of_lt_of_eq t.isLt (show cfg0.N = 4 from N_0)
  have h3 : t.val % 4 = 3 := (flush0_8 t).mp hf
  blk_simp [(idx0 t).2.2.2.2.2.2.2.2.1]
  rw [after0_8]
  have e : (y : S1x1024.Idx) = ix2 (n0 := 1) 0 (y 1) := by
    funext a
    match a with
    | ⟨0, _⟩ => exact Fin.ext (Nat.lt_one_iff.mp (y 0).isLt)
    | ⟨1, _⟩ => rfl
  refine (congrArg (outsAt0 m c t.val t.isLt).2.2.1 e).trans ((kept_dga hd hw ha (y 1) 3 t (by omega)).trans ?_)
  simp
/-- One row's term of the gain's gradient. -/
def term_dgb (D W B : ℕ → ℕ → EReal) (k i : ℕ) : EReal := (dont D W i (1024 + k) * nrm (B i) k)
include hd hw hb in
theorem kept_dgb (k : Fin 1024) (n : ℕ) : ∀ t : Fin cfg0.N, t.val = n →
    (outsAt0 m c t.val t.isLt).2.2.2 (ix2 0 k) = part (term_dgb D W B k) 0 ((n + 1) * 512) := by
  have hN : ∀ t : Fin cfg0.N, t.val < 4 := fun t => lt_of_lt_of_eq t.isLt (show cfg0.N = 4 from N_0)
  induction n with
  | zero =>
    intro t h
    refine (congrFun (dgb_A t (by omega)) _).trans ((pay15_at (D := fun r => D (t.val * 512 + r)) (Y := fun r => B (t.val * 512 + r)) (ld0 hd t) (ld1 hw t) (ld3 hb t) _ k).trans ?_)
    rw [pay13_at, zero_add, h]
    refine Finset.sum_congr rfl fun r _ => ?_
    show _ = term_dgb D W _ k (0 + r.val)
    simp only [Nat.zero_mul]
    rfl
  | succ n ih =>
    intro t h
    have h4 := hN t
    have i' := ih ⟨t.val - 1, Nat.lt_of_le_of_lt (Nat.sub_le _ _) t.isLt⟩ (by show t.val - 1 = n; omega)
    refine (congrFun (dgb_B t (by omega)) _).trans ((pay15_at (D := fun r => D (t.val * 512 + r)) (Y := fun r => B (t.val * 512 + r)) (ld0 hd t) (ld1 hw t) (ld3 hb t) _ k).trans ?_)
    refine (congrArg₂ (· + ·) i' (show _ = part (term_dgb D W B k) ((n + 1) * 512) 512 from ?_)).trans ?_
    · rw [h]
      rfl
    · refine Eq.trans ?_ ((part_add _ 0 ((n + 1) * 512) 512).trans (congrArg (part _ 0) (Nat.succ_mul _ _).symm))
      rw [Nat.zero_add]
include hd hw hb in
theorem arr_dgb : (dats m 0 c).arrAt 9 cfg0.N = fun y => part (term_dgb D W B (y 1)) 0 2048 := by
  refine (dats m 0 c).arrAt_eq_of_covers 9 _ (by decide +kernel) fun t hf y => ?_
  have h4 : t.val < 4 := lt_of_lt_of_eq t.isLt (show cfg0.N = 4 from N_0)
  have h3 : t.val % 4 = 3 := (flush0_9 t).mp hf
  blk_simp [(idx0 t).2.2.2.2.2.2.2.2.2]
  rw [after0_9]
  have e : (y : S1x1024.Idx) = ix2 (n0 := 1) 0 (y 1) := by
    funext a
    match a with
    | ⟨0, _⟩ => exact Fin.ext (Nat.lt_one_iff.mp (y 0).isLt)
    | ⟨1, _⟩ => rfl
  refine (congrArg (outsAt0 m c t.val t.isLt).2.2.2 e).trans ((kept_dgb hd hw hb (y 1) 3 t (by omega)).trans ?_)
  simp

end Cert.Mix

end
-- ==== Proof.MixRef.lean ====
/- The reference of the gradients behind the output projection, and its agreement with the kernel. -/
module

public import proofs.«01_k».proof.Proof.Mix
public import proofs.«01_k».proof.Proof.AttnMath
public import proofs.«01_k».proof.Proof.Gen.Reference8Ideal.Read
public import proofs.«01_k».proof.Defs

@[expose] public section

set_option maxRecDepth 16384

noncomputable section

namespace Cert.Mix

open Idealize.ShloMosaic Idealize.ShloMosaic.TcCoe Idealize.SL.Sem Cert.Mlp Cert.Attn

/-- The word of minus a half. -/
abbrev mhalf : EReal := Ideal.ofBits .f32 0xBF000000#32
/-- The gradient of a row's mean square, halved, as the reference forms it; the gradient of the row is the scaled gradient times
    one over the root, and twice the row times this. -/
def slope (x g d : ℕ → EReal) : EReal := Ideal.div ((∑ j : Fin 1024, x j * (d j * g j)) * (mhalf * Ideal.div (rr x) (ms x))) width

theorem half_eq : mhalf = ((-(1 / 2) : ℝ) : EReal) := by
  delta mhalf Ideal.ofBits Ideal.ieee
  simp [-EReal.coe_mul]
  norm_num
theorem width_eq : width = ((1024 : ℝ) : EReal) := by
  delta width Ideal.ofBits Ideal.ieee
  simp [-EReal.coe_mul]
  norm_num
/-- The word both texts add to a row's mean square. -/
def ε : ℝ := 8796093 * (2 ^ 43)⁻¹
theorem eps_pos : 0 < ε := by unfold ε; positivity
theorem eps_eq : Ideal.ofBits .f32 0x358637BD#32 = ((ε : ℝ) : EReal) := by
  unfold ε
  delta Ideal.ofBits Ideal.ieee
  simp [-EReal.coe_mul]

theorem div_width (x : EReal) : Ideal.div x width = x * ((1 / 1024 : ℝ) : EReal) := by
  rw [width_eq]
  exact Ideal.div_coe (by norm_num) x

/-- A real number that is not negative goes into a sum of extended reals. -/
theorem mul_sum_nonneg {n : ℕ} {r : ℝ} (hr : 0 ≤ r) (f : Fin n → EReal) : (r : EReal) * ∑ j, f j = ∑ j, (r : EReal) * f j := by
  induction (Finset.univ : Finset (Fin n)) using Finset.induction_on with
  | empty => simp
  | insert a s h ih =>
    rw [Finset.sum_insert h, Finset.sum_insert h, ← ih]
    exact EReal.left_distrib_of_nonneg_of_ne_top (EReal.coe_nonneg.mpr hr) (EReal.coe_ne_top r) _ _

theorem double (S : EReal) (a : ℝ) : S * (a : EReal) + S * (a : EReal) = S * ((2 * a : ℝ) : EReal) := by
  rw [EReal.coe_mul, mul_left_comm]
  generalize S * (a : EReal) = y
  induction y using EReal.rec with
  | bot => exact (EReal.coe_mul_bot_of_pos (by norm_num)).symm
  | top => exact (EReal.coe_mul_top_of_pos (by norm_num)).symm
  | coe r => rw [← EReal.coe_add, ← EReal.coe_mul, two_mul]

theorem self_nonneg (y : EReal) : 0 ≤ y * y := by
  induction y using EReal.rec with
  | bot => simp
  | top => simp
  | coe r => exact_mod_cast mul_self_nonneg r

/-- For a row of real numbers the reference's form of the gradient is the kernel's, whatever the gradient and the gains. -/
theorem dn_eq_real (x g d : ℕ → EReal) (r : Fin 1024 → ℝ) (h : ∀ j : Fin 1024, x j = ((r j : ℝ) : EReal)) (k : Fin 1024) :
    d k * g k * rr x + x k * slope x g d + slope x g d * x k = dn x g d k := by
  obtain ⟨M, hM, hms⟩ : ∃ M : ℝ, 0 < M ∧ ms x = ((M : ℝ) : EReal) := by
    refine ⟨(∑ j, r j * r j) * (1 / 1024) + ε,
      add_pos_of_nonneg_of_pos (mul_nonneg (Finset.sum_nonneg fun _ _ => mul_self_nonneg _) (by norm_num)) eps_pos, ?_⟩
    unfold ms
    rw [div_width, eps_eq]
    simp only [h, ← EReal.coe_mul, sum_coe, ← EReal.coe_add]
  have hrr : rr x = (((√M)⁻¹ : ℝ) : EReal) := by
    unfold rr
    rw [hms, Ideal.rsqrt_coe, if_neg hM.le.not_gt, if_neg hM.ne']
  have hρ : 0 ≤ (√M)⁻¹ := inv_nonneg.mpr (Real.sqrt_nonneg M)
  have hsq : (√M)⁻¹ * (√M)⁻¹ * M = 1 := by
    rw [← mul_inv, Real.mul_self_sqrt hM.le, inv_mul_cancel₀ hM.ne']
  unfold dn slope nrm
  rw [hms, hrr]
  generalize (√M)⁻¹ = ρ at hρ hsq
  have hs : (∑ j : Fin 1024, d j * g j * (x j * (ρ : EReal))) = (∑ j : Fin 1024, x j * (d j * g j)) * (ρ : EReal) := by
    rw [mul_comm _ (ρ : EReal), mul_sum_nonneg hρ]
    exact Finset.sum_congr rfl fun j _ => by rw [mul_comm (ρ : EReal), mul_comm (x j), mul_assoc]; ac_rfl
  rw [hs, div_width, div_width, half_eq, div_coe_coe ρ hM.ne', h k]
  generalize (∑ j : Fin 1024, x j * (d j * g j)) = S
  generalize d k * g k = e
  have e1 : S * (((-(1 / 2) : ℝ) : EReal) * ((ρ / M : ℝ) : EReal)) * ((1 / 1024 : ℝ) : EReal)
      = S * ((-(1 / 2) * (ρ / M) * (1 / 1024) : ℝ) : EReal) := by
    rw [mul_assoc, ← EReal.coe_mul, ← EReal.coe_mul]
  have e2 : ((r k : ℝ) : EReal) * (S * ((-(1 / 2) * (ρ / M) * (1 / 1024) : ℝ) : EReal))
      = S * ((r k * (-(1 / 2) * (ρ / M) * (1 / 1024)) : ℝ) : EReal) := by
    rw [mul_left_comm, ← EReal.coe_mul]
  have e3 : (ρ : EReal) * (((r k : ℝ) : EReal) * (ρ : EReal) * (S * (ρ : EReal) * ((1 / 1024 : ℝ) : EReal)))
      = S * ((ρ * (r k * ρ) * (ρ * (1 / 1024)) : ℝ) : EReal) := by
    rw [mul_assoc S, ← EReal.coe_mul, ← EReal.coe_mul, mul_left_comm _ S, mul_left_comm _ S, ← EReal.coe_mul, ← EReal.coe_mul, mul_assoc ρ]
  have hK : ρ / M = ρ * (ρ * ρ) := by
    rw [div_eq_iff hM.ne']
    linear_combination -ρ * hsq
  rw [e1, mul_comm (S * _) ((r k : ℝ) : EReal), e2, EReal.mul_sub_of_nonneg_of_ne_top (EReal.coe_nonneg.mpr hρ) (EReal.coe_ne_top ρ), e3,
    add_assoc, double, sub_eq_add_neg, ← mul_neg, ← EReal.coe_neg, mul_comm e, hK]
  refine congrArg (fun z : ℝ => (ρ : EReal) * e + S * (z : EReal)) ?_
  ring

/-- A row with an infinite element has an infinite mean square, and both forms of its gradient vanish. -/
theorem dn_eq_top (x g d : ℕ → EReal) (j : Fin 1024) (h : x j * x j = ⊤) (k : Fin 1024) :
    d k * g k * rr x + x k * slope x g d + slope x g d * x k = dn x g d k := by
  have hs : (∑ k : Fin 1024, x k * x k) = ⊤ :=
    top_le_iff.mp (h.symm.le.trans (Finset.single_le_sum (f := fun k : Fin 1024 => x k * x k) (fun _ _ => self_nonneg _) (Finset.mem_univ j)))
  have hms : ms x = ⊤ := by
    unfold ms
    rw [hs, div_width, EReal.top_mul_coe_of_pos (by norm_num), eps_eq]
    exact EReal.top_add_coe _
  have hrr : rr x = 0 := by
    unfold rr
    rw [hms]
    rfl
  have hz : Ideal.div 0 (⊤ : EReal) = 0 := Ideal.zero_div (by simp)
  have hsl : slope x g d = 0 := by
    unfold slope
    rw [hms, hrr, hz, div_width]
    simp
  unfold dn
  rw [hrr, hsl]
  simp

/-- The reference's form is the kernel's. -/
theorem dn_eq (x g d : ℕ → EReal) (k : Fin 1024) :
    d k * g k * rr x + x k * slope x g d + slope x g d * x k = dn x g d k := by
  by_cases h : ∃ j : Fin 1024, x j * x j = ⊤
  · obtain ⟨j, hj⟩ := h
    exact dn_eq_top x g d j hj k
  · have hr : ∀ j : Fin 1024, ∃ r : ℝ, x j = (r : EReal) := by
      intro j
      have hj : x j * x j ≠ ⊤ := fun e => h ⟨j, e⟩
      generalize x j = y at hj
      induction y using EReal.rec with
      | bot => exact absurd EReal.bot_mul_bot hj
      | top => exact absurd EReal.top_mul_top hj
      | coe r => exact ⟨r, rfl⟩
    choose r hx using hr
    exact dn_eq_real x g d r hx k

section words

variable {a b x y : EReal}

theorem mul_r (ha : a = x) (hb : b = y) : FloatOps.mulf (F := Ideal) (φ := .f32) a b = x * y := by
  subst ha hb
  rfl
theorem add_r (ha : a = x) (hb : b = y) : FloatOps.addf (F := Ideal) (φ := .f32) a b = x + y := by
  subst ha hb
  rfl
theorem div_r (ha : a = x) (hb : b = y) : FloatOps.hostDivf (F := Ideal) (φ := .f32) a b = Ideal.div x y := by
  subst ha hb
  rfl
theorem sum_r {n : ℕ} {f g : Fin n → EReal} (ha : a = 0) (h : ∀ k, f k = g k) : a + ∑ k, f k = ∑ k, g k := by
  rw [ha, zero_add]
  exact Finset.sum_congr rfl fun k _ => h k
theorem zero_word : Ideal.ofBits .f32 0x00000000#32 = (0 : EReal) := Ideal.ofBits_zero_f32

end words

section reference

open Cert.Reference8Ideal Cert.Reference8Ideal.Read Cert.Reference8Ideal.Facts₀

variable {x0 : (⟨S2048x2048, .bf16⟩ : BufTy).Contents (Elt Ideal)} {x1 : (⟨S1x2048x2048, .bf16⟩ : BufTy).Contents (Elt Ideal)}
variable {x2 x3 : (⟨S2048x1024, .f32⟩ : BufTy).Contents (Elt Ideal)} {x4 x5 : (⟨S1x1024, .f32⟩ : BufTy).Contents (Elt Ideal)}
variable {D W A B : ℕ → ℕ → EReal} {G E : ℕ → EReal}
variable (hd : ∀ y : S2048x2048.Idx, x0 y = (D (y 0) (y 1))) (hw : ∀ y : S1x2048x2048.Idx, x1 y = (W (y 1) (y 2)))
variable (ha : ∀ y : S2048x1024.Idx, x2 y = (A (y 0) (y 1))) (hb : ∀ y : S2048x1024.Idx, x3 y = (B (y 0) (y 1)))
variable (hg : ∀ y : S1x1024.Idx, x4 y = (G (y 1))) (he : ∀ y : S1x1024.Idx, x5 y = (E (y 1)))

include hd hw in
theorem ref_dont (i : S2048x2048.Idx) : val_main_v35 (F := Ideal) x0 x1 i = (dont D W (i 0) (i 1)) := by
  rw [val_main_v35_apply]
  refine (Finset.sum_congr rfl fun k _ => ?_ : _ = ∑ k : Fin 2048, D (i 0) k * W (i 1) k)
  have h1 : (i 1).val < 2048 := (i 1).isLt
  have hk : k.val < 2048 := k.isLt
  have e1 : ((i 1).val * 2048 + k.val) / 2048 % 2048 = (i 1).val := by omega
  have e2 : ((i 1).val * 2048 + k.val) % 2048 = k.val := by omega
  rw [val_main_v34_apply, val_main_v1_apply, val_main_v0_apply]
  refine mul_r (hd _) ((hw _).trans ?_)
  exact congrArg₂ W e1 e2

include hd hw in
theorem ref_part_a (i : S2048x1024.Idx) : val_main_v36 (F := Ideal) x0 x1 i = ((dont D W (i 0) (i 1))) := by
  rw [val_main_v36_apply]
  exact ref_dont hd hw _
include ha in
theorem ref_ms_a (i : S2048x1.Idx) : val_main_v8 (F := Ideal) x2 i = (ms (A (i 0))) := by
  rw [val_main_v8_apply, val_main_v6_apply, val_main_v4_apply, val_main_v3_apply, val_main_v5_apply, val_main_cst_0_apply,
    val_main_v7_apply, val_main_cst_1_apply]
  refine add_r (div_r (sum_r ?_ fun k => ?_) rfl) rfl
  · exact (val_main_cst_apply _).trans zero_word
  · rw [val_main_v2_apply]
    exact mul_r (ha _) (ha _)
include ha in
theorem ref_rr_a (i : S2048x1.Idx) : val_main_v9 (F := Ideal) x2 i = (rr (A (i 0))) := by
  rw [val_main_v9_apply, ref_ms_a ha]
  rfl
include ha in
theorem ref_nrm_a (i : S2048x1024.Idx) : val_main_v14 (F := Ideal) x2 i = (nrm (A (i 0)) (i 1)) := by
  rw [val_main_v14_apply, val_main_v13_apply]
  exact mul_r (ha _) (ref_rr_a ha _)
include hd hw ha in
/-- The gradient of the gain. -/
theorem ref_gain_a (i : S1x1024.Idx) : val_main_v59 (F := Ideal) x0 x1 x2 i
    = (∑ n : Fin 2048, (dont D W (n) (i 1)) * nrm (A n) (i 1)) := by
  have h0 : (i 0).val < 1 := (i 0).isLt
  have e : (i 0).val * 1024 + (i 1).val = (i 1).val := by omega
  rw [val_main_v59_apply, val_main_v58_apply]
  refine sum_r ((val_main_cst_11_apply _).trans zero_word) fun n => ?_
  rw [val_main_v57_apply, mul_comm]
  refine (mul_r (ref_nrm_a ha _) (ref_part_a hd hw _)).trans ?_
  refine Eq.trans ?_ (congrArg (fun j => nrm (A n) j * (dont D W (n) (j))) e)
  rfl
include hd hw hg in
theorem ref_scaled_a (i : S2048x1024.Idx) : val_main_v61 (F := Ideal) x0 x1 x4 i = ((dont D W (i 0) (i 1)) * G (i 1)) := by
  rw [val_main_v61_apply, val_main_v60_apply]
  exact mul_r (ref_part_a hd hw _) (hg _)
include hd hw ha hg in
theorem ref_slope_a (i : S2048x1.Idx) : val_main_v69 (F := Ideal) x0 x1 x2 x4 i = (slope (A (i 0)) G (dont D W (i 0))) := by
  have h1 : (i 1).val < 1 := (i 1).isLt
  have e : (i 0).val * 1 + (i 1).val = (i 0).val := by omega
  rw [val_main_v69_apply, val_main_v67_apply, val_main_v12_apply, val_main_v11_apply, val_main_cst_2_apply, val_main_v10_apply,
    val_main_v68_apply, val_main_cst_13_apply, val_main_v64_apply, val_main_v63_apply]
  refine div_r (mul_r (sum_r ?_ fun k => ?_) (mul_r rfl (div_r (ref_rr_a ha _) (ref_ms_a ha _) ))) rfl
  · exact (val_main_cst_12_apply _).trans zero_word
  · rw [val_main_v62_apply]
    refine (mul_r (ha _) (ref_scaled_a hd hw hg _)).trans ?_
    exact congrArg (fun r => A r k * ((dont D W (r) (k)) * G k)) e
include hd hw ha hg in
/-- The gradient of the attention's output. -/
theorem ref_out_a (i : S2048x1024.Idx) : val_main_v76 (F := Ideal) x0 x1 x2 x4 i = (dn (A (i 0)) G (dont D W (i 0)) (i 1)) := by
  have hc : val_main_v71 (F := Ideal) x0 x1 x2 x4 i = (slope (A (i 0)) G (dont D W (i 0))) := by
    rw [val_main_v71_apply, val_main_v70_apply]
    refine (sum_r ((val_main_cst_14_apply _).trans zero_word) fun k => ref_slope_a hd hw ha hg _).trans ?_
    exact Fin.sum_univ_one _
  rw [val_main_v76_apply, val_main_v75_apply, val_main_v73_apply, val_main_v66_apply, val_main_v65_apply, val_main_v72_apply, val_main_v74_apply]
  refine Eq.trans ?_ (dn_eq (A (i 0)) G (dont D W (i 0)) (i 1))
  exact add_r (add_r (mul_r (ref_scaled_a hd hw hg _) (ref_rr_a ha _)) (mul_r (ha _) hc)) (mul_r hc (ha _))

include hd hw in
theorem ref_part_b (i : S2048x1024.Idx) : val_main_v37 (F := Ideal) x0 x1 i = ((dont D W (i 0) (1024 + (i 1)))) := by
  rw [val_main_v37_apply]
  exact ref_dont hd hw _
include hb in
theorem ref_ms_b (i : S2048x1.Idx) : val_main_v23 (F := Ideal) x3 i = (ms (B (i 0))) := by
  rw [val_main_v23_apply, val_main_v21_apply, val_main_v19_apply, val_main_v18_apply, val_main_v20_apply, val_main_cst_4_apply,
    val_main_v22_apply, val_main_cst_5_apply]
  refine add_r (div_r (sum_r ?_ fun k => ?_) rfl) rfl
  · exact (val_main_cst_3_apply _).trans zero_word
  · rw [val_main_v17_apply]
    exact mul_r (hb _) (hb _)
include hb in
theorem ref_rr_b (i : S2048x1.Idx) : val_main_v24 (F := Ideal) x3 i = (rr (B (i 0))) := by
  rw [val_main_v24_apply, ref_ms_b hb]
  rfl
include hb in
theorem ref_nrm_b (i : S2048x1024.Idx) : val_main_v29 (F := Ideal) x3 i = (nrm (B (i 0)) (i 1)) := by
  rw [val_main_v29_apply, val_main_v28_apply]
  exact mul_r (hb _) (ref_rr_b hb _)
include hd hw hb in
/-- The gradient of the gain. -/
theorem ref_gain_b (i : S1x1024.Idx) : val_main_v40 (F := Ideal) x0 x1 x3 i
    = (∑ n : Fin 2048, (dont D W (n) (1024 + (i 1))) * nrm (B n) (i 1)) := by
  have h0 : (i 0).val < 1 := (i 0).isLt
  have e : (i 0).val * 1024 + (i 1).val = (i 1).val := by omega
  rw [val_main_v40_apply, val_main_v39_apply]
  refine sum_r ((val_main_cst_7_apply _).trans zero_word) fun n => ?_
  rw [val_main_v38_apply, mul_comm]
  refine (mul_r (ref_nrm_b hb _) (ref_part_b hd hw _)).trans ?_
  refine Eq.trans ?_ (congrArg (fun j => nrm (B n) j * (dont D W (n) (1024 + j))) e)
  rfl
include hd hw he in
theorem ref_scaled_b (i : S2048x1024.Idx) : val_main_v42 (F := Ideal) x0 x1 x5 i = ((dont D W (i 0) (1024 + (i 1))) * E (i 1)) := by
  rw [val_main_v42_apply, val_main_v41_apply]
  exact mul_r (ref_part_b hd hw _) (he _)
include hd hw hb he in
theorem ref_slope_b (i : S2048x1.Idx) : val_main_v50 (F := Ideal) x0 x1 x3 x5 i = (slope (B (i 0)) E (fun k => dont D W (i 0) (1024 + k))) := by
  have h1 : (i 1).val < 1 := (i 1).isLt
  have e : (i 0).val * 1 + (i 1).val = (i 0).val := by omega
  rw [val_main_v50_apply, val_main_v48_apply, val_main_v27_apply, val_main_v26_apply, val_main_cst_6_apply, val_main_v25_apply,
    val_main_v49_apply, val_main_cst_9_apply, val_main_v45_apply, val_main_v44_apply]
  refine div_r (mul_r (sum_r ?_ fun k => ?_) (mul_r rfl (div_r (ref_rr_b hb _) (ref_ms_b hb _) ))) rfl
  · exact (val_main_cst_8_apply _).trans zero_word
  · rw [val_main_v43_apply]
    refine (mul_r (hb _) (ref_scaled_b hd hw he _)).trans ?_
    exact congrArg (fun r => B r k * ((dont D W (r) (1024 + k)) * E k)) e
include hd hw hb he in
/-- The gradient of the attention's output. -/
theorem ref_out_b (i : S2048x1024.Idx) : val_main_v77 (F := Ideal) x0 x1 x3 x5 i = (dn (B (i 0)) E (fun k => dont D W (i 0) (1024 + k)) (i 1)) := by
  have hc : val_main_v52 (F := Ideal) x0 x1 x3 x5 i = (slope (B (i 0)) E (fun k => dont D W (i 0) (1024 + k))) := by
    rw [val_main_v52_apply, val_main_v51_apply]
    refine (sum_r ((val_main_cst_10_apply _).trans zero_word) fun k => ref_slope_b hd hw hb he _).trans ?_
    exact Fin.sum_univ_one _
  rw [val_main_v77_apply, val_main_v56_apply, val_main_v54_apply, val_main_v47_apply, val_main_v46_apply, val_main_v53_apply, val_main_v55_apply]
  refine Eq.trans ?_ (dn_eq (B (i 0)) E (fun k => dont D W (i 0) (1024 + k)) (i 1))
  exact add_r (add_r (mul_r (ref_scaled_b hd hw he _) (ref_rr_b hb _)) (mul_r (hb _) hc)) (mul_r hc (hb _))

end reference

open Cert.Kernel8Ideal Cert.Kernel8Ideal.Gen in
/-- The weight as the kernel finds it is its argument without the first axis. -/
theorem weight_run (m : (ℓ : Loc nD τ sig) → Buf (Elt Ideal) ℓ) (c : Dev nD) {W : ℕ → ℕ → EReal}
    (hw : ∀ y : S1x2048x2048.Idx, m ((c.tc : Thread nD τ).loc main_arg1) y = (W (y 1) (y 2))) (y : S2048x2048.Idx) :
    V m c main_v0 y = (W (y 0) (y 1)) := by
  have e : V m c main_v0 = shapeCast S2048x2048 (m ((c.tc : Thread nD τ).loc main_arg1)) shapeCasts_S1x2048x2048_S2048x2048 := by
    unfold V
    after_reads_simp
    rfl
  rw [e]
  refine (shapeCast_apply _ shapeCasts_S1x2048x2048_S2048x2048 y (ix3 0 (y 0) (y 1)) ?_).trans (hw _)
  rewrite [Shape.rowMajor_val_three, Shape.rowMajor_val_two]
  show (0 * 2048 + (y 0).val) * 2048 + (y 1).val = (y 0).val * 2048 + (y 1).val
  rw [Nat.zero_mul, Nat.zero_add]

theorem part_whole (f : ℕ → EReal) (n : ℕ) : part f 0 n = ∑ i : Fin n, f i := by
  simp only [part, Nat.zero_add]

/-- The gradients behind the output projection, by the kernel and by the reference, are equal. -/
theorem algebraic : Cert.algebraic_Kernel8Ideal_Reference8Ideal (hKernel8Ideal := Cert.Kernel8Ideal.Gen.facts)
    (hReference8Ideal := Cert.Reference8Ideal.Gen.facts) := by
  intro m g m' g' _ hm
  refine ⟨_, _, _, _, Cert.Kernel8Ideal.Value.run_blocks m g, ?_⟩
  refine (θ_run _ _ _).mono (fun _ h c => ?_) (Cert.Reference8Ideal.Value.run (F := Ideal) m' g')
  obtain ⟨e0, e1, e2, e3, hr⟩ := h c
  have hd : ∀ y : Cert.Kernel8Ideal.S2048x2048.Idx, m ((c.tc : Thread _ _).loc Cert.Kernel8Ideal.main_arg0) y
      = at2 (m ((c.tc : Thread _ _).loc Cert.Kernel8Ideal.main_arg0)) (y 0) (y 1) := at2_of _
  have hw : ∀ y : Cert.Kernel8Ideal.S1x2048x2048.Idx, m ((c.tc : Thread _ _).loc Cert.Kernel8Ideal.main_arg1) y
      = at3 (m ((c.tc : Thread _ _).loc Cert.Kernel8Ideal.main_arg1)) 0 (y 1) (y 2) := fun y =>
    (at3_of _ y).trans (congrArg (fun r => at3 (m ((c.tc : Thread _ _).loc Cert.Kernel8Ideal.main_arg1)) r (y 1) (y 2)) (Nat.lt_one_iff.mp (y 0).isLt))
  have ha : ∀ y : Cert.Kernel8Ideal.S2048x1024.Idx, m ((c.tc : Thread _ _).loc Cert.Kernel8Ideal.main_arg2) y
      = at2 (m ((c.tc : Thread _ _).loc Cert.Kernel8Ideal.main_arg2)) (y 0) (y 1) := at2_of _
  have hb : ∀ y : Cert.Kernel8Ideal.S2048x1024.Idx, m ((c.tc : Thread _ _).loc Cert.Kernel8Ideal.main_arg3) y
      = at2 (m ((c.tc : Thread _ _).loc Cert.Kernel8Ideal.main_arg3)) (y 0) (y 1) := at2_of _
  have hg : ∀ y : Cert.Kernel8Ideal.S1x1024.Idx, m ((c.tc : Thread _ _).loc Cert.Kernel8Ideal.main_arg4) y
      = at2 (m ((c.tc : Thread _ _).loc Cert.Kernel8Ideal.main_arg4)) 0 (y 1) := fun y =>
    (at2_of _ y).trans (congrArg (fun r => at2 (m ((c.tc : Thread _ _).loc Cert.Kernel8Ideal.main_arg4)) r (y 1)) (Nat.lt_one_iff.mp (y 0).isLt))
  have he : ∀ y : Cert.Kernel8Ideal.S1x1024.Idx, m ((c.tc : Thread _ _).loc Cert.Kernel8Ideal.main_arg5) y
      = at2 (m ((c.tc : Thread _ _).loc Cert.Kernel8Ideal.main_arg5)) 0 (y 1) := fun y =>
    (at2_of _ y).trans (congrArg (fun r => at2 (m ((c.tc : Thread _ _).loc Cert.Kernel8Ideal.main_arg5)) r (y 1)) (Nat.lt_one_iff.mp (y 0).isLt))
  obtain ⟨m0, m1, m2, m3, m4, m5⟩ := hm c
  have kd := fun y => (congrFun (Cert.Kernel8Ideal.Gen.V_main_arg0 m c) y).trans (hd y)
  have kw := weight_run m c hw
  have ka := fun y => (congrFun (Cert.Kernel8Ideal.Gen.V_main_arg2 m c) y).trans (ha y)
  have kb := fun y => (congrFun (Cert.Kernel8Ideal.Gen.V_main_arg3 m c) y).trans (hb y)
  have kg := fun y => (congrFun (Cert.Kernel8Ideal.Gen.V_main_arg4 m c) y).trans (hg y)
  have ke := fun y => (congrFun (Cert.Kernel8Ideal.Gen.V_main_arg5 m c) y).trans (he y)
  have rd := fun y => (congrFun m0 y).trans (hd y)
  have rw' := fun y => (congrFun m1 y).trans (hw y)
  have ra := fun y => (congrFun m2 y).trans (ha y)
  have rb := fun y => (congrFun m3 y).trans (hb y)
  have rg := fun y => (congrFun m4 y).trans (hg y)
  have re := fun y => (congrFun m5 y).trans (he y)
  refine ⟨(e0.trans (Cert.Reference8Ideal.Read.val_main_v76_eq m' c)).trans ?_,
    (e1.trans (Cert.Reference8Ideal.Read.val_main_v77_eq m' c)).trans ?_,
    (e2.trans (Cert.Reference8Ideal.Read.val_main_v59_eq _ _ _)).trans ?_,
    (e3.trans (Cert.Reference8Ideal.Read.val_main_v40_eq _ _ _)).trans ?_, hr⟩
  · exact Eq.trans (funext fun y => ref_out_a rd rw' ra rg y) (arr_doa kd kw ka kg).symm
  · exact Eq.trans (funext fun y => ref_out_b rd rw' rb re y) (arr_dob kd kw kb ke).symm
  · exact Eq.trans (funext fun y => (ref_gain_a rd rw' ra y).trans (part_whole (term_dga _ _ _ _) 2048).symm) (arr_dga kd kw ka).symm
  · exact Eq.trans (funext fun y => (ref_gain_b rd rw' rb y).trans (part_whole (term_dgb _ _ _ _) 2048).symm) (arr_dgb kd kw kb).symm

end Cert.Mix

end
-- ==== Proof.Adam.lean ====
/- The optimiser's step: for each weight its change, both new moments, and the gradient written out again. -/
module

public import proofs.«01_k».proof.Proof.Mlp
public import proofs.«01_k».proof.Proof.Gen.Kernel11Ideal.Frame
public import Idealize.ShloMosaic.Lib.Pipeline.ValueKit

@[expose] public section

set_option maxRecDepth 16384

noncomputable section

namespace Cert.Adam

open Idealize.ShloMosaic Idealize.ShloMosaic.TcCoe Idealize.ShloMosaic.Tactic Cert.Mlp Cert.Kernel11Ideal Cert.Kernel11Ideal.Gen Cert.Kernel11Ideal.Facts
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The new first moment of the gradient `g` and the old one. -/
def em (g m : EReal) : EReal := Ideal.ofBits .f32 0x3F666666#32 * m + Ideal.ofBits .f32 0x3DCCCCCD#32 * g
/-- The new second moment. -/
def ev (g v : EReal) : EReal := Ideal.ofBits .f32 0x3F7FBE77#32 * v + Ideal.ofBits .f32 0x3A83126F#32 * (g * g)
/-- The change of the weight `w`. -/
def ed (w g m v : EReal) : EReal :=
  Ideal.ofBits .f32 0xBA83126F#32 * (Ideal.div (Ideal.div (em g m) (Ideal.ofBits .f32 0x3F26BD02#32))
    (Ideal.sqrt (Ideal.div (ev g v) (Ideal.ofBits .f32 0x3C231ACC#32)) + Ideal.ofBits .f32 0x322BCC77#32) + Ideal.ofBits .f32 0x3C23D70A#32 * w)

variable {V : (c : Dev nD) → (b : Ref sig .tc) → Buf (Elt Ideal) ((c.tc : Thread nD τ).loc b)} {c : Dev nD}
variable {P G M Q : ℕ → ℕ → EReal}

theorem idx0 : ∀ t : Fin grid0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] := by
  decide +kernel

section region0
variable (hP : ∀ y : S2048x2048.Idx, V c main_arg0 y = P (y 0) (y 1)) (hG : ∀ y : S2048x2048.Idx, V c main_arg1 y = G (y 0) (y 1))
variable (hM : ∀ y : S2048x2048.Idx, V c main_arg2 y = M (y 0) (y 1)) (hQ : ∀ y : S2048x2048.Idx, V c main_arg3 y = Q (y 0) (y 1))
include hP in
theorem ld0_0 (t : Fin cfg0.N) (r : Fin 256) (x : Fin 2048) : View.ld (iblk0 V c 0 t) r0_0 (ix2 r x) = P (t.val * 256 + r) x := by
  rw [View.ld_apply]
  refine (hP _).trans ?_
  blk_simp [(idx0 t).1]
  simp
include hG in
theorem ld0_1 (t : Fin cfg0.N) (r : Fin 256) (x : Fin 2048) : View.ld (iblk0 V c 1 t) r0_0 (ix2 r x) = G (t.val * 256 + r) x := by
  rw [View.ld_apply]
  refine (hG _).trans ?_
  blk_simp [(idx0 t).2.1]
  simp
include hM in
theorem ld0_2 (t : Fin cfg0.N) (r : Fin 256) (x : Fin 2048) : View.ld (iblk0 V c 2 t) r0_0 (ix2 r x) = M (t.val * 256 + r) x := by
  rw [View.ld_apply]
  refine (hM _).trans ?_
  blk_simp [(idx0 t).2.2.1]
  simp
include hQ in
theorem ld0_3 (t : Fin cfg0.N) (r : Fin 256) (x : Fin 2048) : View.ld (iblk0 V c 3 t) r0_0 (ix2 r x) = Q (t.val * 256 + r) x := by
  rw [View.ld_apply]
  refine (hQ _).trans ?_
  blk_simp [(idx0 t).2.2.2.1]
  simp
include hP hG hM hQ in
theorem arr0_4 : (dat0 V c).arrAt 4 cfg0.N = fun y => ed (P (y 0) (y 1)) (G (y 0) (y 1)) (M (y 0) (y 1)) (Q (y 0) (y 1)) := by
  refine (dat0 V c).arrAt_eq_of_covers 4 _ (by decide +kernel) fun t hf y => ?_
  blk_simp [(idx0 t).2.2.2.2.1]
  rw [after0_4]
  unfold out0_4
  canon_tiles x h
  rw [h0, h1]
  exact (congrArg (k0_pay3 _ _ _ _) (eq_ix2 x)).trans (congr (congrArg₂ ed (ld0_0 hP t (x 0) (x 1)) (ld0_1 hG t (x 0) (x 1)) |> fun e => congr e (ld0_2 hM t (x 0) (x 1))) (ld0_3 hQ t (x 0) (x 1)))
include hG hM in
theorem arr0_5 : (dat0 V c).arrAt 5 cfg0.N = fun y => em (G (y 0) (y 1)) (M (y 0) (y 1)) := by
  refine (dat0 V c).arrAt_eq_of_covers 5 _ (by decide +kernel) fun t hf y => ?_
  blk_simp [(idx0 t).2.2.2.2.2.1]
  rw [after0_5]
  unfold out0_5
  canon_tiles x h
  rw [h0, h1]
  exact (congrArg (k0_pay1 _ _) (eq_ix2 x)).trans (congrArg₂ em (ld0_1 hG t (x 0) (x 1)) (ld0_2 hM t (x 0) (x 1)))
include hG hQ in
theorem arr0_6 : (dat0 V c).arrAt 6 cfg0.N = fun y => ev (G (y 0) (y 1)) (Q (y 0) (y 1)) := by
  refine (dat0 V c).arrAt_eq_of_covers 6 _ (by decide +kernel) fun t hf y => ?_
  blk_simp [(idx0 t).2.2.2.2.2.2.1]
  rw [after0_6]
  unfold out0_6
  canon_tiles x h
  rw [h0, h1]
  exact (congrArg (k0_pay2 _ _) (eq_ix2 x)).trans (congrArg₂ ev (ld0_1 hG t (x 0) (x 1)) (ld0_3 hQ t (x 0) (x 1)))
include hG in
theorem arr0_7 : (dat0 V c).arrAt 7 cfg0.N = fun y => G (y 0) (y 1) := by
  refine (dat0 V c).arrAt_eq_of_covers 7 _ (by decide +kernel) fun t hf y => ?_
  blk_simp [(idx0 t).2.2.2.2.2.2.2]
  rw [after0_7]
  unfold out0_7
  canon_tiles x h
  rw [h0, h1]
  exact (congrArg (View.ld (iblk0 V c 1 t) r0_0) (eq_ix2 x)).trans (ld0_1 hG t (x 0) (x 1))
end region0

theorem idx1 : ∀ t : Fin grid1.N, win1_0.index t = ![t.val, 0] ∧ win1_1.index t = ![t.val, 0] ∧ win1_2.index t = ![t.val, 0] ∧ win1_3.index t = ![t.val, 0] ∧ win1_4.index t = ![t.val, 0] ∧ win1_5.index t = ![t.val, 0] ∧ win1_6.index t = ![t.val, 0] ∧ win1_7.index t = ![t.val, 0] := by
  decide +kernel

section region1
variable (hP : ∀ y : S2048x2048.Idx, V c main_arg4 y = P (y 0) (y 1)) (hG : ∀ y : S2048x2048.Idx, V c main_arg5 y = G (y 0) (y 1))
variable (hM : ∀ y : S2048x2048.Idx, V c main_arg6 y = M (y 0) (y 1)) (hQ : ∀ y : S2048x2048.Idx, V c main_arg7 y = Q (y 0) (y 1))
include hP in
theorem ld1_0 (t : Fin cfg1.N) (r : Fin 256) (x : Fin 2048) : View.ld (iblk1 V c 0 t) r1_0 (ix2 r x) = P (t.val * 256 + r) x := by
  rw [View.ld_apply]
  refine (hP _).trans ?_
  blk_simp [(idx1 t).1]
  simp
include hG in
theorem ld1_1 (t : Fin cfg1.N) (r : Fin 256) (x : Fin 2048) : View.ld (iblk1 V c 1 t) r1_0 (ix2 r x) = G (t.val * 256 + r) x := by
  rw [View.ld_apply]
  refine (hG _).trans ?_
  blk_simp [(idx1 t).2.1]
  simp
include hM in
theorem ld1_2 (t : Fin cfg1.N) (r : Fin 256) (x : Fin 2048) : View.ld (iblk1 V c 2 t) r1_0 (ix2 r x) = M (t.val * 256 + r) x := by
  rw [View.ld_apply]
  refine (hM _).trans ?_
  blk_simp [(idx1 t).2.2.1]
  simp
include hQ in
theorem ld1_3 (t : Fin cfg1.N) (r : Fin 256) (x : Fin 2048) : View.ld (iblk1 V c 3 t) r1_0 (ix2 r x) = Q (t.val * 256 + r) x := by
  rw [View.ld_apply]
  refine (hQ _).trans ?_
  blk_simp [(idx1 t).2.2.2.1]
  simp
include hP hG hM hQ in
theorem arr1_4 : (dat1 V c).arrAt 4 cfg1.N = fun y => ed (P (y 0) (y 1)) (G (y 0) (y 1)) (M (y 0) (y 1)) (Q (y 0) (y 1)) := by
  refine (dat1 V c).arrAt_eq_of_covers 4 _ (by decide +kernel) fun t hf y => ?_
  blk_simp [(idx1 t).2.2.2.2.1]
  rw [after1_4]
  unfold out1_4
  canon_tiles x h
  rw [h0, h1]
  exact (congrArg (k1_pay3 _ _ _ _) (eq_ix2 x)).trans (congr (congrArg₂ ed (ld1_0 hP t (x 0) (x 1)) (ld1_1 hG t (x 0) (x 1)) |> fun e => congr e (ld1_2 hM t (x 0) (x 1))) (ld1_3 hQ t (x 0) (x 1)))
include hG hM in
theorem arr1_5 : (dat1 V c).arrAt 5 cfg1.N = fun y => em (G (y 0) (y 1)) (M (y 0) (y 1)) := by
  refine (dat1 V c).arrAt_eq_of_covers 5 _ (by decide +kernel) fun t hf y => ?_
  blk_simp [(idx1 t).2.2.2.2.2.1]
  rw [after1_5]
  unfold out1_5
  canon_tiles x h
  rw [h0, h1]
  exact (congrArg (k1_pay1 _ _) (eq_ix2 x)).trans (congrArg₂ em (ld1_1 hG t (x 0) (x 1)) (ld1_2 hM t (x 0) (x 1)))
include hG hQ in
theorem arr1_6 : (dat1 V c).arrAt 6 cfg1.N = fun y => ev (G (y 0) (y 1)) (Q (y 0) (y 1)) := by
  refine (dat1 V c).arrAt_eq_of_covers 6 _ (by decide +kernel) fun t hf y => ?_
  blk_simp [(idx1 t).2.2.2.2.2.2.1]
  rw [after1_6]
  unfold out1_6
  canon_tiles x h
  rw [h0, h1]
  exact (congrArg (k1_pay2 _ _) (eq_ix2 x)).trans (congrArg₂ ev (ld1_1 hG t (x 0) (x 1)) (ld1_3 hQ t (x 0) (x 1)))
include hG in
theorem arr1_7 : (dat1 V c).arrAt 7 cfg1.N = fun y => G (y 0) (y 1) := by
  refine (dat1 V c).arrAt_eq_of_covers 7 _ (by decide +kernel) fun t hf y => ?_
  blk_simp [(idx1 t).2.2.2.2.2.2.2]
  rw [after1_7]
  unfold out1_7
  canon_tiles x h
  rw [h0, h1]
  exact (congrArg (View.ld (iblk1 V c 1 t) r1_0) (eq_ix2 x)).trans (ld1_1 hG t (x 0) (x 1))
end region1

theorem idx2 : ∀ t : Fin grid2.N, win2_0.index t = ![t.val, 0] ∧ win2_1.index t = ![t.val, 0] ∧ win2_2.index t = ![t.val, 0] ∧ win2_3.index t = ![t.val, 0] ∧ win2_4.index t = ![t.val, 0] ∧ win2_5.index t = ![t.val, 0] ∧ win2_6.index t = ![t.val, 0] ∧ win2_7.index t = ![t.val, 0] := by
  decide +kernel

section region2
variable (hP : ∀ y : S512x2048.Idx, V c main_arg8 y = P (y 0) (y 1)) (hG : ∀ y : S512x2048.Idx, V c main_arg9 y = G (y 0) (y 1))
variable (hM : ∀ y : S512x2048.Idx, V c main_arg10 y = M (y 0) (y 1)) (hQ : ∀ y : S512x2048.Idx, V c main_arg11 y = Q (y 0) (y 1))
include hP in
theorem ld2_0 (t : Fin cfg2.N) (r : Fin 256) (x : Fin 2048) : View.ld (iblk2 V c 0 t) r2_0 (ix2 r x) = P (t.val * 256 + r) x := by
  rw [View.ld_apply]
  refine (hP _).trans ?_
  blk_simp [(idx2 t).1]
  simp
include hG in
theorem ld2_1 (t : Fin cfg2.N) (r : Fin 256) (x : Fin 2048) : View.ld (iblk2 V c 1 t) r2_0 (ix2 r x) = G (t.val * 256 + r) x := by
  rw [View.ld_apply]
  refine (hG _).trans ?_
  blk_simp [(idx2 t).2.1]
  simp
include hM in
theorem ld2_2 (t : Fin cfg2.N) (r : Fin 256) (x : Fin 2048) : View.ld (iblk2 V c 2 t) r2_0 (ix2 r x) = M (t.val * 256 + r) x := by
  rw [View.ld_apply]
  refine (hM _).trans ?_
  blk_simp [(idx2 t).2.2.1]
  simp
include hQ in
theorem ld2_3 (t : Fin cfg2.N) (r : Fin 256) (x : Fin 2048) : View.ld (iblk2 V c 3 t) r2_0 (ix2 r x) = Q (t.val * 256 + r) x := by
  rw [View.ld_apply]
  refine (hQ _).trans ?_
  blk_simp [(idx2 t).2.2.2.1]
  simp
include hP hG hM hQ in
theorem arr2_4 : (dat2 V c).arrAt 4 cfg2.N = fun y => ed (P (y 0) (y 1)) (G (y 0) (y 1)) (M (y 0) (y 1)) (Q (y 0) (y 1)) := by
  refine (dat2 V c).arrAt_eq_of_covers 4 _ (by decide +kernel) fun t hf y => ?_
  blk_simp [(idx2 t).2.2.2.2.1]
  rw [after2_4]
  unfold out2_4
  canon_tiles x h
  rw [h0, h1]
  exact (congrArg (k2_pay3 _ _ _ _) (eq_ix2 x)).trans (congr (congrArg₂ ed (ld2_0 hP t (x 0) (x 1)) (ld2_1 hG t (x 0) (x 1)) |> fun e => congr e (ld2_2 hM t (x 0) (x 1))) (ld2_3 hQ t (x 0) (x 1)))
include hG hM in
theorem arr2_5 : (dat2 V c).arrAt 5 cfg2.N = fun y => em (G (y 0) (y 1)) (M (y 0) (y 1)) := by
  refine (dat2 V c).arrAt_eq_of_covers 5 _ (by decide +kernel) fun t hf y => ?_
  blk_simp [(idx2 t).2.2.2.2.2.1]
  rw [after2_5]
  unfold out2_5
  canon_tiles x h
  rw [h0, h1]
  exact (congrArg (k2_pay1 _ _) (eq_ix2 x)).trans (congrArg₂ em (ld2_1 hG t (x 0) (x 1)) (ld2_2 hM t (x 0) (x 1)))
include hG hQ in
theorem arr2_6 : (dat2 V c).arrAt 6 cfg2.N = fun y => ev (G (y 0) (y 1)) (Q (y 0) (y 1)) := by
  refine (dat2 V c).arrAt_eq_of_covers 6 _ (by decide +kernel) fun t hf y => ?_
  blk_simp [(idx2 t).2.2.2.2.2.2.1]
  rw [after2_6]
  unfold out2_6
  canon_tiles x h
  rw [h0, h1]
  exact (congrArg (k2_pay2 _ _) (eq_ix2 x)).trans (congrArg₂ ev (ld2_1 hG t (x 0) (x 1)) (ld2_3 hQ t (x 0) (x 1)))
include hG in
theorem arr2_7 : (dat2 V c).arrAt 7 cfg2.N = fun y => G (y 0) (y 1) := by
  refine (dat2 V c).arrAt_eq_of_covers 7 _ (by decide +kernel) fun t hf y => ?_
  blk_simp [(idx2 t).2.2.2.2.2.2.2]
  rw [after2_7]
  unfold out2_7
  canon_tiles x h
  rw [h0, h1]
  exact (congrArg (View.ld (iblk2 V c 1 t) r2_0) (eq_ix2 x)).trans (ld2_1 hG t (x 0) (x 1))
end region2

theorem idx3 : ∀ t : Fin grid3.N, win3_0.index t = ![t.val, 0] ∧ win3_1.index t = ![t.val, 0] ∧ win3_2.index t = ![t.val, 0] ∧ win3_3.index t = ![t.val, 0] ∧ win3_4.index t = ![t.val, 0] ∧ win3_5.index t = ![t.val, 0] ∧ win3_6.index t = ![t.val, 0] ∧ win3_7.index t = ![t.val, 0] := by
  decide +kernel

section region3
variable (hP : ∀ y : S512x512.Idx, V c main_arg12 y = P (y 0) (y 1)) (hG : ∀ y : S512x512.Idx, V c main_arg13 y = G (y 0) (y 1))
variable (hM : ∀ y : S512x512.Idx, V c main_arg14 y = M (y 0) (y 1)) (hQ : ∀ y : S512x512.Idx, V c main_arg15 y = Q (y 0) (y 1))
include hP in
theorem ld3_0 (t : Fin cfg3.N) (r : Fin 512) (x : Fin 512) : View.ld (iblk3 V c 0 t) r3_0 (ix2 r x) = P r x := by
  rw [View.ld_apply]
  refine (hP _).trans ?_
  blk_simp [(idx3 t).1]
  simp
include hG in
theorem ld3_1 (t : Fin cfg3.N) (r : Fin 512) (x : Fin 512) : View.ld (iblk3 V c 1 t) r3_0 (ix2 r x) = G r x := by
  rw [View.ld_apply]
  refine (hG _).trans ?_
  blk_simp [(idx3 t).2.1]
  simp
include hM in
theorem ld3_2 (t : Fin cfg3.N) (r : Fin 512) (x : Fin 512) : View.ld (iblk3 V c 2 t) r3_0 (ix2 r x) = M r x := by
  rw [View.ld_apply]
  refine (hM _).trans ?_
  blk_simp [(idx3 t).2.2.1]
  simp
include hQ in
theorem ld3_3 (t : Fin cfg3.N) (r : Fin 512) (x : Fin 512) : View.ld (iblk3 V c 3 t) r3_0 (ix2 r x) = Q r x := by
  rw [View.ld_apply]
  refine (hQ _).trans ?_
  blk_simp [(idx3 t).2.2.2.1]
  simp
include hP hG hM hQ in
theorem arr3_4 : (dat3 V c).arrAt 4 cfg3.N = fun y => ed (P (y 0) (y 1)) (G (y 0) (y 1)) (M (y 0) (y 1)) (Q (y 0) (y 1)) := by
  refine (dat3 V c).arrAt_eq_of_covers 4 _ (by decide +kernel) fun t hf y => ?_
  blk_simp [(idx3 t).2.2.2.2.1]
  rw [after3_4]
  unfold out3_4
  canon_tiles x h
  rw [h0, h1]
  exact (congrArg (k3_pay3 _ _ _ _) (eq_ix2 x)).trans (congr (congrArg₂ ed (ld3_0 hP t (x 0) (x 1)) (ld3_1 hG t (x 0) (x 1)) |> fun e => congr e (ld3_2 hM t (x 0) (x 1))) (ld3_3 hQ t (x 0) (x 1)))
include hG hM in
theorem arr3_5 : (dat3 V c).arrAt 5 cfg3.N = fun y => em (G (y 0) (y 1)) (M (y 0) (y 1)) := by
  refine (dat3 V c).arrAt_eq_of_covers 5 _ (by decide +kernel) fun t hf y => ?_
  blk_simp [(idx3 t).2.2.2.2.2.1]
  rw [after3_5]
  unfold out3_5
  canon_tiles x h
  rw [h0, h1]
  exact (congrArg (k3_pay1 _ _) (eq_ix2 x)).trans (congrArg₂ em (ld3_1 hG t (x 0) (x 1)) (ld3_2 hM t (x 0) (x 1)))
include hG hQ in
theorem arr3_6 : (dat3 V c).arrAt 6 cfg3.N = fun y => ev (G (y 0) (y 1)) (Q (y 0) (y 1)) := by
  refine (dat3 V c).arrAt_eq_of_covers 6 _ (by decide +kernel) fun t hf y => ?_
  blk_simp [(idx3 t).2.2.2.2.2.2.1]
  rw [after3_6]
  unfold out3_6
  canon_tiles x h
  rw [h0, h1]
  exact (congrArg (k3_pay2 _ _) (eq_ix2 x)).trans (congrArg₂ ev (ld3_1 hG t (x 0) (x 1)) (ld3_3 hQ t (x 0) (x 1)))
include hG in
theorem arr3_7 : (dat3 V c).arrAt 7 cfg3.N = fun y => G (y 0) (y 1) := by
  refine (dat3 V c).arrAt_eq_of_covers 7 _ (by decide +kernel) fun t hf y => ?_
  blk_simp [(idx3 t).2.2.2.2.2.2.2]
  rw [after3_7]
  unfold out3_7
  canon_tiles x h
  rw [h0, h1]
  exact (congrArg (View.ld (iblk3 V c 1 t) r3_0) (eq_ix2 x)).trans (ld3_1 hG t (x 0) (x 1))
end region3

theorem idx4 : ∀ t : Fin grid4.N, win4_0.index t = ![t.val, 0] ∧ win4_1.index t = ![t.val, 0] ∧ win4_2.index t = ![t.val, 0] ∧ win4_3.index t = ![t.val, 0] ∧ win4_4.index t = ![t.val, 0] ∧ win4_5.index t = ![t.val, 0] ∧ win4_6.index t = ![t.val, 0] ∧ win4_7.index t = ![t.val, 0] := by
  decide +kernel

section region4
variable (hP : ∀ y : S912x2048.Idx, V c main_arg16 y = P (y 0) (y 1)) (hG : ∀ y : S912x2048.Idx, V c main_arg17 y = G (y 0) (y 1))
variable (hM : ∀ y : S912x2048.Idx, V c main_arg18 y = M (y 0) (y 1)) (hQ : ∀ y : S912x2048.Idx, V c main_arg19 y = Q (y 0) (y 1))
include hP in
theorem ld4_0 (t : Fin cfg4.N) (r : Fin 152) (x : Fin 2048) : View.ld (iblk4 V c 0 t) r4_0 (ix2 r x) = P (t.val * 152 + r) x := by
  rw [View.ld_apply]
  refine (hP _).trans ?_
  blk_simp [(idx4 t).1]
  simp
include hG in
theorem ld4_1 (t : Fin cfg4.N) (r : Fin 152) (x : Fin 2048) : View.ld (iblk4 V c 1 t) r4_0 (ix2 r x) = G (t.val * 152 + r) x := by
  rw [View.ld_apply]
  refine (hG _).trans ?_
  blk_simp [(idx4 t).2.1]
  simp
include hM in
theorem ld4_2 (t : Fin cfg4.N) (r : Fin 152) (x : Fin 2048) : View.ld (iblk4 V c 2 t) r4_0 (ix2 r x) = M (t.val * 152 + r) x := by
  rw [View.ld_apply]
  refine (hM _).trans ?_
  blk_simp [(idx4 t).2.2.1]
  simp
include hQ in
theorem ld4_3 (t : Fin cfg4.N) (r : Fin 152) (x : Fin 2048) : View.ld (iblk4 V c 3 t) r4_0 (ix2 r x) = Q (t.val * 152 + r) x := by
  rw [View.ld_apply]
  refine (hQ _).trans ?_
  blk_simp [(idx4 t).2.2.2.1]
  simp
include hP hG hM hQ in
theorem arr4_4 : (dat4 V c).arrAt 4 cfg4.N = fun y => ed (P (y 0) (y 1)) (G (y 0) (y 1)) (M (y 0) (y 1)) (Q (y 0) (y 1)) := by
  refine (dat4 V c).arrAt_eq_of_covers 4 _ (by decide +kernel) fun t hf y => ?_
  blk_simp [(idx4 t).2.2.2.2.1]
  rw [after4_4]
  unfold out4_4
  canon_tiles x h
  rw [h0, h1]
  exact (congrArg (k4_pay3 _ _ _ _) (eq_ix2 x)).trans (congr (congrArg₂ ed (ld4_0 hP t (x 0) (x 1)) (ld4_1 hG t (x 0) (x 1)) |> fun e => congr e (ld4_2 hM t (x 0) (x 1))) (ld4_3 hQ t (x 0) (x 1)))
include hG hM in
theorem arr4_5 : (dat4 V c).arrAt 5 cfg4.N = fun y => em (G (y 0) (y 1)) (M (y 0) (y 1)) := by
  refine (dat4 V c).arrAt_eq_of_covers 5 _ (by decide +kernel) fun t hf y => ?_
  blk_simp [(idx4 t).2.2.2.2.2.1]
  rw [after4_5]
  unfold out4_5
  canon_tiles x h
  rw [h0, h1]
  exact (congrArg (k4_pay1 _ _) (eq_ix2 x)).trans (congrArg₂ em (ld4_1 hG t (x 0) (x 1)) (ld4_2 hM t (x 0) (x 1)))
include hG hQ in
theorem arr4_6 : (dat4 V c).arrAt 6 cfg4.N = fun y => ev (G (y 0) (y 1)) (Q (y 0) (y 1)) := by
  refine (dat4 V c).arrAt_eq_of_covers 6 _ (by decide +kernel) fun t hf y => ?_
  blk_simp [(idx4 t).2.2.2.2.2.2.1]
  rw [after4_6]
  unfold out4_6
  canon_tiles x h
  rw [h0, h1]
  exact (congrArg (k4_pay2 _ _) (eq_ix2 x)).trans (congrArg₂ ev (ld4_1 hG t (x 0) (x 1)) (ld4_3 hQ t (x 0) (x 1)))
include hG in
theorem arr4_7 : (dat4 V c).arrAt 7 cfg4.N = fun y => G (y 0) (y 1) := by
  refine (dat4 V c).arrAt_eq_of_covers 7 _ (by decide +kernel) fun t hf y => ?_
  blk_simp [(idx4 t).2.2.2.2.2.2.2]
  rw [after4_7]
  unfold out4_7
  canon_tiles x h
  rw [h0, h1]
  exact (congrArg (View.ld (iblk4 V c 1 t) r4_0) (eq_ix2 x)).trans (ld4_1 hG t (x 0) (x 1))
end region4

theorem idx5 : ∀ t : Fin grid5.N, win5_0.index t = ![t.val, 0] ∧ win5_1.index t = ![t.val, 0] ∧ win5_2.index t = ![t.val, 0] ∧ win5_3.index t = ![t.val, 0] ∧ win5_4.index t = ![t.val, 0] ∧ win5_5.index t = ![t.val, 0] ∧ win5_6.index t = ![t.val, 0] := by
  decide +kernel

section region5
variable (hP : ∀ y : S1x23296.Idx, V c main_arg20 y = P (y 0) (y 1)) (hG : ∀ y : S1x23296.Idx, V c main_arg21 y = G (y 0) (y 1))
variable (hM : ∀ y : S1x23296.Idx, V c main_arg22 y = M (y 0) (y 1)) (hQ : ∀ y : S1x23296.Idx, V c main_arg23 y = Q (y 0) (y 1))
include hP in
theorem ld5_0 (t : Fin cfg5.N) (r : Fin 1) (x : Fin 23296) : View.ld (iblk5 V c 0 t) r5_0 (ix2 r x) = P 0 x := by
  rw [View.ld_apply]
  refine (hP _).trans ?_
  blk_simp [(idx5 t).1]
  simp
include hG in
theorem ld5_1 (t : Fin cfg5.N) (r : Fin 1) (x : Fin 23296) : View.ld (iblk5 V c 1 t) r5_0 (ix2 r x) = G 0 x := by
  rw [View.ld_apply]
  refine (hG _).trans ?_
  blk_simp [(idx5 t).2.1]
  simp
include hM in
theorem ld5_2 (t : Fin cfg5.N) (r : Fin 1) (x : Fin 23296) : View.ld (iblk5 V c 2 t) r5_0 (ix2 r x) = M 0 x := by
  rw [View.ld_apply]
  refine (hM _).trans ?_
  blk_simp [(idx5 t).2.2.1]
  simp
include hQ in
theorem ld5_3 (t : Fin cfg5.N) (r : Fin 1) (x : Fin 23296) : View.ld (iblk5 V c 3 t) r5_0 (ix2 r x) = Q 0 x := by
  rw [View.ld_apply]
  refine (hQ _).trans ?_
  blk_simp [(idx5 t).2.2.2.1]
  simp
include hP hG hM hQ in
theorem arr5_4 : (dat5 V c).arrAt 4 cfg5.N = fun y => ed (P (y 0) (y 1)) (G (y 0) (y 1)) (M (y 0) (y 1)) (Q (y 0) (y 1)) := by
  refine (dat5 V c).arrAt_eq_of_covers 4 _ (by decide +kernel) fun t hf y => ?_
  blk_simp [(idx5 t).2.2.2.2.1]
  rw [after5_4]
  unfold out5_4
  canon_tiles x h
  rw [h1]
  exact (congrArg (k5_pay3 _ _ _ _) (eq_ix2 x)).trans (congr (congrArg₂ ed (ld5_0 hP t (x 0) (x 1)) (ld5_1 hG t (x 0) (x 1)) |> fun e => congr e (ld5_2 hM t (x 0) (x 1))) (ld5_3 hQ t (x 0) (x 1)))
include hG hM in
theorem arr5_5 : (dat5 V c).arrAt 5 cfg5.N = fun y => em (G (y 0) (y 1)) (M (y 0) (y 1)) := by
  refine (dat5 V c).arrAt_eq_of_covers 5 _ (by decide +kernel) fun t hf y => ?_
  blk_simp [(idx5 t).2.2.2.2.2.1]
  rw [after5_5]
  unfold out5_5
  canon_tiles x h
  rw [h1]
  exact (congrArg (k5_pay1 _ _) (eq_ix2 x)).trans (congrArg₂ em (ld5_1 hG t (x 0) (x 1)) (ld5_2 hM t (x 0) (x 1)))
include hG hQ in
theorem arr5_6 : (dat5 V c).arrAt 6 cfg5.N = fun y => ev (G (y 0) (y 1)) (Q (y 0) (y 1)) := by
  refine (dat5 V c).arrAt_eq_of_covers 6 _ (by decide +kernel) fun t hf y => ?_
  blk_simp [(idx5 t).2.2.2.2.2.2]
  rw [after5_6]
  unfold out5_6
  canon_tiles x h
  rw [h1]
  exact (congrArg (k5_pay2 _ _) (eq_ix2 x)).trans (congrArg₂ ev (ld5_1 hG t (x 0) (x 1)) (ld5_3 hQ t (x 0) (x 1)))
end region5

set_option backward.isDefEq.respectTransparency.types false in
/-- Every run ends with each result array as the last product leaves it, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v0_0) = W6 m ρ c (Proc.devRef .tc main_v0_0)
      ∧ r.2.mem ((c.tc : Thread nD τ).loc main_v0_1) = W6 m ρ c (Proc.devRef .tc main_v0_1)
      ∧ r.2.mem ((c.tc : Thread nD τ).loc main_v0_2) = W6 m ρ c (Proc.devRef .tc main_v0_2)
      ∧ r.2.mem ((c.tc : Thread nD τ).loc main_v0_3) = W6 m ρ c (Proc.devRef .tc main_v0_3)
      ∧ r.2.mem ((c.tc : Thread nD τ).loc main_v1_0) = W6 m ρ c (Proc.devRef .tc main_v1_0)
      ∧ r.2.mem ((c.tc : Thread nD τ).loc main_v1_1) = W6 m ρ c (Proc.devRef .tc main_v1_1)
      ∧ r.2.mem ((c.tc : Thread nD τ).loc main_v1_2) = W6 m ρ c (Proc.devRef .tc main_v1_2)
      ∧ r.2.mem ((c.tc : Thread nD τ).loc main_v1_3) = W6 m ρ c (Proc.devRef .tc main_v1_3)
      ∧ r.2.mem ((c.tc : Thread nD τ).loc main_v2_0) = W6 m ρ c (Proc.devRef .tc main_v2_0)
      ∧ r.2.mem ((c.tc : Thread nD τ).loc main_v2_1) = W6 m ρ c (Proc.devRef .tc main_v2_1)
      ∧ r.2.mem ((c.tc : Thread nD τ).loc main_v2_2) = W6 m ρ c (Proc.devRef .tc main_v2_2)
      ∧ r.2.mem ((c.tc : Thread nD τ).loc main_v2_3) = W6 m ρ c (Proc.devRef .tc main_v2_3)
      ∧ r.2.mem ((c.tc : Thread nD τ).loc main_v3_0) = W6 m ρ c (Proc.devRef .tc main_v3_0)
      ∧ r.2.mem ((c.tc : Thread nD τ).loc main_v3_1) = W6 m ρ c (Proc.devRef .tc main_v3_1)
      ∧ r.2.mem ((c.tc : Thread nD τ).loc main_v3_2) = W6 m ρ c (Proc.devRef .tc main_v3_2)
      ∧ r.2.mem ((c.tc : Thread nD τ).loc main_v3_3) = W6 m ρ c (Proc.devRef .tc main_v3_3)
      ∧ r.2.mem ((c.tc : Thread nD τ).loc main_v4_0) = W6 m ρ c (Proc.devRef .tc main_v4_0)
      ∧ r.2.mem ((c.tc : Thread nD τ).loc main_v4_1) = W6 m ρ c (Proc.devRef .tc main_v4_1)
      ∧ r.2.mem ((c.tc : Thread nD τ).loc main_v4_2) = W6 m ρ c (Proc.devRef .tc main_v4_2)
      ∧ r.2.mem ((c.tc : Thread nD τ).loc main_v4_3) = W6 m ρ c (Proc.devRef .tc main_v4_3)
      ∧ r.2.mem ((c.tc : Thread nD τ).loc main_v5_0) = W6 m ρ c (Proc.devRef .tc main_v5_0)
      ∧ r.2.mem ((c.tc : Thread nD τ).loc main_v5_1) = W6 m ρ c (Proc.devRef .tc main_v5_1)
      ∧ r.2.mem ((c.tc : Thread nD τ).loc main_v5_2) = W6 m ρ c (Proc.devRef .tc main_v5_2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ c =>
      ⟨⟨h c _ (mem_uc main_v0_0 (by decide)), h c _ (mem_uc main_v0_1 (by decide)), h c _ (mem_uc main_v0_2 (by decide)), h c _ (mem_uc main_v0_3 (by decide)), h c _ (mem_uc main_v1_0 (by decide)), h c _ (mem_uc main_v1_1 (by decide)), h c _ (mem_uc main_v1_2 (by decide)), h c _ (mem_uc main_v1_3 (by decide)), h c _ (mem_uc main_v2_0 (by decide)), h c _ (mem_uc main_v2_1 (by decide)), h c _ (mem_uc main_v2_2 (by decide)), h c _ (mem_uc main_v2_3 (by decide)), h c _ (mem_uc main_v3_0 (by decide)), h c _ (mem_uc main_v3_1 (by decide)), h c _ (mem_uc main_v3_2 (by decide)), h c _ (mem_uc main_v3_3 (by decide)), h c _ (mem_uc main_v4_0 (by decide)), h c _ (mem_uc main_v4_1 (by decide)), h c _ (mem_uc main_v4_2 (by decide)), h c _ (mem_uc main_v4_3 (by decide)), h c _ (mem_uc main_v5_0 (by decide)), h c _ (mem_uc main_v5_1 (by decide)), h c _ (mem_uc main_v5_2 (by decide))⟩,
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c)⟩)

variable (m : (ℓ : Loc nD τ sig) → Buf (Elt Ideal) ℓ) (ρ : Dev nD → PrngReg) (c : Dev nD)
variable {P G M Q : ℕ → ℕ → EReal}

section values0
variable (hP : ∀ y : S2048x2048.Idx, m ((c.tc : Thread nD τ).loc main_arg0) y = P (y 0) (y 1)) (hG : ∀ y : S2048x2048.Idx, m ((c.tc : Thread nD τ).loc main_arg1) y = G (y 0) (y 1))
variable (hM : ∀ y : S2048x2048.Idx, m ((c.tc : Thread nD τ).loc main_arg2) y = M (y 0) (y 1)) (hQ : ∀ y : S2048x2048.Idx, m ((c.tc : Thread nD τ).loc main_arg3) y = Q (y 0) (y 1))
include hP hG hM hQ in
theorem end0_4 : W6 m ρ c (Proc.devRef .tc main_v0_0) = fun y => ed (P (y 0) (y 1)) (G (y 0) (y 1)) (M (y 0) (y 1)) (Q (y 0) (y 1)) := by
  have eP : V0 m ρ c main_arg0 = m ((c : Thread nD τ).loc main_arg0) := W0_args m ρ c main_arg0 (by decide)
  have eG : V0 m ρ c main_arg1 = m ((c : Thread nD τ).loc main_arg1) := W0_args m ρ c main_arg1 (by decide)
  have eM : V0 m ρ c main_arg2 = m ((c : Thread nD τ).loc main_arg2) := W0_args m ρ c main_arg2 (by decide)
  have eQ : V0 m ρ c main_arg3 = m ((c : Thread nD τ).loc main_arg3) := W0_args m ρ c main_arg3 (by decide)
  exact (W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans ((W1_arr m ρ c 4).trans (arr0_4 (V := V0 m ρ) (fun y => (congrFun eP y).trans (hP y)) (fun y => (congrFun eG y).trans (hG y)) (fun y => (congrFun eM y).trans (hM y)) (fun y => (congrFun eQ y).trans (hQ y))))))))
include hG hM in
theorem end0_5 : W6 m ρ c (Proc.devRef .tc main_v0_1) = fun y => em (G (y 0) (y 1)) (M (y 0) (y 1)) := by
  have eG : V0 m ρ c main_arg1 = m ((c : Thread nD τ).loc main_arg1) := W0_args m ρ c main_arg1 (by decide)
  have eM : V0 m ρ c main_arg2 = m ((c : Thread nD τ).loc main_arg2) := W0_args m ρ c main_arg2 (by decide)
  exact (W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans ((W1_arr m ρ c 5).trans (arr0_5 (V := V0 m ρ) (fun y => (congrFun eG y).trans (hG y)) (fun y => (congrFun eM y).trans (hM y))))))))
include hG hQ in
theorem end0_6 : W6 m ρ c (Proc.devRef .tc main_v0_2) = fun y => ev (G (y 0) (y 1)) (Q (y 0) (y 1)) := by
  have eG : V0 m ρ c main_arg1 = m ((c : Thread nD τ).loc main_arg1) := W0_args m ρ c main_arg1 (by decide)
  have eQ : V0 m ρ c main_arg3 = m ((c : Thread nD τ).loc main_arg3) := W0_args m ρ c main_arg3 (by decide)
  exact (W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans ((W1_arr m ρ c 6).trans (arr0_6 (V := V0 m ρ) (fun y => (congrFun eG y).trans (hG y)) (fun y => (congrFun eQ y).trans (hQ y))))))))
include hG in
theorem end0_7 : W6 m ρ c (Proc.devRef .tc main_v0_3) = fun y => G (y 0) (y 1) := by
  have eG : V0 m ρ c main_arg1 = m ((c : Thread nD τ).loc main_arg1) := W0_args m ρ c main_arg1 (by decide)
  exact (W6_of m ρ c main_v0_3 (by decide)).trans ((W5_of m ρ c main_v0_3 (by decide)).trans ((W4_of m ρ c main_v0_3 (by decide)).trans ((W3_of m ρ c main_v0_3 (by decide)).trans ((W2_of m ρ c main_v0_3 (by decide)).trans ((W1_arr m ρ c 7).trans (arr0_7 (V := V0 m ρ) (fun y => (congrFun eG y).trans (hG y))))))))
end values0

section values1
variable (hP : ∀ y : S2048x2048.Idx, m ((c.tc : Thread nD τ).loc main_arg4) y = P (y 0) (y 1)) (hG : ∀ y : S2048x2048.Idx, m ((c.tc : Thread nD τ).loc main_arg5) y = G (y 0) (y 1))
variable (hM : ∀ y : S2048x2048.Idx, m ((c.tc : Thread nD τ).loc main_arg6) y = M (y 0) (y 1)) (hQ : ∀ y : S2048x2048.Idx, m ((c.tc : Thread nD τ).loc main_arg7) y = Q (y 0) (y 1))
include hP hG hM hQ in
theorem end1_4 : W6 m ρ c (Proc.devRef .tc main_v1_0) = fun y => ed (P (y 0) (y 1)) (G (y 0) (y 1)) (M (y 0) (y 1)) (Q (y 0) (y 1)) := by
  have eP : V1 m ρ c main_arg4 = m ((c : Thread nD τ).loc main_arg4) := W1_args m ρ c main_arg4 (by decide)
  have eG : V1 m ρ c main_arg5 = m ((c : Thread nD τ).loc main_arg5) := W1_args m ρ c main_arg5 (by decide)
  have eM : V1 m ρ c main_arg6 = m ((c : Thread nD τ).loc main_arg6) := W1_args m ρ c main_arg6 (by decide)
  have eQ : V1 m ρ c main_arg7 = m ((c : Thread nD τ).loc main_arg7) := W1_args m ρ c main_arg7 (by decide)
  exact (W6_of m ρ c main_v1_0 (by decide)).trans ((W5_of m ρ c main_v1_0 (by decide)).trans ((W4_of m ρ c main_v1_0 (by decide)).trans ((W3_of m ρ c main_v1_0 (by decide)).trans ((W2_arr m ρ c 4).trans (arr1_4 (V := V1 m ρ) (fun y => (congrFun eP y).trans (hP y)) (fun y => (congrFun eG y).trans (hG y)) (fun y => (congrFun eM y).trans (hM y)) (fun y => (congrFun eQ y).trans (hQ y)))))))
include hG hM in
theorem end1_5 : W6 m ρ c (Proc.devRef .tc main_v1_1) = fun y => em (G (y 0) (y 1)) (M (y 0) (y 1)) := by
  have eG : V1 m ρ c main_arg5 = m ((c : Thread nD τ).loc main_arg5) := W1_args m ρ c main_arg5 (by decide)
  have eM : V1 m ρ c main_arg6 = m ((c : Thread nD τ).loc main_arg6) := W1_args m ρ c main_arg6 (by decide)
  exact (W6_of m ρ c main_v1_1 (by decide)).trans ((W5_of m ρ c main_v1_1 (by decide)).trans ((W4_of m ρ c main_v1_1 (by decide)).trans ((W3_of m ρ c main_v1_1 (by decide)).trans ((W2_arr m ρ c 5).trans (arr1_5 (V := V1 m ρ) (fun y => (congrFun eG y).trans (hG y)) (fun y => (congrFun eM y).trans (hM y)))))))
include hG hQ in
theorem end1_6 : W6 m ρ c (Proc.devRef .tc main_v1_2) = fun y => ev (G (y 0) (y 1)) (Q (y 0) (y 1)) := by
  have eG : V1 m ρ c main_arg5 = m ((c : Thread nD τ).loc main_arg5) := W1_args m ρ c main_arg5 (by decide)
  have eQ : V1 m ρ c main_arg7 = m ((c : Thread nD τ).loc main_arg7) := W1_args m ρ c main_arg7 (by decide)
  exact (W6_of m ρ c main_v1_2 (by decide)).trans ((W5_of m ρ c main_v1_2 (by decide)).trans ((W4_of m ρ c main_v1_2 (by decide)).trans ((W3_of m ρ c main_v1_2 (by decide)).trans ((W2_arr m ρ c 6).trans (arr1_6 (V := V1 m ρ) (fun y => (congrFun eG y).trans (hG y)) (fun y => (congrFun eQ y).trans (hQ y)))))))
include hG in
theorem end1_7 : W6 m ρ c (Proc.devRef .tc main_v1_3) = fun y => G (y 0) (y 1) := by
  have eG : V1 m ρ c main_arg5 = m ((c : Thread nD τ).loc main_arg5) := W1_args m ρ c main_arg5 (by decide)
  exact (W6_of m ρ c main_v1_3 (by decide)).trans ((W5_of m ρ c main_v1_3 (by decide)).trans ((W4_of m ρ c main_v1_3 (by decide)).trans ((W3_of m ρ c main_v1_3 (by decide)).trans ((W2_arr m ρ c 7).trans (arr1_7 (V := V1 m ρ) (fun y => (congrFun eG y).trans (hG y)))))))
end values1

section values2
variable (hP : ∀ y : S512x2048.Idx, m ((c.tc : Thread nD τ).loc main_arg8) y = P (y 0) (y 1)) (hG : ∀ y : S512x2048.Idx, m ((c.tc : Thread nD τ).loc main_arg9) y = G (y 0) (y 1))
variable (hM : ∀ y : S512x2048.Idx, m ((c.tc : Thread nD τ).loc main_arg10) y = M (y 0) (y 1)) (hQ : ∀ y : S512x2048.Idx, m ((c.tc : Thread nD τ).loc main_arg11) y = Q (y 0) (y 1))
include hP hG hM hQ in
theorem end2_4 : W6 m ρ c (Proc.devRef .tc main_v2_0) = fun y => ed (P (y 0) (y 1)) (G (y 0) (y 1)) (M (y 0) (y 1)) (Q (y 0) (y 1)) := by
  have eP : V2 m ρ c main_arg8 = m ((c : Thread nD τ).loc main_arg8) := W2_args m ρ c main_arg8 (by decide)
  have eG : V2 m ρ c main_arg9 = m ((c : Thread nD τ).loc main_arg9) := W2_args m ρ c main_arg9 (by decide)
  have eM : V2 m ρ c main_arg10 = m ((c : Thread nD τ).loc main_arg10) := W2_args m ρ c main_arg10 (by decide)
  have eQ : V2 m ρ c main_arg11 = m ((c : Thread nD τ).loc main_arg11) := W2_args m ρ c main_arg11 (by decide)
  exact (W6_of m ρ c main_v2_0 (by decide)).trans ((W5_of m ρ c main_v2_0 (by decide)).trans ((W4_of m ρ c main_v2_0 (by decide)).trans ((W3_arr m ρ c 4).trans (arr2_4 (V := V2 m ρ) (fun y => (congrFun eP y).trans (hP y)) (fun y => (congrFun eG y).trans (hG y)) (fun y => (congrFun eM y).trans (hM y)) (fun y => (congrFun eQ y).trans (hQ y))))))
include hG hM in
theorem end2_5 : W6 m ρ c (Proc.devRef .tc main_v2_1) = fun y => em (G (y 0) (y 1)) (M (y 0) (y 1)) := by
  have eG : V2 m ρ c main_arg9 = m ((c : Thread nD τ).loc main_arg9) := W2_args m ρ c main_arg9 (by decide)
  have eM : V2 m ρ c main_arg10 = m ((c : Thread nD τ).loc main_arg10) := W2_args m ρ c main_arg10 (by decide)
  exact (W6_of m ρ c main_v2_1 (by decide)).trans ((W5_of m ρ c main_v2_1 (by decide)).trans ((W4_of m ρ c main_v2_1 (by decide)).trans ((W3_arr m ρ c 5).trans (arr2_5 (V := V2 m ρ) (fun y => (congrFun eG y).trans (hG y)) (fun y => (congrFun eM y).trans (hM y))))))
include hG hQ in
theorem end2_6 : W6 m ρ c (Proc.devRef .tc main_v2_2) = fun y => ev (G (y 0) (y 1)) (Q (y 0) (y 1)) := by
  have eG : V2 m ρ c main_arg9 = m ((c : Thread nD τ).loc main_arg9) := W2_args m ρ c main_arg9 (by decide)
  have eQ : V2 m ρ c main_arg11 = m ((c : Thread nD τ).loc main_arg11) := W2_args m ρ c main_arg11 (by decide)
  exact (W6_of m ρ c main_v2_2 (by decide)).trans ((W5_of m ρ c main_v2_2 (by decide)).trans ((W4_of m ρ c main_v2_2 (by decide)).trans ((W3_arr m ρ c 6).trans (arr2_6 (V := V2 m ρ) (fun y => (congrFun eG y).trans (hG y)) (fun y => (congrFun eQ y).trans (hQ y))))))
include hG in
theorem end2_7 : W6 m ρ c (Proc.devRef .tc main_v2_3) = fun y => G (y 0) (y 1) := by
  have eG : V2 m ρ c main_arg9 = m ((c : Thread nD τ).loc main_arg9) := W2_args m ρ c main_arg9 (by decide)
  exact (W6_of m ρ c main_v2_3 (by decide)).trans ((W5_of m ρ c main_v2_3 (by decide)).trans ((W4_of m ρ c main_v2_3 (by decide)).trans ((W3_arr m ρ c 7).trans (arr2_7 (V := V2 m ρ) (fun y => (congrFun eG y).trans (hG y))))))
end values2

section values3
variable (hP : ∀ y : S512x512.Idx, m ((c.tc : Thread nD τ).loc main_arg12) y = P (y 0) (y 1)) (hG : ∀ y : S512x512.Idx, m ((c.tc : Thread nD τ).loc main_arg13) y = G (y 0) (y 1))
variable (hM : ∀ y : S512x512.Idx, m ((c.tc : Thread nD τ).loc main_arg14) y = M (y 0) (y 1)) (hQ : ∀ y : S512x512.Idx, m ((c.tc : Thread nD τ).loc main_arg15) y = Q (y 0) (y 1))
include hP hG hM hQ in
theorem end3_4 : W6 m ρ c (Proc.devRef .tc main_v3_0) = fun y => ed (P (y 0) (y 1)) (G (y 0) (y 1)) (M (y 0) (y 1)) (Q (y 0) (y 1)) := by
  have eP : V3 m ρ c main_arg12 = m ((c : Thread nD τ).loc main_arg12) := W3_args m ρ c main_arg12 (by decide)
  have eG : V3 m ρ c main_arg13 = m ((c : Thread nD τ).loc main_arg13) := W3_args m ρ c main_arg13 (by decide)
  have eM : V3 m ρ c main_arg14 = m ((c : Thread nD τ).loc main_arg14) := W3_args m ρ c main_arg14 (by decide)
  have eQ : V3 m ρ c main_arg15 = m ((c : Thread nD τ).loc main_arg15) := W3_args m ρ c main_arg15 (by decide)
  exact (W6_of m ρ c main_v3_0 (by decide)).trans ((W5_of m ρ c main_v3_0 (by decide)).trans ((W4_arr m ρ c 4).trans (arr3_4 (V := V3 m ρ) (fun y => (congrFun eP y).trans (hP y)) (fun y => (congrFun eG y).trans (hG y)) (fun y => (congrFun eM y).trans (hM y)) (fun y => (congrFun eQ y).trans (hQ y)))))
include hG hM in
theorem end3_5 : W6 m ρ c (Proc.devRef .tc main_v3_1) = fun y => em (G (y 0) (y 1)) (M (y 0) (y 1)) := by
  have eG : V3 m ρ c main_arg13 = m ((c : Thread nD τ).loc main_arg13) := W3_args m ρ c main_arg13 (by decide)
  have eM : V3 m ρ c main_arg14 = m ((c : Thread nD τ).loc main_arg14) := W3_args m ρ c main_arg14 (by decide)
  exact (W6_of m ρ c main_v3_1 (by decide)).trans ((W5_of m ρ c main_v3_1 (by decide)).trans ((W4_arr m ρ c 5).trans (arr3_5 (V := V3 m ρ) (fun y => (congrFun eG y).trans (hG y)) (fun y => (congrFun eM y).trans (hM y)))))
include hG hQ in
theorem end3_6 : W6 m ρ c (Proc.devRef .tc main_v3_2) = fun y => ev (G (y 0) (y 1)) (Q (y 0) (y 1)) := by
  have eG : V3 m ρ c main_arg13 = m ((c : Thread nD τ).loc main_arg13) := W3_args m ρ c main_arg13 (by decide)
  have eQ : V3 m ρ c main_arg15 = m ((c : Thread nD τ).loc main_arg15) := W3_args m ρ c main_arg15 (by decide)
  exact (W6_of m ρ c main_v3_2 (by decide)).trans ((W5_of m ρ c main_v3_2 (by decide)).trans ((W4_arr m ρ c 6).trans (arr3_6 (V := V3 m ρ) (fun y => (congrFun eG y).trans (hG y)) (fun y => (congrFun eQ y).trans (hQ y)))))
include hG in
theorem end3_7 : W6 m ρ c (Proc.devRef .tc main_v3_3) = fun y => G (y 0) (y 1) := by
  have eG : V3 m ρ c main_arg13 = m ((c : Thread nD τ).loc main_arg13) := W3_args m ρ c main_arg13 (by decide)
  exact (W6_of m ρ c main_v3_3 (by decide)).trans ((W5_of m ρ c main_v3_3 (by decide)).trans ((W4_arr m ρ c 7).trans (arr3_7 (V := V3 m ρ) (fun y => (congrFun eG y).trans (hG y)))))
end values3

section values4
variable (hP : ∀ y : S912x2048.Idx, m ((c.tc : Thread nD τ).loc main_arg16) y = P (y 0) (y 1)) (hG : ∀ y : S912x2048.Idx, m ((c.tc : Thread nD τ).loc main_arg17) y = G (y 0) (y 1))
variable (hM : ∀ y : S912x2048.Idx, m ((c.tc : Thread nD τ).loc main_arg18) y = M (y 0) (y 1)) (hQ : ∀ y : S912x2048.Idx, m ((c.tc : Thread nD τ).loc main_arg19) y = Q (y 0) (y 1))
include hP hG hM hQ in
theorem end4_4 : W6 m ρ c (Proc.devRef .tc main_v4_0) = fun y => ed (P (y 0) (y 1)) (G (y 0) (y 1)) (M (y 0) (y 1)) (Q (y 0) (y 1)) := by
  have eP : V4 m ρ c main_arg16 = m ((c : Thread nD τ).loc main_arg16) := W4_args m ρ c main_arg16 (by decide)
  have eG : V4 m ρ c main_arg17 = m ((c : Thread nD τ).loc main_arg17) := W4_args m ρ c main_arg17 (by decide)
  have eM : V4 m ρ c main_arg18 = m ((c : Thread nD τ).loc main_arg18) := W4_args m ρ c main_arg18 (by decide)
  have eQ : V4 m ρ c main_arg19 = m ((c : Thread nD τ).loc main_arg19) := W4_args m ρ c main_arg19 (by decide)
  exact (W6_of m ρ c main_v4_0 (by decide)).trans ((W5_arr m ρ c 4).trans (arr4_4 (V := V4 m ρ) (fun y => (congrFun eP y).trans (hP y)) (fun y => (congrFun eG y).trans (hG y)) (fun y => (congrFun eM y).trans (hM y)) (fun y => (congrFun eQ y).trans (hQ y))))
include hG hM in
theorem end4_5 : W6 m ρ c (Proc.devRef .tc main_v4_1) = fun y => em (G (y 0) (y 1)) (M (y 0) (y 1)) := by
  have eG : V4 m ρ c main_arg17 = m ((c : Thread nD τ).loc main_arg17) := W4_args m ρ c main_arg17 (by decide)
  have eM : V4 m ρ c main_arg18 = m ((c : Thread nD τ).loc main_arg18) := W4_args m ρ c main_arg18 (by decide)
  exact (W6_of m ρ c main_v4_1 (by decide)).trans ((W5_arr m ρ c 5).trans (arr4_5 (V := V4 m ρ) (fun y => (congrFun eG y).trans (hG y)) (fun y => (congrFun eM y).trans (hM y))))
include hG hQ in
theorem end4_6 : W6 m ρ c (Proc.devRef .tc main_v4_2) = fun y => ev (G (y 0) (y 1)) (Q (y 0) (y 1)) := by
  have eG : V4 m ρ c main_arg17 = m ((c : Thread nD τ).loc main_arg17) := W4_args m ρ c main_arg17 (by decide)
  have eQ : V4 m ρ c main_arg19 = m ((c : Thread nD τ).loc main_arg19) := W4_args m ρ c main_arg19 (by decide)
  exact (W6_of m ρ c main_v4_2 (by decide)).trans ((W5_arr m ρ c 6).trans (arr4_6 (V := V4 m ρ) (fun y => (congrFun eG y).trans (hG y)) (fun y => (congrFun eQ y).trans (hQ y))))
include hG in
theorem end4_7 : W6 m ρ c (Proc.devRef .tc main_v4_3) = fun y => G (y 0) (y 1) := by
  have eG : V4 m ρ c main_arg17 = m ((c : Thread nD τ).loc main_arg17) := W4_args m ρ c main_arg17 (by decide)
  exact (W6_of m ρ c main_v4_3 (by decide)).trans ((W5_arr m ρ c 7).trans (arr4_7 (V := V4 m ρ) (fun y => (congrFun eG y).trans (hG y))))
end values4

section values5
variable (hP : ∀ y : S1x23296.Idx, m ((c.tc : Thread nD τ).loc main_arg20) y = P (y 0) (y 1)) (hG : ∀ y : S1x23296.Idx, m ((c.tc : Thread nD τ).loc main_arg21) y = G (y 0) (y 1))
variable (hM : ∀ y : S1x23296.Idx, m ((c.tc : Thread nD τ).loc main_arg22) y = M (y 0) (y 1)) (hQ : ∀ y : S1x23296.Idx, m ((c.tc : Thread nD τ).loc main_arg23) y = Q (y 0) (y 1))
include hP hG hM hQ in
theorem end5_4 : W6 m ρ c (Proc.devRef .tc main_v5_0) = fun y => ed (P (y 0) (y 1)) (G (y 0) (y 1)) (M (y 0) (y 1)) (Q (y 0) (y 1)) := by
  have eP : V5 m ρ c main_arg20 = m ((c : Thread nD τ).loc main_arg20) := W5_args m ρ c main_arg20 (by decide)
  have eG : V5 m ρ c main_arg21 = m ((c : Thread nD τ).loc main_arg21) := W5_args m ρ c main_arg21 (by decide)
  have eM : V5 m ρ c main_arg22 = m ((c : Thread nD τ).loc main_arg22) := W5_args m ρ c main_arg22 (by decide)
  have eQ : V5 m ρ c main_arg23 = m ((c : Thread nD τ).loc main_arg23) := W5_args m ρ c main_arg23 (by decide)
  exact (W6_arr m ρ c 4).trans (arr5_4 (V := V5 m ρ) (fun y => (congrFun eP y).trans (hP y)) (fun y => (congrFun eG y).trans (hG y)) (fun y => (congrFun eM y).trans (hM y)) (fun y => (congrFun eQ y).trans (hQ y)))
include hG hM in
theorem end5_5 : W6 m ρ c (Proc.devRef .tc main_v5_1) = fun y => em (G (y 0) (y 1)) (M (y 0) (y 1)) := by
  have eG : V5 m ρ c main_arg21 = m ((c : Thread nD τ).loc main_arg21) := W5_args m ρ c main_arg21 (by decide)
  have eM : V5 m ρ c main_arg22 = m ((c : Thread nD τ).loc main_arg22) := W5_args m ρ c main_arg22 (by decide)
  exact (W6_arr m ρ c 5).trans (arr5_5 (V := V5 m ρ) (fun y => (congrFun eG y).trans (hG y)) (fun y => (congrFun eM y).trans (hM y)))
include hG hQ in
theorem end5_6 : W6 m ρ c (Proc.devRef .tc main_v5_2) = fun y => ev (G (y 0) (y 1)) (Q (y 0) (y 1)) := by
  have eG : V5 m ρ c main_arg21 = m ((c : Thread nD τ).loc main_arg21) := W5_args m ρ c main_arg21 (by decide)
  have eQ : V5 m ρ c main_arg23 = m ((c : Thread nD τ).loc main_arg23) := W5_args m ρ c main_arg23 (by decide)
  exact (W6_arr m ρ c 6).trans (arr5_6 (V := V5 m ρ) (fun y => (congrFun eG y).trans (hG y)) (fun y => (congrFun eQ y).trans (hQ y)))
end values5

end Cert.Adam

end
-- ==== Proof.AdamRef.lean ====
/- The optimiser's step as the reference writes it, and its agreement with the kernels. -/
module

public import proofs.«01_k».proof.Proof.Adam
public import proofs.«01_k».proof.Proof.Gen.Reference11Ideal.Read
public import proofs.«01_k».proof.Defs

@[expose] public section

set_option maxRecDepth 16384

noncomputable section

namespace Cert.Adam

open Idealize.ShloMosaic Idealize.ShloMosaic.TcCoe Idealize.SL.Sem Cert.Mlp Cert.Reference11Ideal Cert.Reference11Ideal.Read

theorem ref0_d (p g m v : (⟨S2048x2048, .f32⟩ : BufTy).Contents (Elt Ideal)) (i : S2048x2048.Idx) : val_main_v23 (F := Ideal) p g m v i = ed (p i) (g i) (m i) (v i) := by
  simp only [val_main_v0_apply, val_main_v1_apply, val_main_v2_apply, val_main_v3_apply, val_main_v4_apply, val_main_cst_apply, val_main_cst_0_apply, val_main_v5_apply, val_main_v6_apply, val_main_v7_apply, val_main_v8_apply, val_main_v9_apply, val_main_v10_apply, val_main_cst_1_apply, val_main_cst_2_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_cst_3_apply, val_main_cst_4_apply, val_main_cst_5_apply, val_main_cst_6_apply, val_main_cst_7_apply]
  rfl

theorem ref0_m (g m : (⟨S2048x2048, .f32⟩ : BufTy).Contents (Elt Ideal)) (i : S2048x2048.Idx) : val_main_v4 (F := Ideal) g m i = em (g i) (m i) := by
  simp only [val_main_v0_apply, val_main_v1_apply, val_main_v2_apply, val_main_v3_apply, val_main_v4_apply, val_main_cst_apply, val_main_cst_0_apply]
  rfl

theorem ref0_v (g v : (⟨S2048x2048, .f32⟩ : BufTy).Contents (Elt Ideal)) (i : S2048x2048.Idx) : val_main_v10 (F := Ideal) g v i = ev (g i) (v i) := by
  simp only [val_main_v5_apply, val_main_v6_apply, val_main_v7_apply, val_main_v8_apply, val_main_v9_apply, val_main_v10_apply, val_main_cst_1_apply, val_main_cst_2_apply]
  rfl

theorem ref1_d (p g m v : (⟨S2048x2048, .f32⟩ : BufTy).Contents (Elt Ideal)) (i : S2048x2048.Idx) : val_main_v47 (F := Ideal) p g m v i = ed (p i) (g i) (m i) (v i) := by
  simp only [val_main_v24_apply, val_main_v25_apply, val_main_v26_apply, val_main_v27_apply, val_main_v28_apply, val_main_cst_8_apply, val_main_cst_9_apply, val_main_v29_apply, val_main_v30_apply, val_main_v31_apply, val_main_v32_apply, val_main_v33_apply, val_main_v34_apply, val_main_cst_10_apply, val_main_cst_11_apply, val_main_v35_apply, val_main_v36_apply, val_main_v37_apply, val_main_v38_apply, val_main_v39_apply, val_main_v40_apply, val_main_v41_apply, val_main_v42_apply, val_main_v43_apply, val_main_v44_apply, val_main_v45_apply, val_main_v46_apply, val_main_v47_apply, val_main_cst_12_apply, val_main_cst_13_apply, val_main_cst_14_apply, val_main_cst_15_apply, val_main_cst_16_apply]
  rfl

theorem ref1_m (g m : (⟨S2048x2048, .f32⟩ : BufTy).Contents (Elt Ideal)) (i : S2048x2048.Idx) : val_main_v28 (F := Ideal) g m i = em (g i) (m i) := by
  simp only [val_main_v24_apply, val_main_v25_apply, val_main_v26_apply, val_main_v27_apply, val_main_v28_apply, val_main_cst_8_apply, val_main_cst_9_apply]
  rfl

theorem ref1_v (g v : (⟨S2048x2048, .f32⟩ : BufTy).Contents (Elt Ideal)) (i : S2048x2048.Idx) : val_main_v34 (F := Ideal) g v i = ev (g i) (v i) := by
  simp only [val_main_v29_apply, val_main_v30_apply, val_main_v31_apply, val_main_v32_apply, val_main_v33_apply, val_main_v34_apply, val_main_cst_10_apply, val_main_cst_11_apply]
  rfl

theorem ref2_d (p g m v : (⟨S512x2048, .f32⟩ : BufTy).Contents (Elt Ideal)) (i : S512x2048.Idx) : val_main_v71 (F := Ideal) p g m v i = ed (p i) (g i) (m i) (v i) := by
  simp only [val_main_v48_apply, val_main_v49_apply, val_main_v50_apply, val_main_v51_apply, val_main_v52_apply, val_main_cst_17_apply, val_main_cst_18_apply, val_main_v53_apply, val_main_v54_apply, val_main_v55_apply, val_main_v56_apply, val_main_v57_apply, val_main_v58_apply, val_main_cst_19_apply, val_main_cst_20_apply, val_main_v59_apply, val_main_v60_apply, val_main_v61_apply, val_main_v62_apply, val_main_v63_apply, val_main_v64_apply, val_main_v65_apply, val_main_v66_apply, val_main_v67_apply, val_main_v68_apply, val_main_v69_apply, val_main_v70_apply, val_main_v71_apply, val_main_cst_21_apply, val_main_cst_22_apply, val_main_cst_23_apply, val_main_cst_24_apply, val_main_cst_25_apply]
  rfl

theorem ref2_m (g m : (⟨S512x2048, .f32⟩ : BufTy).Contents (Elt Ideal)) (i : S512x2048.Idx) : val_main_v52 (F := Ideal) g m i = em (g i) (m i) := by
  simp only [val_main_v48_apply, val_main_v49_apply, val_main_v50_apply, val_main_v51_apply, val_main_v52_apply, val_main_cst_17_apply, val_main_cst_18_apply]
  rfl

theorem ref2_v (g v : (⟨S512x2048, .f32⟩ : BufTy).Contents (Elt Ideal)) (i : S512x2048.Idx) : val_main_v58 (F := Ideal) g v i = ev (g i) (v i) := by
  simp only [val_main_v53_apply, val_main_v54_apply, val_main_v55_apply, val_main_v56_apply, val_main_v57_apply, val_main_v58_apply, val_main_cst_19_apply, val_main_cst_20_apply]
  rfl

theorem ref3_d (p g m v : (⟨S512x512, .f32⟩ : BufTy).Contents (Elt Ideal)) (i : S512x512.Idx) : val_main_v95 (F := Ideal) p g m v i = ed (p i) (g i) (m i) (v i) := by
  simp only [val_main_v72_apply, val_main_v73_apply, val_main_v74_apply, val_main_v75_apply, val_main_v76_apply, val_main_cst_26_apply, val_main_cst_27_apply, val_main_v77_apply, val_main_v78_apply, val_main_v79_apply, val_main_v80_apply, val_main_v81_apply, val_main_v82_apply, val_main_cst_28_apply, val_main_cst_29_apply, val_main_v83_apply, val_main_v84_apply, val_main_v85_apply, val_main_v86_apply, val_main_v87_apply, val_main_v88_apply, val_main_v89_apply, val_main_v90_apply, val_main_v91_apply, val_main_v92_apply, val_main_v93_apply, val_main_v94_apply, val_main_v95_apply, val_main_cst_30_apply, val_main_cst_31_apply, val_main_cst_32_apply, val_main_cst_33_apply, val_main_cst_34_apply]
  rfl

theorem ref3_m (g m : (⟨S512x512, .f32⟩ : BufTy).Contents (Elt Ideal)) (i : S512x512.Idx) : val_main_v76 (F := Ideal) g m i = em (g i) (m i) := by
  simp only [val_main_v72_apply, val_main_v73_apply, val_main_v74_apply, val_main_v75_apply, val_main_v76_apply, val_main_cst_26_apply, val_main_cst_27_apply]
  rfl

theorem ref3_v (g v : (⟨S512x512, .f32⟩ : BufTy).Contents (Elt Ideal)) (i : S512x512.Idx) : val_main_v82 (F := Ideal) g v i = ev (g i) (v i) := by
  simp only [val_main_v77_apply, val_main_v78_apply, val_main_v79_apply, val_main_v80_apply, val_main_v81_apply, val_main_v82_apply, val_main_cst_28_apply, val_main_cst_29_apply]
  rfl

theorem ref4_d (p g m v : (⟨S912x2048, .f32⟩ : BufTy).Contents (Elt Ideal)) (i : S912x2048.Idx) : val_main_v119 (F := Ideal) p g m v i = ed (p i) (g i) (m i) (v i) := by
  simp only [val_main_v96_apply, val_main_v97_apply, val_main_v98_apply, val_main_v99_apply, val_main_v100_apply, val_main_cst_35_apply, val_main_cst_36_apply, val_main_v101_apply, val_main_v102_apply, val_main_v103_apply, val_main_v104_apply, val_main_v105_apply, val_main_v106_apply, val_main_cst_37_apply, val_main_cst_38_apply, val_main_v107_apply, val_main_v108_apply, val_main_v109_apply, val_main_v110_apply, val_main_v111_apply, val_main_v112_apply, val_main_v113_apply, val_main_v114_apply, val_main_v115_apply, val_main_v116_apply, val_main_v117_apply, val_main_v118_apply, val_main_v119_apply, val_main_cst_39_apply, val_main_cst_40_apply, val_main_cst_41_apply, val_main_cst_42_apply, val_main_cst_43_apply]
  rfl

theorem ref4_m (g m : (⟨S912x2048, .f32⟩ : BufTy).Contents (Elt Ideal)) (i : S912x2048.Idx) : val_main_v100 (F := Ideal) g m i = em (g i) (m i) := by
  simp only [val_main_v96_apply, val_main_v97_apply, val_main_v98_apply, val_main_v99_apply, val_main_v100_apply, val_main_cst_35_apply, val_main_cst_36_apply]
  rfl

theorem ref4_v (g v : (⟨S912x2048, .f32⟩ : BufTy).Contents (Elt Ideal)) (i : S912x2048.Idx) : val_main_v106 (F := Ideal) g v i = ev (g i) (v i) := by
  simp only [val_main_v101_apply, val_main_v102_apply, val_main_v103_apply, val_main_v104_apply, val_main_v105_apply, val_main_v106_apply, val_main_cst_37_apply, val_main_cst_38_apply]
  rfl

theorem ref5_d (p g m v : (⟨S1x23296, .f32⟩ : BufTy).Contents (Elt Ideal)) (i : S1x23296.Idx) : val_main_v143 (F := Ideal) p g m v i = ed (p i) (g i) (m i) (v i) := by
  simp only [val_main_v120_apply, val_main_v121_apply, val_main_v122_apply, val_main_v123_apply, val_main_v124_apply, val_main_cst_44_apply, val_main_cst_45_apply, val_main_v125_apply, val_main_v126_apply, val_main_v127_apply, val_main_v128_apply, val_main_v129_apply, val_main_v130_apply, val_main_cst_46_apply, val_main_cst_47_apply, val_main_v131_apply, val_main_v132_apply, val_main_v133_apply, val_main_v134_apply, val_main_v135_apply, val_main_v136_apply, val_main_v137_apply, val_main_v138_apply, val_main_v139_apply, val_main_v140_apply, val_main_v141_apply, val_main_v142_apply, val_main_v143_apply, val_main_cst_48_apply, val_main_cst_49_apply, val_main_cst_50_apply, val_main_cst_51_apply, val_main_cst_52_apply]
  rfl

theorem ref5_m (g m : (⟨S1x23296, .f32⟩ : BufTy).Contents (Elt Ideal)) (i : S1x23296.Idx) : val_main_v124 (F := Ideal) g m i = em (g i) (m i) := by
  simp only [val_main_v120_apply, val_main_v121_apply, val_main_v122_apply, val_main_v123_apply, val_main_v124_apply, val_main_cst_44_apply, val_main_cst_45_apply]
  rfl

theorem ref5_v (g v : (⟨S1x23296, .f32⟩ : BufTy).Contents (Elt Ideal)) (i : S1x23296.Idx) : val_main_v130 (F := Ideal) g v i = ev (g i) (v i) := by
  simp only [val_main_v125_apply, val_main_v126_apply, val_main_v127_apply, val_main_v128_apply, val_main_v129_apply, val_main_v130_apply, val_main_cst_46_apply, val_main_cst_47_apply]
  rfl

theorem algebraic : Cert.algebraic_Kernel11Ideal_Reference11Ideal (hKernel11Ideal := Cert.Kernel11Ideal.Gen.facts)
    (hReference11Ideal := Cert.Reference11Ideal.Gen.facts) := by
  intro m g m' g' _ hag
  refine ⟨fun c => Cert.Kernel11Ideal.Gen.W6 m g c (Proc.devRef .tc Cert.Kernel11Ideal.main_v0_0), fun c => Cert.Kernel11Ideal.Gen.W6 m g c (Proc.devRef .tc Cert.Kernel11Ideal.main_v0_1), fun c => Cert.Kernel11Ideal.Gen.W6 m g c (Proc.devRef .tc Cert.Kernel11Ideal.main_v0_2), fun c => Cert.Kernel11Ideal.Gen.W6 m g c (Proc.devRef .tc Cert.Kernel11Ideal.main_v0_3), fun c => Cert.Kernel11Ideal.Gen.W6 m g c (Proc.devRef .tc Cert.Kernel11Ideal.main_v1_0), fun c => Cert.Kernel11Ideal.Gen.W6 m g c (Proc.devRef .tc Cert.Kernel11Ideal.main_v1_1), fun c => Cert.Kernel11Ideal.Gen.W6 m g c (Proc.devRef .tc Cert.Kernel11Ideal.main_v1_2), fun c => Cert.Kernel11Ideal.Gen.W6 m g c (Proc.devRef .tc Cert.Kernel11Ideal.main_v1_3), fun c => Cert.Kernel11Ideal.Gen.W6 m g c (Proc.devRef .tc Cert.Kernel11Ideal.main_v2_0), fun c => Cert.Kernel11Ideal.Gen.W6 m g c (Proc.devRef .tc Cert.Kernel11Ideal.main_v2_1), fun c => Cert.Kernel11Ideal.Gen.W6 m g c (Proc.devRef .tc Cert.Kernel11Ideal.main_v2_2), fun c => Cert.Kernel11Ideal.Gen.W6 m g c (Proc.devRef .tc Cert.Kernel11Ideal.main_v2_3), fun c => Cert.Kernel11Ideal.Gen.W6 m g c (Proc.devRef .tc Cert.Kernel11Ideal.main_v3_0), fun c => Cert.Kernel11Ideal.Gen.W6 m g c (Proc.devRef .tc Cert.Kernel11Ideal.main_v3_1), fun c => Cert.Kernel11Ideal.Gen.W6 m g c (Proc.devRef .tc Cert.Kernel11Ideal.main_v3_2), fun c => Cert.Kernel11Ideal.Gen.W6 m g c (Proc.devRef .tc Cert.Kernel11Ideal.main_v3_3), fun c => Cert.Kernel11Ideal.Gen.W6 m g c (Proc.devRef .tc Cert.Kernel11Ideal.main_v4_0), fun c => Cert.Kernel11Ideal.Gen.W6 m g c (Proc.devRef .tc Cert.Kernel11Ideal.main_v4_1), fun c => Cert.Kernel11Ideal.Gen.W6 m g c (Proc.devRef .tc Cert.Kernel11Ideal.main_v4_2), fun c => Cert.Kernel11Ideal.Gen.W6 m g c (Proc.devRef .tc Cert.Kernel11Ideal.main_v4_3), fun c => Cert.Kernel11Ideal.Gen.W6 m g c (Proc.devRef .tc Cert.Kernel11Ideal.main_v5_0), fun c => Cert.Kernel11Ideal.Gen.W6 m g c (Proc.devRef .tc Cert.Kernel11Ideal.main_v5_1), fun c => Cert.Kernel11Ideal.Gen.W6 m g c (Proc.devRef .tc Cert.Kernel11Ideal.main_v5_2), ?_, ?_⟩
  · refine (θ_run _ _ _).mono (fun _ h c => ?_) (run_arrays m g)
    obtain ⟨⟨a0, a1, a2, a3, a4, a5, a6, a7, a8, a9, a10, a11, a12, a13, a14, a15, a16, a17, a18, a19, a20, a21, a22⟩, hr⟩ := h c
    exact ⟨a0, a1, a2, a3, a4, a5, a6, a7, a8, a9, a10, a11, a12, a13, a14, a15, a16, a17, a18, a19, a20, a21, a22, hr⟩
  · refine (θ_run _ _ _).mono (fun _ h c => ?_) (Cert.Reference11Ideal.Value.run (F := Ideal) m' g')
    obtain ⟨e0, e1, e2, e3, e4, e5, e6, e7, e8, e9, e10, e11, e12, e13, e14, e15, e16, e17, e18, e19, e20, e21, e22, ha⟩ := h c
    obtain ⟨m0, m1, m2, m3, m4, m5, m6, m7, m8, m9, m10, m11, m12, m13, m14, m15, m16, m17, m18, m19, m20, m21, m22, m23⟩ := hag c
    have h0 : ∀ y : S2048x2048.Idx, m ((c.tc : Thread _ _).loc Cert.Kernel11Ideal.main_arg0) y = at2 (m ((c.tc : Thread _ _).loc Cert.Kernel11Ideal.main_arg0)) (y 0) (y 1) := at2_of _
    have h1 : ∀ y : S2048x2048.Idx, m ((c.tc : Thread _ _).loc Cert.Kernel11Ideal.main_arg1) y = at2 (m ((c.tc : Thread _ _).loc Cert.Kernel11Ideal.main_arg1)) (y 0) (y 1) := at2_of _
    have h2 : ∀ y : S2048x2048.Idx, m ((c.tc : Thread _ _).loc Cert.Kernel11Ideal.main_arg2) y = at2 (m ((c.tc : Thread _ _).loc Cert.Kernel11Ideal.main_arg2)) (y 0) (y 1) := at2_of _
    have h3 : ∀ y : S2048x2048.Idx, m ((c.tc : Thread _ _).loc Cert.Kernel11Ideal.main_arg3) y = at2 (m ((c.tc : Thread _ _).loc Cert.Kernel11Ideal.main_arg3)) (y 0) (y 1) := at2_of _
    have h4 : ∀ y : S2048x2048.Idx, m ((c.tc : Thread _ _).loc Cert.Kernel11Ideal.main_arg4) y = at2 (m ((c.tc : Thread _ _).loc Cert.Kernel11Ideal.main_arg4)) (y 0) (y 1) := at2_of _
    have h5 : ∀ y : S2048x2048.Idx, m ((c.tc : Thread _ _).loc Cert.Kernel11Ideal.main_arg5) y = at2 (m ((c.tc : Thread _ _).loc Cert.Kernel11Ideal.main_arg5)) (y 0) (y 1) := at2_of _
    have h6 : ∀ y : S2048x2048.Idx, m ((c.tc : Thread _ _).loc Cert.Kernel11Ideal.main_arg6) y = at2 (m ((c.tc : Thread _ _).loc Cert.Kernel11Ideal.main_arg6)) (y 0) (y 1) := at2_of _
    have h7 : ∀ y : S2048x2048.Idx, m ((c.tc : Thread _ _).loc Cert.Kernel11Ideal.main_arg7) y = at2 (m ((c.tc : Thread _ _).loc Cert.Kernel11Ideal.main_arg7)) (y 0) (y 1) := at2_of _
    have h8 : ∀ y : S512x2048.Idx, m ((c.tc : Thread _ _).loc Cert.Kernel11Ideal.main_arg8) y = at2 (m ((c.tc : Thread _ _).loc Cert.Kernel11Ideal.main_arg8)) (y 0) (y 1) := at2_of _
    have h9 : ∀ y : S512x2048.Idx, m ((c.tc : Thread _ _).loc Cert.Kernel11Ideal.main_arg9) y = at2 (m ((c.tc : Thread _ _).loc Cert.Kernel11Ideal.main_arg9)) (y 0) (y 1) := at2_of _
    have h10 : ∀ y : S512x2048.Idx, m ((c.tc : Thread _ _).loc Cert.Kernel11Ideal.main_arg10) y = at2 (m ((c.tc : Thread _ _).loc Cert.Kernel11Ideal.main_arg10)) (y 0) (y 1) := at2_of _
    have h11 : ∀ y : S512x2048.Idx, m ((c.tc : Thread _ _).loc Cert.Kernel11Ideal.main_arg11) y = at2 (m ((c.tc : Thread _ _).loc Cert.Kernel11Ideal.main_arg11)) (y 0) (y 1) := at2_of _
    have h12 : ∀ y : S512x512.Idx, m ((c.tc : Thread _ _).loc Cert.Kernel11Ideal.main_arg12) y = at2 (m ((c.tc : Thread _ _).loc Cert.Kernel11Ideal.main_arg12)) (y 0) (y 1) := at2_of _
    have h13 : ∀ y : S512x512.Idx, m ((c.tc : Thread _ _).loc Cert.Kernel11Ideal.main_arg13) y = at2 (m ((c.tc : Thread _ _).loc Cert.Kernel11Ideal.main_arg13)) (y 0) (y 1) := at2_of _
    have h14 : ∀ y : S512x512.Idx, m ((c.tc : Thread _ _).loc Cert.Kernel11Ideal.main_arg14) y = at2 (m ((c.tc : Thread _ _).loc Cert.Kernel11Ideal.main_arg14)) (y 0) (y 1) := at2_of _
    have h15 : ∀ y : S512x512.Idx, m ((c.tc : Thread _ _).loc Cert.Kernel11Ideal.main_arg15) y = at2 (m ((c.tc : Thread _ _).loc Cert.Kernel11Ideal.main_arg15)) (y 0) (y 1) := at2_of _
    have h16 : ∀ y : S912x2048.Idx, m ((c.tc : Thread _ _).loc Cert.Kernel11Ideal.main_arg16) y = at2 (m ((c.tc : Thread _ _).loc Cert.Kernel11Ideal.main_arg16)) (y 0) (y 1) := at2_of _
    have h17 : ∀ y : S912x2048.Idx, m ((c.tc : Thread _ _).loc Cert.Kernel11Ideal.main_arg17) y = at2 (m ((c.tc : Thread _ _).loc Cert.Kernel11Ideal.main_arg17)) (y 0) (y 1) := at2_of _
    have h18 : ∀ y : S912x2048.Idx, m ((c.tc : Thread _ _).loc Cert.Kernel11Ideal.main_arg18) y = at2 (m ((c.tc : Thread _ _).loc Cert.Kernel11Ideal.main_arg18)) (y 0) (y 1) := at2_of _
    have h19 : ∀ y : S912x2048.Idx, m ((c.tc : Thread _ _).loc Cert.Kernel11Ideal.main_arg19) y = at2 (m ((c.tc : Thread _ _).loc Cert.Kernel11Ideal.main_arg19)) (y 0) (y 1) := at2_of _
    have h20 : ∀ y : S1x23296.Idx, m ((c.tc : Thread _ _).loc Cert.Kernel11Ideal.main_arg20) y = at2 (m ((c.tc : Thread _ _).loc Cert.Kernel11Ideal.main_arg20)) (y 0) (y 1) := at2_of _
    have h21 : ∀ y : S1x23296.Idx, m ((c.tc : Thread _ _).loc Cert.Kernel11Ideal.main_arg21) y = at2 (m ((c.tc : Thread _ _).loc Cert.Kernel11Ideal.main_arg21)) (y 0) (y 1) := at2_of _
    have h22 : ∀ y : S1x23296.Idx, m ((c.tc : Thread _ _).loc Cert.Kernel11Ideal.main_arg22) y = at2 (m ((c.tc : Thread _ _).loc Cert.Kernel11Ideal.main_arg22)) (y 0) (y 1) := at2_of _
    have h23 : ∀ y : S1x23296.Idx, m ((c.tc : Thread _ _).loc Cert.Kernel11Ideal.main_arg23) y = at2 (m ((c.tc : Thread _ _).loc Cert.Kernel11Ideal.main_arg23)) (y 0) (y 1) := at2_of _
    refine ⟨(e0.trans (val_main_v23_eq (StableHlo.launchContents m' c))).trans ?_,
      (e1.trans (val_main_v4_eq (StableHlo.launchContents m' c))).trans ?_,
      (e2.trans (val_main_v10_eq (StableHlo.launchContents m' c))).trans ?_,
      e3.trans ?_,
      (e4.trans (val_main_v47_eq (StableHlo.launchContents m' c))).trans ?_,
      (e5.trans (val_main_v28_eq (StableHlo.launchContents m' c))).trans ?_,
      (e6.trans (val_main_v34_eq (StableHlo.launchContents m' c))).trans ?_,
      e7.trans ?_,
      (e8.trans (val_main_v71_eq (StableHlo.launchContents m' c))).trans ?_,
      (e9.trans (val_main_v52_eq (StableHlo.launchContents m' c))).trans ?_,
      (e10.trans (val_main_v58_eq (StableHlo.launchContents m' c))).trans ?_,
      e11.trans ?_,
      (e12.trans (val_main_v95_eq (StableHlo.launchContents m' c))).trans ?_,
      (e13.trans (val_main_v76_eq (StableHlo.launchContents m' c))).trans ?_,
      (e14.trans (val_main_v82_eq (StableHlo.launchContents m' c))).trans ?_,
      e15.trans ?_,
      (e16.trans (val_main_v119_eq (StableHlo.launchContents m' c))).trans ?_,
      (e17.trans (val_main_v100_eq (StableHlo.launchContents m' c))).trans ?_,
      (e18.trans (val_main_v106_eq (StableHlo.launchContents m' c))).trans ?_,
      e19.trans ?_,
      (e20.trans (val_main_v143_eq (StableHlo.launchContents m' c))).trans ?_,
      (e21.trans (val_main_v124_eq (StableHlo.launchContents m' c))).trans ?_,
      (e22.trans (val_main_v130_eq (StableHlo.launchContents m' c))).trans ?_, ha⟩
    · exact Eq.trans (funext fun y => (ref0_d _ _ _ _ y).trans (congr (congr (congrArg₂ ed ((congrFun m0 y).trans (h0 y)) ((congrFun m1 y).trans (h1 y))) ((congrFun m2 y).trans (h2 y))) ((congrFun m3 y).trans (h3 y)))) (end0_4 m g c h0 h1 h2 h3).symm
    · exact Eq.trans (funext fun y => (ref0_m _ _ y).trans (congrArg₂ em ((congrFun m1 y).trans (h1 y)) ((congrFun m2 y).trans (h2 y)))) (end0_5 m g c h1 h2).symm
    · exact Eq.trans (funext fun y => (ref0_v _ _ y).trans (congrArg₂ ev ((congrFun m1 y).trans (h1 y)) ((congrFun m3 y).trans (h3 y)))) (end0_6 m g c h1 h3).symm
    · exact Eq.trans (funext fun y => (congrFun m1 y).trans (h1 y)) (end0_7 m g c h1).symm
    · exact Eq.trans (funext fun y => (ref1_d _ _ _ _ y).trans (congr (congr (congrArg₂ ed ((congrFun m4 y).trans (h4 y)) ((congrFun m5 y).trans (h5 y))) ((congrFun m6 y).trans (h6 y))) ((congrFun m7 y).trans (h7 y)))) (end1_4 m g c h4 h5 h6 h7).symm
    · exact Eq.trans (funext fun y => (ref1_m _ _ y).trans (congrArg₂ em ((congrFun m5 y).trans (h5 y)) ((congrFun m6 y).trans (h6 y)))) (end1_5 m g c h5 h6).symm
    · exact Eq.trans (funext fun y => (ref1_v _ _ y).trans (congrArg₂ ev ((congrFun m5 y).trans (h5 y)) ((congrFun m7 y).trans (h7 y)))) (end1_6 m g c h5 h7).symm
    · exact Eq.trans (funext fun y => (congrFun m5 y).trans (h5 y)) (end1_7 m g c h5).symm
    · exact Eq.trans (funext fun y => (ref2_d _ _ _ _ y).trans (congr (congr (congrArg₂ ed ((congrFun m8 y).trans (h8 y)) ((congrFun m9 y).trans (h9 y))) ((congrFun m10 y).trans (h10 y))) ((congrFun m11 y).trans (h11 y)))) (end2_4 m g c h8 h9 h10 h11).symm
    · exact Eq.trans (funext fun y => (ref2_m _ _ y).trans (congrArg₂ em ((congrFun m9 y).trans (h9 y)) ((congrFun m10 y).trans (h10 y)))) (end2_5 m g c h9 h10).symm
    · exact Eq.trans (funext fun y => (ref2_v _ _ y).trans (congrArg₂ ev ((congrFun m9 y).trans (h9 y)) ((congrFun m11 y).trans (h11 y)))) (end2_6 m g c h9 h11).symm
    · exact Eq.trans (funext fun y => (congrFun m9 y).trans (h9 y)) (end2_7 m g c h9).symm
    · exact Eq.trans (funext fun y => (ref3_d _ _ _ _ y).trans (congr (congr (congrArg₂ ed ((congrFun m12 y).trans (h12 y)) ((congrFun m13 y).trans (h13 y))) ((congrFun m14 y).trans (h14 y))) ((congrFun m15 y).trans (h15 y)))) (end3_4 m g c h12 h13 h14 h15).symm
    · exact Eq.trans (funext fun y => (ref3_m _ _ y).trans (congrArg₂ em ((congrFun m13 y).trans (h13 y)) ((congrFun m14 y).trans (h14 y)))) (end3_5 m g c h13 h14).symm
    · exact Eq.trans (funext fun y => (ref3_v _ _ y).trans (congrArg₂ ev ((congrFun m13 y).trans (h13 y)) ((congrFun m15 y).trans (h15 y)))) (end3_6 m g c h13 h15).symm
    · exact Eq.trans (funext fun y => (congrFun m13 y).trans (h13 y)) (end3_7 m g c h13).symm
    · exact Eq.trans (funext fun y => (ref4_d _ _ _ _ y).trans (congr (congr (congrArg₂ ed ((congrFun m16 y).trans (h16 y)) ((congrFun m17 y).trans (h17 y))) ((congrFun m18 y).trans (h18 y))) ((congrFun m19 y).trans (h19 y)))) (end4_4 m g c h16 h17 h18 h19).symm
    · exact Eq.trans (funext fun y => (ref4_m _ _ y).trans (congrArg₂ em ((congrFun m17 y).trans (h17 y)) ((congrFun m18 y).trans (h18 y)))) (end4_5 m g c h17 h18).symm
    · exact Eq.trans (funext fun y => (ref4_v _ _ y).trans (congrArg₂ ev ((congrFun m17 y).trans (h17 y)) ((congrFun m19 y).trans (h19 y)))) (end4_6 m g c h17 h19).symm
    · exact Eq.trans (funext fun y => (congrFun m17 y).trans (h17 y)) (end4_7 m g c h17).symm
    · exact Eq.trans (funext fun y => (ref5_d _ _ _ _ y).trans (congr (congr (congrArg₂ ed ((congrFun m20 y).trans (h20 y)) ((congrFun m21 y).trans (h21 y))) ((congrFun m22 y).trans (h22 y))) ((congrFun m23 y).trans (h23 y)))) (end5_4 m g c h20 h21 h22 h23).symm
    · exact Eq.trans (funext fun y => (ref5_m _ _ y).trans (congrArg₂ em ((congrFun m21 y).trans (h21 y)) ((congrFun m22 y).trans (h22 y)))) (end5_5 m g c h21 h22).symm
    · exact Eq.trans (funext fun y => (ref5_v _ _ y).trans (congrArg₂ ev ((congrFun m21 y).trans (h21 y)) ((congrFun m23 y).trans (h23 y)))) (end5_6 m g c h21 h23).symm

end Cert.Adam

end
-- ==== Proof.Ada.lean ====
/- The modulation's weight: its gradient from the rows' conditioning and the modulation's gradient, and the optimiser's step. -/
module

public import proofs.«01_k».proof.Proof.Adam
public import proofs.«01_k».proof.Proof.Gen.Kernel12Ideal.Frame
public import Idealize.ShloMosaic.Lib.Pipeline.ValueKit
public import Idealize.ShloMosaic.Lib.StableHlo.RunRead
public import Idealize.ShloMosaic.Lib.KernelVsHost

@[expose] public section

set_option maxRecDepth 16384

noncomputable section

namespace Cert.Ada

open Idealize.ShloMosaic Idealize.ShloMosaic.TcCoe Idealize.ShloMosaic.Tactic Cert.Mlp Cert.Kernel12Ideal Cert.Kernel12Ideal.Gen Cert.Kernel12Ideal.Facts
open Cert.Adam (em ev ed)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- The word of one. -/
abbrev unit : EReal := Ideal.ofBits .f32 0x3F800000#32
/-- The smooth rectifier of one element. -/
def silu (x : EReal) : EReal := x * Ideal.div unit (unit + Ideal.exp (-x))
/-- Eight rows with as many rows of zeros below. -/
def pad8 (C : ℕ → ℕ → EReal) (k r : ℕ) : EReal := if k < 8 then C k r else 0
/-- The weight's gradient over sixteen rows. -/
def grad16 (A B : ℕ → ℕ → EReal) (r x : ℕ) : EReal := ∑ k : Fin 16, A k r * B k x
/-- The same over the eight rows of the devices. -/
def grad8 (A B : ℕ → ℕ → EReal) (r x : ℕ) : EReal := ∑ k : Fin 8, A k r * B k x

theorem grad16_pad (A B : ℕ → ℕ → EReal) (r x : ℕ) : grad16 (pad8 A) (pad8 B) r x = grad8 A B r x := by
  unfold grad16 grad8
  rw [show (∑ k : Fin 16, pad8 A k r * pad8 B k x) = ∑ k : Fin (8 + 8), pad8 A k r * pad8 B k x from rfl, Fin.sum_univ_add]
  have low : ∀ k : Fin 8, pad8 A (Fin.castAdd 8 k : Fin (8 + 8)) r * pad8 B (Fin.castAdd 8 k : Fin (8 + 8)) x = A k r * B k x := fun k => by
    have h : (Fin.castAdd 8 k : Fin (8 + 8)).val < 8 := k.isLt
    rw [pad8, if_pos h, pad8, if_pos h]
    rfl
  have high : ∀ k : Fin 8, pad8 A (Fin.natAdd 8 k : Fin (8 + 8)) r * pad8 B (Fin.natAdd 8 k : Fin (8 + 8)) x = 0 := fun k => by
    have h : ¬ (Fin.natAdd 8 k : Fin (8 + 8)).val < 8 := by simp
    rw [pad8, if_neg h, zero_mul]
  rw [Finset.sum_congr rfl fun k _ => low k, Finset.sum_congr rfl fun k _ => high k, Finset.sum_const_zero, add_zero]

theorem pay_silu (v : Vec Ideal S8x2048 .f32) (y : S8x2048.Idx) : k0_pay1 v y = silu (v y) := by
  have e : k0_pay1 v y = v y * Ideal.div unit (unit + Ideal.exp (Ideal.ofBits .f32 0x00000000#32 - v y)) := rfl
  rw [e, Ideal.ofBits_zero_f32, sub_eq_add_neg, zero_add]
  rfl
theorem pay_grad (v0 : Vec Ideal S16x128 .bf16) (v2 : Vec Ideal S16x3072 .bf16) (r : Fin 128) (x : Fin 3072) :
    k1_pay1 v0 v2 (ix2 r x) = ∑ k : Fin 16, v0 (ix2 k r) * v2 (ix2 k x) := by
  unfold_payloads
  pointwise []
theorem pay_m (v0 : Vec Ideal S16x128 .bf16) (v2 : Vec Ideal S16x3072 .bf16) (m : Vec Ideal S128x3072 .f32) (y : S128x3072.Idx) :
    k1_pay2 v0 v2 m y = em (k1_pay1 v0 v2 y) (m y) := rfl
theorem pay_v (v0 : Vec Ideal S16x128 .bf16) (v2 : Vec Ideal S16x3072 .bf16) (v : Vec Ideal S128x3072 .f32) (y : S128x3072.Idx) :
    k1_pay3 v0 v2 v y = ev (k1_pay1 v0 v2 y) (v y) := rfl
theorem pay_d (v0 : Vec Ideal S16x128 .bf16) (v2 : Vec Ideal S16x3072 .bf16) (w m v : Vec Ideal S128x3072 .f32) (y : S128x3072.Idx) :
    k1_pay4 v0 v2 w m v y = ed (w y) (k1_pay1 v0 v2 y) (m y) (v y) := rfl

theorem idx0 : ∀ t : Fin grid0.N, win0_0.index t = ![t.val, 0] ∧ win0_1.index t = ![t.val, 0] := by decide +kernel
theorem idx1 : ∀ t : Fin grid1.N, win1_0.index t = ![t.val, 0] ∧ win1_1.index t = ![0, t.val] ∧ win1_2.index t = ![0, 0] ∧ win1_3.index t = ![t.val, 0] ∧ win1_4.index t = ![t.val, 0] ∧ win1_5.index t = ![t.val, 0] ∧ win1_6.index t = ![t.val, 0] ∧ win1_7.index t = ![t.val, 0] ∧ win1_8.index t = ![t.val, 0] := by
  decide +kernel

variable {V : (c : Dev nD) → (b : Ref sig .tc) → Buf (Elt Ideal) ((c.tc : Thread nD τ).loc b)} {c : Dev nD}
variable {P A B C D M Q : ℕ → ℕ → EReal}

section rectified
variable (hC : ∀ y : S8x2048.Idx, V c main_arg1 y = C (y 0) (y 1))
include hC
theorem ld0_0 (t : Fin cfg0.N) (r : Fin 8) (x : Fin 2048) : View.ld (iblk0 V c 0 t) r0_0 (ix2 r x) = C r x := by
  rw [View.ld_apply]
  refine (hC _).trans ?_
  blk_simp [(idx0 t).1]
  simp
theorem arr_silu : (dat0 V c).arrAt 1 cfg0.N = fun y => silu (C (y 0) (y 1)) := by
  refine (dat0 V c).arrAt_eq_of_covers 1 _ (by decide +kernel) fun t hf y => ?_
  blk_simp [(idx0 t).2]
  rw [after0_1]
  unfold out0_1
  canon_tiles x h
  rw [h0, h1]
  exact (congrArg (k0_pay1 _) (eq_ix2 x)).trans ((pay_silu _ _).trans (congrArg silu (ld0_0 hC t (x 0) (x 1))))
end rectified

section step
variable (hP : ∀ y : S2048x3072.Idx, V c main_arg0 y = P (y 0) (y 1)) (hA : ∀ y : S16x2048.Idx, V c main_v2 y = A (y 0) (y 1))
variable (hB : ∀ y : S16x3072.Idx, V c main_v5 y = B (y 0) (y 1))
variable (hM : ∀ y : S2048x3072.Idx, V c main_arg3 y = M (y 0) (y 1)) (hQ : ∀ y : S2048x3072.Idx, V c main_arg4 y = Q (y 0) (y 1))
include hP in
theorem ld1_0 (t : Fin cfg1.N) (r : Fin 128) (x : Fin 3072) : View.ld (iblk1 V c 0 t) r1_2 (ix2 r x) = P (t.val * 128 + r) x := by
  rw [View.ld_apply]
  refine (hP _).trans ?_
  blk_simp [(idx1 t).1]
  simp
include hA in
theorem ld1_1 (t : Fin cfg1.N) (r : Fin 16) (x : Fin 128) : View.ld (iblk1 V c 1 t) r1_0 (ix2 r x) = A r (t.val * 128 + x) := by
  rw [View.ld_apply]
  refine (hA _).trans ?_
  blk_simp [(idx1 t).2.1]
  simp
include hB in
theorem ld1_2 (t : Fin cfg1.N) (r : Fin 16) (x : Fin 3072) : View.ld (iblk1 V c 2 t) r1_1 (ix2 r x) = B r x := by
  rw [View.ld_apply]
  refine (hB _).trans ?_
  blk_simp [(idx1 t).2.2.1]
  simp
include hM in
theorem ld1_3 (t : Fin cfg1.N) (r : Fin 128) (x : Fin 3072) : View.ld (iblk1 V c 3 t) r1_2 (ix2 r x) = M (t.val * 128 + r) x := by
  rw [View.ld_apply]
  refine (hM _).trans ?_
  blk_simp [(idx1 t).2.2.2.1]
  simp
include hQ in
theorem ld1_4 (t : Fin cfg1.N) (r : Fin 128) (x : Fin 3072) : View.ld (iblk1 V c 4 t) r1_2 (ix2 r x) = Q (t.val * 128 + r) x := by
  rw [View.ld_apply]
  refine (hQ _).trans ?_
  blk_simp [(idx1 t).2.2.2.2.1]
  simp
include hA hB in
theorem grad_ld (t : Fin cfg1.N) (r : Fin 128) (x : Fin 3072) :
    k1_pay1 (View.ld (iblk1 V c 1 t) r1_0) (View.ld (iblk1 V c 2 t) r1_1) (ix2 r x) = grad16 A B (t.val * 128 + r) x :=
  (pay_grad _ _ r x).trans (Finset.sum_congr rfl fun k _ => congrArg₂ (· * ·) (ld1_1 hA t k r) (ld1_2 hB t k x))
include hP hA hB hM hQ in
theorem arr1_5 : (dat1 V c).arrAt 5 cfg1.N = fun y => ed (P (y 0) (y 1)) (grad16 A B (y 0) (y 1)) (M (y 0) (y 1)) (Q (y 0) (y 1)) := by
  refine (dat1 V c).arrAt_eq_of_covers 5 _ (by decide +kernel) fun t hf y => ?_
  blk_simp [(idx1 t).2.2.2.2.2.1]
  rw [after1_5]
  unfold out1_5
  canon_tiles x h
  rw [h0, h1]
  exact (congrArg (k1_pay4 _ _ _ _ _) (eq_ix2 x)).trans ((pay_d _ _ _ _ _ _).trans (congr (congr (congrArg₂ ed (ld1_0 hP t (x 0) (x 1)) (grad_ld hA hB t (x 0) (x 1))) (ld1_3 hM t (x 0) (x 1))) (ld1_4 hQ t (x 0) (x 1))))
include hA hB hM in
theorem arr1_6 : (dat1 V c).arrAt 6 cfg1.N = fun y => em (grad16 A B (y 0) (y 1)) (M (y 0) (y 1)) := by
  refine (dat1 V c).arrAt_eq_of_covers 6 _ (by decide +kernel) fun t hf y => ?_
  blk_simp [(idx1 t).2.2.2.2.2.2.1]
  rw [after1_6]
  unfold out1_6
  canon_tiles x h
  rw [h0, h1]
  exact (congrArg (k1_pay2 _ _ _) (eq_ix2 x)).trans ((pay_m _ _ _ _).trans (congrArg₂ em (grad_ld hA hB t (x 0) (x 1)) (ld1_3 hM t (x 0) (x 1))))
include hA hB hQ in
theorem arr1_7 : (dat1 V c).arrAt 7 cfg1.N = fun y => ev (grad16 A B (y 0) (y 1)) (Q (y 0) (y 1)) := by
  refine (dat1 V c).arrAt_eq_of_covers 7 _ (by decide +kernel) fun t hf y => ?_
  blk_simp [(idx1 t).2.2.2.2.2.2.2.1]
  rw [after1_7]
  unfold out1_7
  canon_tiles x h
  rw [h0, h1]
  exact (congrArg (k1_pay3 _ _ _) (eq_ix2 x)).trans ((pay_v _ _ _ _).trans (congrArg₂ ev (grad_ld hA hB t (x 0) (x 1)) (ld1_4 hQ t (x 0) (x 1))))
include hA hB in
theorem arr1_8 : (dat1 V c).arrAt 8 cfg1.N = fun y => grad16 A B (y 0) (y 1) := by
  refine (dat1 V c).arrAt_eq_of_covers 8 _ (by decide +kernel) fun t hf y => ?_
  blk_simp [(idx1 t).2.2.2.2.2.2.2.2]
  rw [after1_8]
  unfold out1_8
  canon_tiles x h
  rw [h0, h1]
  exact (congrArg (k1_pay1 _ _) (eq_ix2 x)).trans (grad_ld hA hB t (x 0) (x 1))
end step

set_option backward.isDefEq.respectTransparency.types false in
/-- Every run ends with each result array as the last product leaves it, and the arguments unchanged. -/
theorem run_arrays (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      (r.2.mem ((c.tc : Thread nD τ).loc main_v6_0) = W3 m ρ c (Proc.devRef .tc main_v6_0)
      ∧ r.2.mem ((c.tc : Thread nD τ).loc main_v6_1) = W3 m ρ c (Proc.devRef .tc main_v6_1)
      ∧ r.2.mem ((c.tc : Thread nD τ).loc main_v6_2) = W3 m ρ c (Proc.devRef .tc main_v6_2)
      ∧ r.2.mem ((c.tc : Thread nD τ).loc main_v6_3) = W3 m ρ c (Proc.devRef .tc main_v6_3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨⟨h c _ (mem_uc main_v6_0 (by decide)), h c _ (mem_uc main_v6_1 (by decide)), h c _ (mem_uc main_v6_2 (by decide)), h c _ (mem_uc main_v6_3 (by decide))⟩,
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c)⟩)

variable (m : (ℓ : Loc nD τ sig) → Buf (Elt Ideal) ℓ) (ρ : Dev nD → PrngReg) (c : Dev nD)
variable {P C D M Q : ℕ → ℕ → EReal}

section values
variable (hP : ∀ y : S2048x3072.Idx, m ((c.tc : Thread nD τ).loc main_arg0) y = P (y 0) (y 1))
variable (hC : ∀ y : S8x2048.Idx, m ((c.tc : Thread nD τ).loc main_arg1) y = C (y 0) (y 1))
variable (hD : ∀ y : S8x3072.Idx, m ((c.tc : Thread nD τ).loc main_arg2) y = D (y 0) (y 1))
variable (hM : ∀ y : S2048x3072.Idx, m ((c.tc : Thread nD τ).loc main_arg3) y = M (y 0) (y 1))
variable (hQ : ∀ y : S2048x3072.Idx, m ((c.tc : Thread nD τ).loc main_arg4) y = Q (y 0) (y 1))

theorem zero_half : Ideal.ofBits .bf16 0x0000#16 = (0 : EReal) := by
  delta Ideal.ofBits Ideal.ieee
  simp

include hC in
theorem rows_run : ∀ y : S16x2048.Idx, V2 m ρ c main_v2 y = pad8 (fun k r => silu (C k r)) (y 0) (y 1) := by
  intro y
  have e : V2 m ρ c main_v2 = concatenate (α := EReal) S16x2048 0 [⟨S8x2048, V1 m ρ c main_v0⟩,
      ⟨S8x2048, broadcastInDim S8x2048 ![] bcast_S_S8x2048 (constant (F := Ideal) S_ .bf16 0x0000#16)⟩] concatenates_S8x2048_S8x2048_S16x2048_d0 := by
    unfold V2 W2
    after_reads_simp
    rfl
  have s : V1 m ρ c main_v0 = fun y => silu (C (y 0) (y 1)) := (W1_arr m ρ c 1).trans (arr_silu (V := V0 m ρ) hC)
  rw [e]
  by_cases h : (y 0).val < 8
  · refine Eq.trans (concatenate_apply_piece 0 _ _ y 0 (by simp) S8x2048 _ rfl rfl 0 rfl (ix2 (n0 := 8) (n1 := 2048) ⟨(y 0).val, h⟩ (y 1))
      (fun b hb => ?_) (Nat.zero_add _)) ?_
    · fin_cases b
      · exact absurd rfl hb
      · rfl
    · rw [pad8, if_pos h]
      exact congrFun s _
  · have hy : (y 0).val < 16 := (y 0).isLt
    refine Eq.trans (concatenate_apply_piece 0 _ _ y 1 (by simp) S8x2048 _ rfl rfl 8 rfl (ix2 (n0 := 8) (n1 := 2048) ⟨(y 0).val - 8, by omega⟩ (y 1))
      (fun b hb => ?_) (show 8 + ((y 0).val - 8) = (y 0).val by omega)) ?_
    · fin_cases b
      · exact absurd rfl hb
      · rfl
    · rw [pad8, if_neg h]
      exact zero_half

include hD in
theorem mods_run : ∀ y : S16x3072.Idx, V2 m ρ c main_v5 y = pad8 D (y 0) (y 1) := by
  intro y
  have e : V2 m ρ c main_v5 = concatenate (α := EReal) S16x3072 0 [⟨S8x3072, V1 m ρ c main_arg2⟩,
      ⟨S8x3072, broadcastInDim S8x3072 ![] bcast_S_S8x3072 (constant (F := Ideal) S_ .f32 0x00000000#32)⟩] concatenates_S8x3072_S8x3072_S16x3072_d0 := by
    unfold V2 W2
    after_reads_simp
    rfl
  have s : V1 m ρ c main_arg2 = m ((c : Thread nD τ).loc main_arg2) := W1_args m ρ c main_arg2 (by decide)
  rw [e]
  by_cases h : (y 0).val < 8
  · refine Eq.trans (concatenate_apply_piece 0 _ _ y 0 (by simp) S8x3072 _ rfl rfl 0 rfl (ix2 (n0 := 8) (n1 := 3072) ⟨(y 0).val, h⟩ (y 1))
      (fun b hb => ?_) (Nat.zero_add _)) ?_
    · fin_cases b
      · exact absurd rfl hb
      · rfl
    · rw [pad8, if_pos h]
      exact (congrFun s _).trans (hD _)
  · have hy : (y 0).val < 16 := (y 0).isLt
    refine Eq.trans (concatenate_apply_piece 0 _ _ y 1 (by simp) S8x3072 _ rfl rfl 8 rfl (ix2 (n0 := 8) (n1 := 3072) ⟨(y 0).val - 8, by omega⟩ (y 1))
      (fun b hb => ?_) (show 8 + ((y 0).val - 8) = (y 0).val by omega)) ?_
    · fin_cases b
      · exact absurd rfl hb
      · rfl
    · rw [pad8, if_neg h]
      exact Ideal.ofBits_zero_f32
include hP hC hD hM hQ in
theorem end_5 : W3 m ρ c (Proc.devRef .tc main_v6_0) = fun y => ed (P (y 0) (y 1)) (grad8 (fun k r => silu (C k r)) D (y 0) (y 1)) (M (y 0) (y 1)) (Q (y 0) (y 1)) := by
  have eP : V2 m ρ c main_arg0 = m ((c : Thread nD τ).loc main_arg0) := W2_args m ρ c main_arg0 (by decide)
  have eM : V2 m ρ c main_arg3 = m ((c : Thread nD τ).loc main_arg3) := W2_args m ρ c main_arg3 (by decide)
  have eQ : V2 m ρ c main_arg4 = m ((c : Thread nD τ).loc main_arg4) := W2_args m ρ c main_arg4 (by decide)
  refine ((W3_arr m ρ c 5).trans (arr1_5 (V := V2 m ρ) (fun y => (congrFun eP y).trans (hP y)) (rows_run m ρ c hC) (mods_run m ρ c hD) (fun y => (congrFun eM y).trans (hM y)) (fun y => (congrFun eQ y).trans (hQ y)))).trans (funext fun y => ?_)
  simp only [grad16_pad]
include hC hD hM in
theorem end_6 : W3 m ρ c (Proc.devRef .tc main_v6_1) = fun y => em (grad8 (fun k r => silu (C k r)) D (y 0) (y 1)) (M (y 0) (y 1)) := by
  have eM : V2 m ρ c main_arg3 = m ((c : Thread nD τ).loc main_arg3) := W2_args m ρ c main_arg3 (by decide)
  refine ((W3_arr m ρ c 6).trans (arr1_6 (V := V2 m ρ) (rows_run m ρ c hC) (mods_run m ρ c hD) (fun y => (congrFun eM y).trans (hM y)))).trans (funext fun y => ?_)
  simp only [grad16_pad]
include hC hD hQ in
theorem end_7 : W3 m ρ c (Proc.devRef .tc main_v6_2) = fun y => ev (grad8 (fun k r => silu (C k r)) D (y 0) (y 1)) (Q (y 0) (y 1)) := by
  have eQ : V2 m ρ c main_arg4 = m ((c : Thread nD τ).loc main_arg4) := W2_args m ρ c main_arg4 (by decide)
  refine ((W3_arr m ρ c 7).trans (arr1_7 (V := V2 m ρ) (rows_run m ρ c hC) (mods_run m ρ c hD) (fun y => (congrFun eQ y).trans (hQ y)))).trans (funext fun y => ?_)
  simp only [grad16_pad]
include hC hD in
theorem end_8 : W3 m ρ c (Proc.devRef .tc main_v6_3) = fun y => grad8 (fun k r => silu (C k r)) D (y 0) (y 1) := by
  refine ((W3_arr m ρ c 8).trans (arr1_8 (V := V2 m ρ) (rows_run m ρ c hC) (mods_run m ρ c hD))).trans (funext fun y => ?_)
  simp only [grad16_pad]
end values

end Cert.Ada

end
-- ==== Proof.AdaRef.lean ====
/- The reference of the modulation's weight, and its agreement with the kernels. -/
module

public import proofs.«01_k».proof.Proof.Ada
public import proofs.«01_k».proof.Proof.Gen.Reference12Ideal.Read
public import proofs.«01_k».proof.Defs

@[expose] public section

set_option maxRecDepth 16384

noncomputable section

namespace Cert.Ada

open Idealize.ShloMosaic Idealize.ShloMosaic.TcCoe Idealize.SL.Sem Cert.Mlp Cert.Reference12Ideal Cert.Reference12Ideal.Read
open Cert.Adam (em ev ed)

theorem ref_silu (x : (⟨S8x2048, .f32⟩ : BufTy).Contents (Elt Ideal)) (i : S8x2048.Idx) : val_main_v0 (F := Ideal) x i = silu (x i) := by
  simp only [val_main_v0_apply, val_main_call0_v0_apply, val_main_call0_v1_apply, val_main_call0_v2_apply, val_main_call0_v3_apply, val_main_call0_v4_apply, val_main_call0_v5_apply, val_main_call0_cst_apply, val_main_call0_cst_0_apply]
  rfl

variable {x0 x3 x4 : (⟨S2048x3072, .f32⟩ : BufTy).Contents (Elt Ideal)} {x1 : (⟨S8x2048, .f32⟩ : BufTy).Contents (Elt Ideal)} {x2 : (⟨S8x3072, .f32⟩ : BufTy).Contents (Elt Ideal)}
variable {P C D M Q : ℕ → ℕ → EReal}
variable (hP : ∀ y : S2048x3072.Idx, x0 y = P (y 0) (y 1)) (hC : ∀ y : S8x2048.Idx, x1 y = C (y 0) (y 1)) (hD : ∀ y : S8x3072.Idx, x2 y = D (y 0) (y 1))
variable (hM : ∀ y : S2048x3072.Idx, x3 y = M (y 0) (y 1)) (hQ : ∀ y : S2048x3072.Idx, x4 y = Q (y 0) (y 1))

include hC hD in
theorem ref_grad (i : S2048x3072.Idx) : val_main_v2 (F := Ideal) x1 x2 i = grad8 (fun k r => silu (C k r)) D (i 0) (i 1) := by
  rw [val_main_v2_apply, val_main_v1_apply]
  refine Finset.sum_congr rfl fun k _ => ?_
  rw [mul_comm]
  exact congrArg₂ (· * ·) ((ref_silu _ _).trans (congrArg silu (hC _))) (hD _)
include hP hC hD hM hQ in
theorem ref_d (i : S2048x3072.Idx) : val_main_v26 (F := Ideal) x0 x1 x2 x3 x4 i = ed (P (i 0) (i 1)) (grad8 (fun k r => silu (C k r)) D (i 0) (i 1)) (M (i 0) (i 1)) (Q (i 0) (i 1)) := by
  have e : val_main_v26 (F := Ideal) x0 x1 x2 x3 x4 i = ed (x0 i) (val_main_v2 (F := Ideal) x1 x2 i) (x3 i) (x4 i) := by
    simp only [val_main_v3_apply, val_main_v4_apply, val_main_v5_apply, val_main_v6_apply, val_main_v7_apply, val_main_cst_apply, val_main_cst_0_apply, val_main_v8_apply, val_main_v9_apply, val_main_v10_apply, val_main_v11_apply, val_main_v12_apply, val_main_v13_apply, val_main_cst_1_apply, val_main_cst_2_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_cst_3_apply, val_main_cst_4_apply, val_main_cst_5_apply, val_main_cst_6_apply, val_main_cst_7_apply]
    rfl
  exact e.trans (congr (congr (congrArg₂ ed (hP i) (ref_grad hC hD i)) (hM i)) (hQ i))
include hC hD hM in
theorem ref_m (i : S2048x3072.Idx) : val_main_v7 (F := Ideal) x1 x2 x3 i = em (grad8 (fun k r => silu (C k r)) D (i 0) (i 1)) (M (i 0) (i 1)) := by
  have e : val_main_v7 (F := Ideal) x1 x2 x3 i = em (val_main_v2 (F := Ideal) x1 x2 i) (x3 i) := by
    simp only [val_main_v3_apply, val_main_v4_apply, val_main_v5_apply, val_main_v6_apply, val_main_v7_apply, val_main_cst_apply, val_main_cst_0_apply]
    rfl
  exact e.trans (congrArg₂ em (ref_grad hC hD i) (hM i))
include hC hD hQ in
theorem ref_v (i : S2048x3072.Idx) : val_main_v13 (F := Ideal) x1 x2 x4 i = ev (grad8 (fun k r => silu (C k r)) D (i 0) (i 1)) (Q (i 0) (i 1)) := by
  have e : val_main_v13 (F := Ideal) x1 x2 x4 i = ev (val_main_v2 (F := Ideal) x1 x2 i) (x4 i) := by
    simp only [val_main_v8_apply, val_main_v9_apply, val_main_v10_apply, val_main_v11_apply, val_main_v12_apply, val_main_v13_apply, val_main_cst_1_apply, val_main_cst_2_apply]
    rfl
  exact e.trans (congrArg₂ ev (ref_grad hC hD i) (hQ i))

theorem algebraic : Cert.algebraic_Kernel12Ideal_Reference12Ideal (hKernel12Ideal := Cert.Kernel12Ideal.Gen.facts)
    (hReference12Ideal := Cert.Reference12Ideal.Gen.facts) := by
  intro m g m' g' _ hag
  refine ⟨fun c => Cert.Kernel12Ideal.Gen.W3 m g c (Proc.devRef .tc Cert.Kernel12Ideal.main_v6_0), fun c => Cert.Kernel12Ideal.Gen.W3 m g c (Proc.devRef .tc Cert.Kernel12Ideal.main_v6_1), fun c => Cert.Kernel12Ideal.Gen.W3 m g c (Proc.devRef .tc Cert.Kernel12Ideal.main_v6_2), fun c => Cert.Kernel12Ideal.Gen.W3 m g c (Proc.devRef .tc Cert.Kernel12Ideal.main_v6_3), ?_, ?_⟩
  · exact (θ_run _ _ _).mono (fun _ h c => ⟨(h c).1.1, (h c).1.2.1, (h c).1.2.2.1, (h c).1.2.2.2, (h c).2⟩) (run_arrays m g)
  · refine (θ_run _ _ _).mono (fun _ h c => ?_) (Cert.Reference12Ideal.Value.run (F := Ideal) m' g')
    obtain ⟨e0, e1, e2, e3, ha⟩ := h c
    obtain ⟨m0, m1, m2, m3, m4⟩ := hag c
    have hP : ∀ y : S2048x3072.Idx, m ((c.tc : Thread _ _).loc Cert.Kernel12Ideal.main_arg0) y = at2 (m ((c.tc : Thread _ _).loc Cert.Kernel12Ideal.main_arg0)) (y 0) (y 1) := at2_of _
    have rP := fun y => (congrFun m0 y).trans (hP y)
    have hC : ∀ y : S8x2048.Idx, m ((c.tc : Thread _ _).loc Cert.Kernel12Ideal.main_arg1) y = at2 (m ((c.tc : Thread _ _).loc Cert.Kernel12Ideal.main_arg1)) (y 0) (y 1) := at2_of _
    have rC := fun y => (congrFun m1 y).trans (hC y)
    have hD : ∀ y : S8x3072.Idx, m ((c.tc : Thread _ _).loc Cert.Kernel12Ideal.main_arg2) y = at2 (m ((c.tc : Thread _ _).loc Cert.Kernel12Ideal.main_arg2)) (y 0) (y 1) := at2_of _
    have rD := fun y => (congrFun m2 y).trans (hD y)
    have hM : ∀ y : S2048x3072.Idx, m ((c.tc : Thread _ _).loc Cert.Kernel12Ideal.main_arg3) y = at2 (m ((c.tc : Thread _ _).loc Cert.Kernel12Ideal.main_arg3)) (y 0) (y 1) := at2_of _
    have rM := fun y => (congrFun m3 y).trans (hM y)
    have hQ : ∀ y : S2048x3072.Idx, m ((c.tc : Thread _ _).loc Cert.Kernel12Ideal.main_arg4) y = at2 (m ((c.tc : Thread _ _).loc Cert.Kernel12Ideal.main_arg4)) (y 0) (y 1) := at2_of _
    have rQ := fun y => (congrFun m4 y).trans (hQ y)
    refine ⟨(e0.trans (val_main_v26_eq _ _ _ _ _)).trans ?_, (e1.trans (val_main_v7_eq _ _ _)).trans ?_,
      (e2.trans (val_main_v13_eq _ _ _)).trans ?_, (e3.trans (val_main_v2_eq _ _)).trans ?_, ha⟩
    · exact (funext fun y => ref_d rP rC rD rM rQ y).trans (end_5 m g c hP hC hD hM hQ).symm
    · exact (funext fun y => ref_m rC rD rM y).trans (end_6 m g c hC hD hM).symm
    · exact (funext fun y => ref_v rC rD rQ y).trans (end_7 m g c hC hD hQ).symm
    · exact (funext fun y => ref_grad rC rD y).trans (end_8 m g c hC hD).symm

end Cert.Ada

end
-- ==== Proof.Norm.lean ====
/- The gradients behind the norm in front of the attentions: of its rows, its gain and its modulation. -/
module

public import proofs.«01_k».proof.Proof.Mlp
public import proofs.«01_k».proof.Proof.Gen.Kernel13Ideal.Value
public import Idealize.ShloMosaic.Lib.Pipeline.ValueKit
public import Idealize.ShloMosaic.Lib.Pipeline.ReadBack
public import Idealize.ShloMosaic.Lib.StableHlo.RunRead

@[expose] public section

set_option maxRecDepth 16384

noncomputable section

namespace Cert.Norm

open Idealize.ShloMosaic Idealize.ShloMosaic.TcCoe Cert.Mlp Cert.Kernel13Ideal Cert.Kernel13Ideal.Gen Cert.Kernel13Ideal.Facts

/-- The word of 2048, a row's length. -/
abbrev width : EReal := Ideal.ofBits .f32 0x45000000#32
/-- The one of the modulation. -/
abbrev one : EReal := 1
/-- A row's mean square, with the word added. -/
def ms (x : ℕ → EReal) : EReal := Ideal.div (∑ k : Fin 2048, x k * x k) width + Ideal.ofBits .f32 0x358637BD#32
/-- One over its root. -/
def rr (x : ℕ → EReal) : EReal := Ideal.rsqrt (ms x)
/-- The normed row. -/
def nrm (x : ℕ → EReal) (k : ℕ) : EReal := x k * rr x
/-- The gradient of a row from the gradient `d` of its norm scaled by `g`. -/
def dn (x g d : ℕ → EReal) (k : ℕ) : EReal := rr x * (d k * g k - nrm x k * Ideal.div (∑ j : Fin 2048, d j * g j * nrm x j) width)
/-- The scale of a normed row: the gain times one more than the modulation. -/
def gain (G S : ℕ → EReal) (k : ℕ) : EReal := G k * (one + S k)

theorem idx0 : ∀ t : Fin grid0.N, win0_0.index t = ![t.val, 0] ∧ win0_1.index t = ![t.val, 0] ∧ win0_2.index t = ![t.val, 0]
    ∧ win0_3.index t = ![0, 0] ∧ win0_4.index t = ![0, 0] ∧ win0_6.index t = ![t.val, 0]
    ∧ win0_7.index t = ![0, 0] ∧ win0_8.index t = ![0, 0] ∧ win0_9.index t = ![0, 0] := by
  decide +kernel

section payloads

variable {v0 v1 v2 : Vec Ideal S256x2048 .f32} {v3 v4 : Vec Ideal S1x2048 .f32}
variable {X D Y : ℕ → ℕ → EReal} {G S : ℕ → EReal}
variable (hx : ∀ (r : Fin 256) (k : Fin 2048), v0 (ix2 r k) = (X r k)) (hd : ∀ (r : Fin 256) (k : Fin 2048), v1 (ix2 r k) = (D r k))
variable (hy : ∀ (r : Fin 256) (k : Fin 2048), v2 (ix2 r k) = (Y r k))
variable (hg : ∀ k : Fin 2048, v3 (ix2 0 k) = (G k)) (hs : ∀ k : Fin 2048, v4 (ix2 0 k) = (S k))

include hx in
theorem pay7_at (r : Fin 256) : k0_pay7 v0 (ix2 r 0) = (rr (X r)) := by
  unfold k0_pay7
  pointwise []
  simp only [hx]
  rfl
include hx in
theorem pay8_at (r : Fin 256) (k : Fin 2048) : k0_pay8 v0 (ix2 r k) = (nrm (X r) k) := by
  unfold k0_pay8
  pointwise []
  rw [hx, pay7_at hx]
  rfl
include hx hd in
theorem pay9_at (k : Fin 2048) : k0_pay9 v0 v1 (ix2 0 k) = ∑ r : Fin 256, D r k * nrm (X r) k := by
  unfold k0_pay9
  pointwise []
  simp only [hd, pay8_at hx]
include hx hd hy hg hs in
theorem pay10_at (r : Fin 256) (k : Fin 2048) : k0_pay10 v0 v1 v2 v3 v4 (ix2 r k) = Y r k + dn (X r) (gain G S) (D r) k := by
  unfold k0_pay10
  pointwise []
  simp only [hd, hy, hg, hs, pay7_at hx, pay8_at hx]
  rfl
include hx hd hs in
theorem pay11_at (k : Fin 2048) : k0_pay11 v0 v1 v4 (ix2 0 k) = (one + S k) * ∑ r : Fin 256, D r k * nrm (X r) k := by
  unfold k0_pay11
  pointwise []
  rw [hs, pay9_at hx hd]
include hx hd hg in
theorem pay12_at (k : Fin 2048) : k0_pay12 v0 v1 v3 (ix2 0 k) = G k * ∑ r : Fin 256, D r k * nrm (X r) k := by
  unfold k0_pay12
  pointwise []
  rw [hg, pay9_at hx hd]
include hd in
theorem pay13_at (k : Fin 2048) : k0_pay13 v1 (ix2 0 k) = ∑ r : Fin 256, D r k := by
  unfold k0_pay13
  pointwise []
  simp only [hd]
theorem pay1_at (y : S1x2048.Idx) : k0_pay1 (F := Ideal) y = 0 := by
  unfold k0_pay1
  pointwise []
theorem pay2_at (y : S1x2048.Idx) : k0_pay2 (F := Ideal) y = 0 := by
  unfold k0_pay2
  pointwise []
theorem pay3_at (y : S1x2048.Idx) : k0_pay3 (F := Ideal) y = 0 := by
  unfold k0_pay3
  pointwise []
theorem pay4_at (u v : Vec Ideal S1x2048 .f32) (k : Fin 2048) : k0_pay4 u v (ix2 0 k) = v (ix2 0 k) + u (ix2 0 k) := by
  unfold k0_pay4
  pointwise []
theorem pay5_at (u v : Vec Ideal S1x2048 .f32) (k : Fin 2048) : k0_pay5 u v (ix2 0 k) = v (ix2 0 k) + u (ix2 0 k) := by
  unfold k0_pay5
  pointwise []
theorem pay6_at (u v : Vec Ideal S1x2048 .f32) (k : Fin 2048) : k0_pay6 u v (ix2 0 k) = v (ix2 0 k) + u (ix2 0 k) := by
  unfold k0_pay6
  pointwise []

end payloads

theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩
/-- A real factor goes into a sum of real numbers. -/
theorem scale {n : ℕ} {a : EReal} {f : Fin n → EReal} (ha : ∃ r : ℝ, a = r) (hf : ∀ i, ∃ r : ℝ, f i = r) :
    a * ∑ i, f i = ∑ i, a * f i := by
  obtain ⟨a, rfl⟩ := ha
  choose g hg using hf
  obtain rfl : f = fun i => ((g i : ℝ) : EReal) := funext hg
  suffices h : (a : EReal) * ∑ i, ((g i : ℝ) : EReal) = ∑ i, (a : EReal) * ((g i : ℝ) : EReal) ∧ ∃ r : ℝ, ∑ i, ((g i : ℝ) : EReal) = r from h.1
  induction (Finset.univ : Finset (Fin n)) using Finset.induction_on with
  | empty => exact ⟨by simp, 0, by simp⟩
  | insert i s h ih =>
    obtain ⟨e, r, hr⟩ := ih
    rw [Finset.sum_insert h, Finset.sum_insert h, ← e, hr]
    exact ⟨by rw [← EReal.coe_add, ← EReal.coe_mul, ← EReal.coe_mul, ← EReal.coe_mul, ← EReal.coe_add, mul_add],
      g i + r, (EReal.coe_add _ _).symm⟩

variable {m : (ℓ : Loc nD τ sig) → Buf (Elt Ideal) ℓ} {c : Dev nD} {X D Y : ℕ → ℕ → EReal} {G S : ℕ → EReal}
variable (hx : ∀ y : S2048x2048.Idx, V m c main_arg0 y = (X (y 0) (y 1)))
variable (hd : ∀ y : S2048x2048.Idx, V m c main_arg1 y = (D (y 0) (y 1)))
variable (hy : ∀ y : S2048x2048.Idx, V m c main_arg2 y = (Y (y 0) (y 1)))
variable (hg : ∀ y : S1x2048.Idx, V m c main_arg3 y = (G (y 1)))
variable (hs : ∀ y : S1x2048.Idx, V m c main_arg4 y = (S (y 1)))
variable (hn : ∀ (i : ℕ) (k : Fin 2048), ∃ r : ℝ, D i k * nrm (X i) k = r)
variable (hG : ∀ k : ℕ, ∃ r : ℝ, G k = r) (hS : ∀ k : ℕ, ∃ r : ℝ, one + S k = r)

include hx in
theorem ld0 (t : Fin cfg0.N) (r : Fin 256) (k : Fin 2048) : (iblk m c 0 t : Vec Ideal S256x2048 .f32) (ix2 r k) = (X (t.val * 256 + r : ℕ) k) := by
  refine (hx _).trans ?_
  blk_simp [(idx0 t).1]
  try simp
include hd in
theorem ld1 (t : Fin cfg0.N) (r : Fin 256) (k : Fin 2048) : (iblk m c 1 t : Vec Ideal S256x2048 .f32) (ix2 r k) = (D (t.val * 256 + r : ℕ) k) := by
  refine (hd _).trans ?_
  blk_simp [(idx0 t).2.1]
  try simp
include hy in
theorem ld2 (t : Fin cfg0.N) (r : Fin 256) (k : Fin 2048) : (iblk m c 2 t : Vec Ideal S256x2048 .f32) (ix2 r k) = (Y (t.val * 256 + r : ℕ) k) := by
  refine (hy _).trans ?_
  blk_simp [(idx0 t).2.2.1]
  try simp
include hg in
theorem ld3 (t : Fin cfg0.N) (k : Fin 2048) : (iblk m c 3 t : Vec Ideal S1x2048 .f32) (ix2 0 k) = (G k) := by
  refine (hg _).trans ?_
  blk_simp [(idx0 t).2.2.2.1]
  try simp
include hs in
theorem ld4 (t : Fin cfg0.N) (k : Fin 2048) : (iblk m c 4 t : Vec Ideal S1x2048 .f32) (ix2 0 k) = (S k) := by
  refine (hs _).trans ?_
  blk_simp [(idx0 t).2.2.2.2.1]
  try simp
theorem dx_A (t : Fin cfg0.N) (h0 : t.val % 8 = 0) : (outsAt0 m c t.val t.isLt).1
    = k0_pay10 (iblk m c 0 t) (iblk m c 1 t) (iblk m c 2 t) (iblk m c 3 t) (iblk m c 4 t) := by
  rw [outsAt0_A m c t h0]
  frame_open
  simp (disch := decide) only [↓ View.readCov_skip, ↓ View.readCov_cons_toLoadRect, ↓ View.readCov_fill]
  frame_out
theorem dx_B (t : Fin cfg0.N) (h0 : ¬t.val % 8 = 0) : (outsAt0 m c t.val t.isLt).1
    = k0_pay10 (iblk m c 0 t) (iblk m c 1 t) (iblk m c 2 t) (iblk m c 3 t) (iblk m c 4 t) := by
  rw [outsAt0_B m c t h0]
  frame_open
  simp (disch := decide) only [↓ View.readCov_skip, ↓ View.readCov_cons_toLoadRect, ↓ View.readCov_fill]
  frame_out
theorem dg_A (t : Fin cfg0.N) (h0 : t.val % 8 = 0) : (outsAt0 m c t.val t.isLt).2.1
    = k0_pay4 (k0_pay11 (iblk m c 0 t) (iblk m c 1 t) (iblk m c 4 t)) (k0_pay1 (F := Ideal)) := by
  rw [outsAt0_A m c t h0]
  frame_open
  simp (disch := decide) only [↓ View.readCov_skip, ↓ View.readCov_cons_toLoadRect, ↓ View.readCov_fill]
  frame_out
theorem dg_B (t : Fin cfg0.N) (h0 : ¬t.val % 8 = 0) : (outsAt0 m c t.val t.isLt).2.1
    = k0_pay4 (k0_pay11 (iblk m c 0 t) (iblk m c 1 t) (iblk m c 4 t)) (outsAt0 m c (t.val - 1) (Nat.lt_of_le_of_lt (Nat.sub_le _ _) t.isLt)).2.1 := by
  rw [outsAt0_B m c t h0]
  frame_open
  simp (disch := decide) only [↓ View.readCov_skip, ↓ View.readCov_cons_toLoadRect, ↓ View.readCov_fill]
  frame_out
theorem ds_A (t : Fin cfg0.N) (h0 : t.val % 8 = 0) : (outsAt0 m c t.val t.isLt).2.2.1
    = k0_pay5 (k0_pay12 (iblk m c 0 t) (iblk m c 1 t) (iblk m c 3 t)) (k0_pay2 (F := Ideal)) := by
  rw [outsAt0_A m c t h0]
  frame_open
  simp (disch := decide) only [↓ View.readCov_skip, ↓ View.readCov_cons_toLoadRect, ↓ View.readCov_fill]
  frame_out
theorem ds_B (t : Fin cfg0.N) (h0 : ¬t.val % 8 = 0) : (outsAt0 m c t.val t.isLt).2.2.1
    = k0_pay5 (k0_pay12 (iblk m c 0 t) (iblk m c 1 t) (iblk m c 3 t)) (outsAt0 m c (t.val - 1) (Nat.lt_of_le_of_lt (Nat.sub_le _ _) t.isLt)).2.2.1 := by
  rw [outsAt0_B m c t h0]
  frame_open
  simp (disch := decide) only [↓ View.readCov_skip, ↓ View.readCov_cons_toLoadRect, ↓ View.readCov_fill]
  frame_out
theorem db_A (t : Fin cfg0.N) (h0 : t.val % 8 = 0) : (outsAt0 m c t.val t.isLt).2.2.2
    = k0_pay6 (k0_pay13 (iblk m c 1 t)) (k0_pay3 (F := Ideal)) := by
  rw [outsAt0_A m c t h0]
  frame_open
  simp (disch := decide) only [↓ View.readCov_skip, ↓ View.readCov_cons_toLoadRect, ↓ View.readCov_fill]
  frame_out
theorem db_B (t : Fin cfg0.N) (h0 : ¬t.val % 8 = 0) : (outsAt0 m c t.val t.isLt).2.2.2
    = k0_pay6 (k0_pay13 (iblk m c 1 t)) (outsAt0 m c (t.val - 1) (Nat.lt_of_le_of_lt (Nat.sub_le _ _) t.isLt)).2.2.2 := by
  rw [outsAt0_B m c t h0]
  frame_open
  simp (disch := decide) only [↓ View.readCov_skip, ↓ View.readCov_cons_toLoadRect, ↓ View.readCov_fill]
  frame_out
include hx hd hy hg hs in
theorem arr_dx : (dats m 0 c).arrAt 6 cfg0.N = fun y => (Y (y 0) (y 1) + dn (X (y 0)) (gain G S) (D (y 0)) (y 1)) := by
  refine (dats m 0 c).arrAt_eq_of_covers 6 _ (by decide +kernel) fun t hf y => ?_
  have e : (outsAt0 m c t.val t.isLt).1 = k0_pay10 (iblk m c 0 t) (iblk m c 1 t) (iblk m c 2 t) (iblk m c 3 t) (iblk m c 4 t) := by
    by_cases h : t.val % 8 = 0
    · exact dx_A t h
    · exact dx_B t h
  have := pay10_at (X := fun r => X (t.val * 256 + r)) (D := fun r => D (t.val * 256 + r)) (Y := fun r => Y (t.val * 256 + r)) (ld0 hx t) (ld1 hd t) (ld2 hy t) (ld3 hg t) (ld4 hs t) (y 0) (y 1)
  blk_simp [(idx0 t).2.2.2.2.2.1]
  rw [after0_6]
  refine (congrFun e y).trans ((congrArg (k0_pay10 (iblk m c 0 t) (iblk m c 1 t) (iblk m c 2 t) (iblk m c 3 t) (iblk m c 4 t)) (eq_ix2 y)).trans (this.trans ?_))
  simp
  try rfl
/-- One row's term of a row's gradient. -/
def term_dg (D X : ℕ → ℕ → EReal) (S : ℕ → EReal) (k i : ℕ) : EReal := (one + S k) * (D i k * nrm (X i) k)
include hx hd hs hn hS in
theorem kept_dg (k : Fin 2048) (n : ℕ) : ∀ t : Fin cfg0.N, t.val = n →
    (outsAt0 m c t.val t.isLt).2.1 (ix2 0 k) = part (term_dg D X S k) 0 ((n + 1) * 256) := by
  have hN : ∀ t : Fin cfg0.N, t.val < 8 := fun t => lt_of_lt_of_eq t.isLt (show cfg0.N = 8 from N_0)
  induction n with
  | zero =>
    intro t h
    refine (congrFun (dg_A t (by omega)) _).trans ((pay4_at _ _ k).trans ?_)
    rw [pay1_at, zero_add]
    refine ((pay11_at (X := fun r => X (t.val * 256 + r)) (D := fun r => D (t.val * 256 + r)) (ld0 hx t) (ld1 hd t) (ld4 hs t) k).trans (scale (hS k) fun r => hn _ k)).trans ?_
    rw [h]
    refine Finset.sum_congr rfl fun r _ => ?_
    show _ = term_dg D X S k (0 + r.val)
    simp only [Nat.zero_mul]
    rfl
  | succ n ih =>
    intro t h
    have h4 := hN t
    have i' := ih ⟨t.val - 1, Nat.lt_of_le_of_lt (Nat.sub_le _ _) t.isLt⟩ (by show t.val - 1 = n; omega)
    refine (congrFun (dg_B t (by omega)) _).trans ((pay4_at _ _ k).trans ?_)
    refine (congrArg₂ (· + ·) i' (show _ = part (term_dg D X S k) ((n + 1) * 256) 256 from ((pay11_at (X := fun r => X (t.val * 256 + r)) (D := fun r => D (t.val * 256 + r)) (ld0 hx t) (ld1 hd t) (ld4 hs t) k).trans (scale (hS k) fun r => hn _ k)).trans ?_)).trans ?_
    · rw [h]
      rfl
    · refine Eq.trans ?_ ((part_add _ 0 ((n + 1) * 256) 256).trans (congrArg (part _ 0) (Nat.succ_mul _ _).symm))
      rw [Nat.zero_add]
include hx hd hs hn hS in
theorem arr_dg : (dats m 0 c).arrAt 7 cfg0.N = fun y => part (term_dg D X S (y 1)) 0 2048 := by
  refine (dats m 0 c).arrAt_eq_of_covers 7 _ (by decide +kernel) fun t hf y => ?_
  have h4 : t.val < 8 := lt_of_lt_of_eq t.isLt (show cfg0.N = 8 from N_0)
  have h3 : t.val % 8 = 7 := (flush0_7 t).mp hf
  blk_simp [(idx0 t).2.2.2.2.2.2.1]
  rw [after0_7]
  have e : (y : S1x2048.Idx) = ix2 (n0 := 1) 0 (y 1) := by
    funext a
    match a with
    | ⟨0, _⟩ => exact Fin.ext (Nat.lt_one_iff.mp (y 0).isLt)
    | ⟨1, _⟩ => rfl
  refine (congrArg (outsAt0 m c t.val t.isLt).2.1 e).trans ((kept_dg hx hd hs hn hS (y 1) 7 t (by omega)).trans ?_)
  simp
/-- One row's term of a row's gradient. -/
def term_ds (D X : ℕ → ℕ → EReal) (G : ℕ → EReal) (k i : ℕ) : EReal := G k * (D i k * nrm (X i) k)
include hx hd hg hn hG in
theorem kept_ds (k : Fin 2048) (n : ℕ) : ∀ t : Fin cfg0.N, t.val = n →
    (outsAt0 m c t.val t.isLt).2.2.1 (ix2 0 k) = part (term_ds D X G k) 0 ((n + 1) * 256) := by
  have hN : ∀ t : Fin cfg0.N, t.val < 8 := fun t => lt_of_lt_of_eq t.isLt (show cfg0.N = 8 from N_0)
  induction n with
  | zero =>
    intro t h
    refine (congrFun (ds_A t (by omega)) _).trans ((pay5_at _ _ k).trans ?_)
    rw [pay2_at, zero_add]
    refine ((pay12_at (X := fun r => X (t.val * 256 + r)) (D := fun r => D (t.val * 256 + r)) (ld0 hx t) (ld1 hd t) (ld3 hg t) k).trans (scale (hG k) fun r => hn _ k)).trans ?_
    rw [h]
    refine Finset.sum_congr rfl fun r _ => ?_
    show _ = term_ds D X G k (0 + r.val)
    simp only [Nat.zero_mul]
    rfl
  | succ n ih =>
    intro t h
    have h4 := hN t
    have i' := ih ⟨t.val - 1, Nat.lt_of_le_of_lt (Nat.sub_le _ _) t.isLt⟩ (by show t.val - 1 = n; omega)
    refine (congrFun (ds_B t (by omega)) _).trans ((pay5_at _ _ k).trans ?_)
    refine (congrArg₂ (· + ·) i' (show _ = part (term_ds D X G k) ((n + 1) * 256) 256 from ((pay12_at (X := fun r => X (t.val * 256 + r)) (D := fun r => D (t.val * 256 + r)) (ld0 hx t) (ld1 hd t) (ld3 hg t) k).trans (scale (hG k) fun r => hn _ k)).trans ?_)).trans ?_
    · rw [h]
      rfl
    · refine Eq.trans ?_ ((part_add _ 0 ((n + 1) * 256) 256).trans (congrArg (part _ 0) (Nat.succ_mul _ _).symm))
      rw [Nat.zero_add]
include hx hd hg hn hG in
theorem arr_ds : (dats m 0 c).arrAt 8 cfg0.N = fun y => part (term_ds D X G (y 1)) 0 2048 := by
  refine (dats m 0 c).arrAt_eq_of_covers 8 _ (by decide +kernel) fun t hf y => ?_
  have h4 : t.val < 8 := lt_of_lt_of_eq t.isLt (show cfg0.N = 8 from N_0)
  have h3 : t.val % 8 = 7 := (flush0_8 t).mp hf
  blk_simp [(idx0 t).2.2.2.2.2.2.2.1]
  rw [after0_8]
  have e : (y : S1x2048.Idx) = ix2 (n0 := 1) 0 (y 1) := by
    funext a
    match a with
    | ⟨0, _⟩ => exact Fin.ext (Nat.lt_one_iff.mp (y 0).isLt)
    | ⟨1, _⟩ => rfl
  refine (congrArg (outsAt0 m c t.val t.isLt).2.2.1 e).trans ((kept_ds hx hd hg hn hG (y 1) 7 t (by omega)).trans ?_)
  simp
/-- One row's term of a row's gradient. -/
def term_db (D : ℕ → ℕ → EReal) (k i : ℕ) : EReal := D i k
include hd in
theorem kept_db (k : Fin 2048) (n : ℕ) : ∀ t : Fin cfg0.N, t.val = n →
    (outsAt0 m c t.val t.isLt).2.2.2 (ix2 0 k) = part (term_db D k) 0 ((n + 1) * 256) := by
  have hN : ∀ t : Fin cfg0.N, t.val < 8 := fun t => lt_of_lt_of_eq t.isLt (show cfg0.N = 8 from N_0)
  induction n with
  | zero =>
    intro t h
    refine (congrFun (db_A t (by omega)) _).trans ((pay6_at _ _ k).trans ?_)
    rw [pay3_at, zero_add]
    refine (pay13_at (D := fun r => D (t.val * 256 + r)) (ld1 hd t) k).trans ?_
    rw [h]
    refine Finset.sum_congr rfl fun r _ => ?_
    show _ = term_db D k (0 + r.val)
    simp only [Nat.zero_mul]
    rfl
  | succ n ih =>
    intro t h
    have h4 := hN t
    have i' := ih ⟨t.val - 1, Nat.lt_of_le_of_lt (Nat.sub_le _ _) t.isLt⟩ (by show t.val - 1 = n; omega)
    refine (congrFun (db_B t (by omega)) _).trans ((pay6_at _ _ k).trans ?_)
    refine (congrArg₂ (· + ·) i' (show _ = part (term_db D k) ((n + 1) * 256) 256 from (pay13_at (D := fun r => D (t.val * 256 + r)) (ld1 hd t) k).trans ?_)).trans ?_
    · rw [h]
      rfl
    · refine Eq.trans ?_ ((part_add _ 0 ((n + 1) * 256) 256).trans (congrArg (part _ 0) (Nat.succ_mul _ _).symm))
      rw [Nat.zero_add]
include hd in
theorem arr_db : (dats m 0 c).arrAt 9 cfg0.N = fun y => part (term_db D (y 1)) 0 2048 := by
  refine (dats m 0 c).arrAt_eq_of_covers 9 _ (by decide +kernel) fun t hf y => ?_
  have h4 : t.val < 8 := lt_of_lt_of_eq t.isLt (show cfg0.N = 8 from N_0)
  have h3 : t.val % 8 = 7 := (flush0_9 t).mp hf
  blk_simp [(idx0 t).2.2.2.2.2.2.2.2]
  rw [after0_9]
  have e : (y : S1x2048.Idx) = ix2 (n0 := 1) 0 (y 1) := by
    funext a
    match a with
    | ⟨0, _⟩ => exact Fin.ext (Nat.lt_one_iff.mp (y 0).isLt)
    | ⟨1, _⟩ => rfl
  refine (congrArg (outsAt0 m c t.val t.isLt).2.2.2 e).trans ((kept_db hd (y 1) 7 t (by omega)).trans ?_)
  simp

end Cert.Norm

end
-- ==== Proof.NormRef.lean ====
/- The reference of the gradients behind the norm in front of the attentions, and its agreement with the kernel. -/
module

public import proofs.«01_k».proof.Proof.Norm
public import proofs.«01_k».proof.Proof.MixRef
public import proofs.«01_k».proof.Proof.Pre
public import proofs.«01_k».proof.Proof.Gen.Reference13Ideal.Read
public import proofs.«01_k».proof.Defs

@[expose] public section

set_option maxRecDepth 16384

noncomputable section

namespace Cert.Norm

open Idealize.ShloMosaic Idealize.ShloMosaic.TcCoe Idealize.SL.Sem Cert.Mlp Cert.Attn
open Cert.Mix (mhalf half_eq ε eps_pos eps_eq mul_sum_nonneg double self_nonneg mul_r add_r div_r sum_r zero_word part_whole)

/-- The gradient of a row's mean square, halved, as the reference forms it; the gradient of the row is the scaled gradient times
    one over the root, and twice the row times this. -/
def slope (x g d : ℕ → EReal) : EReal := Ideal.div ((∑ j : Fin 2048, x j * (d j * g j)) * (mhalf * Ideal.div (rr x) (ms x))) width

theorem width_eq : width = ((2048 : ℝ) : EReal) := by
  delta width Ideal.ofBits Ideal.ieee
  simp [-EReal.coe_mul]
  norm_num
theorem div_width (x : EReal) : Ideal.div x width = x * ((1 / 2048 : ℝ) : EReal) := by
  rw [width_eq]
  exact Ideal.div_coe (by norm_num) x

/-- For a row of real numbers the reference's form of the gradient is the kernel's, whatever the gradient and the gains. -/
theorem dn_eq_real (x g d : ℕ → EReal) (r : Fin 2048 → ℝ) (h : ∀ j : Fin 2048, x j = ((r j : ℝ) : EReal)) (k : Fin 2048) :
    d k * g k * rr x + x k * slope x g d + slope x g d * x k = dn x g d k := by
  obtain ⟨M, hM, hms⟩ : ∃ M : ℝ, 0 < M ∧ ms x = ((M : ℝ) : EReal) := by
    refine ⟨(∑ j, r j * r j) * (1 / 2048) + ε,
      add_pos_of_nonneg_of_pos (mul_nonneg (Finset.sum_nonneg fun _ _ => mul_self_nonneg _) (by norm_num)) eps_pos, ?_⟩
    unfold ms
    rw [div_width, eps_eq]
    simp only [h, ← EReal.coe_mul, sum_coe, ← EReal.coe_add]
  have hrr : rr x = (((√M)⁻¹ : ℝ) : EReal) := by
    unfold rr
    rw [hms, Ideal.rsqrt_coe, if_neg hM.le.not_gt, if_neg hM.ne']
  have hρ : 0 ≤ (√M)⁻¹ := inv_nonneg.mpr (Real.sqrt_nonneg M)
  have hsq : (√M)⁻¹ * (√M)⁻¹ * M = 1 := by
    rw [← mul_inv, Real.mul_self_sqrt hM.le, inv_mul_cancel₀ hM.ne']
  unfold dn slope nrm
  rw [hms, hrr]
  generalize (√M)⁻¹ = ρ at hρ hsq
  have hs : (∑ j : Fin 2048, d j * g j * (x j * (ρ : EReal))) = (∑ j : Fin 2048, x j * (d j * g j)) * (ρ : EReal) := by
    rw [mul_comm _ (ρ : EReal), mul_sum_nonneg hρ]
    exact Finset.sum_congr rfl fun j _ => by rw [mul_comm (ρ : EReal), mul_comm (x j), mul_assoc]; ac_rfl
  rw [hs, div_width, div_width, half_eq, div_coe_coe ρ hM.ne', h k]
  generalize (∑ j : Fin 2048, x j * (d j * g j)) = S
  generalize d k * g k = e
  have e1 : S * (((-(1 / 2) : ℝ) : EReal) * ((ρ / M : ℝ) : EReal)) * ((1 / 2048 : ℝ) : EReal)
      = S * ((-(1 / 2) * (ρ / M) * (1 / 2048) : ℝ) : EReal) := by
    rw [mul_assoc, ← EReal.coe_mul, ← EReal.coe_mul]
  have e2 : ((r k : ℝ) : EReal) * (S * ((-(1 / 2) * (ρ / M) * (1 / 2048) : ℝ) : EReal))
      = S * ((r k * (-(1 / 2) * (ρ / M) * (1 / 2048)) : ℝ) : EReal) := by
    rw [mul_left_comm, ← EReal.coe_mul]
  have e3 : (ρ : EReal) * (((r k : ℝ) : EReal) * (ρ : EReal) * (S * (ρ : EReal) * ((1 / 2048 : ℝ) : EReal)))
      = S * ((ρ * (r k * ρ) * (ρ * (1 / 2048)) : ℝ) : EReal) := by
    rw [mul_assoc S, ← EReal.coe_mul, ← EReal.coe_mul, mul_left_comm _ S, mul_left_comm _ S, ← EReal.coe_mul, ← EReal.coe_mul, mul_assoc ρ]
  have hK : ρ / M = ρ * (ρ * ρ) := by
    rw [div_eq_iff hM.ne']
    linear_combination -ρ * hsq
  rw [e1, mul_comm (S * _) ((r k : ℝ) : EReal), e2, EReal.mul_sub_of_nonneg_of_ne_top (EReal.coe_nonneg.mpr hρ) (EReal.coe_ne_top ρ), e3,
    add_assoc, double, sub_eq_add_neg, ← mul_neg, ← EReal.coe_neg, mul_comm e, hK]
  refine congrArg (fun z : ℝ => (ρ : EReal) * e + S * (z : EReal)) ?_
  ring

/-- A row with an infinite element has an infinite mean square, and both forms of its gradient vanish. -/
theorem dn_eq_top (x g d : ℕ → EReal) (j : Fin 2048) (h : x j * x j = ⊤) (k : Fin 2048) :
    d k * g k * rr x + x k * slope x g d + slope x g d * x k = dn x g d k := by
  have hs : (∑ k : Fin 2048, x k * x k) = ⊤ :=
    top_le_iff.mp (h.symm.le.trans (Finset.single_le_sum (f := fun k : Fin 2048 => x k * x k) (fun _ _ => self_nonneg _) (Finset.mem_univ j)))
  have hms : ms x = ⊤ := by
    unfold ms
    rw [hs, div_width, EReal.top_mul_coe_of_pos (by norm_num), eps_eq]
    exact EReal.top_add_coe _
  have hrr : rr x = 0 := by
    unfold rr
    rw [hms]
    rfl
  have hz : Ideal.div 0 (⊤ : EReal) = 0 := Ideal.zero_div (by simp)
  have hsl : slope x g d = 0 := by
    unfold slope
    rw [hms, hrr, hz, div_width]
    simp
  unfold dn
  rw [hrr, hsl]
  simp

/-- The reference's form is the kernel's. -/
theorem dn_eq (x g d : ℕ → EReal) (k : Fin 2048) :
    d k * g k * rr x + x k * slope x g d + slope x g d * x k = dn x g d k := by
  by_cases h : ∃ j : Fin 2048, x j * x j = ⊤
  · obtain ⟨j, hj⟩ := h
    exact dn_eq_top x g d j hj k
  · have hr : ∀ j : Fin 2048, ∃ r : ℝ, x j = (r : EReal) := by
      intro j
      have hj : x j * x j ≠ ⊤ := fun e => h ⟨j, e⟩
      generalize x j = y at hj
      induction y using EReal.rec with
      | bot => exact absurd EReal.bot_mul_bot hj
      | top => exact absurd EReal.top_mul_top hj
      | coe r => exact ⟨r, rfl⟩
    choose r hx using hr
    exact dn_eq_real x g d r hx k

/-- A normed row is a row of real numbers: a row with an infinite element is zero. -/
theorem nrm_real (x : ℕ → EReal) (k : Fin 2048) : ∃ r : ℝ, nrm x k = r := by
  by_cases h : ∃ j : Fin 2048, x j * x j = ⊤
  · obtain ⟨j, hj⟩ := h
    have hs : (∑ k : Fin 2048, x k * x k) = ⊤ :=
      top_le_iff.mp (hj.symm.le.trans (Finset.single_le_sum (f := fun k : Fin 2048 => x k * x k) (fun _ _ => self_nonneg _) (Finset.mem_univ j)))
    have hms : ms x = ⊤ := by
      unfold ms
      rw [hs, div_width, EReal.top_mul_coe_of_pos (by norm_num), eps_eq]
      exact EReal.top_add_coe _
    have hrr : rr x = 0 := by
      unfold rr
      rw [hms]
      rfl
    refine ⟨0, ?_⟩
    unfold nrm
    rw [hrr]
    simp
  · have hr : ∀ j : Fin 2048, ∃ r : ℝ, x j = (r : EReal) := by
      intro j
      have hj : x j * x j ≠ ⊤ := fun e => h ⟨j, e⟩
      generalize x j = y at hj
      induction y using EReal.rec with
      | bot => exact absurd EReal.bot_mul_bot hj
      | top => exact absurd EReal.top_mul_top hj
      | coe r => exact ⟨r, rfl⟩
    choose r hx using hr
    have hM : 0 < (∑ j, r j * r j) * (1 / 2048) + ε :=
      add_pos_of_nonneg_of_pos (mul_nonneg (Finset.sum_nonneg fun _ _ => mul_self_nonneg _) (by norm_num)) eps_pos
    have hms : ms x = (((∑ j, r j * r j) * (1 / 2048) + ε : ℝ) : EReal) := by
      unfold ms
      rw [div_width, eps_eq]
      simp only [hx, ← EReal.coe_mul, sum_coe, ← EReal.coe_add]
    unfold nrm rr
    rw [hms, Ideal.rsqrt_coe, if_neg hM.le.not_gt, if_neg hM.ne', hx k]
    exact ⟨_, (EReal.coe_mul _ _).symm⟩

section reference

open Cert.Reference13Ideal Cert.Reference13Ideal.Read Cert.Reference13Ideal.Facts₀

variable {x0 x1 x2 : (⟨S2048x2048, .f32⟩ : BufTy).Contents (Elt Ideal)} {x3 x4 : (⟨S1x2048, .f32⟩ : BufTy).Contents (Elt Ideal)}
variable {X D Y : ℕ → ℕ → EReal} {G S : ℕ → EReal}
variable (hx : ∀ y : S2048x2048.Idx, x0 y = (X (y 0) (y 1))) (hd : ∀ y : S2048x2048.Idx, x1 y = (D (y 0) (y 1)))
variable (hy : ∀ y : S2048x2048.Idx, x2 y = (Y (y 0) (y 1)))
variable (hg : ∀ y : S1x2048.Idx, x3 y = (G (y 1))) (hs : ∀ y : S1x2048.Idx, x4 y = (S (y 1)))

include hx in
theorem ref_ms (i : S2048x1.Idx) : val_main_v6 (F := Ideal) x0 i = (ms (X (i 0))) := by
  rw [val_main_v6_apply, val_main_v4_apply, val_main_v2_apply, val_main_v1_apply, val_main_v3_apply, val_main_cst_0_apply,
    val_main_v5_apply, val_main_cst_1_apply]
  refine add_r (div_r (sum_r ?_ fun k => ?_) rfl) rfl
  · exact (val_main_cst_apply _).trans zero_word
  · rw [val_main_v0_apply]
    exact mul_r (hx _) (hx _)
include hx in
theorem ref_rr (i : S2048x1.Idx) : val_main_v7 (F := Ideal) x0 i = (rr (X (i 0))) := by
  rw [val_main_v7_apply, ref_ms hx]
  rfl
include hx in
theorem ref_nrm (i : S2048x2048.Idx) : val_main_v12 (F := Ideal) x0 i = (nrm (X (i 0)) (i 1)) := by
  rw [val_main_v12_apply, val_main_v11_apply]
  exact mul_r (hx _) (ref_rr hx _)
include hd in
theorem ref_d (i : S2048x2048.Idx) : val_main_v21 (F := Ideal) x1 i = (D (i 0) (i 1)) := by
  have h1 : (i 1).val < 2048 := (i 1).isLt
  have e1 : ((i 0).val * 2048 + (i 1).val) / 2048 = (i 0).val := by omega
  have e2 : ((i 0).val * 2048 + (i 1).val) % 2048 = (i 1).val := by omega
  rw [val_main_v21_apply]
  refine (hd _).trans ?_
  exact congrArg₂ D e1 e2
include hs in
theorem ref_mod (i : S1x2048.Idx) : val_main_v16 (F := Ideal) x4 i = one + S (i 1) := by
  rw [val_main_v16_apply, val_main_v15_apply, val_main_cst_3_apply]
  exact add_r Ideal.ofBits_one_f32 (hs _)
include hd hs in
theorem ref_half (i : S2048x2048.Idx) : val_main_v28 (F := Ideal) x1 x4 i = D (i 0) (i 1) * (one + S (i 1)) := by
  rw [val_main_v28_apply, val_main_v27_apply]
  exact mul_r (ref_d hd _) (ref_mod hs _)
include hd hg hs in
theorem ref_scaled (i : S2048x2048.Idx) : val_main_v33 (F := Ideal) x1 x3 x4 i = D (i 0) (i 1) * gain G S (i 1) := by
  rw [val_main_v33_apply, val_main_v32_apply]
  refine (mul_r (ref_half hd hs _) (hg _)).trans ?_
  exact (mul_assoc _ _ _).trans (congrArg (D (i 0) (i 1) * ·) (mul_comm _ _))
include hx hd hs in
/-- The gradient of the gain. -/
theorem ref_dg (i : S1x2048.Idx) : val_main_v31 (F := Ideal) x0 x1 x4 i = ∑ n : Fin 2048, term_dg D X S (i 1) n := by
  have h0 : (i 0).val < 1 := (i 0).isLt
  have e : (i 0).val * 2048 + (i 1).val = (i 1).val := by omega
  rw [val_main_v31_apply, val_main_v30_apply]
  refine sum_r ((val_main_cst_6_apply _).trans zero_word) fun n => ?_
  rw [val_main_v29_apply]
  refine (mul_r (ref_nrm hx _) (ref_half hd hs _)).trans ?_
  refine Eq.trans ?_ (congrArg (fun j => term_dg D X S j n) e)
  show nrm (X n) _ * (D n _ * (one + S _)) = (one + S _) * (D n _ * nrm (X n) _)
  rw [mul_comm (nrm _ _), mul_right_comm, mul_comm (_ * _) (one + _)]
include hx hd hg in
/-- The gradient of the modulation's scale. -/
theorem ref_ds (i : S1x2048.Idx) : val_main_v26 (F := Ideal) x0 x1 x3 i = ∑ n : Fin 2048, term_ds D X G (i 1) n := by
  have h0 : (i 0).val < 1 := (i 0).isLt
  have e : (i 0).val * 2048 + (i 1).val = (i 1).val := by omega
  rw [val_main_v26_apply, val_main_v25_apply]
  refine sum_r ((val_main_cst_5_apply _).trans zero_word) fun n => ?_
  rw [val_main_v24_apply, val_main_v14_apply, val_main_v13_apply]
  refine (mul_r (mul_r (ref_nrm hx _) (hg _)) (ref_d hd _)).trans ?_
  refine Eq.trans ?_ (congrArg (fun j => term_ds D X G j n) e)
  show nrm (X n) _ * G _ * D n _ = G _ * (D n _ * nrm (X n) _)
  rw [mul_comm (nrm _ _), mul_assoc, mul_comm (nrm _ _)]
include hd in
/-- The gradient of the modulation's shift. -/
theorem ref_db (i : S1x2048.Idx) : val_main_v23 (F := Ideal) x1 i = ∑ n : Fin 2048, term_db D (i 1) n := by
  have h0 : (i 0).val < 1 := (i 0).isLt
  have e : (i 0).val * 2048 + (i 1).val = (i 1).val := by omega
  rw [val_main_v23_apply, val_main_v22_apply]
  refine sum_r ((val_main_cst_4_apply _).trans zero_word) fun n => ?_
  refine (hd _).trans ?_
  refine Eq.trans ?_ (congrArg (fun j => term_db D j n) e)
  rfl
include hx hd hg hs in
theorem ref_slope (i : S2048x1.Idx) : val_main_v41 (F := Ideal) x0 x1 x3 x4 i = (slope (X (i 0)) (gain G S) (D (i 0))) := by
  have h1 : (i 1).val < 1 := (i 1).isLt
  have e : (i 0).val * 1 + (i 1).val = (i 0).val := by omega
  rw [val_main_v41_apply, val_main_v39_apply, val_main_v10_apply, val_main_v9_apply, val_main_cst_2_apply, val_main_v8_apply,
    val_main_v40_apply, val_main_cst_8_apply, val_main_v36_apply, val_main_v35_apply]
  refine div_r (mul_r (sum_r ?_ fun k => ?_) (mul_r rfl (div_r (ref_rr hx _) (ref_ms hx _)))) rfl
  · exact (val_main_cst_7_apply _).trans zero_word
  · rw [val_main_v34_apply]
    refine (mul_r (hx _) (ref_scaled hd hg hs _)).trans ?_
    exact congrArg (fun r => X r k * (D r k * gain G S k)) e
include hx hd hy hg hs in
/-- The gradient of the rows. -/
theorem ref_dx (i : S2048x2048.Idx) : val_main_v48 (F := Ideal) x0 x1 x2 x3 x4 i
    = Y (i 0) (i 1) + dn (X (i 0)) (gain G S) (D (i 0)) (i 1) := by
  have hc : val_main_v43 (F := Ideal) x0 x1 x3 x4 i = (slope (X (i 0)) (gain G S) (D (i 0))) := by
    rw [val_main_v43_apply, val_main_v42_apply]
    refine (sum_r ((val_main_cst_9_apply _).trans zero_word) fun k => ref_slope hx hd hg hs _).trans ?_
    exact Fin.sum_univ_one _
  rw [val_main_v48_apply, val_main_v47_apply, val_main_v45_apply, val_main_v38_apply, val_main_v37_apply, val_main_v44_apply, val_main_v46_apply]
  refine Eq.trans ?_ (congrArg (Y (i 0) (i 1) + ·) (dn_eq (X (i 0)) (gain G S) (D (i 0)) (i 1)))
  exact add_r (hy _) (add_r (add_r (mul_r (ref_scaled hd hg hs _) (ref_rr hx _)) (mul_r (hx _) hc)) (mul_r hc (hx _)))

end reference

/-- The side conditions the precondition's text states. -/
theorem pre_facts13 : Cert.Pre_finite13.Facts := ⟨by decide, by decide⟩

open Cert.Kernel13Ideal in
/-- Under the precondition the gradient behind the norm, the gain and the modulation are real numbers. -/
theorem real_args [hPre_finite13 : Cert.Pre_finite13.Facts] {m : (ℓ : Loc nD τ sig) → Buf (Elt Ideal) ℓ} (h : Cert.Pre_Kernel13Ideal_finite13 m) (c : Dev nD) :
    ∃ D G S : ℕ → ℕ → ℝ,
      (∀ y : S2048x2048.Idx, m ((c.tc : Thread nD τ).loc main_arg1) y = ((D (y 0) (y 1) : ℝ) : EReal))
      ∧ (∀ y : S1x2048.Idx, m ((c.tc : Thread nD τ).loc main_arg3) y = ((G (y 0) (y 1) : ℝ) : EReal))
      ∧ (∀ y : S1x2048.Idx, m ((c.tc : Thread nD τ).loc main_arg4) y = ((S (y 0) (y 1) : ℝ) : EReal)) := by
  obtain ⟨h1, h3, h4⟩ := h c
  obtain ⟨D, hD⟩ := real_array (x := m ((c.tc : Thread nD τ).loc main_arg1)) fun y => real_of_abs_lt (congrFun h1 y)
  obtain ⟨G, hG⟩ := real_array (x := m ((c.tc : Thread nD τ).loc main_arg3)) fun y => real_of_abs_lt (congrFun h3 y)
  obtain ⟨S, hS⟩ := real_array (x := m ((c.tc : Thread nD τ).loc main_arg4)) fun y => real_of_abs_lt (congrFun h4 y)
  exact ⟨D, G, S, hD, hG, hS⟩

/-- The gradients behind the norm, by the kernel and by the reference, are equal where the incoming gradient, the gain and the
    modulation are finite. -/
theorem algebraic : Cert.algebraic_Kernel13Ideal_Reference13Ideal_pre_finite13 (hKernel13Ideal := Cert.Kernel13Ideal.Gen.facts)
    (hReference13Ideal := Cert.Reference13Ideal.Gen.facts) (hPre_finite13 := pre_facts13) := by
  intro m g m' g' hpre hm
  refine ⟨_, _, _, _, Cert.Kernel13Ideal.Value.run_blocks m g, ?_⟩
  refine (θ_run _ _ _).mono (fun _ h c => ?_) (Cert.Reference13Ideal.Value.run (F := Ideal) m' g')
  obtain ⟨e0, e1, e2, e3, hr⟩ := h c
  obtain ⟨Dr, Gr, Sr, hd, hg', hs'⟩ := real_args (hPre_finite13 := pre_facts13) hpre c
  have hx : ∀ y : Cert.Kernel13Ideal.S2048x2048.Idx, m ((c.tc : Thread _ _).loc Cert.Kernel13Ideal.main_arg0) y
      = at2 (m ((c.tc : Thread _ _).loc Cert.Kernel13Ideal.main_arg0)) (y 0) (y 1) := at2_of _
  have hy : ∀ y : Cert.Kernel13Ideal.S2048x2048.Idx, m ((c.tc : Thread _ _).loc Cert.Kernel13Ideal.main_arg2) y
      = at2 (m ((c.tc : Thread _ _).loc Cert.Kernel13Ideal.main_arg2)) (y 0) (y 1) := at2_of _
  have hg : ∀ y : Cert.Kernel13Ideal.S1x2048.Idx, m ((c.tc : Thread _ _).loc Cert.Kernel13Ideal.main_arg3) y
      = ((Gr 0 (y 1) : ℝ) : EReal) := fun y =>
    (hg' y).trans (congrArg (fun r => ((Gr r (y 1) : ℝ) : EReal)) (Nat.lt_one_iff.mp (y 0).isLt))
  have hs : ∀ y : Cert.Kernel13Ideal.S1x2048.Idx, m ((c.tc : Thread _ _).loc Cert.Kernel13Ideal.main_arg4) y
      = ((Sr 0 (y 1) : ℝ) : EReal) := fun y =>
    (hs' y).trans (congrArg (fun r => ((Sr r (y 1) : ℝ) : EReal)) (Nat.lt_one_iff.mp (y 0).isLt))
  generalize at2 (m ((c.tc : Thread _ _).loc Cert.Kernel13Ideal.main_arg0)) = X at hx
  generalize at2 (m ((c.tc : Thread _ _).loc Cert.Kernel13Ideal.main_arg2)) = Y at hy
  obtain ⟨D, hD⟩ : ∃ D : ℕ → ℕ → EReal, D = fun i k => ((Dr i k : ℝ) : EReal) := ⟨_, rfl⟩
  obtain ⟨G, hGd⟩ : ∃ G : ℕ → EReal, G = fun k => ((Gr 0 k : ℝ) : EReal) := ⟨_, rfl⟩
  obtain ⟨S, hSd⟩ : ∃ S : ℕ → EReal, S = fun k => ((Sr 0 k : ℝ) : EReal) := ⟨_, rfl⟩
  replace hd : ∀ y : Cert.Kernel13Ideal.S2048x2048.Idx, m ((c.tc : Thread _ _).loc Cert.Kernel13Ideal.main_arg1) y = D (y 0) (y 1) := by
    subst hD; exact hd
  replace hg : ∀ y : Cert.Kernel13Ideal.S1x2048.Idx, m ((c.tc : Thread _ _).loc Cert.Kernel13Ideal.main_arg3) y = G (y 1) := by
    subst hGd; exact hg
  replace hs : ∀ y : Cert.Kernel13Ideal.S1x2048.Idx, m ((c.tc : Thread _ _).loc Cert.Kernel13Ideal.main_arg4) y = S (y 1) := by
    subst hSd; exact hs
  have hn : ∀ (i : ℕ) (k : Fin 2048), ∃ r : ℝ, D i k * nrm (X i) k = r := fun i k =>
    real_mul ⟨Dr i k, by rw [hD]⟩ (nrm_real (X i) k)
  have hG : ∀ k : ℕ, ∃ r : ℝ, G k = r := fun k => ⟨Gr 0 k, by rw [hGd]⟩
  have hS : ∀ k : ℕ, ∃ r : ℝ, one + S k = r := fun k => real_add ⟨1, EReal.coe_one.symm⟩ ⟨Sr 0 k, by rw [hSd]⟩
  obtain ⟨m0, m1, m2, m3, m4, m5⟩ := hm c
  have kx := fun y => (congrFun (Cert.Kernel13Ideal.Gen.V_main_arg0 m c) y).trans (hx y)
  have kd := fun y => (congrFun (Cert.Kernel13Ideal.Gen.V_main_arg1 m c) y).trans (hd y)
  have ky := fun y => (congrFun (Cert.Kernel13Ideal.Gen.V_main_arg2 m c) y).trans (hy y)
  have kg := fun y => (congrFun (Cert.Kernel13Ideal.Gen.V_main_arg3 m c) y).trans (hg y)
  have ks := fun y => (congrFun (Cert.Kernel13Ideal.Gen.V_main_arg4 m c) y).trans (hs y)
  have rx := fun y => (congrFun m0 y).trans (hx y)
  have rd := fun y => (congrFun m1 y).trans (hd y)
  have ry := fun y => (congrFun m2 y).trans (hy y)
  have rg := fun y => (congrFun m3 y).trans (hg y)
  have rs := fun y => (congrFun m4 y).trans (hs y)
  refine ⟨(e0.trans (Cert.Reference13Ideal.Read.val_main_v48_eq m' c)).trans ?_,
    (e1.trans (Cert.Reference13Ideal.Read.val_main_v31_eq _ _ _)).trans ?_,
    (e2.trans (Cert.Reference13Ideal.Read.val_main_v26_eq _ _ _)).trans ?_,
    (e3.trans (Cert.Reference13Ideal.Read.val_main_v23_eq _)).trans ?_, hr⟩
  · exact Eq.trans (funext fun y => ref_dx rx rd ry rg rs y) (arr_dx kx kd ky kg ks).symm
  · exact Eq.trans (funext fun y => (ref_dg rx rd rs y).trans (part_whole (term_dg D X S _) 2048).symm) (arr_dg kx kd ks hn hS).symm
  · exact Eq.trans (funext fun y => (ref_ds rx rd rg y).trans (part_whole (term_ds D X G _) 2048).symm) (arr_ds kx kd kg hn hG).symm
  · exact Eq.trans (funext fun y => (ref_db rd y).trans (part_whole (term_db D _) 2048).symm) (arr_db kd).symm

end Cert.Norm

end
-- ==== Proof.lean ====
/- The proof of the claim: the frames are the generated runs', `preserves` has no rewrites, and the value claim of the
   attention gradients compares the run's arrays (RunA) with the reference's (RefA) index by index; the other
   programs' value claims are in the modules named after them. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3Ideal.Value
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4Ideal.Value
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel9Ideal.Value
public import proofs.«01_k».proof.Proof.Gen.Kernel10Ideal.Value
public import proofs.«01_k».proof.Proof.Gen.Kernel8Ideal.Value
public import proofs.«01_k».proof.Proof.Gen.Kernel13Ideal.Value
public import proofs.«01_k».proof.Proof.RunA
public import proofs.«01_k».proof.Proof.RefA
public import proofs.«01_k».proof.Proof.Pre
public import proofs.«01_k».proof.Proof.MlpMidRef
public import proofs.«01_k».proof.Proof.MlpOutRef
public import proofs.«01_k».proof.Proof.MlpInRef
public import proofs.«01_k».proof.Proof.AttnB
public import proofs.«01_k».proof.Proof.WGradRef
public import proofs.«01_k».proof.Proof.KvRef
public import proofs.«01_k».proof.Proof.ProjRef
public import proofs.«01_k».proof.Proof.KvBwdRef
public import proofs.«01_k».proof.Proof.MixRef
public import proofs.«01_k».proof.Proof.AdamRef
public import proofs.«01_k».proof.Proof.AdaRef
public import proofs.«01_k».proof.Proof.NormRef
public import Idealize.ShloMosaic.Adequacy
public import Idealize.ShloMosaic.Init

@[expose] public section

noncomputable section

namespace Cert.Proof

open Idealize.ShloMosaic Idealize.SL.Sem Cert.Kernel

/-- The side conditions the precondition's text states. -/
theorem pre_facts : Cert.Pre_finite.Facts := ⟨by decide, by decide, by decide⟩

/-- The reference, which declares no semaphore, runs and leaves its arguments unchanged. -/
theorem ref_frame : Cert.quiescent_ReferenceIdeal (hReferenceIdeal := Cert.ReferenceIdeal.Gen.facts) := fun m g _ =>
  (θ_run (Cert.ReferenceIdeal.defs (F := Ideal)) _ _).mono (fun r h => ⟨fun c => (h c).2.2.2, sem_eq_zero_of_no_sems (by decide) r.2⟩)
    (Cert.ReferenceIdeal.Value.run (F := Ideal) m g)

/-- The attention's gradients, by the kernels and by the reference, are equal for finite arguments. -/
theorem attention : Cert.algebraic_KernelIdeal_ReferenceIdeal_pre_finite (hKernelIdeal := Cert.KernelIdeal.Gen.facts)
    (hReferenceIdeal := Cert.ReferenceIdeal.Gen.facts) (hPre_finite := pre_facts) := by
  intro m g m' g' hpre hm
  refine ⟨fun c => (Cert.KernelIdeal.Gen.dat1 (Cert.KernelIdeal.Gen.V1 m g) c).arrAt 6 Cert.KernelIdeal.cfg1.N,
    fun c => (Cert.KernelIdeal.Gen.dat1 (Cert.KernelIdeal.Gen.V1 m g) c).arrAt 7 Cert.KernelIdeal.cfg1.N,
    fun c => (Cert.KernelIdeal.Gen.dat1 (Cert.KernelIdeal.Gen.V1 m g) c).arrAt 8 Cert.KernelIdeal.cfg1.N, ?_, ?_⟩
  · exact (θ_run _ _ _).mono (fun _ h c => ⟨(h c).1.1, (h c).1.2.1, (h c).1.2.2, (h c).2⟩) (Cert.Attn.run_arrays m g)
  · refine (θ_run _ _ _).mono (fun _ h c => ?_) (Cert.ReferenceIdeal.Value.run (F := Ideal) m' g')
    obtain ⟨e0, e1, e2, ha⟩ := h c
    obtain ⟨Q, K, W, D, hq, hk, hv, hd⟩ := Cert.Attn.real_args (hPre_finite := pre_facts) hpre c
    obtain ⟨r0, r1, r2⟩ := Cert.Attn.run_values m g c hq hk hv hd
    obtain ⟨m0, m1, m2, m3⟩ := hm c
    refine ⟨(e0.trans (Cert.ReferenceIdeal.Read.val_main_v70_eq m' c)).trans ?_,
      (e1.trans (Cert.ReferenceIdeal.Read.val_main_v68_eq m' c)).trans ?_,
      (e2.trans (Cert.ReferenceIdeal.Read.val_main_v66_eq _ _ _)).trans ?_, ha⟩
    · refine Eq.trans (funext fun y => ?_) r0.symm
      exact Cert.Attn.ref_dq (fun y => (congrFun m0 y).trans (hq y)) (fun y => (congrFun m1 y).trans (hk y))
        (fun y => (congrFun m2 y).trans (hv y)) (fun y => (congrFun m3 y).trans (hd y)) y
    · refine Eq.trans (funext fun y => ?_) r1.symm
      exact Cert.Attn.ref_dk (fun y => (congrFun m0 y).trans (hq y)) (fun y => (congrFun m1 y).trans (hk y))
        (fun y => (congrFun m2 y).trans (hv y)) (fun y => (congrFun m3 y).trans (hd y)) y
    · refine Eq.trans (funext fun y => ?_) r2.symm
      exact Cert.Attn.ref_dv (fun y => (congrFun m0 y).trans (hq y)) (fun y => (congrFun m1 y).trans (hk y))
        (fun y => (congrFun m3 y).trans (hd y)) y

/-- Reference 2, which declares no semaphore, runs and leaves its arguments unchanged. -/
theorem ref_frame2 : Cert.quiescent_Reference2Ideal (hReference2Ideal := Cert.Reference2Ideal.Gen.facts) := fun m g _ =>
  (θ_run (Cert.Reference2Ideal.defs (F := Ideal)) _ _).mono (fun r h => ⟨fun c => (h c).2.2.2.2, sem_eq_zero_of_no_sems (by decide) r.2⟩)
    (Cert.Reference2Ideal.Value.run (F := Ideal) m g)

/-- Reference 3, which declares no semaphore, runs and leaves its arguments unchanged. -/
theorem ref_frame3 : Cert.quiescent_Reference3Ideal (hReference3Ideal := Cert.Reference3Ideal.Gen.facts) := fun m g _ =>
  (θ_run (Cert.Reference3Ideal.defs (F := Ideal)) _ _).mono (fun r h => ⟨fun c => (h c).2, sem_eq_zero_of_no_sems (by decide) r.2⟩)
    (Cert.Reference3Ideal.Value.run (F := Ideal) m g)

/-- Reference 4, which declares no semaphore, runs and leaves its arguments unchanged. -/
theorem ref_frame4 : Cert.quiescent_Reference4Ideal (hReference4Ideal := Cert.Reference4Ideal.Gen.facts) := fun m g _ =>
  (θ_run (Cert.Reference4Ideal.defs (F := Ideal)) _ _).mono (fun r h => ⟨fun c => (h c).2, sem_eq_zero_of_no_sems (by decide) r.2⟩)
    (Cert.Reference4Ideal.Value.run (F := Ideal) m g)

/-- Reference 6, which declares no semaphore, runs and leaves its arguments unchanged. -/
theorem ref_frame6 : Cert.quiescent_Reference6Ideal (hReference6Ideal := Cert.Reference6Ideal.Gen.facts) := fun m g _ =>
  (θ_run (Cert.Reference6Ideal.defs (F := Ideal)) _ _).mono (fun r h => ⟨fun c => (h c).2.2.2, sem_eq_zero_of_no_sems (by decide) r.2⟩)
    (Cert.Reference6Ideal.Value.run (F := Ideal) m g)

/-- Reference 7, which declares no semaphore, runs and leaves its arguments unchanged. -/
theorem ref_frame7 : Cert.quiescent_Reference7Ideal (hReference7Ideal := Cert.Reference7Ideal.Gen.facts) := fun m g _ =>
  (θ_run (Cert.Reference7Ideal.defs (F := Ideal)) _ _).mono (fun r h => ⟨fun c => (h c).2.2, sem_eq_zero_of_no_sems (by decide) r.2⟩)
    (Cert.Reference7Ideal.Value.run (F := Ideal) m g)

/-- Reference 9, which declares no semaphore, runs and leaves its arguments unchanged. -/
theorem ref_frame9 : Cert.quiescent_Reference9Ideal (hReference9Ideal := Cert.Reference9Ideal.Gen.facts) := fun m g _ =>
  (θ_run (Cert.Reference9Ideal.defs (F := Ideal)) _ _).mono (fun r h => ⟨fun c => (h c).2.2, sem_eq_zero_of_no_sems (by decide) r.2⟩)
    (Cert.Reference9Ideal.Value.run (F := Ideal) m g)

/-- Reference 5, which declares no semaphore, runs and leaves its arguments unchanged. -/
theorem ref_frame5 : Cert.quiescent_Reference5Ideal (hReference5Ideal := Cert.Reference5Ideal.Gen.facts) := fun m g _ =>
  (θ_run (Cert.Reference5Ideal.defs (F := Ideal)) _ _).mono (fun r h => ⟨fun c => (h c).2.2, sem_eq_zero_of_no_sems (by decide) r.2⟩)
    (Cert.Reference5Ideal.Value.run (F := Ideal) m g)

/-- Reference 10, which declares no semaphore, runs and leaves its arguments unchanged. -/
theorem ref_frame10 : Cert.quiescent_Reference10Ideal (hReference10Ideal := Cert.Reference10Ideal.Gen.facts) := fun m g _ =>
  (θ_run (Cert.Reference10Ideal.defs (F := Ideal)) _ _).mono (fun r h => ⟨fun c => (h c).2.2.2, sem_eq_zero_of_no_sems (by decide) r.2⟩)
    (Cert.Reference10Ideal.Value.run (F := Ideal) m g)

/-- Reference 8, which declares no semaphore, runs and leaves its arguments unchanged. -/
theorem ref_frame8 : Cert.quiescent_Reference8Ideal (hReference8Ideal := Cert.Reference8Ideal.Gen.facts) := fun m g _ =>
  (θ_run (Cert.Reference8Ideal.defs (F := Ideal)) _ _).mono (fun r h => ⟨fun c => (h c).2.2.2.2, sem_eq_zero_of_no_sems (by decide) r.2⟩)
    (Cert.Reference8Ideal.Value.run (F := Ideal) m g)

/-- Reference 11, which declares no semaphore, runs and leaves its arguments unchanged. -/
theorem ref_frame11 : Cert.quiescent_Reference11Ideal (hReference11Ideal := Cert.Reference11Ideal.Gen.facts) := fun m g _ =>
  (θ_run (Cert.Reference11Ideal.defs (F := Ideal)) _ _).mono (fun r h => ⟨fun c => (h c).2.2.2.2.2.2.2.2.2.2.2.2.2.2.2.2.2.2.2.2.2.2.2, sem_eq_zero_of_no_sems (by decide) r.2⟩)
    (Cert.Reference11Ideal.Value.run (F := Ideal) m g)

/-- Reference 12, which declares no semaphore, runs and leaves its arguments unchanged. -/
theorem ref_frame12 : Cert.quiescent_Reference12Ideal (hReference12Ideal := Cert.Reference12Ideal.Gen.facts) := fun m g _ =>
  (θ_run (Cert.Reference12Ideal.defs (F := Ideal)) _ _).mono (fun r h => ⟨fun c => (h c).2.2.2.2, sem_eq_zero_of_no_sems (by decide) r.2⟩)
    (Cert.Reference12Ideal.Value.run (F := Ideal) m g)

/-- Reference 13, which declares no semaphore, runs and leaves its arguments unchanged. -/
theorem ref_frame13 : Cert.quiescent_Reference13Ideal (hReference13Ideal := Cert.Reference13Ideal.Gen.facts) := fun m g _ =>
  (θ_run (Cert.Reference13Ideal.defs (F := Ideal)) _ _).mono (fun r h => ⟨fun c => (h c).2.2.2.2, sem_eq_zero_of_no_sems (by decide) r.2⟩)
    (Cert.Reference13Ideal.Value.run (F := Ideal) m g)

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel9.Gen.facts, Cert.Kernel9Ideal.Gen.facts, Cert.Reference9Ideal.Gen.facts,
  Cert.Kernel5.Gen.facts, Cert.Kernel5Ideal.Gen.facts, Cert.Reference5Ideal.Gen.facts,
  Cert.Kernel10.Gen.facts, Cert.Kernel10Ideal.Gen.facts, Cert.Reference10Ideal.Gen.facts,
  Cert.Kernel8.Gen.facts, Cert.Kernel8Ideal.Gen.facts, Cert.Reference8Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  pre_facts, Cert.AttnB.pre_facts6, Cert.Norm.pre_facts13,
  fun m ρ _ => Cert.Kernel.Gen.frame m ρ, fun m ρ _ => Cert.KernelIdeal.Gen.frame m ρ, fun m ρ _ => Cert.KernelIdeal.Gen.frame m ρ,
  ref_frame, fun m g _ => ref_frame m g trivial,
  fun m ρ _ => Cert.Kernel2.Gen.frame m ρ, fun m ρ _ => Cert.Kernel2Ideal.Gen.frame m ρ, ref_frame2,
  fun m ρ _ => Cert.Kernel3.Gen.frame m ρ, fun m ρ _ => Cert.Kernel3Ideal.Gen.frame m ρ, ref_frame3,
  fun m ρ _ => Cert.Kernel4.Gen.frame m ρ, fun m ρ _ => Cert.Kernel4Ideal.Gen.frame m ρ, ref_frame4,
  fun m ρ _ => Cert.Kernel6.Gen.frame m ρ, fun m ρ _ => Cert.Kernel6Ideal.Gen.frame m ρ, fun m ρ _ => Cert.Kernel6Ideal.Gen.frame m ρ,
  ref_frame6, fun m g _ => ref_frame6 m g trivial,
  fun m ρ _ => Cert.Kernel7.Gen.frame m ρ, fun m ρ _ => Cert.Kernel7Ideal.Gen.frame m ρ, ref_frame7,
  fun m ρ _ => Cert.Kernel9.Gen.frame m ρ, fun m ρ _ => Cert.Kernel9Ideal.Gen.frame m ρ, ref_frame9,
  fun m ρ _ => Cert.Kernel5.Gen.frame m ρ, fun m ρ _ => Cert.Kernel5Ideal.Gen.frame m ρ, ref_frame5,
  fun m ρ _ => Cert.Kernel10.Gen.frame m ρ, fun m ρ _ => Cert.Kernel10Ideal.Gen.frame m ρ, ref_frame10,
  fun m ρ _ => Cert.Kernel8.Gen.frame m ρ, fun m ρ _ => Cert.Kernel8Ideal.Gen.frame m ρ, ref_frame8,
  fun m ρ _ => Cert.Kernel11.Gen.frame m ρ, fun m ρ _ => Cert.Kernel11Ideal.Gen.frame m ρ, ref_frame11,
  fun m ρ _ => Cert.Kernel12.Gen.frame m ρ, fun m ρ _ => Cert.Kernel12Ideal.Gen.frame m ρ, ref_frame12,
  fun m ρ _ => Cert.Kernel13.Gen.frame m ρ, fun m ρ _ => Cert.Kernel13Ideal.Gen.frame m ρ, fun m ρ _ => Cert.Kernel13Ideal.Gen.frame m ρ,
  ref_frame13, fun m g _ => ref_frame13 m g trivial,
  trivial, attention, trivial, Cert.MlpMid.algebraic, trivial, Cert.MlpOut.algebraic, trivial, Cert.MlpIn.algebraic,
  trivial, Cert.AttnB.algebraic,
  trivial, Cert.WGrad.algebraic,
  trivial, Cert.Kv.algebraic,
  trivial, Cert.Proj.algebraic,
  trivial, Cert.KvBwd.algebraic,
  trivial, Cert.Mix.algebraic,
  trivial, Cert.Adam.algebraic,
  trivial, Cert.Ada.algebraic,
  trivial, Cert.Norm.algebraic⟩

end Cert.Proof

end
